-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 8192]⟩ ⟨2, ![4096, 8192]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 8192]⟩ ⟨2, ![4096, 8192]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v12) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x8192 : Shape := ⟨2, ![1024, 8192]⟩
abbrev S2x2x1024x4096 : Shape := ⟨4, ![2, 2, 1024, 4096]⟩
abbrev S2x1024x4096 : Shape := ⟨3, ![2, 1024, 4096]⟩
abbrev S2x1024x1024 : Shape := ⟨3, ![2, 1024, 1024]⟩
abbrev S2x1024x256 : Shape := ⟨3, ![2, 1024, 256]⟩
abbrev S4x128 : Shape := ⟨2, ![4, 128]⟩
abbrev S14 : Shape := ⟨1, ![14]⟩
abbrev S3 : Shape := ⟨1, ![3]⟩
abbrev S2 : Shape := ⟨1, ![2]⟩
abbrev S8 : Shape := ⟨1, ![8]⟩
abbrev S1 : Shape := ⟨1, ![1]⟩
abbrev S_ : Shape := ⟨0, ![]⟩
abbrev S1x1024x1024 : Shape := ⟨3, ![1, 1024, 1024]⟩
abbrev S1024x1024 : Shape := ⟨2, ![1024, 1024]⟩
abbrev S1x1024x256 : Shape := ⟨3, ![1, 1024, 256]⟩
abbrev S1024x256 : Shape := ⟨2, ![1024, 256]⟩
abbrev S1x2x1024x4096 : Shape := ⟨4, ![1, 2, 1024, 4096]⟩
abbrev S1x1x1024x256 : Shape := ⟨4, ![1, 1, 1024, 256]⟩
abbrev S1x1x1024x1024 : Shape := ⟨4, ![1, 1, 1024, 1024]⟩
abbrev S1x1x1024x2048 : Shape := ⟨4, ![1, 1, 1024, 2048]⟩
abbrev S1024x2048 : Shape := ⟨2, ![1024, 2048]⟩
abbrev S1x1x1 : Shape := ⟨3, ![1, 1, 1]⟩
abbrev S1x128 : Shape := ⟨2, ![1, 128]⟩
abbrev S1x4x128 : Shape := ⟨3, ![1, 4, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x8192, .f32⟩
  | .hbm, ⟨2, _⟩ => ⟨S1024x8192, .bf16⟩
  | .local _ .vmem, ⟨0, _⟩ => ⟨S2x2x1024x4096, .bf16⟩
  | .local _ .vmem, ⟨1, _⟩ => ⟨S2x1024x4096, .bf16⟩
  | .local _ .vmem, ⟨2, _⟩ => ⟨S2x1024x1024, .f32⟩
  | .local _ .vmem, ⟨3, _⟩ => ⟨S2x1024x256, .f32⟩
  | .local _ .vmem, ⟨4, _⟩ => ⟨S2x1024x256, .bf16⟩
  | .local _ .vmem, ⟨5, _⟩ => ⟨S4x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | _ => false

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  (ofTc nBuf bufTy 9 40 bufScoped semScoped dmaSemScoped tileCredit tileCredit_eq_zero tileCredit_pos).withBarriers [(0, 8)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev barrier0 : Sem sig := 8

abbrev nD : Nat := 4
abbrev τ : Topo := Topo.v7x

variable {F : FTy → Type} [FloatOps F]

abbrev grid0 : Pipeline.Grid := .none

def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1024_i32 : BitVec 32 := 1024#32
  let v8 : BitVec 32 := Scalar.muli v5 c1024_i32
  let c0_i32_8 : BitVec 32 := 0#32
  ![v8.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1024_i32_9 : BitVec 32 := 1024#32
  let v14 : BitVec 32 := Scalar.muli v7 c1024_i32_9
  let c0_i32_14 : BitVec 32 := 0#32
  ![v14.toNat, 0]
def k0_dev1 (d0 : Dev nD) : Nat :=
  let c0_i32_23 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_22 : BitVec 32 := 1#32
  let v26 : BitVec 32 := Scalar.muli v5 c1_i32_22
  let v27 : BitVec 32 := Scalar.addi c0_i32_23 v26
  v27.toNat
def k0_dev2 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_25 : BitVec 32 := 1#32
  let v28 : BitVec 32 := Scalar.muli v7 c1_i32_25
  let v29 : BitVec 32 := Scalar.addi c0_i32_26 v28
  v29.toNat
@[reducible] def k0_t1_loop : Scf.Loop 32 :=
  let c0_i32_40 : BitVec 32 := 0#32
  let c4_i32_41 : BitVec 32 := 4#32
  let v43 : BitVec 32 := Scalar.addi c0_i32_40 c4_i32_41
  let c1_i32_42 : BitVec 32 := 1#32
  ⟨c0_i32_40, v43, c1_i32_42⟩
def k0_cond1 (k0_t1 : Fin k0_t1_loop.trips) : BitVec 1 :=
  let c0_i32_40 : BitVec 32 := 0#32
  let c1_i32_42 : BitVec 32 := 1#32
  let arg17 : BitVec 32 := Scf.iv c0_i32_40 c1_i32_42 k0_t1
  let c1_i32_1535 : BitVec 32 := 1#32
  let v1518 : BitVec 32 := Scalar.addi arg17 c1_i32_1535
  let c4_i32_1536 : BitVec 32 := 4#32
  let v1519 : BitVec 1 := Scalar.cmpi .slt v1518 c4_i32_1536
  let v1520 : BitVec 32 := Scalar.extui v1519
  let c0_i32_1537 : BitVec 32 := 0#32
  let v1521 : BitVec 1 := Scalar.cmpi .ne v1520 c0_i32_1537
  v1521

def k0_off3 (k0_t1 : Fin k0_t1_loop.trips) : Fin 1 → Nat :=
  let c0_i32_40 : BitVec 32 := 0#32
  let c1_i32_42 : BitVec 32 := 1#32
  let arg17 : BitVec 32 := Scf.iv c0_i32_40 c1_i32_42 k0_t1
  let c1_i32_1533 : BitVec 32 := 1#32
  let v1516 : BitVec 32 := Scalar.addi arg17 c1_i32_1533
  let c2_i32_1534 : BitVec 32 := 2#32
  let v1517 : BitVec 32 := Scalar.remsi v1516 c2_i32_1534
  ![v1517.toNat]
def k0_off4 (k0_t1 : Fin k0_t1_loop.trips) : Fin 3 → Nat :=
  let c0_i32_40 : BitVec 32 := 0#32
  let c1_i32_42 : BitVec 32 := 1#32
  let arg17 : BitVec 32 := Scf.iv c0_i32_40 c1_i32_42 k0_t1
  let c1_i32_1533 : BitVec 32 := 1#32
  let v1516 : BitVec 32 := Scalar.addi arg17 c1_i32_1533
  let c2_i32_1534 : BitVec 32 := 2#32
  let v1517 : BitVec 32 := Scalar.remsi v1516 c2_i32_1534
  let c0_i32_1555 : BitVec 32 := 0#32
  let c0_i32_1556 : BitVec 32 := 0#32
  ![v1517.toNat, 0, 0]
def k0_off5 (k0_t1 : Fin k0_t1_loop.trips) : Fin 2 → Nat :=
  let c0_i32_1557 : BitVec 32 := 0#32
  let c0_i32_1554 : BitVec 32 := 0#32
  let c0_i32_40 : BitVec 32 := 0#32
  let c1_i32_42 : BitVec 32 := 1#32
  let arg17 : BitVec 32 := Scf.iv c0_i32_40 c1_i32_42 k0_t1
  let c1_i32_1552 : BitVec 32 := 1#32
  let v1542 : BitVec 32 := Scalar.addi arg17 c1_i32_1552
  let c256_i32_1553 : BitVec 32 := 256#32
  let v1543 : BitVec 32 := Scalar.muli v1542 c256_i32_1553
  let v1544 : BitVec 32 := Scalar.addi c0_i32_1554 v1543
  ![0, v1544.toNat]
def k0_off6 (k0_t1 : Fin k0_t1_loop.trips) : Fin 1 → Nat :=
  let c0_i32_40 : BitVec 32 := 0#32
  let c1_i32_42 : BitVec 32 := 1#32
  let arg17 : BitVec 32 := Scf.iv c0_i32_40 c1_i32_42 k0_t1
  let c2_i32_1532 : BitVec 32 := 2#32
  let v1515 : BitVec 32 := Scalar.remsi arg17 c2_i32_1532
  ![v1515.toNat]
def k0_off7 (k0_t1 : Fin k0_t1_loop.trips) : Fin 3 → Nat :=
  let c0_i32_40 : BitVec 32 := 0#32
  let c1_i32_42 : BitVec 32 := 1#32
  let arg17 : BitVec 32 := Scf.iv c0_i32_40 c1_i32_42 k0_t1
  let c2_i32_1532 : BitVec 32 := 2#32
  let v1515 : BitVec 32 := Scalar.remsi arg17 c2_i32_1532
  let c0_i32_1540 : BitVec 32 := 0#32
  let c0_i32_1541 : BitVec 32 := 0#32
  ![v1515.toNat, 0, 0]
def k0_off8 (k0_t1 : Fin k0_t1_loop.trips) : Fin 2 → Nat :=
  let c0_i32_1542 : BitVec 32 := 0#32
  let c0_i32_1539 : BitVec 32 := 0#32
  let c0_i32_40 : BitVec 32 := 0#32
  let c1_i32_42 : BitVec 32 := 1#32
  let arg17 : BitVec 32 := Scf.iv c0_i32_40 c1_i32_42 k0_t1
  let c256_i32_1538 : BitVec 32 := 256#32
  let v1522 : BitVec 32 := Scalar.muli arg17 c256_i32_1538
  let v1523 : BitVec 32 := Scalar.addi c0_i32_1539 v1522
  ![0, v1523.toNat]
def k0_off9 (k0_t1 : Fin k0_t1_loop.trips) : Fin 3 → Nat :=
  let c0_i32_40 : BitVec 32 := 0#32
  let c1_i32_42 : BitVec 32 := 1#32
  let arg17 : BitVec 32 := Scf.iv c0_i32_40 c1_i32_42 k0_t1
  let c2_i32_1532 : BitVec 32 := 2#32
  let v1515 : BitVec 32 := Scalar.remsi arg17 c2_i32_1532
  let v1529 : Index := Scalar.indexCast v1515
  let c0_1543 : Index := 0#32
  let c0_1544 : Index := 0#32
  ![v1529.toNat, 0, 0]
def k0_off10 (k0_t1 : Fin k0_t1_loop.trips) : Fin 3 → Nat :=
  let c0_1550 : Index := 0#32
  let c0_1551 : Index := 0#32
  let c0_i32_40 : BitVec 32 := 0#32
  let c1_i32_42 : BitVec 32 := 1#32
  let arg17 : BitVec 32 := Scf.iv c0_i32_40 c1_i32_42 k0_t1
  let c256_i32_1546 : BitVec 32 := 256#32
  let v1535 : BitVec 32 := Scalar.muli arg17 c256_i32_1546
  let v1538 : Index := Scalar.indexCast v1535
  ![0, 0, v1538.toNat]
def k0_off11 (k0_t1 : Fin k0_t1_loop.trips) : Fin 4 → Nat :=
  let c0_i32_39 : BitVec 32 := 0#32
  let c0_i32_1547 : BitVec 32 := 0#32
  let c0_i32_1548 : BitVec 32 := 0#32
  let c0_i32_40 : BitVec 32 := 0#32
  let c1_i32_42 : BitVec 32 := 1#32
  let arg17 : BitVec 32 := Scf.iv c0_i32_40 c1_i32_42 k0_t1
  let c256_i32_1546 : BitVec 32 := 256#32
  let v1535 : BitVec 32 := Scalar.muli arg17 c256_i32_1546
  let v1538 : Index := Scalar.indexCast v1535
  ![0, 0, 0, v1538.toNat]
def k0_dev3 (d0 : Dev nD) : Nat :=
  let c0_i32_51 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_50 : BitVec 32 := 1#32
  let v44 : BitVec 32 := Scalar.muli v7 c1_i32_50
  let v45 : BitVec 32 := Scalar.addi c0_i32_51 v44
  v45.toNat
@[reducible] def k0_t2_loop : Scf.Loop 32 :=
  let c0_i32_64 : BitVec 32 := 0#32
  let c4_i32_65 : BitVec 32 := 4#32
  let v62 : BitVec 32 := Scalar.addi c0_i32_64 c4_i32_65
  let c1_i32_66 : BitVec 32 := 1#32
  ⟨c0_i32_64, v62, c1_i32_66⟩
def k0_cond2 (k0_t2 : Fin k0_t2_loop.trips) : BitVec 1 :=
  let c0_i32_64 : BitVec 32 := 0#32
  let c1_i32_66 : BitVec 32 := 1#32
  let arg17 : BitVec 32 := Scf.iv c0_i32_64 c1_i32_66 k0_t2
  let c1_i32_1535 : BitVec 32 := 1#32
  let v1518 : BitVec 32 := Scalar.addi arg17 c1_i32_1535
  let c4_i32_1536 : BitVec 32 := 4#32
  let v1519 : BitVec 1 := Scalar.cmpi .slt v1518 c4_i32_1536
  let v1520 : BitVec 32 := Scalar.extui v1519
  let c0_i32_1537 : BitVec 32 := 0#32
  let v1521 : BitVec 1 := Scalar.cmpi .ne v1520 c0_i32_1537
  v1521

def k0_off12 (k0_t2 : Fin k0_t2_loop.trips) : Fin 1 → Nat :=
  let c0_i32_64 : BitVec 32 := 0#32
  let c1_i32_66 : BitVec 32 := 1#32
  let arg17 : BitVec 32 := Scf.iv c0_i32_64 c1_i32_66 k0_t2
  let c1_i32_1533 : BitVec 32 := 1#32
  let v1516 : BitVec 32 := Scalar.addi arg17 c1_i32_1533
  let c2_i32_1534 : BitVec 32 := 2#32
  let v1517 : BitVec 32 := Scalar.remsi v1516 c2_i32_1534
  ![v1517.toNat]
def k0_off13 (k0_t2 : Fin k0_t2_loop.trips) : Fin 3 → Nat :=
  let c0_i32_64 : BitVec 32 := 0#32
  let c1_i32_66 : BitVec 32 := 1#32
  let arg17 : BitVec 32 := Scf.iv c0_i32_64 c1_i32_66 k0_t2
  let c1_i32_1533 : BitVec 32 := 1#32
  let v1516 : BitVec 32 := Scalar.addi arg17 c1_i32_1533
  let c2_i32_1534 : BitVec 32 := 2#32
  let v1517 : BitVec 32 := Scalar.remsi v1516 c2_i32_1534
  let c0_i32_1555 : BitVec 32 := 0#32
  let c0_i32_1556 : BitVec 32 := 0#32
  ![v1517.toNat, 0, 0]
def k0_off14 (k0_t2 : Fin k0_t2_loop.trips) : Fin 2 → Nat :=
  let c0_i32_1557 : BitVec 32 := 0#32
  let c4096_i32_1554 : BitVec 32 := 4096#32
  let c0_i32_64 : BitVec 32 := 0#32
  let c1_i32_66 : BitVec 32 := 1#32
  let arg17 : BitVec 32 := Scf.iv c0_i32_64 c1_i32_66 k0_t2
  let c1_i32_1552 : BitVec 32 := 1#32
  let v1542 : BitVec 32 := Scalar.addi arg17 c1_i32_1552
  let c256_i32_1553 : BitVec 32 := 256#32
  let v1543 : BitVec 32 := Scalar.muli v1542 c256_i32_1553
  let v1544 : BitVec 32 := Scalar.addi c4096_i32_1554 v1543
  ![0, v1544.toNat]
def k0_off15 (k0_t2 : Fin k0_t2_loop.trips) : Fin 1 → Nat :=
  let c0_i32_64 : BitVec 32 := 0#32
  let c1_i32_66 : BitVec 32 := 1#32
  let arg17 : BitVec 32 := Scf.iv c0_i32_64 c1_i32_66 k0_t2
  let c2_i32_1532 : BitVec 32 := 2#32
  let v1515 : BitVec 32 := Scalar.remsi arg17 c2_i32_1532
  ![v1515.toNat]
def k0_off16 (k0_t2 : Fin k0_t2_loop.trips) : Fin 3 → Nat :=
  let c0_i32_64 : BitVec 32 := 0#32
  let c1_i32_66 : BitVec 32 := 1#32
  let arg17 : BitVec 32 := Scf.iv c0_i32_64 c1_i32_66 k0_t2
  let c2_i32_1532 : BitVec 32 := 2#32
  let v1515 : BitVec 32 := Scalar.remsi arg17 c2_i32_1532
  let c0_i32_1540 : BitVec 32 := 0#32
  let c0_i32_1541 : BitVec 32 := 0#32
  ![v1515.toNat, 0, 0]
def k0_off17 (k0_t2 : Fin k0_t2_loop.trips) : Fin 2 → Nat :=
  let c0_i32_1542 : BitVec 32 := 0#32
  let c4096_i32_1539 : BitVec 32 := 4096#32
  let c0_i32_64 : BitVec 32 := 0#32
  let c1_i32_66 : BitVec 32 := 1#32
  let arg17 : BitVec 32 := Scf.iv c0_i32_64 c1_i32_66 k0_t2
  let c256_i32_1538 : BitVec 32 := 256#32
  let v1522 : BitVec 32 := Scalar.muli arg17 c256_i32_1538
  let v1523 : BitVec 32 := Scalar.addi c4096_i32_1539 v1522
  ![0, v1523.toNat]
def k0_off18 (k0_t2 : Fin k0_t2_loop.trips) : Fin 3 → Nat :=
  let c0_i32_64 : BitVec 32 := 0#32
  let c1_i32_66 : BitVec 32 := 1#32
  let arg17 : BitVec 32 := Scf.iv c0_i32_64 c1_i32_66 k0_t2
  let c2_i32_1532 : BitVec 32 := 2#32
  let v1515 : BitVec 32 := Scalar.remsi arg17 c2_i32_1532
  let v1529 : Index := Scalar.indexCast v1515
  let c0_1543 : Index := 0#32
  let c0_1544 : Index := 0#32
  ![v1529.toNat, 0, 0]
def k0_off19 (k0_t2 : Fin k0_t2_loop.trips) : Fin 3 → Nat :=
  let c1_1550 : Index := 1#32
  let c0_1551 : Index := 0#32
  let c0_i32_64 : BitVec 32 := 0#32
  let c1_i32_66 : BitVec 32 := 1#32
  let arg17 : BitVec 32 := Scf.iv c0_i32_64 c1_i32_66 k0_t2
  let c256_i32_1546 : BitVec 32 := 256#32
  let v1535 : BitVec 32 := Scalar.muli arg17 c256_i32_1546
  let v1538 : Index := Scalar.indexCast v1535
  ![1, 0, v1538.toNat]
def k0_off20 (k0_t2 : Fin k0_t2_loop.trips) : Fin 4 → Nat :=
  let c0_i32_63 : BitVec 32 := 0#32
  let c0_i32_1548 : BitVec 32 := 0#32
  let c0_i32_64 : BitVec 32 := 0#32
  let c1_i32_66 : BitVec 32 := 1#32
  let arg17 : BitVec 32 := Scf.iv c0_i32_64 c1_i32_66 k0_t2
  let c256_i32_1546 : BitVec 32 := 256#32
  let v1535 : BitVec 32 := Scalar.muli arg17 c256_i32_1546
  let v1538 : Index := Scalar.indexCast v1535
  ![0, 1, 0, v1538.toNat]
def k0_dev4 (d0 : Dev nD) : Nat :=
  let c0_i32_74 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_73 : BitVec 32 := 1#32
  let v63 : BitVec 32 := Scalar.muli v5 c1_i32_73
  let v64 : BitVec 32 := Scalar.addi c0_i32_74 v63
  v64.toNat
@[reducible] def k0_t3_loop : Scf.Loop 32 :=
  let c4_i32_89 : BitVec 32 := 4#32
  let c4_i32_90 : BitVec 32 := 4#32
  let v81 : BitVec 32 := Scalar.addi c4_i32_89 c4_i32_90
  let c1_i32_91 : BitVec 32 := 1#32
  ⟨c4_i32_89, v81, c1_i32_91⟩
def k0_cond3 (k0_t3 : Fin k0_t3_loop.trips) : BitVec 1 :=
  let c4_i32_89 : BitVec 32 := 4#32
  let c1_i32_91 : BitVec 32 := 1#32
  let arg17 : BitVec 32 := Scf.iv c4_i32_89 c1_i32_91 k0_t3
  let c1_i32_1535 : BitVec 32 := 1#32
  let v1518 : BitVec 32 := Scalar.addi arg17 c1_i32_1535
  let c8_i32_1536 : BitVec 32 := 8#32
  let v1519 : BitVec 1 := Scalar.cmpi .slt v1518 c8_i32_1536
  let v1520 : BitVec 32 := Scalar.extui v1519
  let c0_i32_1537 : BitVec 32 := 0#32
  let v1521 : BitVec 1 := Scalar.cmpi .ne v1520 c0_i32_1537
  v1521

def k0_off21 (k0_t3 : Fin k0_t3_loop.trips) : Fin 1 → Nat :=
  let c4_i32_89 : BitVec 32 := 4#32
  let c1_i32_91 : BitVec 32 := 1#32
  let arg17 : BitVec 32 := Scf.iv c4_i32_89 c1_i32_91 k0_t3
  let c1_i32_1533 : BitVec 32 := 1#32
  let v1516 : BitVec 32 := Scalar.addi arg17 c1_i32_1533
  let c2_i32_1534 : BitVec 32 := 2#32
  let v1517 : BitVec 32 := Scalar.remsi v1516 c2_i32_1534
  ![v1517.toNat]
def k0_off22 (k0_t3 : Fin k0_t3_loop.trips) : Fin 3 → Nat :=
  let c4_i32_89 : BitVec 32 := 4#32
  let c1_i32_91 : BitVec 32 := 1#32
  let arg17 : BitVec 32 := Scf.iv c4_i32_89 c1_i32_91 k0_t3
  let c1_i32_1533 : BitVec 32 := 1#32
  let v1516 : BitVec 32 := Scalar.addi arg17 c1_i32_1533
  let c2_i32_1534 : BitVec 32 := 2#32
  let v1517 : BitVec 32 := Scalar.remsi v1516 c2_i32_1534
  let c0_i32_1555 : BitVec 32 := 0#32
  let c0_i32_1556 : BitVec 32 := 0#32
  ![v1517.toNat, 0, 0]
def k0_off23 (k0_t3 : Fin k0_t3_loop.trips) : Fin 2 → Nat :=
  let c0_i32_1557 : BitVec 32 := 0#32
  let c0_i32_1554 : BitVec 32 := 0#32
  let c4_i32_89 : BitVec 32 := 4#32
  let c1_i32_91 : BitVec 32 := 1#32
  let arg17 : BitVec 32 := Scf.iv c4_i32_89 c1_i32_91 k0_t3
  let c1_i32_1552 : BitVec 32 := 1#32
  let v1542 : BitVec 32 := Scalar.addi arg17 c1_i32_1552
  let c256_i32_1553 : BitVec 32 := 256#32
  let v1543 : BitVec 32 := Scalar.muli v1542 c256_i32_1553
  let v1544 : BitVec 32 := Scalar.addi c0_i32_1554 v1543
  ![0, v1544.toNat]
def k0_off24 (k0_t3 : Fin k0_t3_loop.trips) : Fin 1 → Nat :=
  let c4_i32_89 : BitVec 32 := 4#32
  let c1_i32_91 : BitVec 32 := 1#32
  let arg17 : BitVec 32 := Scf.iv c4_i32_89 c1_i32_91 k0_t3
  let c2_i32_1532 : BitVec 32 := 2#32
  let v1515 : BitVec 32 := Scalar.remsi arg17 c2_i32_1532
  ![v1515.toNat]
def k0_off25 (k0_t3 : Fin k0_t3_loop.trips) : Fin 3 → Nat :=
  let c4_i32_89 : BitVec 32 := 4#32
  let c1_i32_91 : BitVec 32 := 1#32
  let arg17 : BitVec 32 := Scf.iv c4_i32_89 c1_i32_91 k0_t3
  let c2_i32_1532 : BitVec 32 := 2#32
  let v1515 : BitVec 32 := Scalar.remsi arg17 c2_i32_1532
  let c0_i32_1540 : BitVec 32 := 0#32
  let c0_i32_1541 : BitVec 32 := 0#32
  ![v1515.toNat, 0, 0]
def k0_off26 (k0_t3 : Fin k0_t3_loop.trips) : Fin 2 → Nat :=
  let c0_i32_1542 : BitVec 32 := 0#32
  let c0_i32_1539 : BitVec 32 := 0#32
  let c4_i32_89 : BitVec 32 := 4#32
  let c1_i32_91 : BitVec 32 := 1#32
  let arg17 : BitVec 32 := Scf.iv c4_i32_89 c1_i32_91 k0_t3
  let c256_i32_1538 : BitVec 32 := 256#32
  let v1522 : BitVec 32 := Scalar.muli arg17 c256_i32_1538
  let v1523 : BitVec 32 := Scalar.addi c0_i32_1539 v1522
  ![0, v1523.toNat]
def k0_off27 (k0_t3 : Fin k0_t3_loop.trips) : Fin 3 → Nat :=
  let c4_i32_89 : BitVec 32 := 4#32
  let c1_i32_91 : BitVec 32 := 1#32
  let arg17 : BitVec 32 := Scf.iv c4_i32_89 c1_i32_91 k0_t3
  let c2_i32_1532 : BitVec 32 := 2#32
  let v1515 : BitVec 32 := Scalar.remsi arg17 c2_i32_1532
  let v1529 : Index := Scalar.indexCast v1515
  let c0_1543 : Index := 0#32
  let c0_1544 : Index := 0#32
  ![v1529.toNat, 0, 0]
def k0_off28 (k0_t3 : Fin k0_t3_loop.trips) : Fin 3 → Nat :=
  let c0_1550 : Index := 0#32
  let c0_1551 : Index := 0#32
  let c4_i32_89 : BitVec 32 := 4#32
  let c1_i32_91 : BitVec 32 := 1#32
  let arg17 : BitVec 32 := Scf.iv c4_i32_89 c1_i32_91 k0_t3
  let c256_i32_1546 : BitVec 32 := 256#32
  let v1535 : BitVec 32 := Scalar.muli arg17 c256_i32_1546
  let v1538 : Index := Scalar.indexCast v1535
  ![0, 0, v1538.toNat]
def k0_off29 (k0_t3 : Fin k0_t3_loop.trips) : Fin 4 → Nat :=
  let c0_i32_88 : BitVec 32 := 0#32
  let c0_i32_1547 : BitVec 32 := 0#32
  let c0_i32_1548 : BitVec 32 := 0#32
  let c4_i32_89 : BitVec 32 := 4#32
  let c1_i32_91 : BitVec 32 := 1#32
  let arg17 : BitVec 32 := Scf.iv c4_i32_89 c1_i32_91 k0_t3
  let c256_i32_1546 : BitVec 32 := 256#32
  let v1535 : BitVec 32 := Scalar.muli arg17 c256_i32_1546
  let v1538 : Index := Scalar.indexCast v1535
  ![0, 0, 0, v1538.toNat]
def k0_dev5 (d0 : Dev nD) : Nat :=
  let c0_i32_100 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_99 : BitVec 32 := 1#32
  let v82 : BitVec 32 := Scalar.muli v7 c1_i32_99
  let v83 : BitVec 32 := Scalar.addi c0_i32_100 v82
  v83.toNat
@[reducible] def k0_t4_loop : Scf.Loop 32 :=
  let c4_i32_114 : BitVec 32 := 4#32
  let c4_i32_115 : BitVec 32 := 4#32
  let v100 : BitVec 32 := Scalar.addi c4_i32_114 c4_i32_115
  let c1_i32_116 : BitVec 32 := 1#32
  ⟨c4_i32_114, v100, c1_i32_116⟩
def k0_cond4 (k0_t4 : Fin k0_t4_loop.trips) : BitVec 1 :=
  let c4_i32_114 : BitVec 32 := 4#32
  let c1_i32_116 : BitVec 32 := 1#32
  let arg17 : BitVec 32 := Scf.iv c4_i32_114 c1_i32_116 k0_t4
  let c1_i32_1535 : BitVec 32 := 1#32
  let v1518 : BitVec 32 := Scalar.addi arg17 c1_i32_1535
  let c8_i32_1536 : BitVec 32 := 8#32
  let v1519 : BitVec 1 := Scalar.cmpi .slt v1518 c8_i32_1536
  let v1520 : BitVec 32 := Scalar.extui v1519
  let c0_i32_1537 : BitVec 32 := 0#32
  let v1521 : BitVec 1 := Scalar.cmpi .ne v1520 c0_i32_1537
  v1521

def k0_off30 (k0_t4 : Fin k0_t4_loop.trips) : Fin 1 → Nat :=
  let c4_i32_114 : BitVec 32 := 4#32
  let c1_i32_116 : BitVec 32 := 1#32
  let arg17 : BitVec 32 := Scf.iv c4_i32_114 c1_i32_116 k0_t4
  let c1_i32_1533 : BitVec 32 := 1#32
  let v1516 : BitVec 32 := Scalar.addi arg17 c1_i32_1533
  let c2_i32_1534 : BitVec 32 := 2#32
  let v1517 : BitVec 32 := Scalar.remsi v1516 c2_i32_1534
  ![v1517.toNat]
def k0_off31 (k0_t4 : Fin k0_t4_loop.trips) : Fin 3 → Nat :=
  let c4_i32_114 : BitVec 32 := 4#32
  let c1_i32_116 : BitVec 32 := 1#32
  let arg17 : BitVec 32 := Scf.iv c4_i32_114 c1_i32_116 k0_t4
  let c1_i32_1533 : BitVec 32 := 1#32
  let v1516 : BitVec 32 := Scalar.addi arg17 c1_i32_1533
  let c2_i32_1534 : BitVec 32 := 2#32
  let v1517 : BitVec 32 := Scalar.remsi v1516 c2_i32_1534
  let c0_i32_1555 : BitVec 32 := 0#32
  let c0_i32_1556 : BitVec 32 := 0#32
  ![v1517.toNat, 0, 0]
def k0_off32 (k0_t4 : Fin k0_t4_loop.trips) : Fin 2 → Nat :=
  let c0_i32_1557 : BitVec 32 := 0#32
  let c4096_i32_1554 : BitVec 32 := 4096#32
  let c4_i32_114 : BitVec 32 := 4#32
  let c1_i32_116 : BitVec 32 := 1#32
  let arg17 : BitVec 32 := Scf.iv c4_i32_114 c1_i32_116 k0_t4
  let c1_i32_1552 : BitVec 32 := 1#32
  let v1542 : BitVec 32 := Scalar.addi arg17 c1_i32_1552
  let c256_i32_1553 : BitVec 32 := 256#32
  let v1543 : BitVec 32 := Scalar.muli v1542 c256_i32_1553
  let v1544 : BitVec 32 := Scalar.addi c4096_i32_1554 v1543
  ![0, v1544.toNat]
def k0_off33 (k0_t4 : Fin k0_t4_loop.trips) : Fin 1 → Nat :=
  let c4_i32_114 : BitVec 32 := 4#32
  let c1_i32_116 : BitVec 32 := 1#32
  let arg17 : BitVec 32 := Scf.iv c4_i32_114 c1_i32_116 k0_t4
  let c2_i32_1532 : BitVec 32 := 2#32
  let v1515 : BitVec 32 := Scalar.remsi arg17 c2_i32_1532
  ![v1515.toNat]
def k0_off34 (k0_t4 : Fin k0_t4_loop.trips) : Fin 3 → Nat :=
  let c4_i32_114 : BitVec 32 := 4#32
  let c1_i32_116 : BitVec 32 := 1#32
  let arg17 : BitVec 32 := Scf.iv c4_i32_114 c1_i32_116 k0_t4
  let c2_i32_1532 : BitVec 32 := 2#32
  let v1515 : BitVec 32 := Scalar.remsi arg17 c2_i32_1532
  let c0_i32_1540 : BitVec 32 := 0#32
  let c0_i32_1541 : BitVec 32 := 0#32
  ![v1515.toNat, 0, 0]
def k0_off35 (k0_t4 : Fin k0_t4_loop.trips) : Fin 2 → Nat :=
  let c0_i32_1542 : BitVec 32 := 0#32
  let c4096_i32_1539 : BitVec 32 := 4096#32
  let c4_i32_114 : BitVec 32 := 4#32
  let c1_i32_116 : BitVec 32 := 1#32
  let arg17 : BitVec 32 := Scf.iv c4_i32_114 c1_i32_116 k0_t4
  let c256_i32_1538 : BitVec 32 := 256#32
  let v1522 : BitVec 32 := Scalar.muli arg17 c256_i32_1538
  let v1523 : BitVec 32 := Scalar.addi c4096_i32_1539 v1522
  ![0, v1523.toNat]
def k0_off36 (k0_t4 : Fin k0_t4_loop.trips) : Fin 3 → Nat :=
  let c4_i32_114 : BitVec 32 := 4#32
  let c1_i32_116 : BitVec 32 := 1#32
  let arg17 : BitVec 32 := Scf.iv c4_i32_114 c1_i32_116 k0_t4
  let c2_i32_1532 : BitVec 32 := 2#32
  let v1515 : BitVec 32 := Scalar.remsi arg17 c2_i32_1532
  let v1529 : Index := Scalar.indexCast v1515
  let c0_1543 : Index := 0#32
  let c0_1544 : Index := 0#32
  ![v1529.toNat, 0, 0]
def k0_off37 (k0_t4 : Fin k0_t4_loop.trips) : Fin 3 → Nat :=
  let c1_1550 : Index := 1#32
  let c0_1551 : Index := 0#32
  let c4_i32_114 : BitVec 32 := 4#32
  let c1_i32_116 : BitVec 32 := 1#32
  let arg17 : BitVec 32 := Scf.iv c4_i32_114 c1_i32_116 k0_t4
  let c256_i32_1546 : BitVec 32 := 256#32
  let v1535 : BitVec 32 := Scalar.muli arg17 c256_i32_1546
  let v1538 : Index := Scalar.indexCast v1535
  ![1, 0, v1538.toNat]
def k0_off38 (k0_t4 : Fin k0_t4_loop.trips) : Fin 4 → Nat :=
  let c0_i32_113 : BitVec 32 := 0#32
  let c0_i32_1548 : BitVec 32 := 0#32
  let c4_i32_114 : BitVec 32 := 4#32
  let c1_i32_116 : BitVec 32 := 1#32
  let arg17 : BitVec 32 := Scf.iv c4_i32_114 c1_i32_116 k0_t4
  let c256_i32_1546 : BitVec 32 := 256#32
  let v1535 : BitVec 32 := Scalar.muli arg17 c256_i32_1546
  let v1538 : Index := Scalar.indexCast v1535
  ![0, 1, 0, v1538.toNat]
def k0_dev6 (d0 : Dev nD) : Nat :=
  let c0_i32_125 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_124 : BitVec 32 := 1#32
  let v101 : BitVec 32 := Scalar.muli v5 c1_i32_124
  let v102 : BitVec 32 := Scalar.addi c0_i32_125 v101
  v102.toNat
@[reducible] def k0_t5_loop : Scf.Loop 32 :=
  let c8_i32 : BitVec 32 := 8#32
  let c8_i32_139 : BitVec 32 := 8#32
  let v119 : BitVec 32 := Scalar.addi c8_i32 c8_i32_139
  let c1_i32_140 : BitVec 32 := 1#32
  ⟨c8_i32, v119, c1_i32_140⟩
def k0_cond5 (k0_t5 : Fin k0_t5_loop.trips) : BitVec 1 :=
  let c8_i32 : BitVec 32 := 8#32
  let c1_i32_140 : BitVec 32 := 1#32
  let arg17 : BitVec 32 := Scf.iv c8_i32 c1_i32_140 k0_t5
  let c1_i32_1535 : BitVec 32 := 1#32
  let v1518 : BitVec 32 := Scalar.addi arg17 c1_i32_1535
  let c16_i32_1536 : BitVec 32 := 16#32
  let v1519 : BitVec 1 := Scalar.cmpi .slt v1518 c16_i32_1536
  let v1520 : BitVec 32 := Scalar.extui v1519
  let c0_i32_1537 : BitVec 32 := 0#32
  let v1521 : BitVec 1 := Scalar.cmpi .ne v1520 c0_i32_1537
  v1521

def k0_off39 (k0_t5 : Fin k0_t5_loop.trips) : Fin 1 → Nat :=
  let c8_i32 : BitVec 32 := 8#32
  let c1_i32_140 : BitVec 32 := 1#32
  let arg17 : BitVec 32 := Scf.iv c8_i32 c1_i32_140 k0_t5
  let c1_i32_1533 : BitVec 32 := 1#32
  let v1516 : BitVec 32 := Scalar.addi arg17 c1_i32_1533
  let c2_i32_1534 : BitVec 32 := 2#32
  let v1517 : BitVec 32 := Scalar.remsi v1516 c2_i32_1534
  ![v1517.toNat]
def k0_off40 (k0_t5 : Fin k0_t5_loop.trips) : Fin 3 → Nat :=
  let c8_i32 : BitVec 32 := 8#32
  let c1_i32_140 : BitVec 32 := 1#32
  let arg17 : BitVec 32 := Scf.iv c8_i32 c1_i32_140 k0_t5
  let c1_i32_1533 : BitVec 32 := 1#32
  let v1516 : BitVec 32 := Scalar.addi arg17 c1_i32_1533
  let c2_i32_1534 : BitVec 32 := 2#32
  let v1517 : BitVec 32 := Scalar.remsi v1516 c2_i32_1534
  let c0_i32_1555 : BitVec 32 := 0#32
  let c0_i32_1556 : BitVec 32 := 0#32
  ![v1517.toNat, 0, 0]
def k0_off41 (k0_t5 : Fin k0_t5_loop.trips) : Fin 2 → Nat :=
  let c0_i32_1557 : BitVec 32 := 0#32
  let c0_i32_1554 : BitVec 32 := 0#32
  let c8_i32 : BitVec 32 := 8#32
  let c1_i32_140 : BitVec 32 := 1#32
  let arg17 : BitVec 32 := Scf.iv c8_i32 c1_i32_140 k0_t5
  let c1_i32_1552 : BitVec 32 := 1#32
  let v1542 : BitVec 32 := Scalar.addi arg17 c1_i32_1552
  let c256_i32_1553 : BitVec 32 := 256#32
  let v1543 : BitVec 32 := Scalar.muli v1542 c256_i32_1553
  let v1544 : BitVec 32 := Scalar.addi c0_i32_1554 v1543
  ![0, v1544.toNat]
def k0_off42 (k0_t5 : Fin k0_t5_loop.trips) : Fin 1 → Nat :=
  let c8_i32 : BitVec 32 := 8#32
  let c1_i32_140 : BitVec 32 := 1#32
  let arg17 : BitVec 32 := Scf.iv c8_i32 c1_i32_140 k0_t5
  let c2_i32_1532 : BitVec 32 := 2#32
  let v1515 : BitVec 32 := Scalar.remsi arg17 c2_i32_1532
  ![v1515.toNat]
def k0_off43 (k0_t5 : Fin k0_t5_loop.trips) : Fin 3 → Nat :=
  let c8_i32 : BitVec 32 := 8#32
  let c1_i32_140 : BitVec 32 := 1#32
  let arg17 : BitVec 32 := Scf.iv c8_i32 c1_i32_140 k0_t5
  let c2_i32_1532 : BitVec 32 := 2#32
  let v1515 : BitVec 32 := Scalar.remsi arg17 c2_i32_1532
  let c0_i32_1540 : BitVec 32 := 0#32
  let c0_i32_1541 : BitVec 32 := 0#32
  ![v1515.toNat, 0, 0]
def k0_off44 (k0_t5 : Fin k0_t5_loop.trips) : Fin 2 → Nat :=
  let c0_i32_1542 : BitVec 32 := 0#32
  let c0_i32_1539 : BitVec 32 := 0#32
  let c8_i32 : BitVec 32 := 8#32
  let c1_i32_140 : BitVec 32 := 1#32
  let arg17 : BitVec 32 := Scf.iv c8_i32 c1_i32_140 k0_t5
  let c256_i32_1538 : BitVec 32 := 256#32
  let v1522 : BitVec 32 := Scalar.muli arg17 c256_i32_1538
  let v1523 : BitVec 32 := Scalar.addi c0_i32_1539 v1522
  ![0, v1523.toNat]
def k0_off45 (k0_t5 : Fin k0_t5_loop.trips) : Fin 3 → Nat :=
  let c8_i32 : BitVec 32 := 8#32
  let c1_i32_140 : BitVec 32 := 1#32
  let arg17 : BitVec 32 := Scf.iv c8_i32 c1_i32_140 k0_t5
  let c2_i32_1532 : BitVec 32 := 2#32
  let v1515 : BitVec 32 := Scalar.remsi arg17 c2_i32_1532
  let v1529 : Index := Scalar.indexCast v1515
  let c0_1543 : Index := 0#32
  let c0_1544 : Index := 0#32
  ![v1529.toNat, 0, 0]
def k0_off46 (k0_t5 : Fin k0_t5_loop.trips) : Fin 3 → Nat :=
  let c0_1550 : Index := 0#32
  let c0_1551 : Index := 0#32
  let c8_i32 : BitVec 32 := 8#32
  let c1_i32_140 : BitVec 32 := 1#32
  let arg17 : BitVec 32 := Scf.iv c8_i32 c1_i32_140 k0_t5
  let c256_i32_1546 : BitVec 32 := 256#32
  let v1535 : BitVec 32 := Scalar.muli arg17 c256_i32_1546
  let v1538 : Index := Scalar.indexCast v1535
  ![0, 0, v1538.toNat]
def k0_off47 (k0_t5 : Fin k0_t5_loop.trips) : Fin 4 → Nat :=
  let c0_i32_138 : BitVec 32 := 0#32
  let c0_i32_1547 : BitVec 32 := 0#32
  let c0_i32_1548 : BitVec 32 := 0#32
  let c8_i32 : BitVec 32 := 8#32
  let c1_i32_140 : BitVec 32 := 1#32
  let arg17 : BitVec 32 := Scf.iv c8_i32 c1_i32_140 k0_t5
  let c256_i32_1546 : BitVec 32 := 256#32
  let v1535 : BitVec 32 := Scalar.muli arg17 c256_i32_1546
  let v1538 : Index := Scalar.indexCast v1535
  ![0, 0, 0, v1538.toNat]
def k0_dev7 (d0 : Dev nD) : Nat :=
  let c0_i32_149 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_148 : BitVec 32 := 1#32
  let v120 : BitVec 32 := Scalar.muli v7 c1_i32_148
  let v121 : BitVec 32 := Scalar.addi c0_i32_149 v120
  v121.toNat
@[reducible] def k0_t6_loop : Scf.Loop 32 :=
  let c8_i32_163 : BitVec 32 := 8#32
  let c8_i32_164 : BitVec 32 := 8#32
  let v138 : BitVec 32 := Scalar.addi c8_i32_163 c8_i32_164
  let c1_i32_165 : BitVec 32 := 1#32
  ⟨c8_i32_163, v138, c1_i32_165⟩
def k0_cond6 (k0_t6 : Fin k0_t6_loop.trips) : BitVec 1 :=
  let c8_i32_163 : BitVec 32 := 8#32
  let c1_i32_165 : BitVec 32 := 1#32
  let arg17 : BitVec 32 := Scf.iv c8_i32_163 c1_i32_165 k0_t6
  let c1_i32_1535 : BitVec 32 := 1#32
  let v1518 : BitVec 32 := Scalar.addi arg17 c1_i32_1535
  let c16_i32_1536 : BitVec 32 := 16#32
  let v1519 : BitVec 1 := Scalar.cmpi .slt v1518 c16_i32_1536
  let v1520 : BitVec 32 := Scalar.extui v1519
  let c0_i32_1537 : BitVec 32 := 0#32
  let v1521 : BitVec 1 := Scalar.cmpi .ne v1520 c0_i32_1537
  v1521

def k0_off48 (k0_t6 : Fin k0_t6_loop.trips) : Fin 1 → Nat :=
  let c8_i32_163 : BitVec 32 := 8#32
  let c1_i32_165 : BitVec 32 := 1#32
  let arg17 : BitVec 32 := Scf.iv c8_i32_163 c1_i32_165 k0_t6
  let c1_i32_1533 : BitVec 32 := 1#32
  let v1516 : BitVec 32 := Scalar.addi arg17 c1_i32_1533
  let c2_i32_1534 : BitVec 32 := 2#32
  let v1517 : BitVec 32 := Scalar.remsi v1516 c2_i32_1534
  ![v1517.toNat]
def k0_off49 (k0_t6 : Fin k0_t6_loop.trips) : Fin 3 → Nat :=
  let c8_i32_163 : BitVec 32 := 8#32
  let c1_i32_165 : BitVec 32 := 1#32
  let arg17 : BitVec 32 := Scf.iv c8_i32_163 c1_i32_165 k0_t6
  let c1_i32_1533 : BitVec 32 := 1#32
  let v1516 : BitVec 32 := Scalar.addi arg17 c1_i32_1533
  let c2_i32_1534 : BitVec 32 := 2#32
  let v1517 : BitVec 32 := Scalar.remsi v1516 c2_i32_1534
  let c0_i32_1555 : BitVec 32 := 0#32
  let c0_i32_1556 : BitVec 32 := 0#32
  ![v1517.toNat, 0, 0]
def k0_off50 (k0_t6 : Fin k0_t6_loop.trips) : Fin 2 → Nat :=
  let c0_i32_1557 : BitVec 32 := 0#32
  let c4096_i32_1554 : BitVec 32 := 4096#32
  let c8_i32_163 : BitVec 32 := 8#32
  let c1_i32_165 : BitVec 32 := 1#32
  let arg17 : BitVec 32 := Scf.iv c8_i32_163 c1_i32_165 k0_t6
  let c1_i32_1552 : BitVec 32 := 1#32
  let v1542 : BitVec 32 := Scalar.addi arg17 c1_i32_1552
  let c256_i32_1553 : BitVec 32 := 256#32
  let v1543 : BitVec 32 := Scalar.muli v1542 c256_i32_1553
  let v1544 : BitVec 32 := Scalar.addi c4096_i32_1554 v1543
  ![0, v1544.toNat]
def k0_off51 (k0_t6 : Fin k0_t6_loop.trips) : Fin 1 → Nat :=
  let c8_i32_163 : BitVec 32 := 8#32
  let c1_i32_165 : BitVec 32 := 1#32
  let arg17 : BitVec 32 := Scf.iv c8_i32_163 c1_i32_165 k0_t6
  let c2_i32_1532 : BitVec 32 := 2#32
  let v1515 : BitVec 32 := Scalar.remsi arg17 c2_i32_1532
  ![v1515.toNat]
def k0_off52 (k0_t6 : Fin k0_t6_loop.trips) : Fin 3 → Nat :=
  let c8_i32_163 : BitVec 32 := 8#32
  let c1_i32_165 : BitVec 32 := 1#32
  let arg17 : BitVec 32 := Scf.iv c8_i32_163 c1_i32_165 k0_t6
  let c2_i32_1532 : BitVec 32 := 2#32
  let v1515 : BitVec 32 := Scalar.remsi arg17 c2_i32_1532
  let c0_i32_1540 : BitVec 32 := 0#32
  let c0_i32_1541 : BitVec 32 := 0#32
  ![v1515.toNat, 0, 0]
def k0_off53 (k0_t6 : Fin k0_t6_loop.trips) : Fin 2 → Nat :=
  let c0_i32_1542 : BitVec 32 := 0#32
  let c4096_i32_1539 : BitVec 32 := 4096#32
  let c8_i32_163 : BitVec 32 := 8#32
  let c1_i32_165 : BitVec 32 := 1#32
  let arg17 : BitVec 32 := Scf.iv c8_i32_163 c1_i32_165 k0_t6
  let c256_i32_1538 : BitVec 32 := 256#32
  let v1522 : BitVec 32 := Scalar.muli arg17 c256_i32_1538
  let v1523 : BitVec 32 := Scalar.addi c4096_i32_1539 v1522
  ![0, v1523.toNat]
def k0_off54 (k0_t6 : Fin k0_t6_loop.trips) : Fin 3 → Nat :=
  let c8_i32_163 : BitVec 32 := 8#32
  let c1_i32_165 : BitVec 32 := 1#32
  let arg17 : BitVec 32 := Scf.iv c8_i32_163 c1_i32_165 k0_t6
  let c2_i32_1532 : BitVec 32 := 2#32
  let v1515 : BitVec 32 := Scalar.remsi arg17 c2_i32_1532
  let v1529 : Index := Scalar.indexCast v1515
  let c0_1543 : Index := 0#32
  let c0_1544 : Index := 0#32
  ![v1529.toNat, 0, 0]
def k0_off55 (k0_t6 : Fin k0_t6_loop.trips) : Fin 3 → Nat :=
  let c1_1550 : Index := 1#32
  let c0_1551 : Index := 0#32
  let c8_i32_163 : BitVec 32 := 8#32
  let c1_i32_165 : BitVec 32 := 1#32
  let arg17 : BitVec 32 := Scf.iv c8_i32_163 c1_i32_165 k0_t6
  let c256_i32_1546 : BitVec 32 := 256#32
  let v1535 : BitVec 32 := Scalar.muli arg17 c256_i32_1546
  let v1538 : Index := Scalar.indexCast v1535
  ![1, 0, v1538.toNat]
def k0_off56 (k0_t6 : Fin k0_t6_loop.trips) : Fin 4 → Nat :=
  let c0_i32_162 : BitVec 32 := 0#32
  let c0_i32_1548 : BitVec 32 := 0#32
  let c8_i32_163 : BitVec 32 := 8#32
  let c1_i32_165 : BitVec 32 := 1#32
  let arg17 : BitVec 32 := Scf.iv c8_i32_163 c1_i32_165 k0_t6
  let c256_i32_1546 : BitVec 32 := 256#32
  let v1535 : BitVec 32 := Scalar.muli arg17 c256_i32_1546
  let v1538 : Index := Scalar.indexCast v1535
  ![0, 1, 0, v1538.toNat]
def k0_dev8 (d0 : Dev nD) : Nat :=
  let c0_i32_173 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_172 : BitVec 32 := 1#32
  let v139 : BitVec 32 := Scalar.muli v5 c1_i32_172
  let v140 : BitVec 32 := Scalar.addi c0_i32_173 v139
  v140.toNat
def k0_off57 (d0 : Dev nD) (c1_i32_180 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_178 : BitVec 32 := 8#32
  let v149 : BitVec 32 := Scalar.addi v2 c8_i32_178
  let c1_i32_179 : BitVec 32 := 1#32
  let v150 : BitVec 32 := Scalar.subi v149 c1_i32_179
  let v151 : BitVec 32 := Scalar.subi v150 c1_i32_180
  let c4_i32_181 : BitVec 32 := 4#32
  let v152 : BitVec 32 := Scalar.remsi v151 c4_i32_181
  let c1024_i32_182 : BitVec 32 := 1024#32
  let v153 : BitVec 32 := Scalar.muli v152 c1024_i32_182
  let c0_i32_187 : BitVec 32 := 0#32
  ![v153.toNat, 0]
@[reducible] def k0_t7_loop : Scf.Loop 32 :=
  let c0_i32_202 : BitVec 32 := 0#32
  let c16_i32 : BitVec 32 := 16#32
  let v172 : BitVec 32 := Scalar.addi c0_i32_202 c16_i32
  let c1_i32_203 : BitVec 32 := 1#32
  ⟨c0_i32_202, v172, c1_i32_203⟩
def k0_cond7 (k0_t7 : Fin k0_t7_loop.trips) : BitVec 1 :=
  let c0_i32_202 : BitVec 32 := 0#32
  let c1_i32_203 : BitVec 32 := 1#32
  let arg17 : BitVec 32 := Scf.iv c0_i32_202 c1_i32_203 k0_t7
  let c1_i32_1535 : BitVec 32 := 1#32
  let v1518 : BitVec 32 := Scalar.addi arg17 c1_i32_1535
  let c16_i32_1536 : BitVec 32 := 16#32
  let v1519 : BitVec 1 := Scalar.cmpi .slt v1518 c16_i32_1536
  let v1520 : BitVec 32 := Scalar.extui v1519
  let c0_i32_1537 : BitVec 32 := 0#32
  let v1521 : BitVec 1 := Scalar.cmpi .ne v1520 c0_i32_1537
  v1521

def k0_off58 (k0_t7 : Fin k0_t7_loop.trips) : Fin 1 → Nat :=
  let c0_i32_202 : BitVec 32 := 0#32
  let c1_i32_203 : BitVec 32 := 1#32
  let arg17 : BitVec 32 := Scf.iv c0_i32_202 c1_i32_203 k0_t7
  let c1_i32_1533 : BitVec 32 := 1#32
  let v1516 : BitVec 32 := Scalar.addi arg17 c1_i32_1533
  let c2_i32_1534 : BitVec 32 := 2#32
  let v1517 : BitVec 32 := Scalar.remsi v1516 c2_i32_1534
  ![v1517.toNat]
def k0_off59 (k0_t7 : Fin k0_t7_loop.trips) : Fin 3 → Nat :=
  let c0_i32_202 : BitVec 32 := 0#32
  let c1_i32_203 : BitVec 32 := 1#32
  let arg17 : BitVec 32 := Scf.iv c0_i32_202 c1_i32_203 k0_t7
  let c1_i32_1533 : BitVec 32 := 1#32
  let v1516 : BitVec 32 := Scalar.addi arg17 c1_i32_1533
  let c2_i32_1534 : BitVec 32 := 2#32
  let v1517 : BitVec 32 := Scalar.remsi v1516 c2_i32_1534
  let c0_i32_1552 : BitVec 32 := 0#32
  let c0_i32_1553 : BitVec 32 := 0#32
  ![v1517.toNat, 0, 0]
def k0_off60 (k0_t7 : Fin k0_t7_loop.trips) : Fin 2 → Nat :=
  let c0_i32_1554 : BitVec 32 := 0#32
  let c0_i32_1551 : BitVec 32 := 0#32
  let c0_i32_202 : BitVec 32 := 0#32
  let c1_i32_203 : BitVec 32 := 1#32
  let arg17 : BitVec 32 := Scf.iv c0_i32_202 c1_i32_203 k0_t7
  let c1_i32_1549 : BitVec 32 := 1#32
  let v1540 : BitVec 32 := Scalar.addi arg17 c1_i32_1549
  let c256_i32_1550 : BitVec 32 := 256#32
  let v1541 : BitVec 32 := Scalar.muli v1540 c256_i32_1550
  let v1542 : BitVec 32 := Scalar.addi c0_i32_1551 v1541
  ![0, v1542.toNat]
def k0_off61 (k0_t7 : Fin k0_t7_loop.trips) : Fin 1 → Nat :=
  let c0_i32_202 : BitVec 32 := 0#32
  let c1_i32_203 : BitVec 32 := 1#32
  let arg17 : BitVec 32 := Scf.iv c0_i32_202 c1_i32_203 k0_t7
  let c2_i32_1532 : BitVec 32 := 2#32
  let v1515 : BitVec 32 := Scalar.remsi arg17 c2_i32_1532
  ![v1515.toNat]
def k0_off62 (k0_t7 : Fin k0_t7_loop.trips) : Fin 3 → Nat :=
  let c0_i32_202 : BitVec 32 := 0#32
  let c1_i32_203 : BitVec 32 := 1#32
  let arg17 : BitVec 32 := Scf.iv c0_i32_202 c1_i32_203 k0_t7
  let c2_i32_1532 : BitVec 32 := 2#32
  let v1515 : BitVec 32 := Scalar.remsi arg17 c2_i32_1532
  let c0_i32_1540 : BitVec 32 := 0#32
  let c0_i32_1541 : BitVec 32 := 0#32
  ![v1515.toNat, 0, 0]
def k0_off63 (k0_t7 : Fin k0_t7_loop.trips) : Fin 2 → Nat :=
  let c0_i32_1542 : BitVec 32 := 0#32
  let c0_i32_1539 : BitVec 32 := 0#32
  let c0_i32_202 : BitVec 32 := 0#32
  let c1_i32_203 : BitVec 32 := 1#32
  let arg17 : BitVec 32 := Scf.iv c0_i32_202 c1_i32_203 k0_t7
  let c256_i32_1538 : BitVec 32 := 256#32
  let v1522 : BitVec 32 := Scalar.muli arg17 c256_i32_1538
  let v1523 : BitVec 32 := Scalar.addi c0_i32_1539 v1522
  ![0, v1523.toNat]
def k0_off64 (k0_t7 : Fin k0_t7_loop.trips) : Fin 3 → Nat :=
  let c0_i32_202 : BitVec 32 := 0#32
  let c1_i32_203 : BitVec 32 := 1#32
  let arg17 : BitVec 32 := Scf.iv c0_i32_202 c1_i32_203 k0_t7
  let c2_i32_1532 : BitVec 32 := 2#32
  let v1515 : BitVec 32 := Scalar.remsi arg17 c2_i32_1532
  let v1529 : Index := Scalar.indexCast v1515
  let c0_1543 : Index := 0#32
  let c0_1544 : Index := 0#32
  ![v1529.toNat, 0, 0]
def k0_off65 (k0_t7 : Fin k0_t7_loop.trips) : Fin 3 → Nat :=
  let c0_1547 : Index := 0#32
  let c0_1548 : Index := 0#32
  let c0_i32_202 : BitVec 32 := 0#32
  let c1_i32_203 : BitVec 32 := 1#32
  let arg17 : BitVec 32 := Scf.iv c0_i32_202 c1_i32_203 k0_t7
  let c256_i32_1546 : BitVec 32 := 256#32
  let v1535 : BitVec 32 := Scalar.muli arg17 c256_i32_1546
  let v1536 : Index := Scalar.indexCast v1535
  ![0, 0, v1536.toNat]
@[reducible] def k0_t8_loop : Scf.Loop 32 :=
  let c0_i32_214 : BitVec 32 := 0#32
  let c16_i32_215 : BitVec 32 := 16#32
  let v181 : BitVec 32 := Scalar.addi c0_i32_214 c16_i32_215
  let c1_i32_216 : BitVec 32 := 1#32
  ⟨c0_i32_214, v181, c1_i32_216⟩
def k0_cond8 (k0_t8 : Fin k0_t8_loop.trips) : BitVec 1 :=
  let c0_i32_214 : BitVec 32 := 0#32
  let c1_i32_216 : BitVec 32 := 1#32
  let arg17 : BitVec 32 := Scf.iv c0_i32_214 c1_i32_216 k0_t8
  let c1_i32_1535 : BitVec 32 := 1#32
  let v1518 : BitVec 32 := Scalar.addi arg17 c1_i32_1535
  let c16_i32_1536 : BitVec 32 := 16#32
  let v1519 : BitVec 1 := Scalar.cmpi .slt v1518 c16_i32_1536
  let v1520 : BitVec 32 := Scalar.extui v1519
  let c0_i32_1537 : BitVec 32 := 0#32
  let v1521 : BitVec 1 := Scalar.cmpi .ne v1520 c0_i32_1537
  v1521

def k0_off66 (k0_t8 : Fin k0_t8_loop.trips) : Fin 1 → Nat :=
  let c0_i32_214 : BitVec 32 := 0#32
  let c1_i32_216 : BitVec 32 := 1#32
  let arg17 : BitVec 32 := Scf.iv c0_i32_214 c1_i32_216 k0_t8
  let c1_i32_1533 : BitVec 32 := 1#32
  let v1516 : BitVec 32 := Scalar.addi arg17 c1_i32_1533
  let c2_i32_1534 : BitVec 32 := 2#32
  let v1517 : BitVec 32 := Scalar.remsi v1516 c2_i32_1534
  ![v1517.toNat]
def k0_off67 (k0_t8 : Fin k0_t8_loop.trips) : Fin 3 → Nat :=
  let c0_i32_214 : BitVec 32 := 0#32
  let c1_i32_216 : BitVec 32 := 1#32
  let arg17 : BitVec 32 := Scf.iv c0_i32_214 c1_i32_216 k0_t8
  let c1_i32_1533 : BitVec 32 := 1#32
  let v1516 : BitVec 32 := Scalar.addi arg17 c1_i32_1533
  let c2_i32_1534 : BitVec 32 := 2#32
  let v1517 : BitVec 32 := Scalar.remsi v1516 c2_i32_1534
  let c0_i32_1552 : BitVec 32 := 0#32
  let c0_i32_1553 : BitVec 32 := 0#32
  ![v1517.toNat, 0, 0]
def k0_off68 (k0_t8 : Fin k0_t8_loop.trips) : Fin 2 → Nat :=
  let c0_i32_1554 : BitVec 32 := 0#32
  let c4096_i32_1551 : BitVec 32 := 4096#32
  let c0_i32_214 : BitVec 32 := 0#32
  let c1_i32_216 : BitVec 32 := 1#32
  let arg17 : BitVec 32 := Scf.iv c0_i32_214 c1_i32_216 k0_t8
  let c1_i32_1549 : BitVec 32 := 1#32
  let v1540 : BitVec 32 := Scalar.addi arg17 c1_i32_1549
  let c256_i32_1550 : BitVec 32 := 256#32
  let v1541 : BitVec 32 := Scalar.muli v1540 c256_i32_1550
  let v1542 : BitVec 32 := Scalar.addi c4096_i32_1551 v1541
  ![0, v1542.toNat]
def k0_off69 (k0_t8 : Fin k0_t8_loop.trips) : Fin 1 → Nat :=
  let c0_i32_214 : BitVec 32 := 0#32
  let c1_i32_216 : BitVec 32 := 1#32
  let arg17 : BitVec 32 := Scf.iv c0_i32_214 c1_i32_216 k0_t8
  let c2_i32_1532 : BitVec 32 := 2#32
  let v1515 : BitVec 32 := Scalar.remsi arg17 c2_i32_1532
  ![v1515.toNat]
def k0_off70 (k0_t8 : Fin k0_t8_loop.trips) : Fin 3 → Nat :=
  let c0_i32_214 : BitVec 32 := 0#32
  let c1_i32_216 : BitVec 32 := 1#32
  let arg17 : BitVec 32 := Scf.iv c0_i32_214 c1_i32_216 k0_t8
  let c2_i32_1532 : BitVec 32 := 2#32
  let v1515 : BitVec 32 := Scalar.remsi arg17 c2_i32_1532
  let c0_i32_1540 : BitVec 32 := 0#32
  let c0_i32_1541 : BitVec 32 := 0#32
  ![v1515.toNat, 0, 0]
def k0_off71 (k0_t8 : Fin k0_t8_loop.trips) : Fin 2 → Nat :=
  let c0_i32_1542 : BitVec 32 := 0#32
  let c4096_i32_1539 : BitVec 32 := 4096#32
  let c0_i32_214 : BitVec 32 := 0#32
  let c1_i32_216 : BitVec 32 := 1#32
  let arg17 : BitVec 32 := Scf.iv c0_i32_214 c1_i32_216 k0_t8
  let c256_i32_1538 : BitVec 32 := 256#32
  let v1522 : BitVec 32 := Scalar.muli arg17 c256_i32_1538
  let v1523 : BitVec 32 := Scalar.addi c4096_i32_1539 v1522
  ![0, v1523.toNat]
def k0_off72 (k0_t8 : Fin k0_t8_loop.trips) : Fin 3 → Nat :=
  let c0_i32_214 : BitVec 32 := 0#32
  let c1_i32_216 : BitVec 32 := 1#32
  let arg17 : BitVec 32 := Scf.iv c0_i32_214 c1_i32_216 k0_t8
  let c2_i32_1532 : BitVec 32 := 2#32
  let v1515 : BitVec 32 := Scalar.remsi arg17 c2_i32_1532
  let v1529 : Index := Scalar.indexCast v1515
  let c0_1543 : Index := 0#32
  let c0_1544 : Index := 0#32
  ![v1529.toNat, 0, 0]
def k0_off73 (k0_t8 : Fin k0_t8_loop.trips) : Fin 3 → Nat :=
  let c1_1547 : Index := 1#32
  let c0_1548 : Index := 0#32
  let c0_i32_214 : BitVec 32 := 0#32
  let c1_i32_216 : BitVec 32 := 1#32
  let arg17 : BitVec 32 := Scf.iv c0_i32_214 c1_i32_216 k0_t8
  let c256_i32_1546 : BitVec 32 := 256#32
  let v1535 : BitVec 32 := Scalar.muli arg17 c256_i32_1546
  let v1536 : Index := Scalar.indexCast v1535
  ![1, 0, v1536.toNat]
def k0_dev9 (d0 : Dev nD) : Nat :=
  let c0_i32_267 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_266 : BitVec 32 := 1#32
  let v212 : BitVec 32 := Scalar.muli v5 c1_i32_266
  let v213 : BitVec 32 := Scalar.addi c0_i32_267 v212
  v213.toNat
@[reducible] def k0_t9_loop : Scf.Loop 32 :=
  let c0_i32_268 : BitVec 32 := 0#32
  let c8_i32_269 : BitVec 32 := 8#32
  let v214 : BitVec 32 := Scalar.addi c0_i32_268 c8_i32_269
  let c1_i32_270 : BitVec 32 := 1#32
  ⟨c0_i32_268, v214, c1_i32_270⟩
def k0_off74 (k0_t9 : Fin k0_t9_loop.trips) : Fin 4 → Nat :=
  let c1_1533 : Index := 1#32
  let c0_1534 : Index := 0#32
  let c0_1535 : Index := 0#32
  let c0_i32_268 : BitVec 32 := 0#32
  let c1_i32_270 : BitVec 32 := 1#32
  let arg17 : BitVec 32 := Scf.iv c0_i32_268 c1_i32_270 k0_t9
  let c256_i32_1532 : BitVec 32 := 256#32
  let v1515 : BitVec 32 := Scalar.muli arg17 c256_i32_1532
  let v1516 : Index := Scalar.indexCast v1515
  ![1, 0, 0, v1516.toNat]
def k0_off75 (k0_t9 : Fin k0_t9_loop.trips) : Fin 3 → Nat :=
  let c0_1536 : Index := 0#32
  let c0_1537 : Index := 0#32
  let c0_i32_268 : BitVec 32 := 0#32
  let c1_i32_270 : BitVec 32 := 1#32
  let arg17 : BitVec 32 := Scf.iv c0_i32_268 c1_i32_270 k0_t9
  let c256_i32_1532 : BitVec 32 := 256#32
  let v1515 : BitVec 32 := Scalar.muli arg17 c256_i32_1532
  let v1520 : Index := Scalar.indexCast v1515
  ![0, 0, v1520.toNat]
def k0_dev10 (d0 : Dev nD) : Nat :=
  let c0_i32_281 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_280 : BitVec 32 := 1#32
  let v217 : BitVec 32 := Scalar.muli v7 c1_i32_280
  let v218 : BitVec 32 := Scalar.addi c0_i32_281 v217
  v218.toNat
def k0_dev11 (d0 : Dev nD) : Nat :=
  let c0_i32_335 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_334 : BitVec 32 := 1#32
  let v257 : BitVec 32 := Scalar.muli v7 c1_i32_334
  let v258 : BitVec 32 := Scalar.addi c0_i32_335 v257
  v258.toNat
@[reducible] def k0_t10_loop : Scf.Loop 32 :=
  let c0_i32_336 : BitVec 32 := 0#32
  let c8_i32_337 : BitVec 32 := 8#32
  let v259 : BitVec 32 := Scalar.addi c0_i32_336 c8_i32_337
  let c1_i32_338 : BitVec 32 := 1#32
  ⟨c0_i32_336, v259, c1_i32_338⟩
def k0_off76 (k0_t10 : Fin k0_t10_loop.trips) : Fin 4 → Nat :=
  let c1_1533 : Index := 1#32
  let c1_1534 : Index := 1#32
  let c0_1535 : Index := 0#32
  let c0_i32_336 : BitVec 32 := 0#32
  let c1_i32_338 : BitVec 32 := 1#32
  let arg17 : BitVec 32 := Scf.iv c0_i32_336 c1_i32_338 k0_t10
  let c256_i32_1532 : BitVec 32 := 256#32
  let v1515 : BitVec 32 := Scalar.muli arg17 c256_i32_1532
  let v1516 : Index := Scalar.indexCast v1515
  ![1, 1, 0, v1516.toNat]
def k0_off77 (k0_t10 : Fin k0_t10_loop.trips) : Fin 3 → Nat :=
  let c1_1536 : Index := 1#32
  let c0_1537 : Index := 0#32
  let c0_i32_336 : BitVec 32 := 0#32
  let c1_i32_338 : BitVec 32 := 1#32
  let arg17 : BitVec 32 := Scf.iv c0_i32_336 c1_i32_338 k0_t10
  let c256_i32_1532 : BitVec 32 := 256#32
  let v1515 : BitVec 32 := Scalar.muli arg17 c256_i32_1532
  let v1520 : Index := Scalar.indexCast v1515
  ![1, 0, v1520.toNat]
def k0_dev12 (d0 : Dev nD) : Nat :=
  let c0_i32_350 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_349 : BitVec 32 := 1#32
  let v262 : BitVec 32 := Scalar.muli v5 c1_i32_349
  let v263 : BitVec 32 := Scalar.addi c0_i32_350 v262
  v263.toNat
def k0_dev13 (d0 : Dev nD) : Nat :=
  let c0_i32_381 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_380 : BitVec 32 := 1#32
  let v288 : BitVec 32 := Scalar.muli v5 c1_i32_380
  let v289 : BitVec 32 := Scalar.addi c0_i32_381 v288
  v289.toNat
@[reducible] def k0_t11_loop : Scf.Loop 32 :=
  let c8_i32_382 : BitVec 32 := 8#32
  let c8_i32_383 : BitVec 32 := 8#32
  let v290 : BitVec 32 := Scalar.addi c8_i32_382 c8_i32_383
  let c1_i32_384 : BitVec 32 := 1#32
  ⟨c8_i32_382, v290, c1_i32_384⟩
def k0_off78 (k0_t11 : Fin k0_t11_loop.trips) : Fin 4 → Nat :=
  let c1_1533 : Index := 1#32
  let c0_1534 : Index := 0#32
  let c0_1535 : Index := 0#32
  let c8_i32_382 : BitVec 32 := 8#32
  let c1_i32_384 : BitVec 32 := 1#32
  let arg17 : BitVec 32 := Scf.iv c8_i32_382 c1_i32_384 k0_t11
  let c256_i32_1532 : BitVec 32 := 256#32
  let v1515 : BitVec 32 := Scalar.muli arg17 c256_i32_1532
  let v1516 : Index := Scalar.indexCast v1515
  ![1, 0, 0, v1516.toNat]
def k0_off79 (k0_t11 : Fin k0_t11_loop.trips) : Fin 3 → Nat :=
  let c0_1536 : Index := 0#32
  let c0_1537 : Index := 0#32
  let c8_i32_382 : BitVec 32 := 8#32
  let c1_i32_384 : BitVec 32 := 1#32
  let arg17 : BitVec 32 := Scf.iv c8_i32_382 c1_i32_384 k0_t11
  let c256_i32_1532 : BitVec 32 := 256#32
  let v1515 : BitVec 32 := Scalar.muli arg17 c256_i32_1532
  let v1520 : Index := Scalar.indexCast v1515
  ![0, 0, v1520.toNat]
def k0_dev14 (d0 : Dev nD) : Nat :=
  let c0_i32_395 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_394 : BitVec 32 := 1#32
  let v293 : BitVec 32 := Scalar.muli v7 c1_i32_394
  let v294 : BitVec 32 := Scalar.addi c0_i32_395 v293
  v294.toNat
def k0_dev15 (d0 : Dev nD) : Nat :=
  let c0_i32_426 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_425 : BitVec 32 := 1#32
  let v319 : BitVec 32 := Scalar.muli v7 c1_i32_425
  let v320 : BitVec 32 := Scalar.addi c0_i32_426 v319
  v320.toNat
@[reducible] def k0_t12_loop : Scf.Loop 32 :=
  let c8_i32_427 : BitVec 32 := 8#32
  let c8_i32_428 : BitVec 32 := 8#32
  let v321 : BitVec 32 := Scalar.addi c8_i32_427 c8_i32_428
  let c1_i32_429 : BitVec 32 := 1#32
  ⟨c8_i32_427, v321, c1_i32_429⟩
def k0_off80 (k0_t12 : Fin k0_t12_loop.trips) : Fin 4 → Nat :=
  let c1_1533 : Index := 1#32
  let c1_1534 : Index := 1#32
  let c0_1535 : Index := 0#32
  let c8_i32_427 : BitVec 32 := 8#32
  let c1_i32_429 : BitVec 32 := 1#32
  let arg17 : BitVec 32 := Scf.iv c8_i32_427 c1_i32_429 k0_t12
  let c256_i32_1532 : BitVec 32 := 256#32
  let v1515 : BitVec 32 := Scalar.muli arg17 c256_i32_1532
  let v1516 : Index := Scalar.indexCast v1515
  ![1, 1, 0, v1516.toNat]
def k0_off81 (k0_t12 : Fin k0_t12_loop.trips) : Fin 3 → Nat :=
  let c1_1536 : Index := 1#32
  let c0_1537 : Index := 0#32
  let c8_i32_427 : BitVec 32 := 8#32
  let c1_i32_429 : BitVec 32 := 1#32
  let arg17 : BitVec 32 := Scf.iv c8_i32_427 c1_i32_429 k0_t12
  let c256_i32_1532 : BitVec 32 := 256#32
  let v1515 : BitVec 32 := Scalar.muli arg17 c256_i32_1532
  let v1520 : Index := Scalar.indexCast v1515
  ![1, 0, v1520.toNat]
def k0_dev16 (d0 : Dev nD) : Nat :=
  let c0_i32_440 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_439 : BitVec 32 := 1#32
  let v324 : BitVec 32 := Scalar.muli v5 c1_i32_439
  let v325 : BitVec 32 := Scalar.addi c0_i32_440 v324
  v325.toNat
@[reducible] def k0_t13_loop : Scf.Loop 32 :=
  let c0_i32_472 : BitVec 32 := 0#32
  let c16_i32_473 : BitVec 32 := 16#32
  let v360 : BitVec 32 := Scalar.addi c0_i32_472 c16_i32_473
  let c1_i32_474 : BitVec 32 := 1#32
  ⟨c0_i32_472, v360, c1_i32_474⟩
def k0_cond9 (k0_t13 : Fin k0_t13_loop.trips) : BitVec 1 :=
  let c0_i32_472 : BitVec 32 := 0#32
  let c1_i32_474 : BitVec 32 := 1#32
  let arg17 : BitVec 32 := Scf.iv c0_i32_472 c1_i32_474 k0_t13
  let c1_i32_1535 : BitVec 32 := 1#32
  let v1518 : BitVec 32 := Scalar.addi arg17 c1_i32_1535
  let c16_i32_1536 : BitVec 32 := 16#32
  let v1519 : BitVec 1 := Scalar.cmpi .slt v1518 c16_i32_1536
  let v1520 : BitVec 32 := Scalar.extui v1519
  let c0_i32_1537 : BitVec 32 := 0#32
  let v1521 : BitVec 1 := Scalar.cmpi .ne v1520 c0_i32_1537
  v1521

def k0_off82 (k0_t13 : Fin k0_t13_loop.trips) : Fin 1 → Nat :=
  let c0_i32_472 : BitVec 32 := 0#32
  let c1_i32_474 : BitVec 32 := 1#32
  let arg17 : BitVec 32 := Scf.iv c0_i32_472 c1_i32_474 k0_t13
  let c1_i32_1533 : BitVec 32 := 1#32
  let v1516 : BitVec 32 := Scalar.addi arg17 c1_i32_1533
  let c2_i32_1534 : BitVec 32 := 2#32
  let v1517 : BitVec 32 := Scalar.remsi v1516 c2_i32_1534
  ![v1517.toNat]
def k0_off83 (k0_t13 : Fin k0_t13_loop.trips) : Fin 3 → Nat :=
  let c0_i32_472 : BitVec 32 := 0#32
  let c1_i32_474 : BitVec 32 := 1#32
  let arg17 : BitVec 32 := Scf.iv c0_i32_472 c1_i32_474 k0_t13
  let c1_i32_1533 : BitVec 32 := 1#32
  let v1516 : BitVec 32 := Scalar.addi arg17 c1_i32_1533
  let c2_i32_1534 : BitVec 32 := 2#32
  let v1517 : BitVec 32 := Scalar.remsi v1516 c2_i32_1534
  let c0_i32_1552 : BitVec 32 := 0#32
  let c0_i32_1553 : BitVec 32 := 0#32
  ![v1517.toNat, 0, 0]
def k0_off84 (k0_t13 : Fin k0_t13_loop.trips) : Fin 2 → Nat :=
  let c0_i32_1554 : BitVec 32 := 0#32
  let c0_i32_1551 : BitVec 32 := 0#32
  let c0_i32_472 : BitVec 32 := 0#32
  let c1_i32_474 : BitVec 32 := 1#32
  let arg17 : BitVec 32 := Scf.iv c0_i32_472 c1_i32_474 k0_t13
  let c1_i32_1549 : BitVec 32 := 1#32
  let v1540 : BitVec 32 := Scalar.addi arg17 c1_i32_1549
  let c256_i32_1550 : BitVec 32 := 256#32
  let v1541 : BitVec 32 := Scalar.muli v1540 c256_i32_1550
  let v1542 : BitVec 32 := Scalar.addi c0_i32_1551 v1541
  ![0, v1542.toNat]
def k0_off85 (k0_t13 : Fin k0_t13_loop.trips) : Fin 1 → Nat :=
  let c0_i32_472 : BitVec 32 := 0#32
  let c1_i32_474 : BitVec 32 := 1#32
  let arg17 : BitVec 32 := Scf.iv c0_i32_472 c1_i32_474 k0_t13
  let c2_i32_1532 : BitVec 32 := 2#32
  let v1515 : BitVec 32 := Scalar.remsi arg17 c2_i32_1532
  ![v1515.toNat]
def k0_off86 (k0_t13 : Fin k0_t13_loop.trips) : Fin 3 → Nat :=
  let c0_i32_472 : BitVec 32 := 0#32
  let c1_i32_474 : BitVec 32 := 1#32
  let arg17 : BitVec 32 := Scf.iv c0_i32_472 c1_i32_474 k0_t13
  let c2_i32_1532 : BitVec 32 := 2#32
  let v1515 : BitVec 32 := Scalar.remsi arg17 c2_i32_1532
  let c0_i32_1540 : BitVec 32 := 0#32
  let c0_i32_1541 : BitVec 32 := 0#32
  ![v1515.toNat, 0, 0]
def k0_off87 (k0_t13 : Fin k0_t13_loop.trips) : Fin 2 → Nat :=
  let c0_i32_1542 : BitVec 32 := 0#32
  let c0_i32_1539 : BitVec 32 := 0#32
  let c0_i32_472 : BitVec 32 := 0#32
  let c1_i32_474 : BitVec 32 := 1#32
  let arg17 : BitVec 32 := Scf.iv c0_i32_472 c1_i32_474 k0_t13
  let c256_i32_1538 : BitVec 32 := 256#32
  let v1522 : BitVec 32 := Scalar.muli arg17 c256_i32_1538
  let v1523 : BitVec 32 := Scalar.addi c0_i32_1539 v1522
  ![0, v1523.toNat]
def k0_off88 (k0_t13 : Fin k0_t13_loop.trips) : Fin 3 → Nat :=
  let c0_i32_472 : BitVec 32 := 0#32
  let c1_i32_474 : BitVec 32 := 1#32
  let arg17 : BitVec 32 := Scf.iv c0_i32_472 c1_i32_474 k0_t13
  let c2_i32_1532 : BitVec 32 := 2#32
  let v1515 : BitVec 32 := Scalar.remsi arg17 c2_i32_1532
  let v1529 : Index := Scalar.indexCast v1515
  let c0_1543 : Index := 0#32
  let c0_1544 : Index := 0#32
  ![v1529.toNat, 0, 0]
def k0_off89 (k0_t13 : Fin k0_t13_loop.trips) : Fin 3 → Nat :=
  let c0_1547 : Index := 0#32
  let c0_1548 : Index := 0#32
  let c0_i32_472 : BitVec 32 := 0#32
  let c1_i32_474 : BitVec 32 := 1#32
  let arg17 : BitVec 32 := Scf.iv c0_i32_472 c1_i32_474 k0_t13
  let c256_i32_1546 : BitVec 32 := 256#32
  let v1535 : BitVec 32 := Scalar.muli arg17 c256_i32_1546
  let v1536 : Index := Scalar.indexCast v1535
  ![0, 0, v1536.toNat]
def k0_off90 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_449 : BitVec 32 := 1#32
  let v338 : BitVec 32 := Scalar.addi v2 c1_i32_449
  let c2_i32_450 : BitVec 32 := 2#32
  let v339 : BitVec 32 := Scalar.addi v338 c2_i32_450
  let c4_i32_451 : BitVec 32 := 4#32
  let v340 : BitVec 32 := Scalar.remsi v339 c4_i32_451
  let c1024_i32_476 : BitVec 32 := 1024#32
  let v361 : BitVec 32 := Scalar.muli v340 c1024_i32_476
  let c0_i32_481 : BitVec 32 := 0#32
  ![v361.toNat, 0]
@[reducible] def k0_t14_loop : Scf.Loop 32 :=
  let c0_i32_496 : BitVec 32 := 0#32
  let c16_i32_497 : BitVec 32 := 16#32
  let v380 : BitVec 32 := Scalar.addi c0_i32_496 c16_i32_497
  let c1_i32_498 : BitVec 32 := 1#32
  ⟨c0_i32_496, v380, c1_i32_498⟩
def k0_cond10 (k0_t14 : Fin k0_t14_loop.trips) : BitVec 1 :=
  let c0_i32_496 : BitVec 32 := 0#32
  let c1_i32_498 : BitVec 32 := 1#32
  let arg17 : BitVec 32 := Scf.iv c0_i32_496 c1_i32_498 k0_t14
  let c1_i32_1535 : BitVec 32 := 1#32
  let v1518 : BitVec 32 := Scalar.addi arg17 c1_i32_1535
  let c16_i32_1536 : BitVec 32 := 16#32
  let v1519 : BitVec 1 := Scalar.cmpi .slt v1518 c16_i32_1536
  let v1520 : BitVec 32 := Scalar.extui v1519
  let c0_i32_1537 : BitVec 32 := 0#32
  let v1521 : BitVec 1 := Scalar.cmpi .ne v1520 c0_i32_1537
  v1521

def k0_off91 (k0_t14 : Fin k0_t14_loop.trips) : Fin 1 → Nat :=
  let c0_i32_496 : BitVec 32 := 0#32
  let c1_i32_498 : BitVec 32 := 1#32
  let arg17 : BitVec 32 := Scf.iv c0_i32_496 c1_i32_498 k0_t14
  let c1_i32_1533 : BitVec 32 := 1#32
  let v1516 : BitVec 32 := Scalar.addi arg17 c1_i32_1533
  let c2_i32_1534 : BitVec 32 := 2#32
  let v1517 : BitVec 32 := Scalar.remsi v1516 c2_i32_1534
  ![v1517.toNat]
def k0_off92 (k0_t14 : Fin k0_t14_loop.trips) : Fin 3 → Nat :=
  let c0_i32_496 : BitVec 32 := 0#32
  let c1_i32_498 : BitVec 32 := 1#32
  let arg17 : BitVec 32 := Scf.iv c0_i32_496 c1_i32_498 k0_t14
  let c1_i32_1533 : BitVec 32 := 1#32
  let v1516 : BitVec 32 := Scalar.addi arg17 c1_i32_1533
  let c2_i32_1534 : BitVec 32 := 2#32
  let v1517 : BitVec 32 := Scalar.remsi v1516 c2_i32_1534
  let c0_i32_1552 : BitVec 32 := 0#32
  let c0_i32_1553 : BitVec 32 := 0#32
  ![v1517.toNat, 0, 0]
def k0_off93 (k0_t14 : Fin k0_t14_loop.trips) : Fin 2 → Nat :=
  let c0_i32_1554 : BitVec 32 := 0#32
  let c4096_i32_1551 : BitVec 32 := 4096#32
  let c0_i32_496 : BitVec 32 := 0#32
  let c1_i32_498 : BitVec 32 := 1#32
  let arg17 : BitVec 32 := Scf.iv c0_i32_496 c1_i32_498 k0_t14
  let c1_i32_1549 : BitVec 32 := 1#32
  let v1540 : BitVec 32 := Scalar.addi arg17 c1_i32_1549
  let c256_i32_1550 : BitVec 32 := 256#32
  let v1541 : BitVec 32 := Scalar.muli v1540 c256_i32_1550
  let v1542 : BitVec 32 := Scalar.addi c4096_i32_1551 v1541
  ![0, v1542.toNat]
def k0_off94 (k0_t14 : Fin k0_t14_loop.trips) : Fin 1 → Nat :=
  let c0_i32_496 : BitVec 32 := 0#32
  let c1_i32_498 : BitVec 32 := 1#32
  let arg17 : BitVec 32 := Scf.iv c0_i32_496 c1_i32_498 k0_t14
  let c2_i32_1532 : BitVec 32 := 2#32
  let v1515 : BitVec 32 := Scalar.remsi arg17 c2_i32_1532
  ![v1515.toNat]
def k0_off95 (k0_t14 : Fin k0_t14_loop.trips) : Fin 3 → Nat :=
  let c0_i32_496 : BitVec 32 := 0#32
  let c1_i32_498 : BitVec 32 := 1#32
  let arg17 : BitVec 32 := Scf.iv c0_i32_496 c1_i32_498 k0_t14
  let c2_i32_1532 : BitVec 32 := 2#32
  let v1515 : BitVec 32 := Scalar.remsi arg17 c2_i32_1532
  let c0_i32_1540 : BitVec 32 := 0#32
  let c0_i32_1541 : BitVec 32 := 0#32
  ![v1515.toNat, 0, 0]
def k0_off96 (k0_t14 : Fin k0_t14_loop.trips) : Fin 2 → Nat :=
  let c0_i32_1542 : BitVec 32 := 0#32
  let c4096_i32_1539 : BitVec 32 := 4096#32
  let c0_i32_496 : BitVec 32 := 0#32
  let c1_i32_498 : BitVec 32 := 1#32
  let arg17 : BitVec 32 := Scf.iv c0_i32_496 c1_i32_498 k0_t14
  let c256_i32_1538 : BitVec 32 := 256#32
  let v1522 : BitVec 32 := Scalar.muli arg17 c256_i32_1538
  let v1523 : BitVec 32 := Scalar.addi c4096_i32_1539 v1522
  ![0, v1523.toNat]
def k0_off97 (k0_t14 : Fin k0_t14_loop.trips) : Fin 3 → Nat :=
  let c0_i32_496 : BitVec 32 := 0#32
  let c1_i32_498 : BitVec 32 := 1#32
  let arg17 : BitVec 32 := Scf.iv c0_i32_496 c1_i32_498 k0_t14
  let c2_i32_1532 : BitVec 32 := 2#32
  let v1515 : BitVec 32 := Scalar.remsi arg17 c2_i32_1532
  let v1529 : Index := Scalar.indexCast v1515
  let c0_1543 : Index := 0#32
  let c0_1544 : Index := 0#32
  ![v1529.toNat, 0, 0]
def k0_off98 (k0_t14 : Fin k0_t14_loop.trips) : Fin 3 → Nat :=
  let c1_1547 : Index := 1#32
  let c0_1548 : Index := 0#32
  let c0_i32_496 : BitVec 32 := 0#32
  let c1_i32_498 : BitVec 32 := 1#32
  let arg17 : BitVec 32 := Scf.iv c0_i32_496 c1_i32_498 k0_t14
  let c256_i32_1546 : BitVec 32 := 256#32
  let v1535 : BitVec 32 := Scalar.muli arg17 c256_i32_1546
  let v1536 : Index := Scalar.indexCast v1535
  ![1, 0, v1536.toNat]
def k0_dev17 (d0 : Dev nD) : Nat :=
  let c0_i32_526 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_525 : BitVec 32 := 1#32
  let v397 : BitVec 32 := Scalar.muli v5 c1_i32_525
  let v398 : BitVec 32 := Scalar.addi c0_i32_526 v397
  v398.toNat
@[reducible] def k0_t15_loop : Scf.Loop 32 :=
  let c0_i32_527 : BitVec 32 := 0#32
  let c8_i32_528 : BitVec 32 := 8#32
  let v399 : BitVec 32 := Scalar.addi c0_i32_527 c8_i32_528
  let c1_i32_529 : BitVec 32 := 1#32
  ⟨c0_i32_527, v399, c1_i32_529⟩
def k0_off99 (k0_t15 : Fin k0_t15_loop.trips) : Fin 4 → Nat :=
  let c0_1533 : Index := 0#32
  let c0_1534 : Index := 0#32
  let c0_1535 : Index := 0#32
  let c0_i32_527 : BitVec 32 := 0#32
  let c1_i32_529 : BitVec 32 := 1#32
  let arg17 : BitVec 32 := Scf.iv c0_i32_527 c1_i32_529 k0_t15
  let c256_i32_1532 : BitVec 32 := 256#32
  let v1515 : BitVec 32 := Scalar.muli arg17 c256_i32_1532
  let v1516 : Index := Scalar.indexCast v1515
  ![0, 0, 0, v1516.toNat]
def k0_off100 (k0_t15 : Fin k0_t15_loop.trips) : Fin 3 → Nat :=
  let c0_1536 : Index := 0#32
  let c0_1537 : Index := 0#32
  let c0_i32_527 : BitVec 32 := 0#32
  let c1_i32_529 : BitVec 32 := 1#32
  let arg17 : BitVec 32 := Scf.iv c0_i32_527 c1_i32_529 k0_t15
  let c256_i32_1532 : BitVec 32 := 256#32
  let v1515 : BitVec 32 := Scalar.muli arg17 c256_i32_1532
  let v1520 : Index := Scalar.indexCast v1515
  ![0, 0, v1520.toNat]
def k0_dev18 (d0 : Dev nD) : Nat :=
  let c0_i32_540 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_539 : BitVec 32 := 1#32
  let v402 : BitVec 32 := Scalar.muli v7 c1_i32_539
  let v403 : BitVec 32 := Scalar.addi c0_i32_540 v402
  v403.toNat
def k0_dev19 (d0 : Dev nD) : Nat :=
  let c0_i32_571 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_570 : BitVec 32 := 1#32
  let v428 : BitVec 32 := Scalar.muli v7 c1_i32_570
  let v429 : BitVec 32 := Scalar.addi c0_i32_571 v428
  v429.toNat
@[reducible] def k0_t16_loop : Scf.Loop 32 :=
  let c0_i32_572 : BitVec 32 := 0#32
  let c8_i32_573 : BitVec 32 := 8#32
  let v430 : BitVec 32 := Scalar.addi c0_i32_572 c8_i32_573
  let c1_i32_574 : BitVec 32 := 1#32
  ⟨c0_i32_572, v430, c1_i32_574⟩
def k0_off101 (k0_t16 : Fin k0_t16_loop.trips) : Fin 4 → Nat :=
  let c0_1533 : Index := 0#32
  let c1_1534 : Index := 1#32
  let c0_1535 : Index := 0#32
  let c0_i32_572 : BitVec 32 := 0#32
  let c1_i32_574 : BitVec 32 := 1#32
  let arg17 : BitVec 32 := Scf.iv c0_i32_572 c1_i32_574 k0_t16
  let c256_i32_1532 : BitVec 32 := 256#32
  let v1515 : BitVec 32 := Scalar.muli arg17 c256_i32_1532
  let v1516 : Index := Scalar.indexCast v1515
  ![0, 1, 0, v1516.toNat]
def k0_off102 (k0_t16 : Fin k0_t16_loop.trips) : Fin 3 → Nat :=
  let c1_1536 : Index := 1#32
  let c0_1537 : Index := 0#32
  let c0_i32_572 : BitVec 32 := 0#32
  let c1_i32_574 : BitVec 32 := 1#32
  let arg17 : BitVec 32 := Scf.iv c0_i32_572 c1_i32_574 k0_t16
  let c256_i32_1532 : BitVec 32 := 256#32
  let v1515 : BitVec 32 := Scalar.muli arg17 c256_i32_1532
  let v1520 : Index := Scalar.indexCast v1515
  ![1, 0, v1520.toNat]
def k0_dev20 (d0 : Dev nD) : Nat :=
  let c0_i32_585 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_584 : BitVec 32 := 1#32
  let v433 : BitVec 32 := Scalar.muli v5 c1_i32_584
  let v434 : BitVec 32 := Scalar.addi c0_i32_585 v433
  v434.toNat
def k0_dev21 (d0 : Dev nD) : Nat :=
  let c0_i32_616 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_615 : BitVec 32 := 1#32
  let v459 : BitVec 32 := Scalar.muli v5 c1_i32_615
  let v460 : BitVec 32 := Scalar.addi c0_i32_616 v459
  v460.toNat
@[reducible] def k0_t17_loop : Scf.Loop 32 :=
  let c8_i32_617 : BitVec 32 := 8#32
  let c8_i32_618 : BitVec 32 := 8#32
  let v461 : BitVec 32 := Scalar.addi c8_i32_617 c8_i32_618
  let c1_i32_619 : BitVec 32 := 1#32
  ⟨c8_i32_617, v461, c1_i32_619⟩
def k0_off103 (k0_t17 : Fin k0_t17_loop.trips) : Fin 4 → Nat :=
  let c0_1533 : Index := 0#32
  let c0_1534 : Index := 0#32
  let c0_1535 : Index := 0#32
  let c8_i32_617 : BitVec 32 := 8#32
  let c1_i32_619 : BitVec 32 := 1#32
  let arg17 : BitVec 32 := Scf.iv c8_i32_617 c1_i32_619 k0_t17
  let c256_i32_1532 : BitVec 32 := 256#32
  let v1515 : BitVec 32 := Scalar.muli arg17 c256_i32_1532
  let v1516 : Index := Scalar.indexCast v1515
  ![0, 0, 0, v1516.toNat]
def k0_off104 (k0_t17 : Fin k0_t17_loop.trips) : Fin 3 → Nat :=
  let c0_1536 : Index := 0#32
  let c0_1537 : Index := 0#32
  let c8_i32_617 : BitVec 32 := 8#32
  let c1_i32_619 : BitVec 32 := 1#32
  let arg17 : BitVec 32 := Scf.iv c8_i32_617 c1_i32_619 k0_t17
  let c256_i32_1532 : BitVec 32 := 256#32
  let v1515 : BitVec 32 := Scalar.muli arg17 c256_i32_1532
  let v1520 : Index := Scalar.indexCast v1515
  ![0, 0, v1520.toNat]
def k0_dev22 (d0 : Dev nD) : Nat :=
  let c0_i32_630 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_629 : BitVec 32 := 1#32
  let v464 : BitVec 32 := Scalar.muli v7 c1_i32_629
  let v465 : BitVec 32 := Scalar.addi c0_i32_630 v464
  v465.toNat
def k0_dev23 (d0 : Dev nD) : Nat :=
  let c0_i32_661 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_660 : BitVec 32 := 1#32
  let v490 : BitVec 32 := Scalar.muli v7 c1_i32_660
  let v491 : BitVec 32 := Scalar.addi c0_i32_661 v490
  v491.toNat
@[reducible] def k0_t18_loop : Scf.Loop 32 :=
  let c8_i32_662 : BitVec 32 := 8#32
  let c8_i32_663 : BitVec 32 := 8#32
  let v492 : BitVec 32 := Scalar.addi c8_i32_662 c8_i32_663
  let c1_i32_664 : BitVec 32 := 1#32
  ⟨c8_i32_662, v492, c1_i32_664⟩
def k0_off105 (k0_t18 : Fin k0_t18_loop.trips) : Fin 4 → Nat :=
  let c0_1533 : Index := 0#32
  let c1_1534 : Index := 1#32
  let c0_1535 : Index := 0#32
  let c8_i32_662 : BitVec 32 := 8#32
  let c1_i32_664 : BitVec 32 := 1#32
  let arg17 : BitVec 32 := Scf.iv c8_i32_662 c1_i32_664 k0_t18
  let c256_i32_1532 : BitVec 32 := 256#32
  let v1515 : BitVec 32 := Scalar.muli arg17 c256_i32_1532
  let v1516 : Index := Scalar.indexCast v1515
  ![0, 1, 0, v1516.toNat]
def k0_off106 (k0_t18 : Fin k0_t18_loop.trips) : Fin 3 → Nat :=
  let c1_1536 : Index := 1#32
  let c0_1537 : Index := 0#32
  let c8_i32_662 : BitVec 32 := 8#32
  let c1_i32_664 : BitVec 32 := 1#32
  let arg17 : BitVec 32 := Scf.iv c8_i32_662 c1_i32_664 k0_t18
  let c256_i32_1532 : BitVec 32 := 256#32
  let v1515 : BitVec 32 := Scalar.muli arg17 c256_i32_1532
  let v1520 : Index := Scalar.indexCast v1515
  ![1, 0, v1520.toNat]
def k0_dev24 (d0 : Dev nD) : Nat :=
  let c0_i32_675 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_674 : BitVec 32 := 1#32
  let v495 : BitVec 32 := Scalar.muli v5 c1_i32_674
  let v496 : BitVec 32 := Scalar.addi c0_i32_675 v495
  v496.toNat
@[reducible] def k0_t19_loop : Scf.Loop 32 :=
  let c0_i32_704 : BitVec 32 := 0#32
  let c16_i32_705 : BitVec 32 := 16#32
  let v528 : BitVec 32 := Scalar.addi c0_i32_704 c16_i32_705
  let c1_i32_706 : BitVec 32 := 1#32
  ⟨c0_i32_704, v528, c1_i32_706⟩
def k0_cond11 (k0_t19 : Fin k0_t19_loop.trips) : BitVec 1 :=
  let c0_i32_704 : BitVec 32 := 0#32
  let c1_i32_706 : BitVec 32 := 1#32
  let arg17 : BitVec 32 := Scf.iv c0_i32_704 c1_i32_706 k0_t19
  let c1_i32_1535 : BitVec 32 := 1#32
  let v1518 : BitVec 32 := Scalar.addi arg17 c1_i32_1535
  let c16_i32_1536 : BitVec 32 := 16#32
  let v1519 : BitVec 1 := Scalar.cmpi .slt v1518 c16_i32_1536
  let v1520 : BitVec 32 := Scalar.extui v1519
  let c0_i32_1537 : BitVec 32 := 0#32
  let v1521 : BitVec 1 := Scalar.cmpi .ne v1520 c0_i32_1537
  v1521

def k0_off107 (k0_t19 : Fin k0_t19_loop.trips) : Fin 1 → Nat :=
  let c0_i32_704 : BitVec 32 := 0#32
  let c1_i32_706 : BitVec 32 := 1#32
  let arg17 : BitVec 32 := Scf.iv c0_i32_704 c1_i32_706 k0_t19
  let c1_i32_1533 : BitVec 32 := 1#32
  let v1516 : BitVec 32 := Scalar.addi arg17 c1_i32_1533
  let c2_i32_1534 : BitVec 32 := 2#32
  let v1517 : BitVec 32 := Scalar.remsi v1516 c2_i32_1534
  ![v1517.toNat]
def k0_off108 (k0_t19 : Fin k0_t19_loop.trips) : Fin 3 → Nat :=
  let c0_i32_704 : BitVec 32 := 0#32
  let c1_i32_706 : BitVec 32 := 1#32
  let arg17 : BitVec 32 := Scf.iv c0_i32_704 c1_i32_706 k0_t19
  let c1_i32_1533 : BitVec 32 := 1#32
  let v1516 : BitVec 32 := Scalar.addi arg17 c1_i32_1533
  let c2_i32_1534 : BitVec 32 := 2#32
  let v1517 : BitVec 32 := Scalar.remsi v1516 c2_i32_1534
  let c0_i32_1552 : BitVec 32 := 0#32
  let c0_i32_1553 : BitVec 32 := 0#32
  ![v1517.toNat, 0, 0]
def k0_off109 (k0_t19 : Fin k0_t19_loop.trips) : Fin 2 → Nat :=
  let c0_i32_1554 : BitVec 32 := 0#32
  let c0_i32_1551 : BitVec 32 := 0#32
  let c0_i32_704 : BitVec 32 := 0#32
  let c1_i32_706 : BitVec 32 := 1#32
  let arg17 : BitVec 32 := Scf.iv c0_i32_704 c1_i32_706 k0_t19
  let c1_i32_1549 : BitVec 32 := 1#32
  let v1540 : BitVec 32 := Scalar.addi arg17 c1_i32_1549
  let c256_i32_1550 : BitVec 32 := 256#32
  let v1541 : BitVec 32 := Scalar.muli v1540 c256_i32_1550
  let v1542 : BitVec 32 := Scalar.addi c0_i32_1551 v1541
  ![0, v1542.toNat]
def k0_off110 (k0_t19 : Fin k0_t19_loop.trips) : Fin 1 → Nat :=
  let c0_i32_704 : BitVec 32 := 0#32
  let c1_i32_706 : BitVec 32 := 1#32
  let arg17 : BitVec 32 := Scf.iv c0_i32_704 c1_i32_706 k0_t19
  let c2_i32_1532 : BitVec 32 := 2#32
  let v1515 : BitVec 32 := Scalar.remsi arg17 c2_i32_1532
  ![v1515.toNat]
def k0_off111 (k0_t19 : Fin k0_t19_loop.trips) : Fin 3 → Nat :=
  let c0_i32_704 : BitVec 32 := 0#32
  let c1_i32_706 : BitVec 32 := 1#32
  let arg17 : BitVec 32 := Scf.iv c0_i32_704 c1_i32_706 k0_t19
  let c2_i32_1532 : BitVec 32 := 2#32
  let v1515 : BitVec 32 := Scalar.remsi arg17 c2_i32_1532
  let c0_i32_1540 : BitVec 32 := 0#32
  let c0_i32_1541 : BitVec 32 := 0#32
  ![v1515.toNat, 0, 0]
def k0_off112 (k0_t19 : Fin k0_t19_loop.trips) : Fin 2 → Nat :=
  let c0_i32_1542 : BitVec 32 := 0#32
  let c0_i32_1539 : BitVec 32 := 0#32
  let c0_i32_704 : BitVec 32 := 0#32
  let c1_i32_706 : BitVec 32 := 1#32
  let arg17 : BitVec 32 := Scf.iv c0_i32_704 c1_i32_706 k0_t19
  let c256_i32_1538 : BitVec 32 := 256#32
  let v1522 : BitVec 32 := Scalar.muli arg17 c256_i32_1538
  let v1523 : BitVec 32 := Scalar.addi c0_i32_1539 v1522
  ![0, v1523.toNat]
def k0_off113 (k0_t19 : Fin k0_t19_loop.trips) : Fin 3 → Nat :=
  let c0_i32_704 : BitVec 32 := 0#32
  let c1_i32_706 : BitVec 32 := 1#32
  let arg17 : BitVec 32 := Scf.iv c0_i32_704 c1_i32_706 k0_t19
  let c2_i32_1532 : BitVec 32 := 2#32
  let v1515 : BitVec 32 := Scalar.remsi arg17 c2_i32_1532
  let v1529 : Index := Scalar.indexCast v1515
  let c0_1543 : Index := 0#32
  let c0_1544 : Index := 0#32
  ![v1529.toNat, 0, 0]
def k0_off114 (k0_t19 : Fin k0_t19_loop.trips) : Fin 3 → Nat :=
  let c0_1547 : Index := 0#32
  let c0_1548 : Index := 0#32
  let c0_i32_704 : BitVec 32 := 0#32
  let c1_i32_706 : BitVec 32 := 1#32
  let arg17 : BitVec 32 := Scf.iv c0_i32_704 c1_i32_706 k0_t19
  let c256_i32_1546 : BitVec 32 := 256#32
  let v1535 : BitVec 32 := Scalar.muli arg17 c256_i32_1546
  let v1536 : Index := Scalar.indexCast v1535
  ![0, 0, v1536.toNat]
@[reducible] def k0_t20_loop : Scf.Loop 32 :=
  let c0_i32_717 : BitVec 32 := 0#32
  let c16_i32_718 : BitVec 32 := 16#32
  let v537 : BitVec 32 := Scalar.addi c0_i32_717 c16_i32_718
  let c1_i32_719 : BitVec 32 := 1#32
  ⟨c0_i32_717, v537, c1_i32_719⟩
def k0_cond12 (k0_t20 : Fin k0_t20_loop.trips) : BitVec 1 :=
  let c0_i32_717 : BitVec 32 := 0#32
  let c1_i32_719 : BitVec 32 := 1#32
  let arg17 : BitVec 32 := Scf.iv c0_i32_717 c1_i32_719 k0_t20
  let c1_i32_1535 : BitVec 32 := 1#32
  let v1518 : BitVec 32 := Scalar.addi arg17 c1_i32_1535
  let c16_i32_1536 : BitVec 32 := 16#32
  let v1519 : BitVec 1 := Scalar.cmpi .slt v1518 c16_i32_1536
  let v1520 : BitVec 32 := Scalar.extui v1519
  let c0_i32_1537 : BitVec 32 := 0#32
  let v1521 : BitVec 1 := Scalar.cmpi .ne v1520 c0_i32_1537
  v1521

def k0_off115 (k0_t20 : Fin k0_t20_loop.trips) : Fin 1 → Nat :=
  let c0_i32_717 : BitVec 32 := 0#32
  let c1_i32_719 : BitVec 32 := 1#32
  let arg17 : BitVec 32 := Scf.iv c0_i32_717 c1_i32_719 k0_t20
  let c1_i32_1533 : BitVec 32 := 1#32
  let v1516 : BitVec 32 := Scalar.addi arg17 c1_i32_1533
  let c2_i32_1534 : BitVec 32 := 2#32
  let v1517 : BitVec 32 := Scalar.remsi v1516 c2_i32_1534
  ![v1517.toNat]
def k0_off116 (k0_t20 : Fin k0_t20_loop.trips) : Fin 3 → Nat :=
  let c0_i32_717 : BitVec 32 := 0#32
  let c1_i32_719 : BitVec 32 := 1#32
  let arg17 : BitVec 32 := Scf.iv c0_i32_717 c1_i32_719 k0_t20
  let c1_i32_1533 : BitVec 32 := 1#32
  let v1516 : BitVec 32 := Scalar.addi arg17 c1_i32_1533
  let c2_i32_1534 : BitVec 32 := 2#32
  let v1517 : BitVec 32 := Scalar.remsi v1516 c2_i32_1534
  let c0_i32_1552 : BitVec 32 := 0#32
  let c0_i32_1553 : BitVec 32 := 0#32
  ![v1517.toNat, 0, 0]
def k0_off117 (k0_t20 : Fin k0_t20_loop.trips) : Fin 2 → Nat :=
  let c0_i32_1554 : BitVec 32 := 0#32
  let c4096_i32_1551 : BitVec 32 := 4096#32
  let c0_i32_717 : BitVec 32 := 0#32
  let c1_i32_719 : BitVec 32 := 1#32
  let arg17 : BitVec 32 := Scf.iv c0_i32_717 c1_i32_719 k0_t20
  let c1_i32_1549 : BitVec 32 := 1#32
  let v1540 : BitVec 32 := Scalar.addi arg17 c1_i32_1549
  let c256_i32_1550 : BitVec 32 := 256#32
  let v1541 : BitVec 32 := Scalar.muli v1540 c256_i32_1550
  let v1542 : BitVec 32 := Scalar.addi c4096_i32_1551 v1541
  ![0, v1542.toNat]
def k0_off118 (k0_t20 : Fin k0_t20_loop.trips) : Fin 1 → Nat :=
  let c0_i32_717 : BitVec 32 := 0#32
  let c1_i32_719 : BitVec 32 := 1#32
  let arg17 : BitVec 32 := Scf.iv c0_i32_717 c1_i32_719 k0_t20
  let c2_i32_1532 : BitVec 32 := 2#32
  let v1515 : BitVec 32 := Scalar.remsi arg17 c2_i32_1532
  ![v1515.toNat]
def k0_off119 (k0_t20 : Fin k0_t20_loop.trips) : Fin 3 → Nat :=
  let c0_i32_717 : BitVec 32 := 0#32
  let c1_i32_719 : BitVec 32 := 1#32
  let arg17 : BitVec 32 := Scf.iv c0_i32_717 c1_i32_719 k0_t20
  let c2_i32_1532 : BitVec 32 := 2#32
  let v1515 : BitVec 32 := Scalar.remsi arg17 c2_i32_1532
  let c0_i32_1540 : BitVec 32 := 0#32
  let c0_i32_1541 : BitVec 32 := 0#32
  ![v1515.toNat, 0, 0]
def k0_off120 (k0_t20 : Fin k0_t20_loop.trips) : Fin 2 → Nat :=
  let c0_i32_1542 : BitVec 32 := 0#32
  let c4096_i32_1539 : BitVec 32 := 4096#32
  let c0_i32_717 : BitVec 32 := 0#32
  let c1_i32_719 : BitVec 32 := 1#32
  let arg17 : BitVec 32 := Scf.iv c0_i32_717 c1_i32_719 k0_t20
  let c256_i32_1538 : BitVec 32 := 256#32
  let v1522 : BitVec 32 := Scalar.muli arg17 c256_i32_1538
  let v1523 : BitVec 32 := Scalar.addi c4096_i32_1539 v1522
  ![0, v1523.toNat]
def k0_off121 (k0_t20 : Fin k0_t20_loop.trips) : Fin 3 → Nat :=
  let c0_i32_717 : BitVec 32 := 0#32
  let c1_i32_719 : BitVec 32 := 1#32
  let arg17 : BitVec 32 := Scf.iv c0_i32_717 c1_i32_719 k0_t20
  let c2_i32_1532 : BitVec 32 := 2#32
  let v1515 : BitVec 32 := Scalar.remsi arg17 c2_i32_1532
  let v1529 : Index := Scalar.indexCast v1515
  let c0_1543 : Index := 0#32
  let c0_1544 : Index := 0#32
  ![v1529.toNat, 0, 0]
def k0_off122 (k0_t20 : Fin k0_t20_loop.trips) : Fin 3 → Nat :=
  let c1_1547 : Index := 1#32
  let c0_1548 : Index := 0#32
  let c0_i32_717 : BitVec 32 := 0#32
  let c1_i32_719 : BitVec 32 := 1#32
  let arg17 : BitVec 32 := Scf.iv c0_i32_717 c1_i32_719 k0_t20
  let c256_i32_1546 : BitVec 32 := 256#32
  let v1535 : BitVec 32 := Scalar.muli arg17 c256_i32_1546
  let v1536 : Index := Scalar.indexCast v1535
  ![1, 0, v1536.toNat]
@[reducible] def k0_t21_loop : Scf.Loop 32 :=
  let c0_i32_744 : BitVec 32 := 0#32
  let c8_i32_745 : BitVec 32 := 8#32
  let v552 : BitVec 32 := Scalar.addi c0_i32_744 c8_i32_745
  let c1_i32_746 : BitVec 32 := 1#32
  ⟨c0_i32_744, v552, c1_i32_746⟩
def k0_off123 (k0_t21 : Fin k0_t21_loop.trips) : Fin 4 → Nat :=
  let c1_1533 : Index := 1#32
  let c0_1534 : Index := 0#32
  let c0_1535 : Index := 0#32
  let c0_i32_744 : BitVec 32 := 0#32
  let c1_i32_746 : BitVec 32 := 1#32
  let arg17 : BitVec 32 := Scf.iv c0_i32_744 c1_i32_746 k0_t21
  let c256_i32_1532 : BitVec 32 := 256#32
  let v1515 : BitVec 32 := Scalar.muli arg17 c256_i32_1532
  let v1516 : Index := Scalar.indexCast v1515
  ![1, 0, 0, v1516.toNat]
def k0_off124 (k0_t21 : Fin k0_t21_loop.trips) : Fin 3 → Nat :=
  let c0_1536 : Index := 0#32
  let c0_1537 : Index := 0#32
  let c0_i32_744 : BitVec 32 := 0#32
  let c1_i32_746 : BitVec 32 := 1#32
  let arg17 : BitVec 32 := Scf.iv c0_i32_744 c1_i32_746 k0_t21
  let c256_i32_1532 : BitVec 32 := 256#32
  let v1515 : BitVec 32 := Scalar.muli arg17 c256_i32_1532
  let v1520 : Index := Scalar.indexCast v1515
  ![0, 0, v1520.toNat]
@[reducible] def k0_t22_loop : Scf.Loop 32 :=
  let c0_i32_771 : BitVec 32 := 0#32
  let c8_i32_772 : BitVec 32 := 8#32
  let v568 : BitVec 32 := Scalar.addi c0_i32_771 c8_i32_772
  let c1_i32_773 : BitVec 32 := 1#32
  ⟨c0_i32_771, v568, c1_i32_773⟩
def k0_off125 (k0_t22 : Fin k0_t22_loop.trips) : Fin 4 → Nat :=
  let c1_1533 : Index := 1#32
  let c1_1534 : Index := 1#32
  let c0_1535 : Index := 0#32
  let c0_i32_771 : BitVec 32 := 0#32
  let c1_i32_773 : BitVec 32 := 1#32
  let arg17 : BitVec 32 := Scf.iv c0_i32_771 c1_i32_773 k0_t22
  let c256_i32_1532 : BitVec 32 := 256#32
  let v1515 : BitVec 32 := Scalar.muli arg17 c256_i32_1532
  let v1516 : Index := Scalar.indexCast v1515
  ![1, 1, 0, v1516.toNat]
def k0_off126 (k0_t22 : Fin k0_t22_loop.trips) : Fin 3 → Nat :=
  let c1_1536 : Index := 1#32
  let c0_1537 : Index := 0#32
  let c0_i32_771 : BitVec 32 := 0#32
  let c1_i32_773 : BitVec 32 := 1#32
  let arg17 : BitVec 32 := Scf.iv c0_i32_771 c1_i32_773 k0_t22
  let c256_i32_1532 : BitVec 32 := 256#32
  let v1515 : BitVec 32 := Scalar.muli arg17 c256_i32_1532
  let v1520 : Index := Scalar.indexCast v1515
  ![1, 0, v1520.toNat]
@[reducible] def k0_t23_loop : Scf.Loop 32 :=
  let c8_i32_798 : BitVec 32 := 8#32
  let c8_i32_799 : BitVec 32 := 8#32
  let v584 : BitVec 32 := Scalar.addi c8_i32_798 c8_i32_799
  let c1_i32_800 : BitVec 32 := 1#32
  ⟨c8_i32_798, v584, c1_i32_800⟩
def k0_off127 (k0_t23 : Fin k0_t23_loop.trips) : Fin 4 → Nat :=
  let c1_1533 : Index := 1#32
  let c0_1534 : Index := 0#32
  let c0_1535 : Index := 0#32
  let c8_i32_798 : BitVec 32 := 8#32
  let c1_i32_800 : BitVec 32 := 1#32
  let arg17 : BitVec 32 := Scf.iv c8_i32_798 c1_i32_800 k0_t23
  let c256_i32_1532 : BitVec 32 := 256#32
  let v1515 : BitVec 32 := Scalar.muli arg17 c256_i32_1532
  let v1516 : Index := Scalar.indexCast v1515
  ![1, 0, 0, v1516.toNat]
def k0_off128 (k0_t23 : Fin k0_t23_loop.trips) : Fin 3 → Nat :=
  let c0_1536 : Index := 0#32
  let c0_1537 : Index := 0#32
  let c8_i32_798 : BitVec 32 := 8#32
  let c1_i32_800 : BitVec 32 := 1#32
  let arg17 : BitVec 32 := Scf.iv c8_i32_798 c1_i32_800 k0_t23
  let c256_i32_1532 : BitVec 32 := 256#32
  let v1515 : BitVec 32 := Scalar.muli arg17 c256_i32_1532
  let v1520 : Index := Scalar.indexCast v1515
  ![0, 0, v1520.toNat]
@[reducible] def k0_t24_loop : Scf.Loop 32 :=
  let c8_i32_825 : BitVec 32 := 8#32
  let c8_i32_826 : BitVec 32 := 8#32
  let v600 : BitVec 32 := Scalar.addi c8_i32_825 c8_i32_826
  let c1_i32_827 : BitVec 32 := 1#32
  ⟨c8_i32_825, v600, c1_i32_827⟩
def k0_off129 (k0_t24 : Fin k0_t24_loop.trips) : Fin 4 → Nat :=
  let c1_1533 : Index := 1#32
  let c1_1534 : Index := 1#32
  let c0_1535 : Index := 0#32
  let c8_i32_825 : BitVec 32 := 8#32
  let c1_i32_827 : BitVec 32 := 1#32
  let arg17 : BitVec 32 := Scf.iv c8_i32_825 c1_i32_827 k0_t24
  let c256_i32_1532 : BitVec 32 := 256#32
  let v1515 : BitVec 32 := Scalar.muli arg17 c256_i32_1532
  let v1516 : Index := Scalar.indexCast v1515
  ![1, 1, 0, v1516.toNat]
def k0_off130 (k0_t24 : Fin k0_t24_loop.trips) : Fin 3 → Nat :=
  let c1_1536 : Index := 1#32
  let c0_1537 : Index := 0#32
  let c8_i32_825 : BitVec 32 := 8#32
  let c1_i32_827 : BitVec 32 := 1#32
  let arg17 : BitVec 32 := Scf.iv c8_i32_825 c1_i32_827 k0_t24
  let c256_i32_1532 : BitVec 32 := 256#32
  let v1515 : BitVec 32 := Scalar.muli arg17 c256_i32_1532
  let v1520 : Index := Scalar.indexCast v1515
  ![1, 0, v1520.toNat]
def k0_off131 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v603 : Index := Scalar.indexCast v2
  let c0_829 : Index := 0#32
  ![v603.toNat, 0]
def k0_off132 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_836 : BitVec 32 := 0#32
  ![v2.toNat, 0]
def k0_dev25 (d0 : Dev nD) : Nat :=
  let c0_i32_835 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_830 : BitVec 32 := 1#32
  let v607 : BitVec 32 := Scalar.addi v2 c1_i32_830
  let c4_i32_831 : BitVec 32 := 4#32
  let v608 : BitVec 32 := Scalar.remsi v607 c4_i32_831
  let c1_i32_834 : BitVec 32 := 1#32
  let v609 : BitVec 32 := Scalar.muli v608 c1_i32_834
  let v610 : BitVec 32 := Scalar.addi c0_i32_835 v609
  v610.toNat
def k0_dev26 (d0 : Dev nD) : Nat :=
  let c0_i32_843 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_838 : BitVec 32 := 2#32
  let v617 : BitVec 32 := Scalar.addi v2 c2_i32_838
  let c4_i32_839 : BitVec 32 := 4#32
  let v618 : BitVec 32 := Scalar.remsi v617 c4_i32_839
  let c1_i32_842 : BitVec 32 := 1#32
  let v619 : BitVec 32 := Scalar.muli v618 c1_i32_842
  let v620 : BitVec 32 := Scalar.addi c0_i32_843 v619
  v620.toNat
def k0_dev27 (d0 : Dev nD) : Nat :=
  let c0_i32_851 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_846 : BitVec 32 := 3#32
  let v627 : BitVec 32 := Scalar.addi v2 c3_i32_846
  let c4_i32_847 : BitVec 32 := 4#32
  let v628 : BitVec 32 := Scalar.remsi v627 c4_i32_847
  let c1_i32_850 : BitVec 32 := 1#32
  let v629 : BitVec 32 := Scalar.muli v628 c1_i32_850
  let v630 : BitVec 32 := Scalar.addi c0_i32_851 v629
  v630.toNat
def k0_off133 (d0 : Dev nD) (c1_i32_855 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_854 : BitVec 32 := 4#32
  let v637 : BitVec 32 := Scalar.addi v2 c4_i32_854
  let v638 : BitVec 32 := Scalar.subi v637 c1_i32_855
  let c4_i32_856 : BitVec 32 := 4#32
  let v639 : BitVec 32 := Scalar.remsi v638 c4_i32_856
  let c0_i32_861 : BitVec 32 := 0#32
  ![v639.toNat, 0]
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S_, .f32⟩
  | .hbm, ⟨20, _⟩ => ⟨S4096x8192, .f32⟩
  | .hbm, ⟨21, _⟩ => ⟨S4096x8192, .f32⟩
  | .hbm, ⟨22, _⟩ => ⟨S4096x8192, .f32⟩
  | .hbm, ⟨23, _⟩ => ⟨S4096x8192, .f32⟩
  | .hbm, ⟨24, _⟩ => ⟨S4096x8192, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_cst_3 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩

abbrev nD : Nat := 1
abbrev τ : Topo := Topo.v7x

variable {F : FTy → Type} [FloatOps F]
-- ==== Proof.Vals.lean ====
/-
The values the ring carries: each device's blocks of the two operands, the partial products of one
256-column chunk, the running sums along the ring, the rectified total, its maximum, the quantised output.
-/
module

public import proofs.«01_k».proof.Proof.Gen.KernelIdeal
public import proofs.«01_k».proof.Proof.Gen.KernelIdeal.Skeleton
public import Idealize.ShloMosaic.Lib.Pipeline.Launch
public import Idealize.ShloMosaic.Lib.Pipeline.Kit
public import Idealize.ShloMosaic.Lib.Tactic
public import Idealize.ShloMosaic.Lib.Pointwise

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring -/

set_option backward.proofsInPublic true in
/-- The device `j` places further along the ring. -/
def rot (j : ℕ) (c : Dev nD) : Dev nD := ⟨(c.val + j) % 4, Nat.mod_lt _ (by decide)⟩

/-- The neighbours: `rgt` the next device, `lft` the one before. -/
abbrev rgt (c : Dev nD) : Dev nD := rot 1 c
abbrev lft (c : Dev nD) : Dev nD := rot 3 c

/-- Direction 0 flows rightwards, direction 1 leftwards: where a device's hop lands, -/
def dn (d : ℕ) (c : Dev nD) : Dev nD := if d = 0 then rgt c else lft c
/-- and where its own landing comes from. -/
def up (d : ℕ) (c : Dev nD) : Dev nD := if d = 0 then lft c else rgt c

theorem rot_rot (i j : ℕ) (c : Dev nD) : rot i (rot j c) = rot (i + j) c := by
  apply Fin.ext; simp only [rot]; omega
theorem rot_four (c : Dev nD) : rot 4 c = c := by
  apply Fin.ext; have := c.isLt; simp only [rot]; change (c.val + 4) % 4 = c.val; have : c.val < 4 := c.isLt; omega
theorem lft_rgt (c : Dev nD) : lft (rgt c) = c := (rot_rot 3 1 c).trans (rot_four c)
theorem rgt_lft (c : Dev nD) : rgt (lft c) = c := (rot_rot 1 3 c).trans (rot_four c)
theorem up_dn (d : ℕ) (c : Dev nD) : up d (dn d c) = c := by unfold up dn; split <;> simp only [lft_rgt, rgt_lft]
theorem dn_up (d : ℕ) (c : Dev nD) : dn d (up d c) = c := by unfold up dn; split <;> simp only [lft_rgt, rgt_lft]

/-! ## The operands' blocks -/

abbrev xv (c : Dev nD) : FVec F S4096x1024 .f32 := m ((c : Thread nD τ).loc main_arg0)
abbrev wv (c : Dev nD) : FVec F S1024x8192 .f32 := m ((c : Thread nD τ).loc main_arg1)

set_option backward.proofsInPublic true in
/-- Rows `1024 j ..` of a device's left operand, as the staging slot holds them. -/
def xblk (c : Dev nD) (j : Dev nD) : FVec F S1x1024x1024 .f32 := fun i =>
  xv m c (ix2 (n0 := 4096) (n1 := 1024) ⟨(1024 * j.val + (i 1).val) % 4096, Nat.mod_lt _ (by decide)⟩ ⟨(i 2).val, (i 2).isLt⟩)

set_option backward.proofsInPublic true in
/-- Columns `256 k ..` of its right operand. -/
def wch (c : Dev nD) (k : ℕ) : FVec F S1x1024x256 .f32 := fun i =>
  wv m c (ix2 (n0 := 1024) (n1 := 8192) ⟨(i 1).val, (i 1).isLt⟩ ⟨(256 * k + (i 2).val) % 8192, Nat.mod_lt _ (by decide)⟩)

/-- One chunk of a partial product. -/
def pch (A : FVec F S1024x1024 .bf16) (W : FVec F S1x1024x256 .f32) : FVec F S1024x256 .bf16 :=
  truncf .bf16 (matmul dot_S1024x1024_S1024x256_S1024x256_1_0_0_1_n_n none A
    (truncf .bf16 (shapeCast S1024x256 W shapeCasts_S1x1024x256_S1024x256) bitsLt_bf16_f32)
    (constant S1024x256 .f32 0x00000000#32)) bitsLt_bf16_f32

/-- The row block whose partial sum a device contributes at step `s` to direction `d`. -/
def jb (c : Dev nD) (s d : ℕ) : Dev nD := if d = 0 then rot (7 - s) c else rot (1 + s) c

def part (c : Dev nD) (s d k : ℕ) : FVec F S1024x256 .bf16 := pch (k0_pay7 (xblk m c (jb c s d))) (wch m c (16 * d + k))

def addv (a b : FVec F S1024x256 .bf16) : FVec F S1024x256 .bf16 :=
  truncf .bf16 (addf (extf .f32 a bitsLt_bf16_f32) (extf .f32 b bitsLt_bf16_f32)) bitsLt_bf16_f32

/-- The running sum a device sends on at step `s + 1`. -/
def stage : ℕ → Dev nD → ℕ → ℕ → FVec F S1024x256 .bf16
  | 0, c, d, k => part m c 0 d k
  | s + 1, c, d, k => addv (stage s (up d c) d k) (part m c (s + 1) d k)

/-- The rectified total of one chunk, as it is stored, and at the width its maximum is taken. -/
def relu (a b : FVec F S1024x256 .bf16) : FVec F S1024x256 .f32 :=
  maximumf (addf (extf .f32 a bitsLt_bf16_f32) (extf .f32 b bitsLt_bf16_f32)) (broadcast S1024x256 (Scalar.ofBits .f32 0x00000000#32))
def tot (c : Dev nD) (d k : ℕ) : FVec F S1024x256 .f32 := relu (stage m 2 (up d c) d k) (part m c 3 d k)
def fin (c : Dev nD) (d k : ℕ) : FVec F S1024x256 .bf16 := truncf .bf16 (tot m c d k) bitsLt_bf16_f32

/-- The maximum of one chunk taken into a running one, -/
def mx (a : F .f32) (y : FVec F S1024x256 .f32) : F .f32 :=
  Scalar.maximumf a (extractAt ![0, 0, 0] (shapeCast S1x1x1 (multiReduction .maximumf [1, 2] S1
    (shapeCast S1x1024x256 y shapeCasts_S1024x256_S1x1024x256) 0xFF800000#32 reduces_S1x1024x256_S1 (.inl rfl) rfl) shapeCasts_S1_S1x1x1) inpos_S1x1x1_p0_0_0)
/-- and of `n` chunks from `k`. -/
def mxs (c : Dev nD) (d k : ℕ) (a : F .f32) : ℕ → F .f32
  | 0 => a
  | n + 1 => mx (mxs c d k a n) (tot m c d (k + n))

/-- A device's maximum, in the order its four quarters land. -/
def am1 (c : Dev nD) : F .f32 := mxs m c 0 0 (Scalar.ofBits .f32 0x00000000#32) 8
def am2 (c : Dev nD) : F .f32 := mxs m c 1 0 (am1 m c) 8
def am3 (c : Dev nD) : F .f32 := mxs m c 0 8 (am2 m c) 8
def am (c : Dev nD) : F .f32 := mxs m c 1 8 (am3 m c) 8

/-- The table of every device's maximum, one row each. -/
def amv : FVec F S4x128 .f32 := fun i => am m (⟨(i 0).val, (i 0).isLt⟩ : Dev nD)

/-- One chunk quantised and scaled back. -/
def qz (sc inv : F .f32) (y : FVec F S1024x256 .bf16) : FVec F S1024x256 .bf16 :=
  truncf .bf16 (mulf (minimumf (broadcast S1024x256 (Scalar.ofBits .f32 0x42FE0000#32))
    (maximumf (broadcast S1024x256 (Scalar.ofBits .f32 0x00000000#32))
      (roundeven (mulf (extf .f32 y bitsLt_bf16_f32) (broadcast S1024x256 inv))))) (broadcast S1024x256 sc)) bitsLt_bf16_f32

/-- The output's chunk `k` of 32. -/
def outc (c : Dev nD) (k : ℕ) : FVec F S1024x256 .bf16 := qz (k0_pay36 (amv m)) (k0_pay37 (amv m)) (fin m c (k / 16) (k % 16))

/-! ## Families of chunks as one buffer's contents -/

set_option backward.proofsInPublic true in
/-- The ring buffer holding chunk `f d k` at direction `d`, columns `256 k ..`. -/
def cv (f : ℕ → ℕ → FVec F S1024x256 .bf16) : FVec F S2x2x1024x4096 .bf16 := fun i =>
  f (i 1).val ((i 3).val / 256) (ix2 (n0 := 1024) (n1 := 256) ⟨(i 2).val, (i 2).isLt⟩ ⟨(i 3).val % 256, Nat.mod_lt _ (by decide)⟩)
set_option backward.proofsInPublic true in
/-- The partials buffer, likewise. -/
def pv (f : ℕ → ℕ → FVec F S1024x256 .bf16) : FVec F S2x1024x4096 .bf16 := fun i =>
  f (i 0).val ((i 2).val / 256) (ix2 (n0 := 1024) (n1 := 256) ⟨(i 1).val, (i 1).isLt⟩ ⟨(i 2).val % 256, Nat.mod_lt _ (by decide)⟩)
set_option backward.proofsInPublic true in
/-- The output. -/
def ov (f : ℕ → FVec F S1024x256 .bf16) : FVec F S1024x8192 .bf16 := fun i =>
  f ((i 1).val / 256) (ix2 (n0 := 1024) (n1 := 256) ⟨(i 0).val, (i 0).isLt⟩ ⟨(i 1).val % 256, Nat.mod_lt _ (by decide)⟩)

/-- A chunk with one, or two, leading unit axes. -/
def u3 (g : FVec F S1024x256 .bf16) : FVec F S1x1024x256 .bf16 := shapeCast S1x1024x256 g shapeCasts_S1024x256_S1x1024x256
def u4 (g : FVec F S1024x256 .bf16) : FVec F S1x1x1024x256 .bf16 := shapeCast S1x1x1024x256 g shapeCasts_S1024x256_S1x1x1024x256

theorem u3_un (g : FVec F S1024x256 .bf16) : shapeCast S1024x256 (u3 g) shapeCasts_S1x1024x256_S1024x256 = g := by
  unfold u3; funext j; idx_vars j; pointwise
theorem u4_un (g : FVec F S1024x256 .bf16) : shapeCast S1024x256 (u4 g) shapeCasts_S1x1x1024x256_S1024x256 = g := by
  unfold u4; funext j; idx_vars j; pointwise
theorem u4_u3 (g : FVec F S1024x256 .bf16) : shapeCast S1x1x1024x256 (u3 g) shapeCasts_S1x1024x256_S1x1x1024x256 = u4 g := by
  unfold u3 u4; funext j; idx_vars j; pointwise

/-! ## The generated payloads in these terms -/

theorem pay1_eq (X : FVec F S1x1024x1024 .f32) (W : FVec F S1x1024x256 .f32) : k0_pay1 X W = u4 (pch (k0_pay7 X) W) := by
  rw [← u4_u3]; rfl
theorem pay8_eq (A : FVec F S1024x1024 .bf16) (W : FVec F S1x1024x256 .f32) : k0_pay8 A W = u3 (pch A W) := rfl
theorem pay9_eq (X : FVec F S1x1024x1024 .f32) (W : FVec F S1x1024x256 .f32) : k0_pay9 X W = u3 (pch (k0_pay7 X) W) := rfl
theorem pay10_eq (a b : FVec F S1024x256 .bf16) : k0_pay10 (u4 a) (u3 b) = u4 (addv a b) := by
  unfold k0_pay10; rw [u3_un, u4_un]; rfl
theorem pay22_eq (a b : FVec F S1024x256 .bf16) : k0_pay22 (u4 a) (u3 b) = relu a b := by
  unfold k0_pay22; rw [u3_un, u4_un]; rfl
theorem pay23_eq (a b : FVec F S1024x256 .bf16) : k0_pay23 (u4 a) (u3 b) = u4 (truncf .bf16 (relu a b) bitsLt_bf16_f32) := by
  unfold k0_pay23; rw [pay22_eq]; rfl
theorem pay24_eq (x : F .f32) (a b : FVec F S1024x256 .bf16) : k0_pay24 x (u4 a) (u3 b) = mx x (relu a b) := by
  unfold k0_pay24; rw [pay22_eq]; rfl
theorem pay40_eq (sc inv : F .f32) (y : FVec F S1024x256 .bf16) : k0_pay40 sc inv (u4 y) = u3 (qz sc inv y) := by
  unfold k0_pay40; rw [u4_un]; rfl

end Cert.RingProof
-- ==== Proof.Proto.lean ====
/-
The protocol: the regions of the shared buffers, the semaphores two devices share as single-use cells with what
each landing or signal hands over, what every device owes in the order it pays, and the levels of the waits.
-/
module

public import proofs.«01_k».proof.Proof.Vals

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the launch's, the ring's rounds (duties `Bool`), the local copies' counters -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb

variable (m : (ℓ : Loc nD τ sig) → Buf (Elt F) ℓ) (ρ : Dev nD → PrngReg)

/-! ## Regions -/

abbrev ringL (c : Dev nD) : Loc nD τ sig := (c : Thread nD τ).loc cc0_scratch0
abbrev paccL (c : Dev nD) : Loc nD τ sig := (c : Thread nD τ).loc cc0_scratch1
abbrev amaxL (c : Dev nD) : Loc nD τ sig := (c : Thread nD τ).loc cc0_scratch5

/-- Columns `[a, b)` of direction `d` of slot `s` of the ring buffer. -/
def cS (s d a b : ℕ) : Finset S2x2x1024x4096.Idx := Finset.univ.filter fun i => (i 0).val = s ∧ (i 1).val = d ∧ a ≤ (i 3).val ∧ (i 3).val < b
theorem mem_cS {s d a b : ℕ} {i : S2x2x1024x4096.Idx} :
    i ∈ cS s d a b ↔ (i 0).val = s ∧ (i 1).val = d ∧ a ≤ (i 3).val ∧ (i 3).val < b := by
  unfold cS; rw [Finset.mem_filter]; exact and_iff_right (Finset.mem_univ _)
/-- Row `r` of the table of maxima. -/
def aS (r : ℕ) : Finset S4x128.Idx := Finset.univ.filter fun i => (i 0).val = r
theorem mem_aS {r : ℕ} {i : S4x128.Idx} : i ∈ aS r ↔ (i 0).val = r := by
  unfold aS; rw [Finset.mem_filter]; exact and_iff_right (Finset.mem_univ _)

/-- A ring-buffer region at the contents a family of chunks gives, and at some contents. -/
def cPts (c : Dev nD) (s d a b : ℕ) (f : ℕ → ℕ → FVec F S1024x256 .bf16) : sProp 𝕄 := ringL c ↦[cS s d a b]{fullShare} (cv f : Buf (Elt F) (ringL c))
def cAny (c : Dev nD) (s d a b : ℕ) : sProp 𝕄 := iprop(∃ f : Buf (Elt F) (ringL c), ringL c ↦[cS s d a b]{fullShare} f)
/-- A row of the table. -/
def aPts (c : Dev nD) (r : ℕ) (q : PosShare TreeShare) : sProp 𝕄 := amaxL c ↦[aS r]{q} (amv m : Buf (Elt F) (amaxL c))
def aAny (c : Dev nD) (r : ℕ) : sProp 𝕄 := iprop(∃ f : Buf (Elt F) (amaxL c), amaxL c ↦[aS r]{fullShare} f)

instance cPts_storable (c : Dev nD) (s d a b f) : BI.Storable (upEmb : UEmb _ 𝕄) (cPts (F := F) c s d a b f) := by unfold cPts; infer_instance
instance cAny_storable (c : Dev nD) (s d a b) : BI.Storable (upEmb : UEmb _ 𝕄) (cAny (F := F) c s d a b) := by unfold cAny; infer_instance
instance aPts_storable (c : Dev nD) (r q) : BI.Storable (upEmb : UEmb _ 𝕄) (aPts m c r q) := by unfold aPts; infer_instance
instance aAny_storable (c : Dev nD) (r) : BI.Storable (upEmb : UEmb _ 𝕄) (aAny (F := F) c r) := by unfold aAny; infer_instance

/-! ## The ring's geometry in time: hop `i` -/

/-- Its step, direction, and columns. -/
def hs (i : Fin 14) : ℕ := if i.val < 6 then 0 else 1 + (i.val - 6) / 4
def hd (i : Fin 14) : ℕ := if i.val < 6 then i.val / 3 else (i.val - 6) % 4 / 2
def ha (i : Fin 14) : ℕ := if i.val < 6 then (if i.val % 3 = 0 then 0 else if i.val % 3 = 1 then 1024 else 2048) else 2048 * ((i.val - 6) % 2)
def hb (i : Fin 14) : ℕ := if i.val < 6 then (if i.val % 3 = 0 then 1024 else if i.val % 3 = 1 then 2048 else 4096) else 2048 + 2048 * ((i.val - 6) % 2)

/-- Slot credit `k`: its slot, direction and columns. -/
def ks (k : Fin 8) : ℕ := k.val / 4
def kd (k : Fin 8) : ℕ := k.val % 4 / 2
def ka (k : Fin 8) : ℕ := 2048 * (k.val % 2)

/-! ## The cells -/

/-- The semaphores two devices share. -/
inductive K where
  | bar | send (i : Fin 14) | recv (i : Fin 14) | cred (k : Fin 8) | asend (o : Fin 3) | arecv (o : Fin 3)
  deriving DecidableEq, Fintype

set_option backward.proofsInPublic true in
def csem : K → SemLoc sig
  | .bar => .reg (⟨8, by decide⟩ : Fin 9)
  | .cred k => .reg (⟨k.val, by omega⟩ : Fin 9)
  | .send i => .dma (⟨i.val, by omega⟩ : Fin 40)
  | .recv i => .dma (⟨14 + i.val, by omega⟩ : Fin 40)
  | .asend o => .dma (⟨28 + o.val, by omega⟩ : Fin 40)
  | .arecv o => .dma (⟨31 + o.val, by omega⟩ : Fin 40)

def kReg (q : ℕ) : Option K := if h : q < 8 then some (.cred ⟨q, h⟩) else some .bar
set_option backward.proofsInPublic true in
def kDma (q : ℕ) : Option K :=
  if h : q < 14 then some (.send ⟨q, h⟩) else if h : q < 28 then some (.recv ⟨q - 14, by omega⟩)
  else if h : q < 31 then some (.asend ⟨q - 28, by omega⟩) else if h : q < 34 then some (.arecv ⟨q - 31, by omega⟩) else none
def kindOf : SemLoc sig → Option K
  | .reg (q : Fin 9) => kReg q.val
  | .dma (q : Fin 40) => kDma q.val

theorem kindOf_csem (k : K) : kindOf (csem k) = some k := by
  cases k with
  | bar => decide
  | cred k => revert k; decide
  | send i => revert i; decide
  | recv i => revert i; decide
  | asend i => revert i; decide
  | arecv i => revert i; decide
theorem csem_injective : Function.Injective csem := fun a b h => by
  have := kindOf_csem a; rw [h, kindOf_csem] at this; exact (Option.some.inj this).symm

abbrev kc (c : Dev nD) (k : K) : GSem nD τ sig := ((c : Thread nD τ), csem k)

/-- The credits of a hop of four chunks, of eight, and of a row of the table. -/
def N4 : ℕ := ((((Memref.whole cc0_scratch0 : Memref sig .tc .vmem S2x2x1024x4096 .bf16).slice (Rect.unit (s := S2x2x1024x4096) ![0, 0, 0, 0] S1x1x1024x1024.size (by decide)) (fun _ => rfl)).squeeze S1024x1024 squeezes_S1x1x1024x1024_S1024x1024).view).dmaCredit
def N8 : ℕ := ((((Memref.whole cc0_scratch0 : Memref sig .tc .vmem S2x2x1024x4096 .bf16).slice (Rect.unit (s := S2x2x1024x4096) ![0, 0, 0, 0] S1x1x1024x2048.size (by decide)) (fun _ => rfl)).squeeze S1024x2048 squeezes_S1x1x1024x2048_S1024x2048).view).dmaCredit
def NA : ℕ := (((Memref.whole cc0_scratch5 : Memref sig .tc .vmem S4x128 .f32).slice (Rect.unit (s := S4x128) ![0, 0] S1x128.size (by decide)) (fun _ => rfl)).view).dmaCredit
theorem N4_pos : 0 < N4 := View.dmaCredit_pos _ (by decide)
theorem N8_pos : 0 < N8 := View.dmaCredit_pos _ (by decide)
theorem NA_pos : 0 < NA := View.dmaCredit_pos _ (by decide)
def NH (i : Fin 14) : ℕ := if i.val < 6 ∧ i.val % 3 < 2 then N4 else N8
theorem NH_pos (i) : 0 < NH i := by unfold NH; split; exact N4_pos; exact N8_pos

def amt : K → ℕ
  | .bar => 1 | .cred _ => 1 | .send i => NH i | .recv i => NH i | .asend _ => NA | .arecv _ => NA
theorem amt_pos (k : K) : 0 < amt k := by
  cases k <;> first | exact Nat.one_pos | exact NH_pos _ | exact NA_pos

/-- The three shares a row is sent under. -/
def ash (o : Fin 3) : PosShare TreeShare := if o.val = 0 then fullShare.left else if o.val = 1 then fullShare.right.left else fullShare.right.right

/-- What the payment of a cell of device `c` hands it. -/
def payK (k : K) (c : Dev nD) (d : Bool) : sProp 𝕄 :=
  match k with
  | .bar => if d then iprop(cAny (rgt c) 1 0 0 4096 ∗ aAny (rgt c) c.val ∗ aAny (rgt c) (lft c).val)
            else iprop(cAny (lft c) 1 1 0 4096 ∗ aAny (lft c) c.val)
  | .send i => cAny c (hs i % 2) (hd i) (ha i) (hb i)
  | .recv i => cPts c ((hs i + 1) % 2) (hd i) (ha i) (hb i) (stage m (hs i) (up (hd i) c))
  | .cred k => iprop(cAny (dn (kd k) c) (ks k) (kd k) (ka k) (ka k + 2048) ∗ (if k.val = 0 then aAny (rot 2 c) c.val else iprop(emp)))
  | .asend o => aPts m c c.val (ash o)
  | .arecv o => aPts m c (rot (3 - o.val) c).val fullShare

/-! ## The schedule -/

instance payK_storable (k : K) (c : Dev nD) (d : Bool) : BI.Storable (upEmb : UEmb _ 𝕄) (payK m k c d) := by
  unfold payK; cases k <;> (repeat' split) <;> infer_instance

def dutiesK : K → Finset Bool
  | .bar => Finset.univ
  | _ => {false}

/-- One round, round 0, at every shared cell: two duties of one unit at a barrier cell, one duty elsewhere. -/
def Rd : Rounds.Schedule (GSem nD τ sig) Bool 𝕄 where
  duties g r := if r = 0 ∧ g.1.2 = .tc then (match kindOf g.2 with | some k => dutiesK k | none => ∅) else ∅
  unitless _ := False
  amount g _ _ := match kindOf g.2 with | some k => amt k | none => 1
  payload g _ d := match kindOf g.2 with | some k => payK m k g.1.1 d | none => iprop(emp)
  amount_pos g _ _ _ := by
    split
    · exact amt_pos _
    · exact Nat.one_pos

instance Rd_payload_storable (g : GSem nD τ sig) (r : ℕ) (d : Bool) : BI.Storable (upEmb : UEmb _ 𝕄) ((Rd (F := F) m).payload g r d) := by
  show BI.Storable upEmb (match kindOf g.2 with | some k => payK m k g.1.1 d | none => iprop(emp))
  split <;> infer_instance

theorem duties_k (c : Dev nD) (k : K) : (Rd m).duties (kc c k) 0 = dutiesK k := by
  dsimp only [Rd]; rw [if_pos ⟨rfl, rfl⟩, kindOf_csem]
theorem duties_later (g : GSem nD τ sig) : ∀ r, 1 ≤ r → (Rd m).duties g r = ∅ :=
  fun r hr => by dsimp only [Rd]; rw [if_neg fun h => by omega]
theorem amount_k (c : Dev nD) (k : K) (d : Bool) : (Rd m).amount (kc c k) 0 d = amt k := by
  dsimp only [Rd]; rw [kindOf_csem]
theorem payload_k (c : Dev nD) (k : K) (d : Bool) : (Rd m).payload (kc c k) 0 d = payK m k c d := by
  dsimp only [Rd]; rw [kindOf_csem]
theorem duties_one (k : K) (h : k ≠ .bar) : dutiesK k = {false} := by cases k <;> first | rfl | exact absurd rfl h
theorem false_mem_duties (c : Dev nD) (k : K) : false ∈ (Rd m).duties (kc c k) 0 := by rw [duties_k]; cases k <;> first | exact Finset.mem_singleton_self _ | exact Finset.mem_univ _
theorem true_mem_duties (c : Dev nD) : true ∈ (Rd m).duties (kc c .bar) 0 := by rw [duties_k]; decide

theorem expect_one (c : Dev nD) (k : K) (h : k ≠ .bar) : (Rd m).expect (kc c k) 0 = amt k := by
  unfold Schedule.expect Schedule.amountOf; rw [duties_k, duties_one k h, Finset.sum_singleton, amount_k]
theorem expect_bar (c : Dev nD) : (Rd m).expect (kc c .bar) 0 = 2 := by
  unfold Schedule.expect Schedule.amountOf
  rw [duties_k, Finset.sum_congr rfl fun d _ => amount_k m c .bar d]; rfl
theorem rest_one (c : Dev nD) (k : K) (h : k ≠ .bar) :
    bigSep ((Rd m).duties (kc c k) 0 \ ∅) (fun d => (Rd m).payload (kc c k) 0 d) = payK m k c false := by
  rw [Finset.sdiff_empty, duties_k, duties_one k h, bigSep_singleton, payload_k]
theorem rest_bar (c : Dev nD) :
    bigSep ((Rd m).duties (kc c .bar) 0 \ ∅) (fun d => (Rd m).payload (kc c .bar) 0 d) = iprop(payK m .bar c false ∗ payK m .bar c true) := by
  rw [Finset.sdiff_empty, duties_k]
  show bigSep Finset.univ _ = _
  rw [bigSep_univ_eq_bigSepL [false, true] (by decide) (by decide), bigSepL_cons_cons, bigSepL_singleton, payload_k, payload_k]
  rfl

/-! ## The order of a device's shared steps -/

/-- A shared step: the two barrier signals and the wait, hop `i` issued, its two waits, slot credit `k` given and
    waited for, the maximum sent `o + 1` places on, its landing and its departure waited for. -/
inductive Ev where
  | sigL | sigR | bar | hop (i : Fin 14) | sw (i : Fin 14) | rw (i : Fin 14) | cs (k : Fin 8) | cw (k : Fin 8) | ax (o : Fin 3) | ar (o : Fin 3) | aw (o : Fin 3)
  deriving DecidableEq

def evs : List Ev := [.sigL, .sigR, .bar, .hop 0, .hop 3, .hop 1, .hop 4, .hop 2, .hop 5, .sw 0, .rw 0, .sw 1, .rw 1, .cs 0, .cw 0, .hop 6, .sw 3, .rw 3, .sw 4, .rw 4, .cs 2, .cw 2, .hop 8, .sw 2, .rw 2, .cs 1, .cw 1, .hop 7, .sw 5, .rw 5, .cs 3, .cw 3, .hop 9, .sw 6, .rw 6, .cs 4, .cw 4, .hop 10, .sw 8, .rw 8, .cs 6, .cw 6, .hop 12, .sw 7, .rw 7, .cs 5, .cw 5, .hop 11, .sw 9, .rw 9, .cs 7, .cw 7, .hop 13, .sw 10, .rw 10, .sw 12, .rw 12, .sw 11, .rw 11, .sw 13, .rw 13, .ax 0, .ax 1, .ax 2, .ar 0, .ar 1, .ar 2, .aw 0, .aw 1, .aw 2]

/-- The debts: the device a step pays, the cell there. -/
def tgt (c : Dev nD) : Ev → Dev nD
  | .sigL => lft c | .sigR => rgt c | .hop i => dn (hd i) c | .cs k => up (kd k) c | .ax o => rot (o.val + 1) c | _ => c
def dcell : Ev → Option K
  | .sigL => some .bar | .sigR => some .bar | .hop i => some (.recv i) | .cs k => some (.cred k) | .ax o => some (.arecv o) | _ => none

def debt (c : Dev nD) (e : Ev) : CellTallies nD τ sig Unit :=
  match dcell e with | some k => tallyAt (kc (tgt c e) k) () (amt k) | none => 0

/-- What a device owes before step `n`. -/
def Od (c : Dev nD) (n : ℕ) : CellTallies nD τ sig Unit := ((evs.drop n).map (debt c)).sum

theorem Od_step (c : Dev nD) (n : ℕ) (h : n < evs.length) : Od c n = Od c (n + 1) + debt c evs[n] := by
  unfold Od; rw [List.drop_eq_getElem_cons h, List.map_cons, List.sum_cons, add_comm]
theorem Od_end (c : Dev nD) : Od c 70 = 0 := by
  unfold Od; rfl

/-! ## Levels -/

def jH (i : Fin 14) : ℕ := if i.val < 6 then (match i.val with | 0 => 0 | 1 => 0 | 2 => 2 | 3 => 1 | 4 => 1 | _ => 3)
  else match i.val - 6 with | 0 => 4 | 1 => 6 | 2 => 5 | 3 => 7 | 4 => 8 | 5 => 10 | 6 => 9 | _ => 11
def jC (k : Fin 8) : ℕ := match k.val with | 0 => 0 | 1 => 2 | 2 => 1 | 3 => 3 | 4 => 4 | 5 => 6 | 6 => 5 | _ => 7
def lvK : K → ℕ
  | .bar => 1 | .send _ => 0 | .asend _ => 0 | .recv i => 2 * jH i + 2 | .cred k => 2 * jC k + 3 | .arecv _ => 100

def L (g : GSem nD τ sig) : Finset Unit := if g.1.2 = .tc then {()} else ∅
def lv (g : GSem nD τ sig) (_ : Unit) : ℕ := match kindOf g.2 with | some k => lvK k | none => 0
theorem L_of_ne (g : GSem nD τ sig) (h : g.1.2 ≠ .tc) : L g = ∅ := if_neg h
theorem L_tc (c : Dev nD) (sm : SemLoc sig) : L ((c : Thread nD τ), sm) = {()} := if_pos rfl

theorem debt_pos {c : Dev nD} {e : Ev} {g : GSem nD τ sig} {u : Unit} (h : 0 < debt c e g u) : ∃ k, dcell e = some k ∧ g = kc (tgt c e) k := by
  unfold debt at h
  cases hk : dcell e with
  | none => rw [hk] at h; exact absurd h (Nat.lt_irrefl 0)
  | some k =>
    rw [hk] at h
    dsimp only at h
    rw [tallyAt_apply] at h
    by_contra hn
    rw [if_neg (fun h' => hn ⟨k, rfl, h'.1⟩)] at h
    exact Nat.lt_irrefl 0 h

theorem sum_pos {l : List (CellTallies nD τ sig Unit)} {g : GSem nD τ sig} {u : Unit} (h : 0 < l.sum g u) : ∃ x ∈ l, 0 < x g u := by
  induction l with
  | nil => exact absurd h (Nat.lt_irrefl 0)
  | cons a l ih =>
    rw [List.sum_cons, Pi.add_apply, Finsupp.add_apply] at h
    by_cases ha : 0 < a g u
    · exact ⟨a, List.mem_cons_self .., ha⟩
    · obtain ⟨x, hx, hp⟩ := ih (by omega)
      exact ⟨x, List.mem_cons_of_mem _ hx, hp⟩

theorem Od_pos {c : Dev nD} {n : ℕ} {g : GSem nD τ sig} {u : Unit} (h : 0 < Od c n g u) :
    ∃ e ∈ evs.drop n, ∃ k, dcell e = some k ∧ g = kc (tgt c e) k := by
  obtain ⟨x, hx, hp⟩ := sum_pos h
  obtain ⟨e, he, rfl⟩ := List.mem_map.mp hx
  exact ⟨e, he, debt_pos hp⟩

/-- From step `n` on, a device pays only cells above level `l`. -/
def above (n l : ℕ) : Bool := (evs.drop n).all fun e => match dcell e with | some k => decide (l < lvK k) | none => true

theorem mayWait (c : Dev nD) (sm : SemLoc sig) (l n : ℕ) (hl : lv ((c : Thread nD τ), sm) () ≤ l) (h : above n l = true) :
    (levAts L lv : sProp 𝕄) ⊢ MayWait (c : Thread nD τ) sm () (Od c n) := by
  refine MayOwe.of_cut (L := L) (lev := lv) l (fun p hp => by rw [Finset.mem_singleton.mp hp, L_tc]; exact Finset.mem_singleton_self _)
    (fun g u hg => by obtain ⟨e, he, k, hk, rfl⟩ := Od_pos hg; exact Finset.mem_singleton_self _)
    (fun p hp => by rw [Finset.mem_singleton.mp hp]; exact hl)
    (fun g u hg => by
      obtain ⟨e, he, k, hk, rfl⟩ := Od_pos hg
      have := List.all_eq_true.mp h e he
      rw [hk] at this
      dsimp only [lv]; rw [kindOf_csem]
      exact of_decide_eq_true this)

/-! ## The ghost state between two steps -/

/-- Its parts: one per cell a device waits on, one per token it only spends. -/
inductive Sl where
  | bar | bL | bR | S (i : Fin 14) | R (i : Fin 14) | C (k : Fin 8) | T (k : Fin 8) | A (o : Fin 3) | AR (o : Fin 3)
  deriving DecidableEq, Fintype

def slotOf : Ev → Sl
  | .sigL => .bL | .sigR => .bR | .bar => .bar | .hop i => .S i | .sw i => .S i | .rw i => .R i | .cs k => .T k | .cw k => .C k
  | .ax o => .A o | .ar o => .AR o | .aw o => .A o
def who (n : ℕ) : Sl := slotOf (evs.getD n .sigL)

/-- The step that begins each part's change, and the one that ends it. -/
def t0 : Sl → ℕ
  | .bL => 0 | .bR => 1 | .bar => 2
  | .S i => (![3, 5, 7, 4, 6, 8, 15, 27, 22, 32, 37, 47, 42, 52] : Fin 14 → ℕ) i
  | .R i => (![10, 12, 24, 17, 19, 29, 34, 44, 39, 49, 54, 58, 56, 60] : Fin 14 → ℕ) i
  | .T i => (![13, 25, 20, 30, 35, 45, 40, 50] : Fin 8 → ℕ) i
  | .C i => (![14, 26, 21, 31, 36, 46, 41, 51] : Fin 8 → ℕ) i
  | .A i => (![61, 62, 63] : Fin 3 → ℕ) i
  | .AR i => (![64, 65, 66] : Fin 3 → ℕ) i
def t1 : Sl → ℕ
  | .S i => (![9, 11, 23, 16, 18, 28, 33, 43, 38, 48, 53, 57, 55, 59] : Fin 14 → ℕ) i
  | .A i => (![67, 68, 69] : Fin 3 → ℕ) i
  | s => t0 s
theorem who_t (s : Sl) : who (t0 s) = s ∧ who (t1 s) = s := by
  cases s with
  | bL => decide
  | bR => decide
  | bar => decide
  | S i => revert i; decide
  | R i => revert i; decide
  | T i => revert i; decide
  | C i => revert i; decide
  | A i => revert i; decide
  | AR i => revert i; decide

/-- The stage of a part before step `n`. -/
def ph (s : Sl) (n : ℕ) : ℕ := if n ≤ t0 s then 0 else if n ≤ t1 s then 1 else 2
theorem ph_same (s : Sl) (n : ℕ) (h : s ≠ who n) : ph s (n + 1) = ph s n := by
  have h0 : t0 s ≠ n := fun e => h (by rw [← e]; exact (who_t s).1.symm)
  have h1 : t1 s ≠ n := fun e => h (by rw [← e]; exact (who_t s).2.symm)
  unfold ph
  (repeat' split) <;> omega

def tok (c : Dev nD) (k : K) (d : Bool) : sProp 𝕄 := dutyTok ER (kc c k) 0 d
def pos (c : Dev nD) (k : K) : sProp 𝕄 := atPos ER (kc c k) 0 ∅ 0
def crd (c : Dev nD) (k : K) : sProp 𝕄 := cred (tallyAt (kc c k) () (amt k))

/-- What a device holds of one part at each stage. -/
def slotSt (c : Dev nD) (s : Sl) (p : ℕ) : sProp 𝕄 :=
  match s with
  | .bL => if p = 0 then tok (lft c) .bar true else iprop(emp)
  | .bR => if p = 0 then tok (rgt c) .bar false else iprop(emp)
  | .bar => if p = 0 then iprop(cred (tallyAt (kc c .bar) () 2) ∗ pos c .bar) else semVal (kc c .bar) 0
  | .S i => if p = 0 then iprop(tok c (.send i) false ∗ tok (dn (hd i) c) (.recv i) false ∗ pos c (.send i))
      else if p = 1 then iprop(crd c (.send i) ∗ pos c (.send i)) else semVal (kc c (.send i)) 0
  | .R i => if p = 0 then iprop(crd c (.recv i) ∗ pos c (.recv i)) else semVal (kc c (.recv i)) 0
  | .T k => if p = 0 then tok (up (kd k) c) (.cred k) false else iprop(emp)
  | .C k => if p = 0 then iprop(crd c (.cred k) ∗ pos c (.cred k)) else semVal (kc c (.cred k)) 0
  | .A o => if p = 0 then iprop(tok c (.asend o) false ∗ tok (rot (o.val + 1) c) (.arecv o) false ∗ pos c (.asend o))
      else if p = 1 then iprop(crd c (.asend o) ∗ pos c (.asend o)) else semVal (kc c (.asend o)) 0
  | .AR o => if p = 0 then iprop(crd c (.arecv o) ∗ pos c (.arecv o)) else semVal (kc c (.arecv o)) 0

/-- What a device owes, and all the parts, before step `n`. -/
def St (c : Dev nD) (n : ℕ) : sProp 𝕄 :=
  iprop((∃ W, owes (c : Thread nD τ) (Od c n) W) ∗ bigSep (Finset.univ : Finset Sl) fun s => slotSt (F := F) c s (ph s n))

/-- The records all devices share: every cell's invariant, every cell at round 0, the levels. -/
def Rec : sProp 𝕄 :=
  iprop((∃ Kn : Dev nD × K → ℕ, bigSep (Finset.univ : Finset (Dev nD × K)) fun ck => iprop(cellInv ER (Rd m) (Kn ck) (kc ck.1 ck.2)))
    ∗ bigSep (Finset.univ : Finset (Dev nD × K)) (fun ck => iprop(reached ER (kc ck.1 ck.2) 0)) ∗ levAts L lv)
instance Rec_persistent : BI.Persistent (Rec m) := by unfold Rec; infer_instance

theorem inv_at (Kn : Dev nD × K → ℕ) (ck : Dev nD × K) :
    (bigSep (Finset.univ : Finset (Dev nD × K)) fun ck => (cellInv ER (Rd m) (Kn ck) (kc ck.1 ck.2) : sProp 𝕄)) ⊢ cellInv ER (Rd m) (Kn ck) (kc ck.1 ck.2) :=
  bigSep_elim (Finset.mem_univ ck)
theorem reached_at (ck : Dev nD × K) :
    (bigSep (Finset.univ : Finset (Dev nD × K)) fun ck => (reached ER (kc ck.1 ck.2) 0 : sProp 𝕄)) ⊢ reached ER (kc ck.1 ck.2) 0 :=
  bigSep_elim (Finset.mem_univ ck)

theorem rec_inv (c : Dev nD) (k : K) : Rec m ⊢ ∃ κ, cellInv ER (Rd m) κ (kc c k) := by
  unfold Rec
  iintro ⟨⟨%Kn, H⟩, -⟩
  ihave H1 := (inv_at m Kn (c, k)) $$ H
  iexists Kn (c, k); iexact H1
theorem rec_reached (c : Dev nD) (k : K) : Rec m ⊢ reached ER (kc c k) 0 := by
  unfold Rec
  iintro ⟨-, H, -⟩
  ihave H1 := (reached_at (F := F) (c, k)) $$ H
  iexact H1
theorem rec_lev : Rec m ⊢ levAts L lv := by
  unfold Rec
  iintro ⟨-, -, H⟩
  iexact H

/-- One part taken out of the state before step `n`, and the state after it once that part has moved on. -/
theorem st_take (c : Dev nD) (n : ℕ) :
    St c n ⊢ (iprop((∃ W, owes (c : Thread nD τ) (Od c n) W) ∗ slotSt c (who n) (ph (who n) n)
      ∗ (((∃ W, owes (c : Thread nD τ) (Od c (n + 1)) W) ∗ slotSt c (who n) (ph (who n) (n + 1))) -∗ St c (n + 1))) : sProp 𝕄) := by
  unfold St
  rw [bigSep_univ_at (fun s => slotSt (F := F) c s (ph s n)) (who n), bigSep_univ_at (fun s => slotSt (F := F) c s (ph s (n + 1))) (who n)]
  have hc : bigSep (Finset.univ.erase (who n)) (fun s => slotSt (F := F) c s (ph s n)) = bigSep (Finset.univ.erase (who n)) (fun s => slotSt (F := F) c s (ph s (n + 1))) :=
    bigSep_congr fun s hs => by rw [ph_same s n (Finset.ne_of_mem_erase hs)]
  rw [hc]
  iintro ⟨Ho, Hs, Hr⟩
  isplitl [Ho]; · iexact Ho
  isplitl [Hs]; · iexact Hs
  iintro ⟨Ho, Hs⟩
  isplitl [Ho]; · iexact Ho
  isplitl [Hs] <;> iassumption

end Cert.RingProof
-- ==== Proof.Geo.lean ====
/-
Which elements a unit-stride slice of a whole buffer holds, and what a read or a write through it, possibly with
unit axes dropped, gives at an index.
-/
module

public import proofs.«01_k».proof.Proof.Proto
public import Idealize.ShloMosaic.Lib.ValueLayout

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Gen

variable {b : Ref sig .tc} {off size : Fin b.ty.shape.rank → ℕ} {inb : ∀ a, off a + size a ≤ b.ty.shape.size a}

theorem unit_emb_val (x : (Rect.unit off size inb).shape.Idx) (a : Fin b.ty.shape.rank) :
    (((View.whole b).slice (Rect.unit off size inb)).emb x a).val = off a + (x a).val :=
  (Rect.emb_apply _ x a).trans (by show off a + 1 * (x a).val = _; omega)

theorem mem_unit {i : b.ty.shape.Idx} :
    i ∈ ((View.whole b).slice (Rect.unit off size inb)).set ↔ ∀ a, off a ≤ (i a).val ∧ (i a).val < off a + size a := by
  constructor
  · intro h a
    obtain ⟨x, -, rfl⟩ := Finset.mem_map.mp h
    have hx : (x a).val < size a := (x a).isLt
    have := unit_emb_val (inb := inb) x a
    omega
  · intro h
    refine Finset.mem_map.mpr ⟨fun a => ⟨(i a).val - off a, ?_⟩, Finset.mem_univ _, ?_⟩
    · show _ < size a; have := h a; omega
    · funext a; apply Fin.ext
      refine (unit_emb_val (inb := inb) _ a).trans ?_
      have := h a; show off a + ((i a).val - off a) = _; omega

/-- An element of the slice, as the slice's own index. -/
theorem unit_exists {i : b.ty.shape.Idx} (h : i ∈ ((View.whole b).slice (Rect.unit off size inb)).set) :
    ∃ x : (Rect.unit off size inb).shape.Idx, ((View.whole b).slice (Rect.unit off size inb)).emb x = i ∧ ∀ a, (i a).val = off a + (x a).val := by
  obtain ⟨x, -, rfl⟩ := Finset.mem_map.mp h
  exact ⟨x, rfl, fun a => unit_emb_val (inb := inb) x a⟩

end Gen

theorem forall4 {P : Fin 4 → Prop} : (∀ a, P a) ↔ P 0 ∧ P 1 ∧ P 2 ∧ P 3 :=
  ⟨fun h => ⟨h 0, h 1, h 2, h 3⟩, fun h a => by obtain ⟨h0, h1, h2, h3⟩ := h; fin_cases a <;> assumption⟩
theorem forall3 {P : Fin 3 → Prop} : (∀ a, P a) ↔ P 0 ∧ P 1 ∧ P 2 :=
  ⟨fun h => ⟨h 0, h 1, h 2⟩, fun h a => by obtain ⟨h0, h1, h2⟩ := h; fin_cases a <;> assumption⟩
theorem forall2 {P : Fin 2 → Prop} : (∀ a, P a) ↔ P 0 ∧ P 1 := Fin.forall_fin_two

/-! ## The ring buffer -/

section Ring

abbrev rgB : Memref sig .tc .vmem S2x2x1024x4096 .bf16 := Memref.whole cc0_scratch0

theorem ring_mem {s d a w : ℕ} {off size : Fin 4 → ℕ} {inb} {i : S2x2x1024x4096.Idx} (ho : off = ![s, d, 0, a]) (hs : size = ![1, 1, 1024, w]) :
    i ∈ ((View.whole cc0_scratch0).slice (Rect.unit (s := S2x2x1024x4096) off size inb)).set ↔ i ∈ cS s d a (a + w) := by
  subst ho hs
  refine (mem_unit (b := cc0_scratch0)).trans ?_
  rw [mem_cS]
  refine forall4.trans ?_
  show (s ≤ (i 0).val ∧ (i 0).val < s + 1) ∧ (d ≤ (i 1).val ∧ (i 1).val < d + 1) ∧ (0 ≤ (i 2).val ∧ (i 2).val < 0 + 1024) ∧ (a ≤ (i 3).val ∧ (i 3).val < a + w) ↔ _
  have : (i 2).val < 1024 := (i 2).isLt
  omega

theorem ring_set {s d a w : ℕ} {off size : Fin 4 → ℕ} {inb} (ho : off = ![s, d, 0, a]) (hs : size = ![1, 1, 1024, w]) :
    ((View.whole cc0_scratch0).slice (Rect.unit (s := S2x2x1024x4096) off size inb)).set = cS s d a (a + w) := by
  ext i; exact ring_mem ho hs

/-- What a copy between the two slots, of the same direction and columns, leaves where it lands. -/
theorem hop_write {s s' d a w : ℕ} {off off' size : Fin 4 → ℕ} {inb inb'} {t : Shape} {hn : t.numel = _} (ho : off = ![s, d, 0, a]) (ho' : off' = ![s', d, 0, a])
    (f : ℕ → ℕ → FVec F S1024x256 .bf16) (g : FVec F S2x2x1024x4096 .bf16) (i : S2x2x1024x4096.Idx)
    (hi : i ∈ ((View.whole cc0_scratch0).slice (Rect.unit (s := S2x2x1024x4096) off' size inb')).set) :
    (((View.whole cc0_scratch0).slice (Rect.unit (s := S2x2x1024x4096) off' size inb')).reshape t hn).write (Elt F) g
      ((((View.whole cc0_scratch0).slice (Rect.unit (s := S2x2x1024x4096) off size inb)).reshape t hn).read (Elt F) (cv f)) Finset.univ i = cv f i := by
  subst ho ho'
  obtain ⟨x, hx, hv⟩ := unit_exists (b := cc0_scratch0) hi
  obtain ⟨y, rfl⟩ := (Shape.reshapeEquiv hn).surjective x
  have he : (((View.whole cc0_scratch0).slice (Rect.unit (s := S2x2x1024x4096) ![s', d, 0, a] size inb')).reshape t hn).emb y = i := hx
  rw [← he, View.write_emb_of_mem _ _ (Finset.mem_univ y)]
  rw [he]
  show cv f (((View.whole cc0_scratch0).slice (Rect.unit (s := S2x2x1024x4096) ![s, d, 0, a] size inb)).emb (Shape.reshapeEquiv hn y)) = cv f i
  have hv' := fun a' => unit_emb_val (b := cc0_scratch0) (inb := inb) (Shape.reshapeEquiv hn y) a'
  generalize ((View.whole cc0_scratch0).slice (Rect.unit (s := S2x2x1024x4096) ![s, d, 0, a] size inb)).emb (Shape.reshapeEquiv hn y) = z at hv'
  have h1 : (z 1).val = (i 1).val := (hv' 1).trans (hv 1).symm
  have h2 : z 2 = i 2 := Fin.ext ((hv' 2).trans (hv 2).symm)
  have h3 : (z 3).val = (i 3).val := (hv' 3).trans (hv 3).symm
  unfold cv
  simp only [h1, h2, h3]

/-- A chunk read. -/
theorem u4_apply (g : FVec F S1024x256 .bf16) (j : S1x1x1024x256.Idx) : u4 g j = g (ix2 (n0 := 1024) (n1 := 256) ⟨(j 2).val, (j 2).isLt⟩ ⟨(j 3).val, (j 3).isLt⟩) := by
  unfold u4; idx_vars j; pointwise
theorem u3_apply (g : FVec F S1024x256 .bf16) (j : S1x1024x256.Idx) : u3 g j = g (ix2 (n0 := 1024) (n1 := 256) ⟨(j 1).val, (j 1).isLt⟩ ⟨(j 2).val, (j 2).isLt⟩) := by
  unfold u3; idx_vars j; pointwise

theorem ring_read {s d k a : ℕ} {off : Fin 4 → ℕ} {inb} (ho : off = ![s, d, 0, a]) (ha : a = 256 * k) (f : ℕ → ℕ → FVec F S1024x256 .bf16) :
    (rgB.view).readAt (Elt F) (Rect.unit (s := S2x2x1024x4096) off S1x1x1024x256.size inb).toLoadRect (cv f) = u4 (f d k) := by
  subst ho ha
  funext j
  rw [u4_apply]
  show cv f (((View.whole cc0_scratch0).slice (Rect.unit (s := S2x2x1024x4096) ![s, d, 0, 256 * k] S1x1x1024x256.size inb)).emb j) = _
  have hv := fun a' => unit_emb_val (b := cc0_scratch0) (inb := inb) j a'
  generalize ((View.whole cc0_scratch0).slice (Rect.unit (s := S2x2x1024x4096) ![s, d, 0, 256 * k] S1x1x1024x256.size inb)).emb j = z at hv
  have hd' : (j 1).val < 1 := (j 1).isLt
  have hj3 : (j 3).val < 256 := (j 3).isLt
  have h1 : (z 1).val = d := (hv 1).trans (by show d + (j 1).val = d; omega)
  have h2 : (z 2).val = (j 2).val := (hv 2).trans (Nat.zero_add _)
  have h3 : (z 3).val = 256 * k + (j 3).val := hv 3
  unfold cv
  have h4 : (256 * k + (j 3).val) / 256 = k := by omega
  have h5 : (256 * k + (j 3).val) % 256 = (j 3).val := by omega
  simp only [h1, h2, h3, h4, h5]

/-- A chunk written. -/
theorem ring_write {s d k a : ℕ} {off : Fin 4 → ℕ} {inb} (ho : off = ![s, d, 0, a]) (ha : a = 256 * k) (f : ℕ → ℕ → FVec F S1024x256 .bf16)
    (g : FVec F S2x2x1024x4096 .bf16) (i : S2x2x1024x4096.Idx) (hi : i ∈ cS s d a (a + 256)) :
    (rgB.access (Rect.unit (s := S2x2x1024x4096) off S1x1x1024x256.size inb)).write (Elt F) g (u4 (f d k)) Finset.univ i = cv f i := by
  have hi' := (ring_mem (inb := inb) ho rfl).mpr hi
  obtain ⟨x, hx, hv⟩ := unit_exists (b := cc0_scratch0) hi'
  subst ho ha
  have he : (rgB.access (Rect.unit (s := S2x2x1024x4096) ![s, d, 0, 256 * k] S1x1x1024x256.size inb)).emb x = i := hx
  rw [← he, View.write_emb_of_mem _ _ (Finset.mem_univ x), he]
  show u4 (f d k) x = _
  rw [u4_apply]
  have hj3 : (x 3).val < 256 := (x 3).isLt
  have h1 : (i 1).val = d := (mem_cS.mp hi).2.1
  have h2 : (i 2).val = (x 2).val := (hv 2).trans (Nat.zero_add _)
  have h3 : (i 3).val = 256 * k + (x 3).val := hv 3
  unfold cv
  have h4 : (256 * k + (x 3).val) / 256 = k := by omega
  have h5 : (256 * k + (x 3).val) % 256 = (x 3).val := by omega
  simp only [h1, h2, h3, h4, h5]

end Ring

/-! ## The partials -/

section Pacc

abbrev paB : Memref sig .tc .vmem S2x1024x4096 .bf16 := Memref.whole cc0_scratch1

def pS (d a b : ℕ) : Finset S2x1024x4096.Idx := Finset.univ.filter fun i => (i 0).val = d ∧ a ≤ (i 2).val ∧ (i 2).val < b
theorem mem_pS {d a b : ℕ} {i : S2x1024x4096.Idx} : i ∈ pS d a b ↔ (i 0).val = d ∧ a ≤ (i 2).val ∧ (i 2).val < b := by
  unfold pS; rw [Finset.mem_filter]; exact and_iff_right (Finset.mem_univ _)

theorem pacc_mem {d a w : ℕ} {off size : Fin 3 → ℕ} {inb} {i : S2x1024x4096.Idx} (ho : off = ![d, 0, a]) (hs : size = ![1, 1024, w]) :
    i ∈ ((View.whole cc0_scratch1).slice (Rect.unit (s := S2x1024x4096) off size inb)).set ↔ i ∈ pS d a (a + w) := by
  subst ho hs
  refine (mem_unit (b := cc0_scratch1)).trans ?_
  rw [mem_pS]
  refine forall3.trans ?_
  show (d ≤ (i 0).val ∧ (i 0).val < d + 1) ∧ (0 ≤ (i 1).val ∧ (i 1).val < 0 + 1024) ∧ (a ≤ (i 2).val ∧ (i 2).val < a + w) ↔ _
  have : (i 1).val < 1024 := (i 1).isLt
  omega
theorem pacc_set {d a w : ℕ} {off size : Fin 3 → ℕ} {inb} (ho : off = ![d, 0, a]) (hs : size = ![1, 1024, w]) :
    ((View.whole cc0_scratch1).slice (Rect.unit (s := S2x1024x4096) off size inb)).set = pS d a (a + w) := by
  ext i; exact pacc_mem ho hs

theorem pacc_read {d k a : ℕ} {off : Fin 3 → ℕ} {inb} (ho : off = ![d, 0, a]) (ha : a = 256 * k) (f : ℕ → ℕ → FVec F S1024x256 .bf16) :
    (paB.view).readAt (Elt F) (Rect.unit (s := S2x1024x4096) off S1x1024x256.size inb).toLoadRect (pv f) = u3 (f d k) := by
  subst ho ha
  funext j
  rw [u3_apply]
  show pv f (((View.whole cc0_scratch1).slice (Rect.unit (s := S2x1024x4096) ![d, 0, 256 * k] S1x1024x256.size inb)).emb j) = _
  have hv := fun a' => unit_emb_val (b := cc0_scratch1) (inb := inb) j a'
  generalize ((View.whole cc0_scratch1).slice (Rect.unit (s := S2x1024x4096) ![d, 0, 256 * k] S1x1024x256.size inb)).emb j = z at hv
  have hd' : (j 0).val < 1 := (j 0).isLt
  have hj3 : (j 2).val < 256 := (j 2).isLt
  have h1 : (z 0).val = d := (hv 0).trans (by show d + (j 0).val = d; omega)
  have h2 : (z 1).val = (j 1).val := (hv 1).trans (Nat.zero_add _)
  have h3 : (z 2).val = 256 * k + (j 2).val := hv 2
  unfold pv
  have h4 : (256 * k + (j 2).val) / 256 = k := by omega
  have h5 : (256 * k + (j 2).val) % 256 = (j 2).val := by omega
  simp only [h1, h2, h3, h4, h5]

theorem pacc_write {d k a : ℕ} {off : Fin 3 → ℕ} {inb} (ho : off = ![d, 0, a]) (ha : a = 256 * k) (f : ℕ → ℕ → FVec F S1024x256 .bf16)
    (g : FVec F S2x1024x4096 .bf16) (i : S2x1024x4096.Idx) (hi : i ∈ pS d a (a + 256)) :
    (paB.access (Rect.unit (s := S2x1024x4096) off S1x1024x256.size inb)).write (Elt F) g (u3 (f d k)) Finset.univ i = pv f i := by
  have hi' := (pacc_mem (inb := inb) ho rfl).mpr hi
  obtain ⟨x, hx, hv⟩ := unit_exists (b := cc0_scratch1) hi'
  subst ho ha
  have he : (paB.access (Rect.unit (s := S2x1024x4096) ![d, 0, 256 * k] S1x1024x256.size inb)).emb x = i := hx
  rw [← he, View.write_emb_of_mem _ _ (Finset.mem_univ x), he]
  show u3 (f d k) x = _
  rw [u3_apply]
  have hj3 : (x 2).val < 256 := (x 2).isLt
  have h1 : (i 0).val = d := (mem_pS.mp hi).1
  have h2 : (i 1).val = (x 1).val := (hv 1).trans (Nat.zero_add _)
  have h3 : (i 2).val = 256 * k + (x 2).val := hv 2
  unfold pv
  have h4 : (256 * k + (x 2).val) / 256 = k := by omega
  have h5 : (256 * k + (x 2).val) % 256 = (x 2).val := by omega
  simp only [h1, h2, h3, h4, h5]

end Pacc

/-! ## The two-slot staging buffers: a slot's contents, read and filled -/

section Slots

def xS (b : ℕ) : Finset S2x1024x1024.Idx := Finset.univ.filter fun i => (i 0).val = b
theorem mem_xS {b : ℕ} {i : S2x1024x1024.Idx} : i ∈ xS b ↔ (i 0).val = b := by
  unfold xS; rw [Finset.mem_filter]; exact and_iff_right (Finset.mem_univ _)
def wS (b : ℕ) : Finset S2x1024x256.Idx := Finset.univ.filter fun i => (i 0).val = b
theorem mem_wS {b : ℕ} {i : S2x1024x256.Idx} : i ∈ wS b ↔ (i 0).val = b := by
  unfold wS; rw [Finset.mem_filter]; exact and_iff_right (Finset.mem_univ _)

set_option backward.proofsInPublic true in
/-- A slot's worth of a staging buffer as the buffer's contents. -/
def xc (X : FVec F S1x1024x1024 .f32) : FVec F S2x1024x1024 .f32 := fun i =>
  X (ix3 (n0 := 1) (n1 := 1024) (n2 := 1024) ⟨0, Nat.one_pos⟩ ⟨(i 1).val, (i 1).isLt⟩ ⟨(i 2).val, (i 2).isLt⟩)
set_option backward.proofsInPublic true in
def wc {φ : FTy} (W : FVec F S1x1024x256 φ) : FVec F S2x1024x256 φ := fun i =>
  W (ix3 (n0 := 1) (n1 := 1024) (n2 := 256) ⟨0, Nat.one_pos⟩ ⟨(i 1).val, (i 1).isLt⟩ ⟨(i 2).val, (i 2).isLt⟩)

theorem xbuf_mem {b : ℕ} {off : Fin 3 → ℕ} {inb} {i : S2x1024x1024.Idx} (ho : off = ![b, 0, 0]) :
    i ∈ ((View.whole cc0_scratch2).slice (Rect.unit (s := S2x1024x1024) off S1x1024x1024.size inb)).set ↔ i ∈ xS b := by
  subst ho
  refine (mem_unit (b := cc0_scratch2)).trans ?_
  rw [mem_xS]
  refine forall3.trans ?_
  show (b ≤ (i 0).val ∧ (i 0).val < b + 1) ∧ (0 ≤ (i 1).val ∧ (i 1).val < 0 + 1024) ∧ (0 ≤ (i 2).val ∧ (i 2).val < 0 + 1024) ↔ _
  have : (i 1).val < 1024 := (i 1).isLt
  have : (i 2).val < 1024 := (i 2).isLt
  omega
theorem xbuf_set {b : ℕ} {off : Fin 3 → ℕ} {inb} (ho : off = ![b, 0, 0]) :
    ((View.whole cc0_scratch2).slice (Rect.unit (s := S2x1024x1024) off S1x1024x1024.size inb)).set = xS b := by
  ext i; exact xbuf_mem ho
theorem wbuf_mem {b : ℕ} {off : Fin 3 → ℕ} {inb} {i : S2x1024x256.Idx} (ho : off = ![b, 0, 0]) :
    i ∈ ((View.whole cc0_scratch3).slice (Rect.unit (s := S2x1024x256) off S1x1024x256.size inb)).set ↔ i ∈ wS b := by
  subst ho
  refine (mem_unit (b := cc0_scratch3)).trans ?_
  rw [mem_wS]
  refine forall3.trans ?_
  show (b ≤ (i 0).val ∧ (i 0).val < b + 1) ∧ (0 ≤ (i 1).val ∧ (i 1).val < 0 + 1024) ∧ (0 ≤ (i 2).val ∧ (i 2).val < 0 + 256) ↔ _
  have : (i 1).val < 1024 := (i 1).isLt
  have : (i 2).val < 256 := (i 2).isLt
  omega
theorem wbuf_set {b : ℕ} {off : Fin 3 → ℕ} {inb} (ho : off = ![b, 0, 0]) :
    ((View.whole cc0_scratch3).slice (Rect.unit (s := S2x1024x256) off S1x1024x256.size inb)).set = wS b := by
  ext i; exact wbuf_mem ho
theorem obuf_mem {b : ℕ} {off : Fin 3 → ℕ} {inb} {i : S2x1024x256.Idx} (ho : off = ![b, 0, 0]) :
    i ∈ ((View.whole cc0_scratch4).slice (Rect.unit (s := S2x1024x256) off S1x1024x256.size inb)).set ↔ i ∈ wS b := by
  subst ho
  refine (mem_unit (b := cc0_scratch4)).trans ?_
  rw [mem_wS]
  refine forall3.trans ?_
  show (b ≤ (i 0).val ∧ (i 0).val < b + 1) ∧ (0 ≤ (i 1).val ∧ (i 1).val < 0 + 1024) ∧ (0 ≤ (i 2).val ∧ (i 2).val < 0 + 256) ↔ _
  have : (i 1).val < 1024 := (i 1).isLt
  have : (i 2).val < 256 := (i 2).isLt
  omega
theorem obuf_set {b : ℕ} {off : Fin 3 → ℕ} {inb} (ho : off = ![b, 0, 0]) :
    ((View.whole cc0_scratch4).slice (Rect.unit (s := S2x1024x256) off S1x1024x256.size inb)).set = wS b := by
  ext i; exact obuf_mem ho

theorem xbuf_read {b : ℕ} {off : Fin 3 → ℕ} {inb} (ho : off = ![b, 0, 0]) (X : FVec F S1x1024x1024 .f32) :
    ((Memref.whole cc0_scratch2 : Memref sig .tc .vmem S2x1024x1024 .f32).view).readAt (Elt F) (Rect.unit (s := S2x1024x1024) off S1x1024x1024.size inb).toLoadRect (xc X) = X := by
  subst ho
  funext j
  show xc X (((View.whole cc0_scratch2).slice (Rect.unit (s := S2x1024x1024) ![b, 0, 0] S1x1024x1024.size inb)).emb j) = _
  have hv := fun a' => unit_emb_val (b := cc0_scratch2) (inb := inb) j a'
  generalize ((View.whole cc0_scratch2).slice (Rect.unit (s := S2x1024x1024) ![b, 0, 0] S1x1024x1024.size inb)).emb j = z at hv
  have h1 : (z 1).val = (j 1).val := (hv 1).trans (Nat.zero_add _)
  have h2 : (z 2).val = (j 2).val := (hv 2).trans (Nat.zero_add _)
  unfold xc
  simp only [h1, h2]
  congr 1
  idx_vars j
  obtain rfl : j0 = ⟨0, Nat.one_pos⟩ := Subsingleton.elim _ _
  rfl
theorem wbuf_read {b : ℕ} {off : Fin 3 → ℕ} {inb} (ho : off = ![b, 0, 0]) (W : FVec F S1x1024x256 .f32) :
    ((Memref.whole cc0_scratch3 : Memref sig .tc .vmem S2x1024x256 .f32).view).readAt (Elt F) (Rect.unit (s := S2x1024x256) off S1x1024x256.size inb).toLoadRect (wc W) = W := by
  subst ho
  funext j
  show wc W (((View.whole cc0_scratch3).slice (Rect.unit (s := S2x1024x256) ![b, 0, 0] S1x1024x256.size inb)).emb j) = _
  have hv := fun a' => unit_emb_val (b := cc0_scratch3) (inb := inb) j a'
  generalize ((View.whole cc0_scratch3).slice (Rect.unit (s := S2x1024x256) ![b, 0, 0] S1x1024x256.size inb)).emb j = z at hv
  have h1 : (z 1).val = (j 1).val := (hv 1).trans (Nat.zero_add _)
  have h2 : (z 2).val = (j 2).val := (hv 2).trans (Nat.zero_add _)
  unfold wc
  simp only [h1, h2]
  congr 1
  idx_vars j
  obtain rfl : j0 = ⟨0, Nat.one_pos⟩ := Subsingleton.elim _ _
  rfl
theorem obuf_write {b : ℕ} {off : Fin 3 → ℕ} {inb} (ho : off = ![b, 0, 0]) (W : FVec F S1x1024x256 .bf16) (g : FVec F S2x1024x256 .bf16)
    (i : S2x1024x256.Idx) (hi : i ∈ wS b) :
    ((Memref.whole cc0_scratch4 : Memref sig .tc .vmem S2x1024x256 .bf16).access (Rect.unit (s := S2x1024x256) off S1x1024x256.size inb)).write (Elt F) g W Finset.univ i = wc W i := by
  have hi' := (obuf_mem (inb := inb) ho).mpr hi
  obtain ⟨x, hx, hv⟩ := unit_exists (b := cc0_scratch4) hi'
  subst ho
  have he : ((Memref.whole cc0_scratch4 : Memref sig .tc .vmem S2x1024x256 .bf16).access (Rect.unit (s := S2x1024x256) ![b, 0, 0] S1x1024x256.size inb)).emb x = i := hx
  rw [← he, View.write_emb_of_mem _ _ (Finset.mem_univ x), he]
  show W x = _
  have h1 : (i 1).val = (x 1).val := (hv 1).trans (Nat.zero_add _)
  have h2 : (i 2).val = (x 2).val := (hv 2).trans (Nat.zero_add _)
  unfold wc
  simp only [h1, h2]
  congr 1
  idx_vars x
  obtain rfl : x0 = ⟨0, Nat.one_pos⟩ := Subsingleton.elim _ _
  rfl

/-- A block of rows copied into a slot. -/
theorem x_write (m : (ℓ : Loc nD τ sig) → Buf (Elt F) ℓ) (c j : Dev nD) {b a : ℕ} {off : Fin 2 → ℕ} {off' : Fin 3 → ℕ} {inb inb'} {hn : S1024x1024.numel = _}
    (ho : off = ![a, 0]) (ha : a = 1024 * j.val) (ho' : off' = ![b, 0, 0]) (g : FVec F S2x1024x1024 .f32) (i : S2x1024x1024.Idx) (hi : i ∈ xS b) :
    (((View.whole cc0_scratch2).slice (Rect.unit (s := S2x1024x1024) off' S1x1024x1024.size inb')).reshape S1024x1024 hn).write (Elt F) g
      (((View.whole main_arg0).slice (Rect.unit (s := S4096x1024) off S1024x1024.size inb)).read (Elt F) (xv m c)) Finset.univ i = xc (xblk m c j) i := by
  have hi' := (xbuf_mem (inb := inb') ho').mpr hi
  obtain ⟨x, hx, hv⟩ := unit_exists (b := cc0_scratch2) hi'
  subst ho ha ho'
  obtain ⟨y, rfl⟩ := (Shape.reshapeEquiv hn).surjective x
  have he : (((View.whole cc0_scratch2).slice (Rect.unit (s := S2x1024x1024) ![b, 0, 0] S1x1024x1024.size inb')).reshape S1024x1024 hn).emb y = i := hx
  rw [← he, View.write_emb_of_mem _ _ (Finset.mem_univ y), he]
  show xv m c (((View.whole main_arg0).slice (Rect.unit (s := S4096x1024) ![1024 * j.val, 0] S1024x1024.size inb)).emb y) = _
  have hw := fun a' => unit_emb_val (b := main_arg0) (inb := inb) y a'
  generalize ((View.whole main_arg0).slice (Rect.unit (s := S4096x1024) ![1024 * j.val, 0] S1024x1024.size inb)).emb y = z at hw
  have hw0 : (z 0).val = 1024 * j.val + (y 0).val := hw 0
  have hw1 : (z 1).val = (y 1).val := (hw 1).trans (Nat.zero_add _)
  have hv1 : (i 1).val = (Shape.reshapeEquiv hn y 1).val := (hv 1).trans (Nat.zero_add _)
  have hv2 : (i 2).val = (Shape.reshapeEquiv hn y 2).val := (hv 2).trans (Nat.zero_add _)
  have hr : Shape.reshapeEquiv hn y = ix3 (n0 := 1) (n1 := 1024) (n2 := 1024) 0 (y 0) (y 1) := by
    have e := ix2_eta (n0 := 1024) (n1 := 1024) y
    exact (congrArg _ e.symm).trans (ValueIdx.reshapeEquiv_ix2_1ab hn (y 0) (y 1))
  rw [hr] at hv1 hv2
  have hv1' : (i 1).val = (y 0).val := hv1
  have hv2' : (i 2).val = (y 1).val := hv2
  have hy : (y 0).val < 1024 := (y 0).isLt
  have hj : j.val < 4 := j.isLt
  have hz := ix2_eta (n0 := 4096) (n1 := 1024) z
  rw [← hz]
  unfold xc xblk
  congr 1
  refine congrArg₂ ix2 (Fin.ext ?_) (Fin.ext ?_)
  · show (z 0).val = (1024 * j.val + (i 1).val) % 4096
    omega
  · show (z 1).val = (i 2).val
    omega

/-- A block of columns copied into a slot. -/
theorem w_write (m : (ℓ : Loc nD τ sig) → Buf (Elt F) ℓ) (c : Dev nD) {b k a : ℕ} {off : Fin 2 → ℕ} {off' : Fin 3 → ℕ} {inb inb'} {hn : S1024x256.numel = _}
    (ho : off = ![0, a]) (ha : a = 256 * k) (hk : k < 32) (ho' : off' = ![b, 0, 0]) (g : FVec F S2x1024x256 .f32) (i : S2x1024x256.Idx) (hi : i ∈ wS b) :
    (((View.whole cc0_scratch3).slice (Rect.unit (s := S2x1024x256) off' S1x1024x256.size inb')).reshape S1024x256 hn).write (Elt F) g
      (((View.whole main_arg1).slice (Rect.unit (s := S1024x8192) off S1024x256.size inb)).read (Elt F) (wv m c)) Finset.univ i = wc (wch m c k) i := by
  have hi' := (wbuf_mem (inb := inb') ho').mpr hi
  obtain ⟨x, hx, hv⟩ := unit_exists (b := cc0_scratch3) hi'
  subst ho ha ho'
  obtain ⟨y, rfl⟩ := (Shape.reshapeEquiv hn).surjective x
  have he : (((View.whole cc0_scratch3).slice (Rect.unit (s := S2x1024x256) ![b, 0, 0] S1x1024x256.size inb')).reshape S1024x256 hn).emb y = i := hx
  rw [← he, View.write_emb_of_mem _ _ (Finset.mem_univ y), he]
  show wv m c (((View.whole main_arg1).slice (Rect.unit (s := S1024x8192) ![0, 256 * k] S1024x256.size inb)).emb y) = _
  have hw := fun a' => unit_emb_val (b := main_arg1) (inb := inb) y a'
  generalize ((View.whole main_arg1).slice (Rect.unit (s := S1024x8192) ![0, 256 * k] S1024x256.size inb)).emb y = z at hw
  have hw0 : (z 0).val = (y 0).val := (hw 0).trans (Nat.zero_add _)
  have hw1 : (z 1).val = 256 * k + (y 1).val := hw 1
  have hv1 : (i 1).val = (Shape.reshapeEquiv hn y 1).val := (hv 1).trans (Nat.zero_add _)
  have hv2 : (i 2).val = (Shape.reshapeEquiv hn y 2).val := (hv 2).trans (Nat.zero_add _)
  have hr : Shape.reshapeEquiv hn y = ix3 (n0 := 1) (n1 := 1024) (n2 := 256) 0 (y 0) (y 1) := by
    have e := ix2_eta (n0 := 1024) (n1 := 256) y
    exact (congrArg _ e.symm).trans (ValueIdx.reshapeEquiv_ix2_1ab hn (y 0) (y 1))
  rw [hr] at hv1 hv2
  have hv1' : (i 1).val = (y 0).val := hv1
  have hv2' : (i 2).val = (y 1).val := hv2
  have hy : (y 1).val < 256 := (y 1).isLt
  have hz := ix2_eta (n0 := 1024) (n1 := 8192) z
  rw [← hz]
  unfold wc wch
  congr 1
  refine congrArg₂ ix2 (Fin.ext ?_) (Fin.ext ?_)
  · show (z 0).val = (i 1).val
    omega
  · show (z 1).val = (256 * k + (i 2).val) % 8192
    omega

/-! ## The result's columns -/

abbrev outB : Memref sig .tc .hbm S1024x8192 .bf16 := Memref.whole main_v1

def oS (a b : ℕ) : Finset S1024x8192.Idx := Finset.univ.filter fun i => a ≤ (i 1).val ∧ (i 1).val < b
theorem mem_oS {a b : ℕ} {i : S1024x8192.Idx} : i ∈ oS a b ↔ a ≤ (i 1).val ∧ (i 1).val < b := by
  unfold oS; rw [Finset.mem_filter]; exact and_iff_right (Finset.mem_univ _)

theorem out_mem {a : ℕ} {off : Fin 2 → ℕ} {inb} {i : S1024x8192.Idx} (ho : off = ![0, a]) :
    i ∈ ((View.whole main_v1).slice (Rect.unit (s := S1024x8192) off S1024x256.size inb)).set ↔ i ∈ oS a (a + 256) := by
  subst ho
  refine (mem_unit (b := main_v1)).trans ?_
  rw [mem_oS]
  refine forall2.trans ?_
  show (0 ≤ (i 0).val ∧ (i 0).val < 0 + 1024) ∧ (a ≤ (i 1).val ∧ (i 1).val < a + 256) ↔ _
  have : (i 0).val < 1024 := (i 0).isLt
  omega
theorem out_set {a : ℕ} {off : Fin 2 → ℕ} {inb} (ho : off = ![0, a]) :
    ((View.whole main_v1).slice (Rect.unit (s := S1024x8192) off S1024x256.size inb)).set = oS a (a + 256) := by
  ext i; exact out_mem ho

/-- A slot copied out to a block of columns. -/
theorem o_write {b k a : ℕ} {off : Fin 2 → ℕ} {off' : Fin 3 → ℕ} {inb inb'} {hn : S1024x256.numel = _}
    (ho : off = ![0, a]) (ha : a = 256 * k) (ho' : off' = ![b, 0, 0]) (f : ℕ → FVec F S1024x256 .bf16) (g : FVec F S1024x8192 .bf16) (i : S1024x8192.Idx)
    (hi : i ∈ oS a (a + 256)) :
    ((View.whole main_v1).slice (Rect.unit (s := S1024x8192) off S1024x256.size inb)).write (Elt F) g
      ((((View.whole cc0_scratch4).slice (Rect.unit (s := S2x1024x256) off' S1x1024x256.size inb')).reshape S1024x256 hn).read (Elt F) (wc (u3 (f k)))) Finset.univ i = ov f i := by
  have hi' := (out_mem (inb := inb) ho).mpr hi
  obtain ⟨y, hx, hv⟩ := unit_exists (b := main_v1) hi'
  subst ho ha ho'
  rw [← hx, View.write_emb_of_mem _ _ (Finset.mem_univ y), hx]
  show wc (u3 (f k)) (((View.whole cc0_scratch4).slice (Rect.unit (s := S2x1024x256) ![b, 0, 0] S1x1024x256.size inb')).emb (Shape.reshapeEquiv hn y)) = _
  have hw := fun a' => unit_emb_val (b := cc0_scratch4) (inb := inb') (Shape.reshapeEquiv hn y) a'
  generalize ((View.whole cc0_scratch4).slice (Rect.unit (s := S2x1024x256) ![b, 0, 0] S1x1024x256.size inb')).emb (Shape.reshapeEquiv hn y) = z at hw
  have hv0 : (i 0).val = (y 0).val := (hv 0).trans (Nat.zero_add _)
  have hv1 : (i 1).val = 256 * k + (y 1).val := hv 1
  have hw1 : (z 1).val = (Shape.reshapeEquiv hn y 1).val := (hw 1).trans (Nat.zero_add _)
  have hw2 : (z 2).val = (Shape.reshapeEquiv hn y 2).val := (hw 2).trans (Nat.zero_add _)
  have hr : Shape.reshapeEquiv hn y = ix3 (n0 := 1) (n1 := 1024) (n2 := 256) 0 (y 0) (y 1) := by
    have e := ix2_eta (n0 := 1024) (n1 := 256) y
    exact (congrArg _ e.symm).trans (ValueIdx.reshapeEquiv_ix2_1ab hn (y 0) (y 1))
  rw [hr] at hw1 hw2
  have hw1' : (z 1).val = (y 0).val := hw1
  have hw2' : (z 2).val = (y 1).val := hw2
  have hy : (y 1).val < 256 := (y 1).isLt
  unfold wc ov
  rw [u3_apply]
  have h1 : (i 1).val / 256 = k := by omega
  rw [h1]
  congr 1
  refine congrArg₂ ix2 (Fin.ext ?_) (Fin.ext ?_)
  · show (z 1).val = (i 0).val
    omega
  · show (z 2).val = (i 1).val % 256
    omega

end Slots

/-! ## The rows of maxima -/

section Rows

abbrev amB : Memref sig .tc .vmem S4x128 .f32 := Memref.whole cc0_scratch5

theorem row_mem {r : ℕ} {off : Fin 2 → ℕ} {inb} {i : S4x128.Idx} (ho : off = ![r, 0]) :
    i ∈ ((View.whole cc0_scratch5).slice (Rect.unit (s := S4x128) off S1x128.size inb)).set ↔ (i 0).val = r := by
  subst ho
  refine (mem_unit (b := cc0_scratch5)).trans ?_
  refine forall2.trans ?_
  show (r ≤ (i 0).val ∧ (i 0).val < r + 1) ∧ (0 ≤ (i 1).val ∧ (i 1).val < 0 + 128) ↔ _
  have : (i 1).val < 128 := (i 1).isLt
  omega
theorem row_set {r : ℕ} (p : Dev nD) {off : Fin 2 → ℕ} {inb} (ho : off = ![r, 0]) (hr : r = p.val) :
    ((View.whole cc0_scratch5).slice (Rect.unit (s := S4x128) off S1x128.size inb)).set = aS p := by
  ext i; exact (row_mem ho).trans (by rw [mem_aS, hr])

/-- A row copied to the same row of a neighbour. -/
theorem row_copy {r : ℕ} {off : Fin 2 → ℕ} {inb} (ho : off = ![r, 0]) (f g : FVec F S4x128 .f32) (i : S4x128.Idx) (hi : (i 0).val = r) :
    ((View.whole cc0_scratch5).slice (Rect.unit (s := S4x128) off S1x128.size inb)).write (Elt F) g
      (((View.whole cc0_scratch5).slice (Rect.unit (s := S4x128) off S1x128.size inb)).read (Elt F) f) Finset.univ i = f i := by
  obtain ⟨y, hx, -⟩ := unit_exists (b := cc0_scratch5) ((row_mem (inb := inb) ho).mpr hi)
  rw [← hx, View.write_emb_of_mem _ _ (Finset.mem_univ y)]
  rfl

end Rows

/-- A strip of one half of the ring buffer's first slot, seen through the slot as a squeezed window, lies in the strip. -/
theorem ring_squeezed_set {d a : ℕ} {off : Fin 3 → ℕ} {h0 hn inb} (ho : off = ![d, 0, a]) :
    ((((View.whole cc0_scratch0).slice (Rect.unit (s := S2x2x1024x4096) ![0, 0, 0, 0] S1x2x1024x4096.size h0)).reshape S2x1024x4096 hn).slice
      (Rect.unit (s := S2x1024x4096) off S1x1024x256.size inb)).set ⊆ cS 0 d a (a + 256) := by
  subst ho
  intro i h
  obtain ⟨x, -, rfl⟩ := Finset.mem_map.mp h
  rw [mem_cS]
  let y : S2x1024x4096.Idx := (Rect.unit (s := S2x1024x4096) ![d, 0, a] S1x1024x256.size inb).emb x
  have hy : ∀ a', (y a').val = (![d, 0, a] : Fin 3 → ℕ) a' + (x a').val := fun a' =>
    (Rect.emb_apply _ x a').trans (by show _ + 1 * (x a').val = _; rw [Nat.one_mul]; rfl)
  have hr : Shape.reshapeEquiv hn y = ix4 (n0 := 1) (n1 := 2) (n2 := 1024) (n3 := 4096) 0 (y 0) (y 1) (y 2) := by
    have e := ix3_eta (n0 := 2) (n1 := 1024) (n2 := 4096) y
    exact (congrArg _ e.symm).trans (ValueIdx.reshapeEquiv_ix3_1abc hn (y 0) (y 1) (y 2))
  have hv := fun a' => unit_emb_val (b := cc0_scratch0) (inb := h0) (Shape.reshapeEquiv hn y) a'
  rw [hr] at hv
  have hz : (((((View.whole cc0_scratch0).slice (Rect.unit (s := S2x2x1024x4096) ![0, 0, 0, 0] S1x2x1024x4096.size h0)).reshape S2x1024x4096 hn).slice
      (Rect.unit (s := S2x1024x4096) ![d, 0, a] S1x1024x256.size inb)).emb x)
      = ((View.whole cc0_scratch0).slice (Rect.unit (s := S2x2x1024x4096) ![0, 0, 0, 0] S1x2x1024x4096.size h0)).emb (ix4 (n0 := 1) (n1 := 2) (n2 := 1024) (n3 := 4096) 0 (y 0) (y 1) (y 2)) :=
    congrArg (fun z => ((View.whole cc0_scratch0).slice (Rect.unit (s := S2x2x1024x4096) ![0, 0, 0, 0] S1x2x1024x4096.size h0)).emb z) hr
  rw [hz]
  have e0 := hv 0
  have e1 := hv 1
  have e3 := hv 3
  have f0 : (y 0).val = d + (x 0).val := hy 0
  have f2 : (y 2).val = a + (x 2).val := hy 2
  have x0 : (x 0).val < 1 := (x 0).isLt
  have x2 : (x 2).val < 256 := (x 2).isLt
  refine ⟨e0.trans rfl, e1.trans (by show 0 + (y 0).val = d; omega), ?_⟩
  have e3' := e3.trans (show _ = 0 + (y 2).val from rfl)
  omega

end Cert.RingProof
-- ==== Proof.Steps.lean ====
/-
One step each: a signal, a wait, a copy to a neighbour, taking the shared state from before the step to after it.
-/
module

public import proofs.«01_k».proof.Proof.Geo

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

abbrev 𝒱₀ : Variants := Variants.none

/-- The weakest precondition of a TensorCore program on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## What is owed, step by step -/

theorem Od_at {n : ℕ} {e : Ev} (h : evs[n]? = some e) (c : Dev nD) : Od c n = Od c (n + 1) + debt c e := by
  obtain ⟨hn, he⟩ := List.getElem?_eq_some_iff.mp h
  rw [Od_step c n hn, he]
theorem Od_same {n : ℕ} {e : Ev} (h : evs[n]? = some e) (hd : dcell e = none) (c : Dev nD) : Od c n = Od c (n + 1) := by
  rw [Od_at h, debt, hd]; exact add_zero _

theorem ph0 {s : Sl} {n : ℕ} (h : n = t0 s) : ph s n = 0 := if_pos (le_of_eq h)
theorem ph2 {s : Sl} {n : ℕ} (h : n = t1 s) (h' : t0 s ≤ t1 s) : ph s (n + 1) = 2 := by
  unfold ph; rw [if_neg (by omega), if_neg (by omega)]
theorem ph2' {s : Sl} (h : t1 s = t0 s) : ph s (t0 s + 1) = 2 := by
  unfold ph; rw [if_neg (by omega), if_neg (by omega)]
theorem ph1 {s : Sl} (h' : t0 s < t1 s) : ph s (t1 s) = 1 ∧ ph s (t0 s + 1) = 1 := by
  unfold ph; rw [if_neg (by omega), if_pos (by omega), if_neg (by omega), if_pos (by omega)]; exact ⟨rfl, rfl⟩

section

/-- The one round of a shared cell waited for, the cell closed. -/
theorem wait_k {α : Type} {Q : α → sProp 𝕄} {kk : PUnit → Prog (TpuEff nD τ sig (Elt F) Λ₀ .tc) α} (c : Dev nD) {k : K} (hk : k ≠ .bar) {w : TpuEff nD τ sig (Elt F) Λ₀ .tc PUnit}
    (hw : ∀ K' : PUnit → sProp 𝕄, wpE (defs₀ (F := F)) 𝒱₀ (c : Thread nD τ) none Set.univ w K' = waitSpec (c : Thread nD τ) Set.univ (csem k) (amt k) K')
    {n : ℕ} {e : Ev} (he : evs[n]? = some e) (hd : dcell e = none) (hl : above n (lvK k) = true) :
    iprop(Rec m ∗ (∃ W, owes (c : Thread nD τ) (Od c n) W) ∗ crd c k ∗ pos c k)
      ⊢ iprop((((∃ W, owes (c : Thread nD τ) (Od c (n + 1)) W) ∗ semVal (kc c k) 0 ∗ payK m k c false) -∗ WP c (kk ⟨⟩) Q) -∗ WP c (.op w kk) Q) := by
  rw [← Od_same he hd]
  iintro ⟨#HR, ⟨%W, HO⟩, Hc, Hp⟩ Hk
  ihave #Hlev := (rec_lev m) $$ HR
  ihave Hi := (rec_inv m c k) $$ HR
  icases Hi with ⟨%κ, #HI⟩
  unfold crd pos
  iapply (Rounds.wp_wait_rest_token 𝒱₀ ER (Rd m) (c : Thread nD τ) none (κ := κ) hw (Set.mem_univ _) () (O := Od c n) (W := W) (R := 0) (m := 0) (T := ∅)
      (by rw [Nat.zero_add]; exact (expect_one m c k hk).symm)) $$ [Hc HO Hp]
  · isplitr; · iexact HI
    isplitl [Hc]; · iexact Hc
    isplitl [HO]; · iexact HO
    isplitr; · iapply (mayWait c (csem k) (lvK k) n (by dsimp only [lv]; rw [kindOf_csem]) hl); iexact Hlev
    iexact Hp
  iintro ⟨HO, Hat, -, Hpay⟩
  ihave Hpay' := (Entails.of_eq (rest_one m c k hk)) $$ Hpay
  imod (Rounds.cell_close ER (Rd m) (Set.mem_univ κ) (fun h => h) (R := 0 + 1) (duties_later m (kc c k))) $$ [Hat] with Hz
  · isplitr; · iexact HI
    iexact Hat
  iapply Hk
  isplitl [HO]; · iexists _; iexact HO
  isplitl [Hz]; · iexact Hz
  iexact Hpay'

/-- A unit signalled to a shared cell. -/
theorem sig_k {α : Type} {Q : α → sProp 𝕄} {kk : PUnit → Prog (TpuEff nD τ sig (Elt F) Λ₀ .tc) α} (c q : Dev nD) {k : K} (d : Bool) {sem : Sem sig} (hs : csem k = .reg sem) {u : ℕ} (hu : u = amt k)
    (hmem : d ∈ (Rd m).duties (kc q k) 0) {n : ℕ} {e : Ev} (he : evs[n]? = some e) (hd : dcell e = some k) (ht : tgt c e = q) :
    iprop(Rec m ∗ (∃ W, owes (c : Thread nD τ) (Od c n) W) ∗ tok q k d ∗ payK m k q d)
      ⊢ iprop(((∃ W, owes (c : Thread nD τ) (Od c (n + 1)) W) -∗ WP c (kk ⟨⟩) Q) -∗ WP c (.op (.semSignal (q : Thread nD τ) sem u) kk) Q) := by
  have hO : Od c n = Od c (n + 1) + tallyAt ((q : Thread nD τ), .reg sem) () u := by
    rw [Od_at he, debt, hd, ← hs, hu, ht]
  have ha : (Rd m).amount ((q : Thread nD τ), .reg sem) 0 d = u := by rw [hu, ← amount_k m q k d, ← hs]
  have hI := rec_inv m q k
  have hR := rec_reached m q k
  rw [← payload_k]
  unfold tok
  unfold kc at hmem hI hR ⊢
  rw [hs] at hmem hI hR ⊢
  iintro ⟨#HR, ⟨%W, HO⟩, Ht, Hp⟩ Hk
  ihave Hi := hI $$ HR
  icases Hi with ⟨%κ, #HI⟩
  ihave #Hr := hR $$ HR
  iapply (Rounds.wp_signal 𝒱₀ ER (Rd m) (c : Thread nD τ) none (dst := (q : Thread nD τ)) (κ := κ) (d := d) hmem ha () (Od c (n + 1)) hO) $$ [HO Ht Hp]
  · isplitr; · iexact HI
    isplitl [HO]; · iexact HO
    isplitl [Ht]; · iexact Ht
    isplitl [Hp]; · iexact Hp
    iexact Hr
  iintro HO
  iapply Hk
  iexists W; iexact HO

/-- A copy to device `q` paying its own cell `ks'` and `q`'s cell `kr`. -/
theorem send_k {α : Type} {Q : α → sProp 𝕄} {kk : PUnit → Prog (TpuEff nD τ sig (Elt F) Λ₀ .tc) α} (c q q' : Dev nD) (hq : q' = q) {k₁ k₂ : K} {N : ℕ} (hk1 : k₁ ≠ .bar) (hk2 : k₂ ≠ .bar) (ha1 : amt k₁ = N) (ha2 : amt k₂ = N)
    {s : Shape} {φ : EltTy} {src dst : Memref sig .tc .vmem s φ} {sS rS : SemLoc sig} (hs1 : csem k₁ = sS) (hs2 : csem k₂ = rS)
    {hsc : (dst : Memref sig (Dev.tc q' : Thread nD τ).2.kind .vmem s φ).view.ref.isScScratch = false}
    {hsrc : src.view.WordExact} {hdst : (dst : Memref sig (Dev.tc q' : Thread nD τ).2.kind .vmem s φ).view.WordExact}
    {hsem : DmaTarget.Typed .vmem rS (.remote (Dev.tc q' : Thread nD τ) (dst : Memref sig (Dev.tc q' : Thread nD τ).2.kind .vmem s φ) sS hsc)}
    (hN : dst.view.amount rS = N) {sh : PosShare TreeShare} {fs : Buf (Elt F) (src.view.loc (c : Thread nD τ))} {fd : Buf (Elt F) (dst.view.loc (q : Thread nD τ))}
    {n : ℕ} {e : Ev} (he : evs[n]? = some e) (hd : dcell e = some k₂) (ht : tgt c e = q)
    (hp1 : (src.view.loc (c : Thread nD τ) ↦[src.view.set]{sh} fs : sProp 𝕄) ⊢ payK m k₁ c false)
    (hp2 : (dst.view.loc (q : Thread nD τ) ↦[dst.view.set]{fullShare} (dst.view.write (Elt F) fd (src.view.read (Elt F) fs) Finset.univ) : sProp 𝕄) ⊢ payK m k₂ q false) :
    iprop(Rec m ∗ (∃ W, owes (c : Thread nD τ) (Od c n) W) ∗ tok c k₁ false ∗ tok q k₂ false
        ∗ (src.view.loc (c : Thread nD τ) ↦[src.view.set]{sh} fs) ∗ (dst.view.loc (q : Thread nD τ) ↦[dst.view.set]{fullShare} fd))
      ⊢ iprop((((∃ W, owes (c : Thread nD τ) (Od c (n + 1)) W) ∗ crd c k₁) -∗ WP c (kk ⟨⟩) Q)
        -∗ WP c (.op (.enqueueDma src (.remote (Dev.tc q' : Thread nD τ) dst sS hsc) rS hsrc hdst hsem) kk) Q) := by
  subst hq hs1 hs2
  iintro ⟨#HR, ⟨%W, HO⟩, Ht1, Ht2, Hs, Hd⟩ Hk
  ihave Hi := (rec_inv m c k₁) $$ HR
  icases Hi with ⟨%κ₁, #HI1⟩
  ihave Hi := (rec_inv m q' k₂) $$ HR
  icases Hi with ⟨%κ₂, #HI2⟩
  ihave #Hr1 := (rec_reached m c k₁) $$ HR
  ihave #Hr2 := (rec_reached m q' k₂) $$ HR
  unfold tok crd
  rw [ha1]
  have hO : Od c n = Od c (n + 1) + tallyAt (kc q' k₂) () N := by
    rw [Od_at he, debt, hd, ha2.symm, ht]
  iapply (Rounds.wp_send_pointsTo 𝒱₀ ER (Rd m) (c : Thread nD τ) none (κ₁ := κ₁) (κ₂ := κ₂) (r₁ := 0) (r₂ := 0) (d₁ := false) (d₂ := false) (fd := fd)
    (false_mem_duties m c k₁) (false_mem_duties m q' k₂) () () N hN ((amount_k m c k₁ false).trans ha1) ((amount_k m q' k₂ false).trans ha2)
    (Od c (n + 1)) hO (W := W) (by rw [payload_k]; exact hp1) (by rw [payload_k]; exact hp2)) $$ [HO Ht1 Ht2 Hs Hd]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [HO]; · iexists W; iexact HO
  iexact Hc

/-- A shared wait, on the state. -/
theorem step_wait {α : Type} {Q : α → sProp 𝕄} {kk : PUnit → Prog (TpuEff nD τ sig (Elt F) Λ₀ .tc) α} (c : Dev nD) {k : K} (hk : k ≠ .bar) {w : TpuEff nD τ sig (Elt F) Λ₀ .tc PUnit}
    (hw : ∀ K' : PUnit → sProp 𝕄, wpE (defs₀ (F := F)) 𝒱₀ (c : Thread nD τ) none Set.univ w K' = waitSpec (c : Thread nD τ) Set.univ (csem k) (amt k) K')
    {n : ℕ} {e : Ev} (he : evs[n]? = some e) (hd : dcell e = none) (hl : above n (lvK k) = true)
    (h0 : slotSt (F := F) c (who n) (ph (who n) n) = iprop(crd c k ∗ pos c k)) (h1 : slotSt (F := F) c (who n) (ph (who n) (n + 1)) = semVal (kc c k) 0) :
    iprop(Rec m ∗ St c n) ⊢ iprop(((St c (n + 1) ∗ payK m k c false) -∗ WP c (kk ⟨⟩) Q) -∗ WP c (.op w kk) Q) := by
  iintro ⟨#HR, HS⟩ Hk
  ihave H := (st_take c n) $$ HS
  rw [h0, h1]
  icases H with ⟨HO, ⟨Hc, Hp⟩, Hback⟩
  iapply (wait_k m c hk hw he hd hl) $$ [HO Hc Hp]
  · isplitr; · iexact HR
    isplitl [HO]; · iexact HO
    isplitl [Hc]; · iexact Hc
    iexact Hp
  iintro ⟨HO, Hz, Hpay⟩
  iapply Hk
  isplitr [Hpay]
  · iapply Hback
    isplitl [HO]; · iexact HO
    iexact Hz
  iexact Hpay

theorem ev_S : ∀ i, evs[t0 (.S i)]? = some (.hop i) ∧ evs[t1 (.S i)]? = some (.sw i) ∧ t0 (.S i) < t1 (.S i) ∧ above (t1 (.S i)) 0 = true := by decide
theorem ev_R : ∀ i, evs[t0 (.R i)]? = some (.rw i) ∧ above (t0 (.R i)) (lvK (.recv i)) = true := by decide
theorem ev_T : ∀ i, evs[t0 (.T i)]? = some (.cs i) := by decide
theorem ev_C : ∀ i, evs[t0 (.C i)]? = some (.cw i) ∧ above (t0 (.C i)) (lvK (.cred i)) = true := by decide
theorem ev_A : ∀ i, evs[t0 (.A i)]? = some (.ax i) ∧ evs[t1 (.A i)]? = some (.aw i) ∧ t0 (.A i) < t1 (.A i) ∧ above (t1 (.A i)) 0 = true := by decide
theorem ev_AR : ∀ i, evs[t0 (.AR i)]? = some (.ar i) ∧ above (t0 (.AR i)) (lvK (.arecv i)) = true := by decide

/-- Waiting for a transfer's departure, for its landing, for a slot credit. -/
theorem step_sw {α : Type} {Q : α → sProp 𝕄} {kk : PUnit → Prog (TpuEff nD τ sig (Elt F) Λ₀ .tc) α} (c : Dev nD) (i : Fin 14) {n : ℕ} (hn : n = t1 (.S i))
    {w : TpuEff nD τ sig (Elt F) Λ₀ .tc PUnit}
    (hw : ∀ K' : PUnit → sProp 𝕄, wpE (defs₀ (F := F)) 𝒱₀ (c : Thread nD τ) none Set.univ w K' = waitSpec (c : Thread nD τ) Set.univ (csem (.send i)) (amt (.send i)) K') :
    iprop(Rec m ∗ St c n) ⊢ iprop(((St c (n + 1) ∗ payK m (.send i) c false) -∗ WP c (kk ⟨⟩) Q) -∗ WP c (.op w kk) Q) := by
  subst hn
  obtain ⟨-, h1, h2, h3⟩ := ev_S i
  refine step_wait m c (fun h => by cases h) hw h1 rfl h3 ?_ ?_
  · rw [(who_t (.S i)).2, (ph1 h2).1]; rfl
  · rw [(who_t (.S i)).2, ph2 rfl (le_of_lt h2)]; rfl
theorem step_rw {α : Type} {Q : α → sProp 𝕄} {kk : PUnit → Prog (TpuEff nD τ sig (Elt F) Λ₀ .tc) α} (c : Dev nD) (i : Fin 14) {n : ℕ} (hn : n = t0 (.R i))
    {w : TpuEff nD τ sig (Elt F) Λ₀ .tc PUnit}
    (hw : ∀ K' : PUnit → sProp 𝕄, wpE (defs₀ (F := F)) 𝒱₀ (c : Thread nD τ) none Set.univ w K' = waitSpec (c : Thread nD τ) Set.univ (csem (.recv i)) (amt (.recv i)) K') :
    iprop(Rec m ∗ St c n) ⊢ iprop(((St c (n + 1) ∗ payK m (.recv i) c false) -∗ WP c (kk ⟨⟩) Q) -∗ WP c (.op w kk) Q) := by
  subst hn
  obtain ⟨h1, h3⟩ := ev_R i
  refine step_wait m c (fun h => by cases h) hw h1 rfl h3 ?_ ?_
  · rw [(who_t (.R i)).1, ph0 rfl]; rfl
  · rw [(who_t (.R i)).1, ph2' (s := .R i) rfl]; rfl
theorem step_cw {α : Type} {Q : α → sProp 𝕄} {kk : PUnit → Prog (TpuEff nD τ sig (Elt F) Λ₀ .tc) α} (c : Dev nD) (i : Fin 8) {n : ℕ} (hn : n = t0 (.C i))
    {w : TpuEff nD τ sig (Elt F) Λ₀ .tc PUnit}
    (hw : ∀ K' : PUnit → sProp 𝕄, wpE (defs₀ (F := F)) 𝒱₀ (c : Thread nD τ) none Set.univ w K' = waitSpec (c : Thread nD τ) Set.univ (csem (.cred i)) (amt (.cred i)) K') :
    iprop(Rec m ∗ St c n) ⊢ iprop(((St c (n + 1) ∗ payK m (.cred i) c false) -∗ WP c (kk ⟨⟩) Q) -∗ WP c (.op w kk) Q) := by
  subst hn
  obtain ⟨h1, h3⟩ := ev_C i
  refine step_wait m c (fun h => by cases h) hw h1 rfl h3 ?_ ?_
  · rw [(who_t (.C i)).1, ph0 rfl]; rfl
  · rw [(who_t (.C i)).1, ph2' (s := .C i) rfl]; rfl
theorem step_aw {α : Type} {Q : α → sProp 𝕄} {kk : PUnit → Prog (TpuEff nD τ sig (Elt F) Λ₀ .tc) α} (c : Dev nD) (i : Fin 3) {n : ℕ} (hn : n = t1 (.A i))
    {w : TpuEff nD τ sig (Elt F) Λ₀ .tc PUnit}
    (hw : ∀ K' : PUnit → sProp 𝕄, wpE (defs₀ (F := F)) 𝒱₀ (c : Thread nD τ) none Set.univ w K' = waitSpec (c : Thread nD τ) Set.univ (csem (.asend i)) (amt (.asend i)) K') :
    iprop(Rec m ∗ St c n) ⊢ iprop(((St c (n + 1) ∗ payK m (.asend i) c false) -∗ WP c (kk ⟨⟩) Q) -∗ WP c (.op w kk) Q) := by
  subst hn
  obtain ⟨-, h1, h2, h3⟩ := ev_A i
  refine step_wait m c (fun h => by cases h) hw h1 rfl h3 ?_ ?_
  · rw [(who_t (.A i)).2, (ph1 h2).1]; rfl
  · rw [(who_t (.A i)).2, ph2 rfl (le_of_lt h2)]; rfl
theorem step_ar {α : Type} {Q : α → sProp 𝕄} {kk : PUnit → Prog (TpuEff nD τ sig (Elt F) Λ₀ .tc) α} (c : Dev nD) (i : Fin 3) {n : ℕ} (hn : n = t0 (.AR i))
    {w : TpuEff nD τ sig (Elt F) Λ₀ .tc PUnit}
    (hw : ∀ K' : PUnit → sProp 𝕄, wpE (defs₀ (F := F)) 𝒱₀ (c : Thread nD τ) none Set.univ w K' = waitSpec (c : Thread nD τ) Set.univ (csem (.arecv i)) (amt (.arecv i)) K') :
    iprop(Rec m ∗ St c n) ⊢ iprop(((St c (n + 1) ∗ payK m (.arecv i) c false) -∗ WP c (kk ⟨⟩) Q) -∗ WP c (.op w kk) Q) := by
  subst hn
  obtain ⟨h1, h3⟩ := ev_AR i
  refine step_wait m c (fun h => by cases h) hw h1 rfl h3 ?_ ?_
  · rw [(who_t (.AR i)).1, ph0 rfl]; rfl
  · rw [(who_t (.AR i)).1, ph2' (s := .AR i) rfl]; rfl

/-- The barrier wait: both neighbours' halves. -/
theorem step_bar {α : Type} {Q : α → sProp 𝕄} {kk : PUnit → Prog (TpuEff nD τ sig (Elt F) Λ₀ .tc) α} (c : Dev nD) {w : TpuEff nD τ sig (Elt F) Λ₀ .tc PUnit}
    (hw : ∀ K' : PUnit → sProp 𝕄, wpE (defs₀ (F := F)) 𝒱₀ (c : Thread nD τ) none Set.univ w K' = waitSpec (c : Thread nD τ) Set.univ (csem .bar) 2 K') :
    iprop(Rec m ∗ St c 2) ⊢ iprop(((St c 3 ∗ payK m .bar c false ∗ payK m .bar c true) -∗ WP c (kk ⟨⟩) Q) -∗ WP c (.op w kk) Q) := by
  iintro ⟨#HR, HS⟩ Hk
  ihave #Hlev := (rec_lev m) $$ HR
  ihave H := (st_take c 2) $$ HS
  rw [show slotSt (F := F) c (who 2) (ph (who 2) 2) = iprop(cred (tallyAt (kc c .bar) () 2) ∗ pos c .bar) from rfl,
    show slotSt (F := F) c (who 2) (ph (who 2) (2 + 1)) = semVal (kc c .bar) 0 from rfl,
    ← Od_same (n := 2) (e := .bar) rfl rfl c]
  icases H with ⟨⟨%W, HO⟩, ⟨Hc, Hp⟩, Hback⟩
  ihave Hi := (rec_inv m c .bar) $$ HR
  icases Hi with ⟨%κ, #HI⟩
  unfold pos
  iapply (Rounds.wp_wait_rest_token 𝒱₀ ER (Rd m) (c : Thread nD τ) none (κ := κ) hw (Set.mem_univ _) () (O := Od c 2) (W := W) (R := 0) (m := 0) (T := ∅)
      (by rw [Nat.zero_add]; exact (expect_bar m c).symm)) $$ [Hc HO Hp]
  · isplitr; · iexact HI
    isplitl [Hc]; · iexact Hc
    isplitl [HO]; · iexact HO
    isplitr; · iapply (mayWait c (csem .bar) 1 2 (by dsimp only [lv]; rw [kindOf_csem]; decide) (by decide)); iexact Hlev
    iexact Hp
  iintro ⟨HO, Hat, -, Hpay⟩
  ihave Hpay' := (Entails.of_eq (rest_bar m c)) $$ Hpay
  imod (Rounds.cell_close ER (Rd m) (Set.mem_univ κ) (fun h => h) (R := 0 + 1) (duties_later m (kc c .bar))) $$ [Hat] with Hz
  · isplitr; · iexact HI
    iexact Hat
  iapply Hk
  isplitr [Hpay']
  · iapply Hback
    isplitl [HO]; · iexists _; iexact HO
    iexact Hz
  iexact Hpay'

/-- A shared signal, on the state. -/
theorem step_sig {α : Type} {Q : α → sProp 𝕄} {kk : PUnit → Prog (TpuEff nD τ sig (Elt F) Λ₀ .tc) α} (c q q' : Dev nD) (hq : q' = q) {k : K} (d : Bool) {sem : Sem sig} (hs : csem k = .reg sem) {u : ℕ} (hu : u = amt k)
    (hmem : d ∈ (Rd m).duties (kc q k) 0) {n : ℕ} {e : Ev} (he : evs[n]? = some e) (hd : dcell e = some k) (ht : tgt c e = q)
    (h0 : slotSt (F := F) c (who n) (ph (who n) n) = tok q k d) (h1 : slotSt (F := F) c (who n) (ph (who n) (n + 1)) = iprop(emp)) :
    iprop(Rec m ∗ St c n ∗ payK m k q d) ⊢ iprop((St c (n + 1) -∗ WP c (kk ⟨⟩) Q) -∗ WP c (.op (.semSignal (q' : Thread nD τ) sem u) kk) Q) := by
  subst hq
  iintro ⟨#HR, HS, Hp⟩ Hk
  ihave H := (st_take c n) $$ HS
  rw [h0, h1]
  icases H with ⟨HO, Ht, Hback⟩
  iapply (sig_k m c q' d hs hu hmem he hd ht) $$ [HO Ht Hp]
  · isplitr; · iexact HR
    isplitl [HO]; · iexact HO
    isplitl [Ht]; · iexact Ht
    iexact Hp
  iintro HO
  iapply Hk
  iapply Hback
  isplitl [HO]; · iexact HO
  iempintro

theorem step_sigL {α : Type} {Q : α → sProp 𝕄} {kk : PUnit → Prog (TpuEff nD τ sig (Elt F) Λ₀ .tc) α} (c q' : Dev nD) (hq : q' = lft c) {sem : Sem sig} (hs : csem .bar = .reg sem) {u : ℕ} (hu : u = 1) :
    iprop(Rec m ∗ St c 0 ∗ cAny (F := F) c 1 0 0 4096 ∗ aAny (F := F) c (lft c).val ∗ aAny (F := F) c (rot 2 c).val)
      ⊢ iprop((St c 1 -∗ WP c (kk ⟨⟩) Q) -∗ WP c (.op (.semSignal (q' : Thread nD τ) sem u) kk) Q) := by
  have h := step_sig (Q := Q) (kk := kk) m c (lft c) q' hq (k := .bar) true hs hu (true_mem_duties m _) (n := 0) (e := .sigL) rfl rfl rfl rfl rfl
  have hp : payK m .bar (lft c) true = iprop(cAny (F := F) c 1 0 0 4096 ∗ aAny (F := F) c (lft c).val ∗ aAny (F := F) c (rot 2 c).val) := by
    show iprop(cAny (rgt (lft c)) 1 0 0 4096 ∗ aAny (rgt (lft c)) (lft c).val ∗ aAny (rgt (lft c)) (lft (lft c)).val) = _
    rw [rgt_lft, show lft (lft c) = rot 2 c from (rot_rot 3 3 c).trans (by apply Fin.ext; simp only [rot]; omega)]
  rw [hp] at h
  exact h
theorem step_sigR {α : Type} {Q : α → sProp 𝕄} {kk : PUnit → Prog (TpuEff nD τ sig (Elt F) Λ₀ .tc) α} (c q' : Dev nD) (hq : q' = rgt c) {sem : Sem sig} (hs : csem .bar = .reg sem) {u : ℕ} (hu : u = 1) :
    iprop(Rec m ∗ St c 1 ∗ cAny (F := F) c 1 1 0 4096 ∗ aAny (F := F) c (rgt c).val)
      ⊢ iprop((St c 2 -∗ WP c (kk ⟨⟩) Q) -∗ WP c (.op (.semSignal (q' : Thread nD τ) sem u) kk) Q) := by
  have h := step_sig (Q := Q) (kk := kk) m c (rgt c) q' hq (k := .bar) false hs hu (false_mem_duties m _ _) (n := 1) (e := .sigR) rfl rfl rfl rfl rfl
  have hp : payK m .bar (rgt c) false = iprop(cAny (F := F) c 1 1 0 4096 ∗ aAny (F := F) c (rgt c).val) := by
    show iprop(cAny (lft (rgt c)) 1 1 0 4096 ∗ aAny (lft (rgt c)) (rgt c).val) = _
    rw [lft_rgt]
  rw [hp] at h
  exact h
theorem step_cs {α : Type} {Q : α → sProp 𝕄} {kk : PUnit → Prog (TpuEff nD τ sig (Elt F) Λ₀ .tc) α} (c q' : Dev nD) (k : Fin 8) (hq : q' = up (kd k) c) {n : ℕ} (hn : n = t0 (.T k)) {sem : Sem sig} (hs : csem (.cred k) = .reg sem) {u : ℕ} (hu : u = 1) :
    iprop(Rec m ∗ St c n ∗ cAny (F := F) c (ks k) (kd k) (ka k) (ka k + 2048) ∗ (if k.val = 0 then aAny (F := F) (rgt c) (lft c).val else iprop(emp)))
      ⊢ iprop((St c (n + 1) -∗ WP c (kk ⟨⟩) Q) -∗ WP c (.op (.semSignal (q' : Thread nD τ) sem u) kk) Q) := by
  subst hn
  have h := step_sig (Q := Q) (kk := kk) m c (up (kd k) c) q' hq (k := .cred k) false hs hu (false_mem_duties m _ _) (n := t0 (.T k)) (e := .cs k) (ev_T k) rfl rfl
    (by rw [(who_t (.T k)).1, ph0 rfl]; rfl) (by rw [(who_t (.T k)).1, ph2' (s := .T k) rfl]; rfl)
  have hp : payK m (.cred k) (up (kd k) c) false = iprop(cAny (F := F) c (ks k) (kd k) (ka k) (ka k + 2048) ∗ (if k.val = 0 then aAny (F := F) (rgt c) (lft c).val else iprop(emp))) := by
    show iprop(cAny (dn (kd k) (up (kd k) c)) (ks k) (kd k) (ka k) (ka k + 2048) ∗ (if k.val = 0 then aAny (rot 2 (up (kd k) c)) (up (kd k) c).val else iprop(emp))) = _
    rw [dn_up]
    by_cases h : k.val = 0
    · rw [if_pos h, if_pos h]
      obtain rfl : k = 0 := Fin.ext h
      rw [show up (kd 0) c = lft c from rfl, show rot 2 (lft c) = rgt c from (rot_rot 2 3 c).trans (by apply Fin.ext; simp only [rot]; omega)]
    · rw [if_neg h, if_neg h]
  rw [hp] at h
  exact h

/-- Hop `i` issued. -/
theorem step_hop {α : Type} {Q : α → sProp 𝕄} {kk : PUnit → Prog (TpuEff nD τ sig (Elt F) Λ₀ .tc) α} (c q' : Dev nD) (i : Fin 14) (hq : q' = dn (hd i) c) {n : ℕ} (hn : n = t0 (.S i))
    {off off' size : Fin 4 → ℕ} {inb inb'} {t : Shape} {w : ℕ} {hst hst'} {sq sq'} {sS rS : SemLoc sig} (hs1 : csem (.send i) = sS) (hs2 : csem (.recv i) = rS)
    (ho : off = ![hs i % 2, hd i, 0, ha i]) (ho' : off' = ![(hs i + 1) % 2, hd i, 0, ha i]) (hsz : size = ![1, 1, 1024, w]) (hw : hb i = ha i + w)
    {hsc hsrc hdst hsem}
    (hN : (((rgB.slice (Rect.unit (s := S2x2x1024x4096) off' size inb') hst').squeeze t sq' : Memref sig .tc .vmem t .bf16)).view.amount rS = NH i) :
    iprop(Rec m ∗ St c n ∗ cPts (F := F) c (hs i % 2) (hd i) (ha i) (hb i) (stage m (hs i) c) ∗ cAny (F := F) (dn (hd i) c) ((hs i + 1) % 2) (hd i) (ha i) (hb i))
      ⊢ iprop((St c (n + 1) -∗ WP c (kk ⟨⟩) Q)
        -∗ WP c (.op (.enqueueDma ((rgB.slice (Rect.unit (s := S2x2x1024x4096) off size inb) hst).squeeze t sq : Memref sig .tc .vmem t .bf16)
          (.remote (Dev.tc q' : Thread nD τ) ((rgB.slice (Rect.unit (s := S2x2x1024x4096) off' size inb') hst').squeeze t sq' : Memref sig .tc .vmem t .bf16) sS hsc) rS hsrc hdst hsem) kk) Q) := by
  subst hn
  obtain ⟨h1, -, h2, -⟩ := ev_S i
  unfold cPts cAny
  iintro ⟨#HR, HS, Hs, ⟨%fd, Hd⟩⟩ Hk
  ihave H := (st_take c (t0 (.S i))) $$ HS
  rw [show slotSt (F := F) c (who (t0 (.S i))) (ph (who (t0 (.S i))) (t0 (.S i))) = iprop(tok c (.send i) false ∗ tok (dn (hd i) c) (.recv i) false ∗ pos c (.send i)) from by
      rw [(who_t (.S i)).1, ph0 rfl]; rfl,
    show slotSt (F := F) c (who (t0 (.S i))) (ph (who (t0 (.S i))) (t0 (.S i) + 1)) = iprop(crd c (.send i) ∗ pos c (.send i)) from by
      rw [(who_t (.S i)).1, (ph1 h2).2]; rfl]
  icases H with ⟨HO, ⟨Ht1, Ht2, Hp⟩, Hback⟩
  have hset : ((rgB.slice (Rect.unit (s := S2x2x1024x4096) off size inb) hst).squeeze t sq : Memref sig .tc .vmem t .bf16).view.set = cS (hs i % 2) (hd i) (ha i) (hb i) := by
    rw [hw]; exact (View.set_reshape _ _).trans (ring_set ho hsz)
  have hset' : ((rgB.slice (Rect.unit (s := S2x2x1024x4096) off' size inb') hst').squeeze t sq' : Memref sig .tc .vmem t .bf16).view.set = cS ((hs i + 1) % 2) (hd i) (ha i) (hb i) := by
    rw [hw]; exact (View.set_reshape _ _).trans (ring_set ho' hsz)
  iapply (send_k m c (dn (hd i) c) q' hq (k₁ := .send i) (k₂ := .recv i) (N := NH i) (fun h => by cases h) (fun h => by cases h) rfl rfl hs1 hs2 hN
    (fs := (cv (stage m (hs i) c) : Buf (Elt F) (ringL c))) (fd := fd) h1 rfl rfl ?hp1 ?hp2) $$ [HO Ht1 Ht2 Hs Hd]
  case hp1 =>
    rw [hset]; iintro H; unfold payK cAny; iexists _; iexact H
  case hp2 =>
    rw [hset']
    refine Entails.of_eq ?_
    show _ = cPts _ _ _ _ _ (stage m (hs i) (up (hd i) (dn (hd i) c)))
    rw [up_dn]
    unfold cPts
    exact pointsTo_congr fun z hz => hop_write (w := w) ho ho' _ _ z (by rw [ring_set ho' hsz, ← hw]; exact hz)
  · isplitr; · iexact HR
    isplitl [HO]; · iexact HO
    isplitl [Ht1]; · iexact Ht1
    isplitl [Ht2]; · iexact Ht2
    rw [hset, hset']
    isplitl [Hs]; · iexact Hs
    iexact Hd
  iintro ⟨HO, Hc⟩
  iapply Hk
  iapply Hback
  isplitl [HO]; · iexact HO
  isplitl [Hc]; · iexact Hc
  iexact Hp

/-- The own row sent `o + 1` places on. -/
theorem step_ax {α : Type} {Q : α → sProp 𝕄} {kk : PUnit → Prog (TpuEff nD τ sig (Elt F) Λ₀ .tc) α} (c q' : Dev nD) (o : Fin 3) (hq : q' = rot (o.val + 1) c) {n : ℕ} (hn : n = t0 (.A o))
    {off : Fin 2 → ℕ} {inb} {hst hst'} {sS rS : SemLoc sig} (hs1 : csem (.asend o) = sS) (hs2 : csem (.arecv o) = rS) (ho : off = ![c.val, 0])
    {hsc hsrc hdst hsem}
    (hN : ((amB.slice (Rect.unit (s := S4x128) off S1x128.size inb) hst' : Memref sig .tc .vmem S1x128 .f32)).view.amount rS = NA) :
    iprop(Rec m ∗ St c n ∗ aPts m c c.val (ash o) ∗ aAny (F := F) (rot (o.val + 1) c) c.val)
      ⊢ iprop((St c (n + 1) -∗ WP c (kk ⟨⟩) Q)
        -∗ WP c (.op (.enqueueDma (amB.slice (Rect.unit (s := S4x128) off S1x128.size inb) hst : Memref sig .tc .vmem S1x128 .f32)
          (.remote (Dev.tc q' : Thread nD τ) (amB.slice (Rect.unit (s := S4x128) off S1x128.size inb) hst' : Memref sig .tc .vmem S1x128 .f32) sS hsc) rS hsrc hdst hsem) kk) Q) := by
  subst hn
  obtain ⟨h1, -, h2, -⟩ := ev_A o
  unfold aPts aAny
  iintro ⟨#HR, HS, Hs, ⟨%fd, Hd⟩⟩ Hk
  ihave H := (st_take c (t0 (.A o))) $$ HS
  rw [show slotSt (F := F) c (who (t0 (.A o))) (ph (who (t0 (.A o))) (t0 (.A o))) = iprop(tok c (.asend o) false ∗ tok (rot (o.val + 1) c) (.arecv o) false ∗ pos c (.asend o)) from by
      rw [(who_t (.A o)).1, ph0 rfl]; rfl,
    show slotSt (F := F) c (who (t0 (.A o))) (ph (who (t0 (.A o))) (t0 (.A o) + 1)) = iprop(crd c (.asend o) ∗ pos c (.asend o)) from by
      rw [(who_t (.A o)).1, (ph1 h2).2]; rfl]
  icases H with ⟨HO, ⟨Ht1, Ht2, Hp⟩, Hback⟩
  have hset : (amB.slice (Rect.unit (s := S4x128) off S1x128.size inb) hst : Memref sig .tc .vmem S1x128 .f32).view.set = aS c.val := row_set c ho rfl
  iapply (send_k m c (rot (o.val + 1) c) q' hq (k₁ := .asend o) (k₂ := .arecv o) (N := NA) (fun h => by cases h) (fun h => by cases h) rfl rfl hs1 hs2 hN
    (fs := (amv m : Buf (Elt F) (amaxL c))) (fd := fd) (sh := ash o) h1 rfl rfl ?hp1 ?hp2) $$ [HO Ht1 Ht2 Hs Hd]
  case hp1 =>
    rw [hset]; iintro H; unfold payK aPts; iexact H
  case hp2 =>
    rw [hset]
    refine Entails.of_eq ?_
    show _ = aPts m (rot (o.val + 1) c) (rot (3 - o.val) (rot (o.val + 1) c)).val fullShare
    have hr : rot (3 - o.val) (rot (o.val + 1) c) = c := by
      rw [rot_rot, show 3 - o.val + (o.val + 1) = 4 by omega, rot_four]
    rw [hr]
    unfold aPts
    exact pointsTo_congr fun z hz => row_copy ho _ _ z (mem_aS.mp hz)
  · isplitr; · iexact HR
    isplitl [HO]; · iexact HO
    isplitl [Ht1]; · iexact Ht1
    isplitl [Ht2]; · iexact Ht2
    rw [hset]
    isplitl [Hs]; · iexact Hs
    iexact Hd
  iintro ⟨HO, Hc⟩
  iapply Hk
  iapply Hback
  isplitl [HO]; · iexact HO
  isplitl [Hc]; · iexact Hc
  iexact Hp

end

end Cert.RingProof
-- ==== Proof.Loc.lean ====
/-
Copies a device makes to itself, and the regions of its buffers a loop reads and fills chunk by chunk.
-/
module

public import proofs.«01_k».proof.Proof.Steps

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## A copy under way -/

/-- A copy that will deliver `D'`. -/
def Fl (c : Dev nD) (sm : SemLoc sig) (N : ℕ) (D' : sProp 𝕄) : sProp 𝕄 :=
  iprop(∃ D : sProp 𝕄, Transfers.Flight EC (c : Thread nD τ) sm () N D ∗ (D -∗ D'))

theorem loc_start {α : Type} {Q : α → sProp 𝕄} {kk : PUnit → Prog (TpuEff nD τ sig (Elt F) Λ₀ .tc) α} (c : Dev nD) {sp sp' : Space} {s : Shape} {e : EltTy} {src : Memref sig .tc sp s e} {dst : Memref sig .tc sp' s e} {sm : SemLoc sig}
    {hsrc hdst hsem} {N : ℕ} (hN : dst.view.amount sm = N) (hN0 : 0 < N) {q : PosShare TreeShare}
    {S : Finset (Idx (src.view.loc (c : Thread nD τ)))} {T : Finset (Idx (dst.view.loc (c : Thread nD τ)))} {fs : Buf (Elt F) (src.view.loc (c : Thread nD τ))} {fd : Buf (Elt F) (dst.view.loc (c : Thread nD τ))}
    (hS : src.view.set ⊆ S) (hT : dst.view.set ⊆ T) {D' : sProp 𝕄}
    (hD : iprop((dst.view.loc (c : Thread nD τ) ↦[T]{fullShare} (dst.view.write (Elt F) fd (src.view.read (Elt F) fs) Finset.univ)) ∗ (src.view.loc (c : Thread nD τ) ↦[S]{q} fs)) ⊢ D') :
    iprop(semVal ((c : Thread nD τ), sm) 0 ∗ (src.view.loc (c : Thread nD τ) ↦[S]{q} fs) ∗ (dst.view.loc (c : Thread nD τ) ↦[T]{fullShare} fd))
      ⊢ iprop((Fl (F := F) c sm N D' -∗ WP c (kk ⟨⟩) Q) -∗ WP c (.op (.enqueueDma src (.here dst) sm hsrc hdst hsem) kk) Q) := by
  iintro ⟨Hz, Hs, Hd⟩ Hk
  ihave Hs2 := (pointsTo_split_subset hS).1 $$ Hs
  icases Hs2 with ⟨Hs, Hr⟩
  iapply (Transfers.wp_dmaLocal EC 𝒱₀ (c : Thread nD τ) none () N hN hN0 hT) $$ [Hs Hd Hz]
  · isplitl [Hs]; · iexact Hs
    isplitl [Hd]; · iexact Hd
    iexact Hz
  iintro HF
  iapply Hk
  unfold Fl
  iexists _
  isplitl [HF]; · iexact HF
  iintro ⟨Hd, Hs⟩
  iapply hD
  isplitl [Hd]; · iexact Hd
  iapply (pointsTo_split_subset hS).2
  isplitl [Hs] <;> iassumption

theorem above0 (n : ℕ) : above n 0 = true := by
  unfold above
  rw [List.all_eq_true]
  intro e he
  have h : evs.all (fun e => match dcell e with | some k => decide (0 < lvK k) | none => true) = true := by decide
  exact List.all_eq_true.mp h e (List.mem_of_mem_drop he)

theorem loc_wait {α : Type} {Q : α → sProp 𝕄} {kk : PUnit → Prog (TpuEff nD τ sig (Elt F) Λ₀ .tc) α} (c : Dev nD) {sp sp' : Space} {s s' : Shape} {e e' : EltTy} {src : Memref sig .tc sp' s' e'} {dst : Memref sig .tc sp s e} {sem : DmaSem sig}
    {hsrc hdst} {N : ℕ} (hN : dst.view.dmaCredit = N) (hk : kindOf (.dma sem) = none) {n : ℕ} {D' : sProp 𝕄} :
    iprop(Rec m ∗ St (F := F) c n ∗ Fl c (.dma sem) N D')
      ⊢ iprop(((St c n ∗ semVal ((c : Thread nD τ), .dma sem) 0 ∗ D') -∗ WP c (kk ⟨⟩) Q) -∗ WP c (.op (.waitDma2 sem src dst hsrc hdst) kk) Q) := by
  subst hN
  unfold Fl Transfers.Flight St
  iintro ⟨#HR, ⟨⟨%W, HO⟩, Hsl⟩, ⟨%D, ⟨⟨%R, HRR, %hcap, %hpeek⟩, Hcred⟩, HDD⟩⟩ Hk
  ihave #Hlev := (rec_lev m) $$ HR
  iapply (wp_waitDma2_token 𝒱₀ (c : Thread nD τ) none Set.univ () (O := Od c n) (W := W)) $$ [Hcred HO]
  · isplitl [Hcred]; · iexact Hcred
    isplitl [HO]; · iexact HO
    iapply (mayWait c (.dma sem) 0 n (by dsimp only [lv]; rw [hk]) (above0 n)); iexact Hlev
  iapply (hcap _)
  isplitl [HRR]; · iexact HRR
  iintro ⟨Hv, HD⟩ HO
  iapply Hk
  isplitl [HO Hsl]
  · isplitl [HO]; · iexists _; iexact HO
    iexact Hsl
  isplitl [Hv]; · iexact Hv
  iapply HDD; iexact HD

/-! ## The staging buffers -/

abbrev xL (c : Dev nD) : Loc nD τ sig := (c : Thread nD τ).loc cc0_scratch2
abbrev wL (c : Dev nD) : Loc nD τ sig := (c : Thread nD τ).loc cc0_scratch3
abbrev oL (c : Dev nD) : Loc nD τ sig := (c : Thread nD τ).loc cc0_scratch4
abbrev outL (c : Dev nD) : Loc nD τ sig := (c : Thread nD τ).loc main_v1
abbrev xaL (c : Dev nD) : Loc nD τ sig := (c : Thread nD τ).loc main_arg0
abbrev waL (c : Dev nD) : Loc nD τ sig := (c : Thread nD τ).loc main_arg1

/-- The half share a slot's copies read under. -/
def hsh (b : ℕ) : PosShare TreeShare := if b = 0 then fullShare.left else fullShare.right

set_option backward.proofsInPublic true in
def lsem (k : ℕ) (b : ℕ) : SemLoc sig := .dma (⟨34 + 2 * (k % 3) + b % 2, by omega⟩ : Fin 40)
theorem lsem_kind (k b : ℕ) : kindOf (lsem k b) = none := by
  show kDma (34 + 2 * (k % 3) + b % 2) = none
  unfold kDma
  rw [dif_neg (by omega), dif_neg (by omega), dif_neg (by omega), dif_neg (by omega)]

def NX : ℕ := (((Memref.whole cc0_scratch2 : Memref sig .tc .vmem S2x1024x1024 .f32).slice (Rect.unit (s := S2x1024x1024) ![0, 0, 0] S1x1024x1024.size (by decide)) (fun _ => rfl)).squeeze S1024x1024 squeezes_S1x1024x1024_S1024x1024).view.dmaCredit
def NW : ℕ := (((Memref.whole cc0_scratch3 : Memref sig .tc .vmem S2x1024x256 .f32).slice (Rect.unit (s := S2x1024x256) ![0, 0, 0] S1x1024x256.size (by decide)) (fun _ => rfl)).squeeze S1024x256 squeezes_S1x1024x256_S1024x256).view.dmaCredit
def NO : ℕ := (((Memref.whole main_v1 : Memref sig .tc .hbm S1024x8192 .bf16).slice (Rect.unit (s := S1024x8192) ![0, 0] S1024x256.size (by decide)) (fun _ => rfl))).view.dmaCredit

/-- A slot of the left operand's staging buffer: free, holding block `j`, and block `j` on its way; the source's half share with it. -/
def XD (c : Dev nD) (b : ℕ) (j : Dev nD) : sProp 𝕄 := iprop((xL c ↦[xS b]{fullShare} (xc (xblk m c j) : Buf (Elt F) (xL c))) ∗ (xaL c ↦{hsh b} (xv m c : Buf (Elt F) (xaL c))))
def XI (c : Dev nD) (b : ℕ) : sProp 𝕄 := iprop(semVal ((c : Thread nD τ), lsem 0 b) 0 ∗ (∃ f : Buf (Elt F) (xL c), xL c ↦[xS b]{fullShare} f) ∗ (xaL c ↦{hsh b} (xv m c : Buf (Elt F) (xaL c))))
def XH (c : Dev nD) (b : ℕ) (j : Dev nD) : sProp 𝕄 := iprop(semVal ((c : Thread nD τ), lsem 0 b) 0 ∗ XD m c b j)
def XF (c : Dev nD) (b : ℕ) (j : Dev nD) : sProp 𝕄 := Fl c (lsem 0 b) NX (XD m c b j)
/-- The same for the right operand's, block `k` of columns. -/
def WD (c : Dev nD) (b : ℕ) (k : ℕ) : sProp 𝕄 := iprop((wL c ↦[wS b]{fullShare} (wc (wch m c k) : Buf (Elt F) (wL c))) ∗ (waL c ↦{hsh b} (wv m c : Buf (Elt F) (waL c))))
def WI (c : Dev nD) (b : ℕ) : sProp 𝕄 := iprop(semVal ((c : Thread nD τ), lsem 1 b) 0 ∗ (∃ f : Buf (Elt F) (wL c), wL c ↦[wS b]{fullShare} f) ∗ (waL c ↦{hsh b} (wv m c : Buf (Elt F) (waL c))))
def WH (c : Dev nD) (b : ℕ) (k : ℕ) : sProp 𝕄 := iprop(semVal ((c : Thread nD τ), lsem 1 b) 0 ∗ WD m c b k)
def WF (c : Dev nD) (b : ℕ) (k : ℕ) : sProp 𝕄 := Fl c (lsem 1 b) NW (WD m c b k)

theorem XH_idle (c : Dev nD) (b : ℕ) (j : Dev nD) : XH m c b j ⊢ XI m c b := by
  unfold XH XI XD
  iintro ⟨Hz, Hx, Ha⟩
  isplitl [Hz]; · iexact Hz
  isplitl [Hx]; · iexists _; iexact Hx
  iexact Ha
theorem WH_idle (c : Dev nD) (b : ℕ) (k : ℕ) : WH m c b k ⊢ WI m c b := by
  unfold WH WI WD
  iintro ⟨Hz, Hx, Ha⟩
  isplitl [Hz]; · iexact Hz
  isplitl [Hx]; · iexists _; iexact Hx
  iexact Ha

theorem x_start {α : Type} {Q : α → sProp 𝕄} {kk : PUnit → Prog (TpuEff nD τ sig (Elt F) Λ₀ .tc) α} (c : Dev nD) {b a : ℕ} (j : Dev nD) {sm : SemLoc sig} (hsm : lsem 0 b = sm) {off : Fin 2 → ℕ} {off' : Fin 3 → ℕ} {inb inb' hst hst' sq hsrc hdst hsem}
    (ho : off = ![a, 0]) (ha : a = 1024 * j.val) (ho' : off' = ![b, 0, 0]) :
    XI m c b ⊢ iprop((XF m c b j -∗ WP c (kk ⟨⟩) Q)
      -∗ WP c (.op (.enqueueDma ((Memref.whole main_arg0 : Memref sig .tc .hbm S4096x1024 .f32).slice (Rect.unit (s := S4096x1024) off S1024x1024.size inb) hst)
        (.here (((Memref.whole cc0_scratch2 : Memref sig .tc .vmem S2x1024x1024 .f32).slice (Rect.unit (s := S2x1024x1024) off' S1x1024x1024.size inb') hst').squeeze S1024x1024 sq)) sm hsrc hdst hsem) kk) Q) := by
  subst hsm
  unfold XI XF XD
  iintro ⟨Hz, ⟨%f, Hx⟩, Ha⟩ Hk
  have hset : (((Memref.whole cc0_scratch2 : Memref sig .tc .vmem S2x1024x1024 .f32).slice (Rect.unit (s := S2x1024x1024) off' S1x1024x1024.size inb') hst').squeeze S1024x1024 sq).view.set = xS b :=
    (View.set_reshape _ _).trans (xbuf_set ho')
  iapply (loc_start c (src := ((Memref.whole main_arg0 : Memref sig .tc .hbm S4096x1024 .f32).slice (Rect.unit (s := S4096x1024) off S1024x1024.size inb) hst))
    (dst := (((Memref.whole cc0_scratch2 : Memref sig .tc .vmem S2x1024x1024 .f32).slice (Rect.unit (s := S2x1024x1024) off' S1x1024x1024.size inb') hst').squeeze S1024x1024 sq))
    (N := NX) (by rfl) (View.dmaCredit_pos _ (by decide)) (S := Finset.univ) (T := xS b) (q := hsh b) (fs := (xv m c : Buf (Elt F) (xaL c))) (fd := f)
    (Finset.subset_univ _) (le_of_eq hset) ?hD) $$ [Hz Hx Ha] Hk
  case hD =>
    refine sep_mono_left (Entails.of_eq (pointsTo_congr fun i hi => ?_))
    exact x_write m c j ho ha ho' f i hi
  isplitl [Hz]; · iexact Hz
  isplitl [Ha]; · iexact Ha
  iexact Hx
theorem w_start {α : Type} {Q : α → sProp 𝕄} {kk : PUnit → Prog (TpuEff nD τ sig (Elt F) Λ₀ .tc) α} (c : Dev nD) {b a : ℕ} (k : ℕ) (hk : k < 32) {sm : SemLoc sig} (hsm : lsem 1 b = sm) {off : Fin 2 → ℕ} {off' : Fin 3 → ℕ} {inb inb' hst hst' sq hsrc hdst hsem}
    (ho : off = ![0, a]) (ha : a = 256 * k) (ho' : off' = ![b, 0, 0]) :
    WI m c b ⊢ iprop((WF m c b k -∗ WP c (kk ⟨⟩) Q)
      -∗ WP c (.op (.enqueueDma ((Memref.whole main_arg1 : Memref sig .tc .hbm S1024x8192 .f32).slice (Rect.unit (s := S1024x8192) off S1024x256.size inb) hst)
        (.here (((Memref.whole cc0_scratch3 : Memref sig .tc .vmem S2x1024x256 .f32).slice (Rect.unit (s := S2x1024x256) off' S1x1024x256.size inb') hst').squeeze S1024x256 sq)) sm hsrc hdst hsem) kk) Q) := by
  subst hsm
  unfold WI WF WD
  iintro ⟨Hz, ⟨%f, Hx⟩, Ha⟩ Hk
  have hset : (((Memref.whole cc0_scratch3 : Memref sig .tc .vmem S2x1024x256 .f32).slice (Rect.unit (s := S2x1024x256) off' S1x1024x256.size inb') hst').squeeze S1024x256 sq).view.set = wS b :=
    (View.set_reshape _ _).trans (wbuf_set ho')
  iapply (loc_start c (src := ((Memref.whole main_arg1 : Memref sig .tc .hbm S1024x8192 .f32).slice (Rect.unit (s := S1024x8192) off S1024x256.size inb) hst))
    (dst := (((Memref.whole cc0_scratch3 : Memref sig .tc .vmem S2x1024x256 .f32).slice (Rect.unit (s := S2x1024x256) off' S1x1024x256.size inb') hst').squeeze S1024x256 sq))
    (N := NW) (by rfl) (View.dmaCredit_pos _ (by decide)) (S := Finset.univ) (T := wS b) (q := hsh b) (fs := (wv m c : Buf (Elt F) (waL c))) (fd := f)
    (Finset.subset_univ _) (le_of_eq hset) ?hD) $$ [Hz Hx Ha] Hk
  case hD =>
    refine sep_mono_left (Entails.of_eq (pointsTo_congr fun i hi => ?_))
    exact w_write m c ho ha hk ho' f i hi
  isplitl [Hz]; · iexact Hz
  isplitl [Ha]; · iexact Ha
  iexact Hx

theorem x_wait {α : Type} {Q : α → sProp 𝕄} {kk : PUnit → Prog (TpuEff nD τ sig (Elt F) Λ₀ .tc) α} (c : Dev nD) {b : ℕ} {j : Dev nD} {sem : DmaSem sig} (hsm : lsem 0 b = .dma sem) {sp' : Space} {s' : Shape} {e' : EltTy} {src : Memref sig .tc sp' s' e'} {off' : Fin 3 → ℕ} {inb' hst' sq hsrc hdst} {n : ℕ} :
    iprop(Rec m ∗ St (F := F) c n ∗ XF m c b j) ⊢ iprop(((St c n ∗ XH m c b j) -∗ WP c (kk ⟨⟩) Q)
      -∗ WP c (.op (.waitDma2 sem src (((Memref.whole cc0_scratch2 : Memref sig .tc .vmem S2x1024x1024 .f32).slice (Rect.unit (s := S2x1024x1024) off' S1x1024x1024.size inb') hst').squeeze S1024x1024 sq) hsrc hdst) kk) Q) := by
  unfold XF XH
  have hk := lsem_kind 0 b
  rw [hsm] at hk ⊢
  exact loc_wait m c (src := src) (by rfl) hk
theorem w_wait {α : Type} {Q : α → sProp 𝕄} {kk : PUnit → Prog (TpuEff nD τ sig (Elt F) Λ₀ .tc) α} (c : Dev nD) {b k : ℕ} {sem : DmaSem sig} (hsm : lsem 1 b = .dma sem) {sp' : Space} {s' : Shape} {e' : EltTy} {src : Memref sig .tc sp' s' e'} {off' : Fin 3 → ℕ} {inb' hst' sq hsrc hdst} {n : ℕ} :
    iprop(Rec m ∗ St (F := F) c n ∗ WF m c b k) ⊢ iprop(((St c n ∗ WH m c b k) -∗ WP c (kk ⟨⟩) Q)
      -∗ WP c (.op (.waitDma2 sem src (((Memref.whole cc0_scratch3 : Memref sig .tc .vmem S2x1024x256 .f32).slice (Rect.unit (s := S2x1024x256) off' S1x1024x256.size inb') hst').squeeze S1024x256 sq) hsrc hdst) kk) Q) := by
  unfold WF WH
  have hk := lsem_kind 1 b
  rw [hsm] at hk ⊢
  exact loc_wait m c (src := src) (by rfl) hk

theorem x_load {α : Type} {Q : α → sProp 𝕄} (c : Dev nD) {b : ℕ} {j : Dev nD} {off : Fin 3 → ℕ} {inb hl} (ho : off = ![b, 0, 0]) {kk : FVec F S1x1024x1024 .f32 → Prog (TpuEff nD τ sig (Elt F) Λ₀ .tc) α} :
    XH m c b j ⊢ iprop((XH m c b j -∗ WP c (kk (xblk m c j)) Q)
      -∗ WP c (.op (.load (Memref.whole cc0_scratch2 : Memref sig .tc .vmem S2x1024x1024 .f32) (Rect.unit (s := S2x1024x1024) off S1x1024x1024.size inb).toLoadRect hl) kk) Q) := by
  unfold XH XD
  iintro ⟨Hz, Hx, Ha⟩ Hk
  iapply (wp_load 𝒱₀ (c : Thread nD τ) none Set.univ (m := (Memref.whole cc0_scratch2 : Memref sig .tc .vmem S2x1024x1024 .f32)) (r := (Rect.unit (s := S2x1024x1024) off S1x1024x1024.size inb).toLoadRect) (S := xS b) (f := (xc (xblk m c j) : Buf (Elt F) (xL c)))
    (by have := xbuf_set (inb := inb) ho; rw [View.set_slice] at this; exact le_of_eq this)) $$ Hx
  iintro Hx
  rw [xbuf_read ho]
  iapply Hk
  isplitl [Hz]; · iexact Hz
  isplitl [Hx] <;> iassumption
theorem w_load {α : Type} {Q : α → sProp 𝕄} (c : Dev nD) {b k : ℕ} {off : Fin 3 → ℕ} {inb hl} (ho : off = ![b, 0, 0]) {kk : FVec F S1x1024x256 .f32 → Prog (TpuEff nD τ sig (Elt F) Λ₀ .tc) α} :
    WH m c b k ⊢ iprop((WH m c b k -∗ WP c (kk (wch m c k)) Q)
      -∗ WP c (.op (.load (Memref.whole cc0_scratch3 : Memref sig .tc .vmem S2x1024x256 .f32) (Rect.unit (s := S2x1024x256) off S1x1024x256.size inb).toLoadRect hl) kk) Q) := by
  unfold WH WD
  iintro ⟨Hz, Hx, Ha⟩ Hk
  iapply (wp_load 𝒱₀ (c : Thread nD τ) none Set.univ (m := (Memref.whole cc0_scratch3 : Memref sig .tc .vmem S2x1024x256 .f32)) (r := (Rect.unit (s := S2x1024x256) off S1x1024x256.size inb).toLoadRect) (S := wS b) (f := (wc (wch m c k) : Buf (Elt F) (wL c)))
    (by have := wbuf_set (inb := inb) ho; rw [View.set_slice] at this; exact le_of_eq this)) $$ Hx
  iintro Hx
  rw [wbuf_read ho]
  iapply Hk
  isplitl [Hz]; · iexact Hz
  isplitl [Hx] <;> iassumption

end Cert.RingProof
-- ==== Proof.Regions.lean ====
/-
The columns of a buffer held in two pieces, and the loads and stores of one chunk of them.
-/
module

public import proofs.«01_k».proof.Proof.Loc

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## Cutting and joining -/

theorem pts_cut {ℓ : Loc nD τ sig} {S I J : Finset (Idx ℓ)} {q : PosShare TreeShare} {f : Buf (Elt F) ℓ}
    (hU : S = I ∪ J) (hD : Disjoint I J) : (ℓ ↦[S]{q} f : sProp 𝕄) ⊣⊢ iprop((ℓ ↦[I]{q} f) ∗ (ℓ ↦[J]{q} f)) := by
  subst hU; exact pointsTo_union hD
theorem any_cut {ℓ : Loc nD τ sig} {S I J : Finset (Idx ℓ)} {q : PosShare TreeShare}
    (hU : S = I ∪ J) (hD : Disjoint I J) :
    iprop(∃ f : Buf (Elt F) ℓ, (ℓ ↦[S]{q} f : sProp 𝕄)) ⊢ iprop((∃ f : Buf (Elt F) ℓ, (ℓ ↦[I]{q} f)) ∗ (∃ f : Buf (Elt F) ℓ, (ℓ ↦[J]{q} f))) := by
  iintro ⟨%f, H⟩
  ihave H2 := (pts_cut hU hD).1 $$ H
  icases H2 with ⟨H1, H2⟩
  isplitl [H1]
  · iexists f; iexact H1
  · iexists f; iexact H2
theorem any_join {ℓ : Loc nD τ sig} {S I J : Finset (Idx ℓ)} {q : PosShare TreeShare}
    (hU : S = I ∪ J) (hD : Disjoint I J) :
    iprop((∃ f : Buf (Elt F) ℓ, (ℓ ↦[I]{q} f : sProp 𝕄)) ∗ (∃ f : Buf (Elt F) ℓ, (ℓ ↦[J]{q} f))) ⊢ iprop(∃ f : Buf (Elt F) ℓ, (ℓ ↦[S]{q} f)) := by
  iintro ⟨⟨%f, H1⟩, ⟨%g, H2⟩⟩
  iexists (J.piecewise g f)
  subst hU
  iapply (pointsTo_join hD)
  isplitl [H1] <;> iassumption

theorem cS_cut {s d a e b : ℕ} (h1 : a ≤ e) (h2 : e ≤ b) : cS s d a b = cS s d a e ∪ cS s d e b := by
  ext i; rw [Finset.mem_union, mem_cS, mem_cS, mem_cS]; omega
theorem cS_dis {s d a e b : ℕ} : Disjoint (cS s d a e) (cS s d e b) := by
  rw [Finset.disjoint_left]; intro i; rw [mem_cS, mem_cS]; omega
theorem pS_cut {d a e b : ℕ} (h1 : a ≤ e) (h2 : e ≤ b) : pS d a b = pS d a e ∪ pS d e b := by
  ext i; rw [Finset.mem_union, mem_pS, mem_pS, mem_pS]; omega
theorem pS_dis {d a e b : ℕ} : Disjoint (pS d a e) (pS d e b) := by
  rw [Finset.disjoint_left]; intro i; rw [mem_pS, mem_pS]; omega
theorem oS_cut {a e b : ℕ} (h1 : a ≤ e) (h2 : e ≤ b) : oS a b = oS a e ∪ oS e b := by
  ext i; rw [Finset.mem_union, mem_oS, mem_oS, mem_oS]; omega
theorem oS_dis {a e b : ℕ} : Disjoint (oS a e) (oS e b) := by
  rw [Finset.disjoint_left]; intro i; rw [mem_oS, mem_oS]; omega

abbrev pL (c : Dev nD) : Loc nD τ sig := (c : Thread nD τ).loc cc0_scratch1
def pPts (c : Dev nD) (d a b : ℕ) (f : ℕ → ℕ → FVec F S1024x256 .bf16) : sProp 𝕄 := pL c ↦[pS d a b]{fullShare} (pv f : Buf (Elt F) (pL c))
def pAny (c : Dev nD) (d a b : ℕ) : sProp 𝕄 := iprop(∃ f : Buf (Elt F) (pL c), pL c ↦[pS d a b]{fullShare} f)
def oPts (c : Dev nD) (a b : ℕ) : sProp 𝕄 := outL c ↦[oS a b]{fullShare} (ov (outc m c) : Buf (Elt F) (outL c))
def oAny (c : Dev nD) (a b : ℕ) : sProp 𝕄 := iprop(∃ f : Buf (Elt F) (outL c), outL c ↦[oS a b]{fullShare} f)

theorem cPts_cut (c : Dev nD) {s d a b : ℕ} (e : ℕ) (f) (h1 : a ≤ e) (h2 : e ≤ b) : cPts (F := F) c s d a b f ⊣⊢ iprop(cPts c s d a e f ∗ cPts c s d e b f) := by
  unfold cPts; exact pts_cut (cS_cut h1 h2) cS_dis
theorem pPts_cut (c : Dev nD) {d a b : ℕ} (e : ℕ) (f) (h1 : a ≤ e) (h2 : e ≤ b) : pPts (F := F) c d a b f ⊣⊢ iprop(pPts c d a e f ∗ pPts c d e b f) := by
  unfold pPts; exact pts_cut (pS_cut h1 h2) pS_dis
theorem oPts_cut (c : Dev nD) {a b : ℕ} (e : ℕ) (h1 : a ≤ e) (h2 : e ≤ b) : oPts m c a b ⊣⊢ iprop(oPts m c a e ∗ oPts m c e b) := by
  unfold oPts; exact pts_cut (oS_cut h1 h2) oS_dis
theorem cAny_cut (c : Dev nD) {s d a b : ℕ} (e : ℕ) (h1 : a ≤ e) (h2 : e ≤ b) : cAny (F := F) c s d a b ⊣⊢ iprop(cAny c s d a e ∗ cAny c s d e b) := by
  unfold cAny; exact ⟨any_cut (cS_cut h1 h2) cS_dis, any_join (cS_cut h1 h2) cS_dis⟩
theorem pAny_cut (c : Dev nD) {d a b : ℕ} (e : ℕ) (h1 : a ≤ e) (h2 : e ≤ b) : pAny (F := F) c d a b ⊣⊢ iprop(pAny c d a e ∗ pAny c d e b) := by
  unfold pAny; exact ⟨any_cut (pS_cut h1 h2) pS_dis, any_join (pS_cut h1 h2) pS_dis⟩
theorem oAny_cut (c : Dev nD) {a b : ℕ} (e : ℕ) (h1 : a ≤ e) (h2 : e ≤ b) : oAny (F := F) c a b ⊣⊢ iprop(oAny c a e ∗ oAny c e b) := by
  unfold oAny; exact ⟨any_cut (oS_cut h1 h2) oS_dis, any_join (oS_cut h1 h2) oS_dis⟩
theorem cPts_any (c : Dev nD) {s d a b : ℕ} {f} : cPts (F := F) c s d a b f ⊢ cAny c s d a b := by
  unfold cPts cAny; iintro H; iexists _; iexact H
theorem pPts_any (c : Dev nD) {d a b : ℕ} {f} : pPts (F := F) c d a b f ⊢ pAny c d a b := by
  unfold pPts pAny; iintro H; iexists _; iexact H
theorem cS_nil {s d a : ℕ} : cS s d a a = ∅ := by
  ext i; rw [mem_cS]; exact ⟨fun h => by omega, fun h => absurd h (Finset.notMem_empty i)⟩
theorem pS_nil {d a : ℕ} : pS d a a = ∅ := by
  ext i; rw [mem_pS]; exact ⟨fun h => by omega, fun h => absurd h (Finset.notMem_empty i)⟩
theorem oS_nil {a : ℕ} : oS a a = ∅ := by
  ext i; rw [mem_oS]; exact ⟨fun h => by omega, fun h => absurd h (Finset.notMem_empty i)⟩
theorem cPts_nil (c : Dev nD) {s d a : ℕ} {f} : ⊢ cPts (F := F) c s d a a f := by
  unfold cPts; rw [cS_nil]; exact Entails.of_eq pointsTo_empty.symm
theorem pPts_nil (c : Dev nD) {d a : ℕ} {f} : ⊢ pPts (F := F) c d a a f := by
  unfold pPts; rw [pS_nil]; exact Entails.of_eq pointsTo_empty.symm
theorem oPts_nil (c : Dev nD) {a : ℕ} : ⊢ oPts m c a a := by
  unfold oPts; rw [oS_nil]; exact Entails.of_eq pointsTo_empty.symm

/-! ## One chunk read -/

theorem c_load {α : Type} {Q : α → sProp 𝕄} (c : Dev nD) {s d a A B : ℕ} (k : ℕ) {f} {off : Fin 4 → ℕ} {inb hl} (ho : off = ![s, d, 0, a]) (ha : a = 256 * k) (hA : A ≤ a) (hB : a + 256 ≤ B)
    {kk : FVec F S1x1x1024x256 .bf16 → Prog (TpuEff nD τ sig (Elt F) Λ₀ .tc) α} :
    cPts c s d A B f ⊢ iprop((cPts c s d A B f -∗ WP c (kk (u4 (f d k))) Q)
      -∗ WP c (.op (.load (Memref.whole cc0_scratch0 : Memref sig .tc .vmem S2x2x1024x4096 .bf16) (Rect.unit (s := S2x2x1024x4096) off S1x1x1024x256.size inb).toLoadRect hl) kk) Q) := by
  have hS : cS s d a (a + 256) ⊆ cS s d A B := fun i hi => by rw [mem_cS] at hi ⊢; omega
  unfold cPts
  iintro Hx Hk
  iapply (wp_load 𝒱₀ (c : Thread nD τ) none Set.univ (m := (Memref.whole cc0_scratch0 : Memref sig .tc .vmem S2x2x1024x4096 .bf16)) (r := (Rect.unit (s := S2x2x1024x4096) off S1x1x1024x256.size inb).toLoadRect) (S := cS s d A B) (f := (cv f : Buf (Elt F) (ringL c)))
    (by have := ring_set (inb := inb) ho rfl; rw [View.set_slice] at this; exact (le_of_eq this).trans hS)) $$ Hx
  iintro Hx
  rw [ring_read ho ha]
  iapply Hk
  iexact Hx
theorem c_dead {α : Type} {Q : α → sProp 𝕄} (c : Dev nD) {s d a A B : ℕ} {off : Fin 4 → ℕ} {inb hl} (ho : off = ![s, d, 0, a]) (hA : A ≤ a) (hB : a + 256 ≤ B)
    {kk : FVec F S1x1x1024x256 .bf16 → Prog (TpuEff nD τ sig (Elt F) Λ₀ .tc) α} :
    cAny (F := F) c s d A B ⊢ iprop((∀ v, cAny c s d A B -∗ WP c (kk v) Q)
      -∗ WP c (.op (.load (Memref.whole cc0_scratch0 : Memref sig .tc .vmem S2x2x1024x4096 .bf16) (Rect.unit (s := S2x2x1024x4096) off S1x1x1024x256.size inb).toLoadRect hl) kk) Q) := by
  have hS : cS s d a (a + 256) ⊆ cS s d A B := fun i hi => by rw [mem_cS] at hi ⊢; omega
  unfold cAny
  iintro ⟨%f, Hx⟩ Hk
  iapply (wp_load 𝒱₀ (c : Thread nD τ) none Set.univ (m := (Memref.whole cc0_scratch0 : Memref sig .tc .vmem S2x2x1024x4096 .bf16)) (r := (Rect.unit (s := S2x2x1024x4096) off S1x1x1024x256.size inb).toLoadRect) (S := cS s d A B) (f := f)
    (by have := ring_set (inb := inb) ho rfl; rw [View.set_slice] at this; exact (le_of_eq this).trans hS)) $$ Hx
  iintro Hx
  iapply Hk
  iexists _; iexact Hx
/-- The same load, through a window onto slot 0. -/
theorem c_dead' {α : Type} {Q : α → sProp 𝕄} (c : Dev nD) {d a A B : ℕ} {off : Fin 3 → ℕ} {h0 hst sq inb hl} (ho : off = ![d, 0, a]) (hA : A ≤ a) (hB : a + 256 ≤ B)
    {kk : FVec F S1x1024x256 .bf16 → Prog (TpuEff nD τ sig (Elt F) Λ₀ .tc) α} :
    cAny (F := F) c 0 d A B ⊢ iprop((∀ v, cAny c 0 d A B -∗ WP c (kk v) Q)
      -∗ WP c (.op (.load (((Memref.whole cc0_scratch0 : Memref sig .tc .vmem S2x2x1024x4096 .bf16).slice (Rect.unit (s := S2x2x1024x4096) ![0, 0, 0, 0] S1x2x1024x4096.size h0) hst).squeeze S2x1024x4096 sq) (Rect.unit (s := S2x1024x4096) off S1x1024x256.size inb).toLoadRect hl) kk) Q) := by
  have hS : cS 0 d a (a + 256) ⊆ cS 0 d A B := fun i hi => by rw [mem_cS] at hi ⊢; omega
  unfold cAny
  iintro ⟨%f, Hx⟩ Hk
  iapply (wp_load 𝒱₀ (c : Thread nD τ) none Set.univ (m := (((Memref.whole cc0_scratch0 : Memref sig .tc .vmem S2x2x1024x4096 .bf16).slice (Rect.unit (s := S2x2x1024x4096) ![0, 0, 0, 0] S1x2x1024x4096.size h0) hst).squeeze S2x1024x4096 sq)) (r := (Rect.unit (s := S2x1024x4096) off S1x1024x256.size inb).toLoadRect) (S := cS 0 d A B) (f := f)
    (by have := ring_squeezed_set (h0 := h0) (hn := sq.numel_eq) (inb := inb) ho; rw [View.set_slice] at this; exact this.trans hS)) $$ Hx
  iintro Hx
  iapply Hk
  iexists _; iexact Hx
theorem p_load {α : Type} {Q : α → sProp 𝕄} (c : Dev nD) {d a A B : ℕ} (k : ℕ) {f} {off : Fin 3 → ℕ} {inb hl} (ho : off = ![d, 0, a]) (ha : a = 256 * k) (hA : A ≤ a) (hB : a + 256 ≤ B)
    {kk : FVec F S1x1024x256 .bf16 → Prog (TpuEff nD τ sig (Elt F) Λ₀ .tc) α} :
    pPts c d A B f ⊢ iprop((pPts c d A B f -∗ WP c (kk (u3 (f d k))) Q)
      -∗ WP c (.op (.load (Memref.whole cc0_scratch1 : Memref sig .tc .vmem S2x1024x4096 .bf16) (Rect.unit (s := S2x1024x4096) off S1x1024x256.size inb).toLoadRect hl) kk) Q) := by
  have hS : pS d a (a + 256) ⊆ pS d A B := fun i hi => by rw [mem_pS] at hi ⊢; omega
  unfold pPts
  iintro Hx Hk
  iapply (wp_load 𝒱₀ (c : Thread nD τ) none Set.univ (m := (Memref.whole cc0_scratch1 : Memref sig .tc .vmem S2x1024x4096 .bf16)) (r := (Rect.unit (s := S2x1024x4096) off S1x1024x256.size inb).toLoadRect) (S := pS d A B) (f := (pv f : Buf (Elt F) (pL c)))
    (by have := pacc_set (inb := inb) ho rfl; rw [View.set_slice] at this; exact (le_of_eq this).trans hS)) $$ Hx
  iintro Hx
  rw [pacc_read ho ha]
  iapply Hk
  iexact Hx
theorem p_dead {α : Type} {Q : α → sProp 𝕄} (c : Dev nD) {d a A B : ℕ} {off : Fin 3 → ℕ} {inb hl} (ho : off = ![d, 0, a]) (hA : A ≤ a) (hB : a + 256 ≤ B)
    {kk : FVec F S1x1024x256 .bf16 → Prog (TpuEff nD τ sig (Elt F) Λ₀ .tc) α} :
    pAny (F := F) c d A B ⊢ iprop((∀ v, pAny c d A B -∗ WP c (kk v) Q)
      -∗ WP c (.op (.load (Memref.whole cc0_scratch1 : Memref sig .tc .vmem S2x1024x4096 .bf16) (Rect.unit (s := S2x1024x4096) off S1x1024x256.size inb).toLoadRect hl) kk) Q) := by
  have hS : pS d a (a + 256) ⊆ pS d A B := fun i hi => by rw [mem_pS] at hi ⊢; omega
  unfold pAny
  iintro ⟨%f, Hx⟩ Hk
  iapply (wp_load 𝒱₀ (c : Thread nD τ) none Set.univ (m := (Memref.whole cc0_scratch1 : Memref sig .tc .vmem S2x1024x4096 .bf16)) (r := (Rect.unit (s := S2x1024x4096) off S1x1024x256.size inb).toLoadRect) (S := pS d A B) (f := f)
    (by have := pacc_set (inb := inb) ho rfl; rw [View.set_slice] at this; exact (le_of_eq this).trans hS)) $$ Hx
  iintro Hx
  iapply Hk
  iexists _; iexact Hx

/-! ## One chunk stored at the border of what is done -/

theorem c_store {α : Type} {Q : α → sProp 𝕄} {kk : PUnit → Prog (TpuEff nD τ sig (Elt F) Λ₀ .tc) α} (c : Dev nD) {s d a A B : ℕ} (k : ℕ) {f} {v : FVec F S1x1x1024x256 .bf16} {off : Fin 4 → ℕ} {inb hx hm} (hv : v = u4 (f d k)) (ho : off = ![s, d, 0, a]) (ha : a = 256 * k) (hA : A ≤ a) (hB : a + 256 ≤ B) :
    iprop(cPts c s d A a f ∗ cAny c s d a B) ⊢ iprop(((cPts c s d A (a + 256) f ∗ cAny c s d (a + 256) B) -∗ WP c (kk ⟨⟩) Q)
      -∗ WP c (.op (.store (Memref.whole cc0_scratch0 : Memref sig .tc .vmem S2x2x1024x4096 .bf16) (Rect.unit (s := S2x2x1024x4096) off S1x1x1024x256.size inb) v Finset.univ hx hm) kk) Q) := by
  refine BIBase.Entails.trans ?_ (wand_mono_left (wand_mono_left (sep_mono_left (cPts_cut c a f hA (Nat.le_add_right _ _)).2)))
  refine (sep_mono_right (cAny_cut c (a + 256) (Nat.le_add_right _ _) hB).1).trans ?_
  unfold cAny cPts
  iintro ⟨Hd, ⟨%g, Hx⟩, Hr⟩ Hk
  iapply (wp_store 𝒱₀ (c : Thread nD τ) none Set.univ (m := (Memref.whole cc0_scratch0 : Memref sig .tc .vmem S2x2x1024x4096 .bf16)) (r := Rect.unit (s := S2x2x1024x4096) off S1x1x1024x256.size inb) (S := cS s d a (a + 256)) (f := g)
    (le_of_eq (ring_set (inb := inb) ho rfl))) $$ Hx
  iintro Hx
  iapply Hk
  isplitl [Hd Hx]
  · isplitl [Hd]; · iexact Hd
    rw [hv]
    iapply (Entails.of_eq (pointsTo_congr fun i hi => ring_write ho ha f g i hi)) $$ Hx
  iexact Hr
theorem p_store {α : Type} {Q : α → sProp 𝕄} {kk : PUnit → Prog (TpuEff nD τ sig (Elt F) Λ₀ .tc) α} (c : Dev nD) {d a A B : ℕ} (k : ℕ) {f} {v : FVec F S1x1024x256 .bf16} {off : Fin 3 → ℕ} {inb hx hm} (hv : v = u3 (f d k)) (ho : off = ![d, 0, a]) (ha : a = 256 * k) (hA : A ≤ a) (hB : a + 256 ≤ B) :
    iprop(pPts c d A a f ∗ pAny c d a B) ⊢ iprop(((pPts c d A (a + 256) f ∗ pAny c d (a + 256) B) -∗ WP c (kk ⟨⟩) Q)
      -∗ WP c (.op (.store (Memref.whole cc0_scratch1 : Memref sig .tc .vmem S2x1024x4096 .bf16) (Rect.unit (s := S2x1024x4096) off S1x1024x256.size inb) v Finset.univ hx hm) kk) Q) := by
  refine BIBase.Entails.trans ?_ (wand_mono_left (wand_mono_left (sep_mono_left (pPts_cut c a f hA (Nat.le_add_right _ _)).2)))
  refine (sep_mono_right (pAny_cut c (a + 256) (Nat.le_add_right _ _) hB).1).trans ?_
  unfold pAny pPts
  iintro ⟨Hd, ⟨%g, Hx⟩, Hr⟩ Hk
  iapply (wp_store 𝒱₀ (c : Thread nD τ) none Set.univ (m := (Memref.whole cc0_scratch1 : Memref sig .tc .vmem S2x1024x4096 .bf16)) (r := Rect.unit (s := S2x1024x4096) off S1x1024x256.size inb) (S := pS d a (a + 256)) (f := g)
    (le_of_eq (pacc_set (inb := inb) ho rfl))) $$ Hx
  iintro Hx
  iapply Hk
  isplitl [Hd Hx]
  · isplitl [Hd]; · iexact Hd
    rw [hv]
    iapply (Entails.of_eq (pointsTo_congr fun i hi => pacc_write ho ha f g i hi)) $$ Hx
  iexact Hr

/-! ## The staging buffer of the result -/

/-- A slot of the staging buffer of the result, free, and with chunk `k` on its way out of it. -/
def OI (c : Dev nD) (b : ℕ) : sProp 𝕄 := iprop(semVal ((c : Thread nD τ), lsem 2 b) 0 ∗ (∃ f : Buf (Elt F) (oL c), oL c ↦[wS b]{fullShare} f))
def OD (c : Dev nD) (b k : ℕ) : sProp 𝕄 := iprop(oPts m c (256 * k) (256 * k + 256) ∗ (∃ f : Buf (Elt F) (oL c), oL c ↦[wS b]{fullShare} f))
def OF (c : Dev nD) (b k : ℕ) : sProp 𝕄 := Fl c (lsem 2 b) NO (OD m c b k)
def OH (c : Dev nD) (b : ℕ) (k : ℕ) : sProp 𝕄 := iprop(semVal ((c : Thread nD τ), lsem 2 b) 0 ∗ (oL c ↦[wS b]{fullShare} (wc (u3 (outc m c k)) : Buf (Elt F) (oL c))))

theorem o_dead {α : Type} {Q : α → sProp 𝕄} (c : Dev nD) {b : ℕ} {off : Fin 3 → ℕ} {inb hl} (ho : off = ![b, 0, 0])
    {kk : FVec F S1x1024x256 .bf16 → Prog (TpuEff nD τ sig (Elt F) Λ₀ .tc) α} :
    OI (F := F) c b ⊢ iprop((∀ v, OI c b -∗ WP c (kk v) Q)
      -∗ WP c (.op (.load (Memref.whole cc0_scratch4 : Memref sig .tc .vmem S2x1024x256 .bf16) (Rect.unit (s := S2x1024x256) off S1x1024x256.size inb).toLoadRect hl) kk) Q) := by
  unfold OI
  iintro ⟨Hz, ⟨%f, Hx⟩⟩ Hk
  iapply (wp_load 𝒱₀ (c : Thread nD τ) none Set.univ (m := (Memref.whole cc0_scratch4 : Memref sig .tc .vmem S2x1024x256 .bf16)) (r := (Rect.unit (s := S2x1024x256) off S1x1024x256.size inb).toLoadRect) (S := wS b) (f := f)
    (by have := obuf_set (inb := inb) ho; rw [View.set_slice] at this; exact le_of_eq this)) $$ Hx
  iintro Hx
  iapply Hk
  isplitl [Hz]; · iexact Hz
  iexists _; iexact Hx
theorem o_store {α : Type} {Q : α → sProp 𝕄} {kk : PUnit → Prog (TpuEff nD τ sig (Elt F) Λ₀ .tc) α} (c : Dev nD) {b : ℕ} (k : ℕ) {v : FVec F S1x1024x256 .bf16} {off : Fin 3 → ℕ} {inb hx hm} (hv : v = u3 (outc m c k)) (ho : off = ![b, 0, 0]) :
    OI (F := F) c b ⊢ iprop((OH m c b k -∗ WP c (kk ⟨⟩) Q)
      -∗ WP c (.op (.store (Memref.whole cc0_scratch4 : Memref sig .tc .vmem S2x1024x256 .bf16) (Rect.unit (s := S2x1024x256) off S1x1024x256.size inb) v Finset.univ hx hm) kk) Q) := by
  unfold OI OH
  iintro ⟨Hz, ⟨%g, Hx⟩⟩ Hk
  iapply (wp_store 𝒱₀ (c : Thread nD τ) none Set.univ (m := (Memref.whole cc0_scratch4 : Memref sig .tc .vmem S2x1024x256 .bf16)) (r := Rect.unit (s := S2x1024x256) off S1x1024x256.size inb) (S := wS b) (f := g)
    (le_of_eq (obuf_set (inb := inb) ho))) $$ Hx
  iintro Hx
  iapply Hk
  isplitl [Hz]; · iexact Hz
  rw [hv]
  iapply (Entails.of_eq (pointsTo_congr fun i hi => obuf_write ho (u3 (outc m c k)) g i hi)) $$ Hx
theorem o_start {α : Type} {Q : α → sProp 𝕄} {kk : PUnit → Prog (TpuEff nD τ sig (Elt F) Λ₀ .tc) α} (c : Dev nD) {b a : ℕ} (k : ℕ) {sm : SemLoc sig} (hsm : lsem 2 b = sm) {off : Fin 2 → ℕ} {off' : Fin 3 → ℕ} {inb inb' hst hst' sq hsrc hdst hsem}
    (ho : off = ![0, a]) (ha : a = 256 * k) (ho' : off' = ![b, 0, 0]) :
    iprop(OH m c b k ∗ oAny c a (a + 256)) ⊢ iprop((OF m c b k -∗ WP c (kk ⟨⟩) Q)
      -∗ WP c (.op (.enqueueDma (((Memref.whole cc0_scratch4 : Memref sig .tc .vmem S2x1024x256 .bf16).slice (Rect.unit (s := S2x1024x256) off' S1x1024x256.size inb') hst').squeeze S1024x256 sq)
        (.here ((Memref.whole main_v1 : Memref sig .tc .hbm S1024x8192 .bf16).slice (Rect.unit (s := S1024x8192) off S1024x256.size inb) hst)) sm hsrc hdst hsem) kk) Q) := by
  subst hsm
  unfold OH OF OD oAny oPts
  iintro ⟨⟨Hz, Hx⟩, ⟨%f, Ha⟩⟩ Hk
  have hset : (((Memref.whole cc0_scratch4 : Memref sig .tc .vmem S2x1024x256 .bf16).slice (Rect.unit (s := S2x1024x256) off' S1x1024x256.size inb') hst').squeeze S1024x256 sq).view.set = wS b :=
    (View.set_reshape _ _).trans (obuf_set ho')
  iapply (loc_start c (src := (((Memref.whole cc0_scratch4 : Memref sig .tc .vmem S2x1024x256 .bf16).slice (Rect.unit (s := S2x1024x256) off' S1x1024x256.size inb') hst').squeeze S1024x256 sq))
    (dst := ((Memref.whole main_v1 : Memref sig .tc .hbm S1024x8192 .bf16).slice (Rect.unit (s := S1024x8192) off S1024x256.size inb) hst))
    (N := NO) (by rfl) (View.dmaCredit_pos _ (by decide)) (S := wS b) (T := oS a (a + 256)) (q := fullShare) (fs := (wc (u3 (outc m c k)) : Buf (Elt F) (oL c))) (fd := f)
    (le_of_eq hset) (le_of_eq (out_set ho)) ?hD) $$ [Hz Hx Ha] Hk
  case hD =>
    subst ha
    refine BIClass.sep_mono (Entails.of_eq (pointsTo_congr fun i hi => ?_)) ?_
    · exact o_write ho rfl ho' (outc m c) f i hi
    · iintro H; iexists _; iexact H
  isplitl [Hz]; · iexact Hz
  isplitl [Hx]; · iexact Hx
  iexact Ha
theorem o_wait {α : Type} {Q : α → sProp 𝕄} {kk : PUnit → Prog (TpuEff nD τ sig (Elt F) Λ₀ .tc) α} (c : Dev nD) {b k : ℕ} {sem : DmaSem sig} (hsm : lsem 2 b = .dma sem) {sp' : Space} {s' : Shape} {e' : EltTy} {src : Memref sig .tc sp' s' e'} {off : Fin 2 → ℕ} {inb hst hsrc hdst} {n : ℕ} :
    iprop(Rec m ∗ St (F := F) c n ∗ OF m c b k) ⊢ iprop(((St c n ∗ OI c b ∗ oPts m c (256 * k) (256 * k + 256)) -∗ WP c (kk ⟨⟩) Q)
      -∗ WP c (.op (.waitDma2 sem src ((Memref.whole main_v1 : Memref sig .tc .hbm S1024x8192 .bf16).slice (Rect.unit (s := S1024x8192) off S1024x256.size inb) hst) hsrc hdst) kk) Q) := by
  refine BIBase.Entails.trans ?_ (wand_mono_left (wand_mono_left (?_ : iprop(St c n ∗ semVal ((c : Thread nD τ), .dma sem) 0 ∗ OD m c b k) ⊢ _)))
  · unfold OF
    have hk := lsem_kind 2 b
    rw [hsm] at hk ⊢
    exact loc_wait m c (src := src) (by rfl) hk
  · rw [← hsm]
    unfold OD OI
    iintro ⟨Hs, Hz, Ho, Hx⟩
    isplitl [Hs]; · iexact Hs
    isplitl [Hz Hx]
    · isplitl [Hz] <;> iassumption
    iexact Ho

end Cert.RingProof
-- ==== Proof.Trip.lean ====
/-
One trip of each kind of counted loop.
-/
module

public import proofs.«01_k».proof.Proof.Regions
public import proofs.«01_k».proof.Proof.Gen.KernelIdeal.Skeleton

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-- A function of the kernel's buffers and semaphores, at this launch's. -/
abbrev ap {β : Sort _} (f : ∀ (arg0 : Memref sig .tc .hbm S4096x1024 .f32) (harg0 : arg0.IsWhole) (arg1 : Memref sig .tc .hbm S1024x8192 .f32) (harg1 : arg1.IsWhole) (arg2 : Memref sig .tc .hbm S1024x8192 .bf16) (harg2 : arg2.IsWhole) (arg3 : Memref sig .tc .vmem S2x2x1024x4096 .bf16) (harg3 : arg3.IsWhole) (arg4 : Memref sig .tc .vmem S2x1024x4096 .bf16) (harg4 : arg4.IsWhole) (arg5 : Memref sig .tc .vmem S2x1024x1024 .f32) (harg5 : arg5.IsWhole) (arg6 : Memref sig .tc .vmem S2x1024x256 .f32) (harg6 : arg6.IsWhole) (arg7 : Memref sig .tc .vmem S2x1024x256 .bf16) (harg7 : arg7.IsWhole) (arg8 : Memref sig .tc .vmem S4x128 .f32) (harg8 : arg8.IsWhole) (arg9 : DmaSems sig S14) (arg10 : DmaSems sig S14) (arg11 : DmaSems sig S3) (arg12 : DmaSems sig S3) (arg13 : DmaSems sig S2) (arg14 : DmaSems sig S2) (arg15 : DmaSems sig S2) (arg16 : Sems sig S8), β) : β :=
  f (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13

theorem inb_S2 (b : Fin 2) : ∀ a : Fin S2.rank, (![b.val] : Fin 1 → ℕ) a + S1.size a ≤ S2.size a := by revert b; decide
theorem inb_S3 (b : Fin 3) : ∀ a : Fin S3.rank, (![b.val] : Fin 1 → ℕ) a + S1.size a ≤ S3.size a := by revert b; decide
theorem inb_S8 (b : Fin 8) : ∀ a : Fin S8.rank, (![b.val] : Fin 1 → ℕ) a + S1.size a ≤ S8.size a := by revert b; decide
theorem inb_S14 (b : Fin 14) : ∀ a : Fin S14.rank, (![b.val] : Fin 1 → ℕ) a + S1.size a ≤ S14.size a := by revert b; decide
theorem xsem_at : ∀ b : Fin 2, lsem 0 b.val = .dma ((cc0_scratch10.slice (Rect.unit (s := S2) ![b.val] S1.size (inb_S2 b))).squeeze S_ squeezes_S1_S_).sem := by decide +kernel
theorem xsem_eq {b : ℕ} (hb : b < 2) {off : Fin 1 → ℕ} {inb sq} (ho : off = ![b]) :
    lsem 0 b = .dma ((cc0_scratch10.slice (Rect.unit (s := S2) off S1.size inb)).squeeze S_ sq).sem := by
  subst ho; exact xsem_at ⟨b, hb⟩
theorem wsem_at : ∀ b : Fin 2, lsem 1 b.val = .dma ((cc0_scratch11.slice (Rect.unit (s := S2) ![b.val] S1.size (inb_S2 b))).squeeze S_ squeezes_S1_S_).sem := by decide +kernel
theorem wsem_eq {b : ℕ} (hb : b < 2) {off : Fin 1 → ℕ} {inb sq} (ho : off = ![b]) :
    lsem 1 b = .dma ((cc0_scratch11.slice (Rect.unit (s := S2) off S1.size inb)).squeeze S_ sq).sem := by
  subst ho; exact wsem_at ⟨b, hb⟩
theorem osem_at : ∀ b : Fin 2, lsem 2 b.val = .dma ((cc0_scratch12.slice (Rect.unit (s := S2) ![b.val] S1.size (inb_S2 b))).squeeze S_ squeezes_S1_S_).sem := by decide +kernel
theorem osem_eq {b : ℕ} (hb : b < 2) {off : Fin 1 → ℕ} {inb sq} (ho : off = ![b]) :
    lsem 2 b = .dma ((cc0_scratch12.slice (Rect.unit (s := S2) off S1.size inb)).squeeze S_ sq).sem := by
  subst ho; exact osem_at ⟨b, hb⟩
theorem send_at : ∀ b : Fin 14, csem (.send b) = .dma ((cc0_scratch6.slice (Rect.unit (s := S14) ![b.val] S1.size (inb_S14 b))).squeeze S_ squeezes_S1_S_).sem := by decide +kernel
theorem send_eq (b : Fin 14) {off : Fin 1 → ℕ} {inb sq} (ho : off = ![b.val]) :
    csem (.send b) = .dma ((cc0_scratch6.slice (Rect.unit (s := S14) off S1.size inb)).squeeze S_ sq).sem := by
  subst ho; exact send_at b
theorem recv_at : ∀ b : Fin 14, csem (.recv b) = .dma ((cc0_scratch7.slice (Rect.unit (s := S14) ![b.val] S1.size (inb_S14 b))).squeeze S_ squeezes_S1_S_).sem := by decide +kernel
theorem recv_eq (b : Fin 14) {off : Fin 1 → ℕ} {inb sq} (ho : off = ![b.val]) :
    csem (.recv b) = .dma ((cc0_scratch7.slice (Rect.unit (s := S14) off S1.size inb)).squeeze S_ sq).sem := by
  subst ho; exact recv_at b
theorem asend_at : ∀ b : Fin 3, csem (.asend b) = .dma ((cc0_scratch8.slice (Rect.unit (s := S3) ![b.val] S1.size (inb_S3 b))).squeeze S_ squeezes_S1_S_).sem := by decide +kernel
theorem asend_eq (b : Fin 3) {off : Fin 1 → ℕ} {inb sq} (ho : off = ![b.val]) :
    csem (.asend b) = .dma ((cc0_scratch8.slice (Rect.unit (s := S3) off S1.size inb)).squeeze S_ sq).sem := by
  subst ho; exact asend_at b
theorem arecv_at : ∀ b : Fin 3, csem (.arecv b) = .dma ((cc0_scratch9.slice (Rect.unit (s := S3) ![b.val] S1.size (inb_S3 b))).squeeze S_ squeezes_S1_S_).sem := by decide +kernel
theorem arecv_eq (b : Fin 3) {off : Fin 1 → ℕ} {inb sq} (ho : off = ![b.val]) :
    csem (.arecv b) = .dma ((cc0_scratch9.slice (Rect.unit (s := S3) off S1.size inb)).squeeze S_ sq).sem := by
  subst ho; exact arecv_at b
theorem cred_at : ∀ b : Fin 8, csem (.cred b) = .reg ((cc0_scratch13.slice (Rect.unit (s := S8) ![b.val] S1.size (inb_S8 b))).squeeze S_ squeezes_S1_S_).sem := by decide +kernel
theorem cred_eq (b : Fin 8) {off : Fin 1 → ℕ} {inb sq} (ho : off = ![b.val]) :
    csem (.cred b) = .reg ((cc0_scratch13.slice (Rect.unit (s := S8) off S1.size inb)).squeeze S_ sq).sem := by
  subst ho; exact cred_at b
theorem vec1 {a b : ℕ} {off : Fin 1 → ℕ} (h : off = ![a]) (e : a = b) : off = ![b] := by rw [h, e]
theorem vec3 {a b : ℕ} {off : Fin 3 → ℕ} (h : off = ![a, 0, 0]) (e : a = b) : off = ![b, 0, 0] := by rw [h, e]

/-- The right operand's two slots before trip `t` of `T`: chunk `K + t` on its way to its slot. -/
def WS (c : Dev nD) (K T t : ℕ) : sProp 𝕄 := if t < T then iprop(WF m c (t % 2) (K + t) ∗ WI m c ((t + 1) % 2)) else iprop(WI m c 0 ∗ WI m c 1)

theorem toI1 : (1#32 : BitVec 32).toInt = ((1 : ℕ) : ℤ) := rfl
theorem toI2 : (2#32 : BitVec 32).toInt = ((2 : ℕ) : ℤ) := rfl
theorem loop_assoc {γ α : Type} (y : Prog (TpuEff nD τ sig (Elt F) Λ₀ .tc) γ) (r : γ → Prog (TpuEff nD τ sig (Elt F) Λ₀ .tc) α) {β : Type} (k : α → Prog (TpuEff nD τ sig (Elt F) Λ₀ .tc) β) :
    ((y >>= r) >>= k) = (y >>= fun x => r x >>= k) := Prog.bind_assoc y r k

theorem WS_start (c : Dev nD) {K T : ℕ} (hT : 0 < T) : iprop(WF m c 0 K ∗ WI m c 1) ⊢ WS m c K T 0 := by
  unfold WS; rw [if_pos hT]; exact BIBase.Entails.rfl
theorem WS_end (c : Dev nD) {K T : ℕ} : WS m c K T T ⊢ iprop(WI m c 0 ∗ WI m c 1) := by
  unfold WS; rw [if_neg (Nat.lt_irrefl T)]

/-- The slot after the current one, once its copy may have been started. -/
def WN (c : Dev nD) (K T t : ℕ) : sProp 𝕄 := if t + 1 < T then WF m c ((t + 1) % 2) (K + t + 1) else WI m c ((t + 1) % 2)

/-- The next chunk's copy started, when there is one. -/
theorem w_if {α : Type} {Q : α → sProp 𝕄} (c : Dev nD) {K T t : ℕ} (ht : t < T) {C : Prop} [Decidable C] (hC : C ↔ t + 1 < T)
    {P : C → Prog (TpuEff nD τ sig (Elt F) Λ₀ .tc) α} {R : Prog (TpuEff nD τ sig (Elt F) Λ₀ .tc) α}
    (hf : ∀ h : C, WI m c ((t + 1) % 2) ⊢ iprop((WF m c ((t + 1) % 2) (K + t + 1) -∗ WP c R Q) -∗ WP c (P h) Q)) :
    WS m c K T t ⊢ iprop(((WF m c (t % 2) (K + t) ∗ WN m c K T t) -∗ WP c R Q) -∗ WP c (if h : C then P h else R) Q) := by
  have hW : WS m c K T t = iprop(WF m c (t % 2) (K + t) ∗ WI m c ((t + 1) % 2)) := by unfold WS; rw [if_pos ht]
  rw [hW]
  unfold WN
  by_cases h : t + 1 < T
  · rw [dif_pos (hC.mpr h), if_pos h]
    iintro ⟨HW, HI⟩ Hk
    iapply (hf (hC.mpr h)) $$ HI
    iintro HI
    iapply Hk
    isplitl [HW] <;> iassumption
  · rw [dif_neg (fun hc => h (hC.mp hc)), if_neg h]
    iintro H Hk
    iapply Hk
    iexact H

theorem WS_next (c : Dev nD) {K T t : ℕ} : iprop(WH m c (t % 2) (K + t) ∗ WN m c K T t) ⊢ WS m c K T (t + 1) := by
  unfold WN WS
  by_cases h : t + 1 < T
  · rw [if_pos h, if_pos h]
    iintro ⟨HW, HI⟩
    isplitl [HI]; · iexact HI
    rw [show (t + 1 + 1) % 2 = t % 2 by omega]
    iapply (WH_idle m c _ _) $$ HW
  · rw [if_neg h, if_neg h]
    iintro ⟨HW, HI⟩
    ihave HW := (WH_idle m c _ _) $$ HW
    rcases Nat.mod_two_eq_zero_or_one t with e | e
    · rw [e, show (t + 1) % 2 = 1 by omega]
      isplitl [HW] <;> iassumption
    · rw [e, show (t + 1) % 2 = 0 by omega]
      isplitl [HI] <;> iassumption

/-! ## A partial product into the ring's slot 0 -/

def SInv (c : Dev nD) (n K T d A B : ℕ) (f : ℕ → ℕ → FVec F S1024x256 .bf16) (t : ℕ) : sProp 𝕄 :=
  iprop(Rec m ∗ St c n ∗ WS m c K T t ∗ cPts c 0 d A (A + 256 * t) f ∗ cAny c 0 d (A + 256 * t) B)

theorem seed_trip (c : Dev nD) {n K T d A B : ℕ} {f} (t k : ℕ) (ht : t < T) (hB : A + 256 * T = B) (hA : A + 256 * t = 256 * k) {C : Prop} [Decidable C] (hC : C ↔ t + 1 < T)
    {o6 : Fin 1 → ℕ} {o7 o9 : Fin 3 → ℕ} {o8 : Fin 2 → ℕ} {o10 : Fin 3 → ℕ} {o11 : Fin 4 → ℕ} {a10 a11 : ℕ}
    (h6 : o6 = ![t % 2]) (h9 : o9 = ![t % 2, 0, 0]) (h10 : o10 = ![d, 0, a10]) (ha10 : a10 = 256 * k) (h11 : o11 = ![0, d, 0, a11]) (ha11 : a11 = 256 * k)
    {i6 q6 i7 j7 q7 i8 j8 x1 x2 i9 l9 h0 hst sq i10 l10 i11 x11 m11} {pay : FVec F S1x1024x256 .f32 → FVec F S1x1x1024x256 .bf16} (hp : pay (wch m c (K + t)) = u4 (f d k))
    {R : Prog (TpuEff nD τ sig (Elt F) Λ₀ .tc) Unit} {P : C → Prog (TpuEff nD τ sig (Elt F) Λ₀ .tc) Unit}
    (hR : R = (.op (.waitDma2 ((cc0_scratch11.slice (Rect.unit (s := S2) o6 S1.size i6)).squeeze S_ q6).sem ((Memref.whole main_arg1 : Memref sig .tc .hbm S1024x8192 .f32).slice (Rect.unit (s := S1024x8192) o8 S1024x256.size i8) j8) (((Memref.whole cc0_scratch3 : Memref sig .tc .vmem S2x1024x256 .f32).slice (Rect.unit (s := S2x1024x256) o7 S1x1024x256.size i7) j7).squeeze S1024x256 q7) x1 x2)
          (fun _ => .op (.load (Memref.whole cc0_scratch3 : Memref sig .tc .vmem S2x1024x256 .f32) (Rect.unit (s := S2x1024x256) o9 S1x1024x256.size i9).toLoadRect l9) (fun (v : FVec F S1x1024x256 .f32) => .op (.load (((Memref.whole cc0_scratch0 : Memref sig .tc .vmem S2x2x1024x4096 .bf16).slice (Rect.unit (s := S2x2x1024x4096) ![0, 0, 0, 0] S1x2x1024x4096.size h0) hst).squeeze S2x1024x4096 sq) (Rect.unit (s := S2x1024x4096) o10 S1x1024x256.size i10).toLoadRect l10) (fun _ => .op (.store (Memref.whole cc0_scratch0 : Memref sig .tc .vmem S2x2x1024x4096 .bf16) (Rect.unit (s := S2x2x1024x4096) o11 S1x1x1024x256.size i11) (pay v) Finset.univ x11 m11) (fun _ => .ret ()))))))
    (hf : ∀ (h : C) (Q : Unit → sProp 𝕄), WI m c ((t + 1) % 2) ⊢ iprop((WF m c ((t + 1) % 2) (K + t + 1) -∗ WP c R Q) -∗ WP c (P h) Q)) :
    SInv m c n K T d A B f t ⊢ WP c (if h : C then P h else R) (fun _ => SInv m c n K T d A B f (t + 1)) := by
  subst ha10 ha11
  unfold SInv
  iintro ⟨#HR, HS, HW, HD, HA⟩
  iapply (w_if m c ht hC (fun h => hf h _)) $$ HW
  iintro ⟨HW, HN⟩
  rw [hR]
  iapply (w_wait m c (wsem_eq (Nat.mod_lt _ (by decide)) h6)) $$ [HS HW]
  · isplitr; · iexact HR
    isplitl [HS] <;> iassumption
  iintro ⟨HS, HW⟩
  iapply (w_load m c h9) $$ HW
  iintro HW
  iapply (c_dead' c h10 (A := A + 256 * t) (B := B) (by omega) (by omega)) $$ HA
  iintro %v HA
  rw [hA]
  iapply (c_store c k hp h11 rfl (A := A) (B := B) (by omega) (by omega)) $$ [HD HA]
  · isplitl [HD] <;> iassumption
  iintro ⟨HD, HA⟩
  unfold WP
  rw [wp_ret]
  imodintro
  rw [show A + 256 * (t + 1) = 256 * k + 256 by omega]
  isplitr; · iexact HR
  isplitl [HS]; · iexact HS
  isplitl [HW HN]
  · iapply (WS_next m c)
    isplitl [HW] <;> iassumption
  isplitl [HD] <;> iassumption

theorem seed_loop {α : Type} {Q : α → sProp 𝕄} (c : Dev nD) {n : ℕ} (K T d A B : ℕ) (f) (hT : 0 < T) (hB : A + 256 * T = B) {lb ub st : BitVec 32} {hok} {body : Fin (Scf.trips lb ub st) → Unit → Prog (TpuEff nD τ sig (Elt F) Λ₀ .tc) Unit}
    (htr : Scf.trips lb ub st = T) (hbody : ∀ (t : Fin (Scf.trips lb ub st)) (acc : Unit), SInv m c n K T d A B f t.val ⊢ WP c (body t acc) (fun _ => SInv m c n K T d A B f (t.val + 1)))
    {kk : Unit → Prog (TpuEff nD τ sig (Elt F) Λ₀ .tc) α} :
    iprop(Rec m ∗ St c n ∗ WF m c 0 K ∗ WI m c 1 ∗ cAny c 0 d A B)
      ⊢ iprop(((St c n ∗ WI m c 0 ∗ WI m c 1 ∗ cPts c 0 d A B f) -∗ WP c (kk ()) Q) -∗ WP c (Scf.for lb ub st hok () body >>= kk) Q) := by
  iintro ⟨#HR, HS, HF, HI, HA⟩ Hk
  iapply (Scf.wp_for_bind (I := fun t _ => SInv m c n K T d A B f t) (hbody := hbody)) $$ [HS HF HI HA]
  · unfold SInv
    isplitr; · iexact HR
    isplitl [HS]; · iexact HS
    isplitl [HF HI]
    · iapply (WS_start m c hT)
      isplitl [HF] <;> iassumption
    isplitr
    · iapply (cPts_nil c)
    · iexact HA
  rw [htr]
  iintro %acc H
  unfold SInv
  icases H with ⟨-, HS, HW, HD, HA⟩
  ihave HW := (WS_end m c) $$ HW
  icases HW with ⟨W0, W1⟩
  iapply Hk
  rw [hB]
  isplitl [HS]; · iexact HS
  isplitl [W0]; · iexact W0
  isplitl [W1]; · iexact W1
  iexact HD

/-! ## A partial product into the private accumulator -/

def PInv (c : Dev nD) (n K T d : ℕ) (f : ℕ → ℕ → FVec F S1024x256 .bf16) (t : ℕ) : sProp 𝕄 :=
  iprop(Rec m ∗ St c n ∗ WS m c K T t ∗ pPts c d 0 (256 * t) f ∗ pAny c d (256 * t) 4096)

theorem pacc_trip (c : Dev nD) {n K T d : ℕ} {f} (t k : ℕ) (ht : t < T) (hA : 256 * t = 256 * k) (hT : 256 * T = 4096) {C : Prop} [Decidable C] (hC : C ↔ t + 1 < T)
    {o6 : Fin 1 → ℕ} {o7 o9 : Fin 3 → ℕ} {o8 : Fin 2 → ℕ} {o10 : Fin 3 → ℕ} {o11 : Fin 3 → ℕ} {a10 a11 : ℕ}
    (h6 : o6 = ![t % 2]) (h9 : o9 = ![t % 2, 0, 0]) (h10 : o10 = ![d, 0, a10]) (ha10 : a10 = 256 * k) (h11 : o11 = ![d, 0, a11]) (ha11 : a11 = 256 * k)
    {i6 q6 i7 j7 q7 i8 j8 x1 x2 i9 l9  i10 l10 i11 x11 m11} {pay : FVec F S1x1024x256 .f32 → FVec F S1x1024x256 .bf16} (hp : pay (wch m c (K + t)) = u3 (f d k))
    {R : Prog (TpuEff nD τ sig (Elt F) Λ₀ .tc) Unit} {P : C → Prog (TpuEff nD τ sig (Elt F) Λ₀ .tc) Unit}
    (hR : R = (.op (.waitDma2 ((cc0_scratch11.slice (Rect.unit (s := S2) o6 S1.size i6)).squeeze S_ q6).sem ((Memref.whole main_arg1 : Memref sig .tc .hbm S1024x8192 .f32).slice (Rect.unit (s := S1024x8192) o8 S1024x256.size i8) j8) (((Memref.whole cc0_scratch3 : Memref sig .tc .vmem S2x1024x256 .f32).slice (Rect.unit (s := S2x1024x256) o7 S1x1024x256.size i7) j7).squeeze S1024x256 q7) x1 x2)
          (fun _ => .op (.load (Memref.whole cc0_scratch3 : Memref sig .tc .vmem S2x1024x256 .f32) (Rect.unit (s := S2x1024x256) o9 S1x1024x256.size i9).toLoadRect l9) (fun (v : FVec F S1x1024x256 .f32) => .op (.load (Memref.whole cc0_scratch1 : Memref sig .tc .vmem S2x1024x4096 .bf16) (Rect.unit (s := S2x1024x4096) o10 S1x1024x256.size i10).toLoadRect l10) (fun _ => .op (.store (Memref.whole cc0_scratch1 : Memref sig .tc .vmem S2x1024x4096 .bf16) (Rect.unit (s := S2x1024x4096) o11 S1x1024x256.size i11) (pay v) Finset.univ x11 m11) (fun _ => .ret ()))))))
    (hf : ∀ (h : C) (Q : Unit → sProp 𝕄), WI m c ((t + 1) % 2) ⊢ iprop((WF m c ((t + 1) % 2) (K + t + 1) -∗ WP c R Q) -∗ WP c (P h) Q)) :
    PInv m c n K T d f t ⊢ WP c (if h : C then P h else R) (fun _ => PInv m c n K T d f (t + 1)) := by
  subst ha10 ha11
  unfold PInv
  iintro ⟨#HR, HS, HW, HD, HA⟩
  iapply (w_if m c ht hC (fun h => hf h _)) $$ HW
  iintro ⟨HW, HN⟩
  rw [hR]
  iapply (w_wait m c (wsem_eq (Nat.mod_lt _ (by decide)) h6)) $$ [HS HW]
  · isplitr; · iexact HR
    isplitl [HS] <;> iassumption
  iintro ⟨HS, HW⟩
  iapply (w_load m c h9) $$ HW
  iintro HW
  iapply (p_dead c h10 (A := 256 * t) (B := 4096) (by omega) (by omega)) $$ HA
  iintro %v HA
  rw [hA]
  iapply (p_store c k hp h11 rfl (A := 0) (B := 4096) (by omega) (by omega)) $$ [HD HA]
  · isplitl [HD] <;> iassumption
  iintro ⟨HD, HA⟩
  unfold WP
  rw [wp_ret]
  imodintro
  rw [show 256 * (t + 1) = 256 * k + 256 by omega]
  isplitr; · iexact HR
  isplitl [HS]; · iexact HS
  isplitl [HW HN]
  · iapply (WS_next m c)
    isplitl [HW] <;> iassumption
  isplitl [HD] <;> iassumption

theorem pacc_loop {α : Type} {Q : α → sProp 𝕄} (c : Dev nD) {n : ℕ} (K T d : ℕ) (f) (hT : 0 < T) (hB : 256 * T = 4096) {lb ub st : BitVec 32} {hok} {body : Fin (Scf.trips lb ub st) → Unit → Prog (TpuEff nD τ sig (Elt F) Λ₀ .tc) Unit}
    (htr : Scf.trips lb ub st = T) (hbody : ∀ (t : Fin (Scf.trips lb ub st)) (acc : Unit), PInv m c n K T d f t.val ⊢ WP c (body t acc) (fun _ => PInv m c n K T d f (t.val + 1)))
    {kk : Unit → Prog (TpuEff nD τ sig (Elt F) Λ₀ .tc) α} :
    iprop(Rec m ∗ St c n ∗ WF m c 0 K ∗ WI m c 1 ∗ pAny c d 0 4096)
      ⊢ iprop(((St c n ∗ WI m c 0 ∗ WI m c 1 ∗ pPts c d 0 4096 f) -∗ WP c (kk ()) Q) -∗ WP c (Scf.for lb ub st hok () body >>= kk) Q) := by
  iintro ⟨#HR, HS, HF, HI, HA⟩ Hk
  iapply (Scf.wp_for_bind (I := fun t _ => PInv m c n K T d f t) (hbody := hbody)) $$ [HS HF HI HA]
  · unfold PInv
    isplitr; · iexact HR
    isplitl [HS]; · iexact HS
    isplitl [HF HI]
    · iapply (WS_start m c hT)
      isplitl [HF] <;> iassumption
    isplitr
    · iapply (pPts_nil c)
    · iexact HA
  rw [htr]
  iintro %acc H
  unfold PInv
  icases H with ⟨-, HS, HW, HD, HA⟩
  ihave HW := (WS_end m c) $$ HW
  icases HW with ⟨W0, W1⟩
  iapply Hk
  rw [hB]
  isplitl [HS]; · iexact HS
  isplitl [W0]; · iexact W0
  isplitl [W1]; · iexact W1
  iexact HD

/-! ## The private accumulator taken into what the ring delivered -/

def AInv {β : Type} (c : Dev nD) (s d A B : ℕ) (fo fn g : ℕ → ℕ → FVec F S1024x256 .bf16) (acc : ℕ → β) (t : ℕ) (x : β) : sProp 𝕄 :=
  iprop(⌜x = acc t⌝ ∗ cPts c s d A (A + 256 * t) fn ∗ cPts c s d (A + 256 * t) B fo ∗ pPts c d 0 4096 g)

theorem acc_trip {β : Type} (c : Dev nD) {s d A B T : ℕ} {fo fn g} {acc : ℕ → β} (t k : ℕ) (x : β) (ht : t < T) (hB : A + 256 * T = B) (hB' : B ≤ 4096) (hA : A + 256 * t = 256 * k)
    {o1 : Fin 4 → ℕ} {o2 : Fin 3 → ℕ} {a1 a2 : ℕ} (h1 : o1 = ![s, d, 0, a1]) (ha1 : a1 = 256 * k) (h2 : o2 = ![d, 0, a2]) (ha2 : a2 = 256 * k)
    {i1 l1 i2 l2 i3 l3 i4 x4 m4} {pay : FVec F S1x1x1024x256 .bf16 → FVec F S1x1024x256 .bf16 → FVec F S1x1x1024x256 .bf16} (hp : pay (u4 (fo d k)) (u3 (g d k)) = u4 (fn d k))
    {r : FVec F S1x1x1024x256 .bf16 → FVec F S1x1024x256 .bf16 → β} (hr : x = acc t → r (u4 (fo d k)) (u3 (g d k)) = acc (t + 1)) :
    AInv c s d A B fo fn g acc t x ⊢ WP c (.op (.load (Memref.whole cc0_scratch0 : Memref sig .tc .vmem S2x2x1024x4096 .bf16) (Rect.unit (s := S2x2x1024x4096) o1 S1x1x1024x256.size i1).toLoadRect l1) (fun (v : FVec F S1x1x1024x256 .bf16) =>
      .op (.load (Memref.whole cc0_scratch1 : Memref sig .tc .vmem S2x1024x4096 .bf16) (Rect.unit (s := S2x1024x4096) o2 S1x1024x256.size i2).toLoadRect l2) (fun (w : FVec F S1x1024x256 .bf16) =>
      .op (.load (Memref.whole cc0_scratch0 : Memref sig .tc .vmem S2x2x1024x4096 .bf16) (Rect.unit (s := S2x2x1024x4096) o1 S1x1x1024x256.size i3).toLoadRect l3) (fun _ =>
      .op (.store (Memref.whole cc0_scratch0 : Memref sig .tc .vmem S2x2x1024x4096 .bf16) (Rect.unit (s := S2x2x1024x4096) o1 S1x1x1024x256.size i4) (pay v w) Finset.univ x4 m4) (fun _ => .ret (r v w))))))
      (fun y => AInv c s d A B fo fn g acc (t + 1) y) := by
  subst ha1 ha2
  unfold AInv
  rw [hA, show A + 256 * (t + 1) = 256 * k + 256 by omega]
  iintro ⟨%hx, HD, HO, HP⟩
  iapply (c_load c k h1 rfl (A := 256 * k) (B := B) (le_refl _) (by omega)) $$ HO
  iintro HO
  iapply (p_load c k h2 rfl (A := 0) (B := 4096) (by omega) (by omega)) $$ HP
  iintro HP
  iapply (c_load c k h1 rfl (A := 256 * k) (B := B) (le_refl _) (by omega)) $$ HO
  iintro HO
  ihave HO := (cPts_cut c (256 * k + 256) fo (by omega) (by omega)).1 $$ HO
  icases HO with ⟨HC, HO⟩
  ihave HC := (cPts_any c) $$ HC
  iapply (c_store c k hp h1 rfl (A := A) (B := 256 * k + 256) (by omega) (by omega)) $$ [HD HC]
  · isplitl [HD] <;> iassumption
  iintro ⟨HD, HC⟩
  unfold WP
  rw [wp_ret]
  imodintro
  isplitr
  · ipureintro
    exact hr hx
  isplitl [HD]; · iexact HD
  isplitl [HO]; · iexact HO
  iexact HP

theorem acc_loop {β α : Type} {Q : α → sProp 𝕄} (c : Dev nD) (s d A B T : ℕ) (fo fn g) (acc : ℕ → β) (hB : A + 256 * T = B) {lb ub st : BitVec 32} {hok} {init : β} (hi : init = acc 0)
    {body : Fin (Scf.trips lb ub st) → β → Prog (TpuEff nD τ sig (Elt F) Λ₀ .tc) β}
    (htr : Scf.trips lb ub st = T) (hbody : ∀ (t : Fin (Scf.trips lb ub st)) (x : β), AInv c s d A B fo fn g acc t.val x ⊢ WP c (body t x) (fun y => AInv c s d A B fo fn g acc (t.val + 1) y))
    {kk : β → Prog (TpuEff nD τ sig (Elt F) Λ₀ .tc) α} :
    iprop(cPts c s d A B fo ∗ pPts c d 0 4096 g)
      ⊢ iprop(((cPts c s d A B fn ∗ pPts c d 0 4096 g) -∗ WP c (kk (acc T)) Q) -∗ WP c (Scf.for lb ub st hok init body >>= kk) Q) := by
  iintro ⟨HO, HP⟩ Hk
  iapply (Scf.wp_for_bind (I := fun t x => AInv c s d A B fo fn g acc t x) (hbody := hbody)) $$ [HO HP]
  · unfold AInv
    isplitr
    · ipureintro
      exact hi
    isplitr
    · iapply (cPts_nil c)
    isplitl [HO] <;> iassumption
  rw [htr]
  iintro %x H
  unfold AInv
  icases H with ⟨%hx, HD, HO, HP⟩
  rw [hx]
  iapply Hk
  rw [hB]
  isplitl [HD] <;> iassumption

end Cert.RingProof
-- ==== Proof.Hops.lean ====
/-
The schedule's steps at their slots, directions and columns.
-/
module

public import proofs.«01_k».proof.Proof.Trip

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-- Hop `i` at its numbers. -/
theorem hop {α : Type} {Q : α → sProp 𝕄} {kk : PUnit → Prog (TpuEff nD τ sig (Elt F) Λ₀ .tc) α} (c q' : Dev nD) (i : Fin 14) (S s s' d a b : ℕ) (q : Dev nD) (e : hs i = S ∧ hs i % 2 = s ∧ (hs i + 1) % 2 = s' ∧ hd i = d ∧ ha i = a ∧ hb i = b ∧ dn (hd i) c = q)
    (hq : q' = q) {n : ℕ} (hn : n = t0 (.S i))
    {off off' size : Fin 4 → ℕ} {inb inb'} {t : Shape} {w : ℕ} {hst hst'} {sq sq'} {sS rS : SemLoc sig} (hs1 : csem (.send i) = sS) (hs2 : csem (.recv i) = rS)
    (ho : off = ![s, d, 0, a]) (ho' : off' = ![s', d, 0, a]) (hsz : size = ![1, 1, 1024, w]) (hw : b = a + w)
    {hsc hsrc hdst hsem}
    (hN : ((((Memref.whole cc0_scratch0 : Memref sig .tc .vmem S2x2x1024x4096 .bf16).slice (Rect.unit (s := S2x2x1024x4096) off' size inb') hst').squeeze t sq' : Memref sig .tc .vmem t .bf16)).view.amount rS = NH i) :
    iprop(Rec m ∗ St c n ∗ cPts (F := F) c s d a b (stage m S c) ∗ cAny (F := F) q s' d a b)
      ⊢ iprop((St c (n + 1) -∗ WP c (kk ⟨⟩) Q)
        -∗ WP c (.op (.enqueueDma (((Memref.whole cc0_scratch0 : Memref sig .tc .vmem S2x2x1024x4096 .bf16).slice (Rect.unit (s := S2x2x1024x4096) off size inb) hst).squeeze t sq : Memref sig .tc .vmem t .bf16)
          (.remote (Dev.tc q' : Thread nD τ) (((Memref.whole cc0_scratch0 : Memref sig .tc .vmem S2x2x1024x4096 .bf16).slice (Rect.unit (s := S2x2x1024x4096) off' size inb') hst').squeeze t sq' : Memref sig .tc .vmem t .bf16) sS hsc) rS hsrc hdst hsem) kk) Q) := by
  obtain ⟨rfl, rfl, rfl, rfl, rfl, rfl, rfl⟩ := e
  exact step_hop m c q' i hq hn hs1 hs2 ho ho' hsz hw hN

theorem swt {α : Type} {Q : α → sProp 𝕄} {kk : PUnit → Prog (TpuEff nD τ sig (Elt F) Λ₀ .tc) α} (c : Dev nD) (i : Fin 14) (s d a b : ℕ) (e : hs i % 2 = s ∧ hd i = d ∧ ha i = a ∧ hb i = b) {n : ℕ} (hn : n = t1 (.S i)) {w : TpuEff nD τ sig (Elt F) Λ₀ .tc PUnit}
    (hw : ∀ K' : PUnit → sProp 𝕄, wpE (defs₀ (F := F)) 𝒱₀ (c : Thread nD τ) none Set.univ w K' = waitSpec (c : Thread nD τ) Set.univ (csem (.send i)) (amt (.send i)) K') :
    iprop(Rec m ∗ St c n) ⊢ iprop(((St c (n + 1) ∗ cAny c s d a b) -∗ WP c (kk ⟨⟩) Q) -∗ WP c (.op w kk) Q) := by
  obtain ⟨rfl, rfl, rfl, rfl⟩ := e
  exact step_sw m c i hn hw

theorem rwt {α : Type} {Q : α → sProp 𝕄} {kk : PUnit → Prog (TpuEff nD τ sig (Elt F) Λ₀ .tc) α} (c : Dev nD) (i : Fin 14) (S s d a b : ℕ) (q : Dev nD) (e : hs i = S ∧ (hs i + 1) % 2 = s ∧ hd i = d ∧ ha i = a ∧ hb i = b ∧ up (hd i) c = q) {n : ℕ} (hn : n = t0 (.R i)) {w : TpuEff nD τ sig (Elt F) Λ₀ .tc PUnit}
    (hw : ∀ K' : PUnit → sProp 𝕄, wpE (defs₀ (F := F)) 𝒱₀ (c : Thread nD τ) none Set.univ w K' = waitSpec (c : Thread nD τ) Set.univ (csem (.recv i)) (amt (.recv i)) K') :
    iprop(Rec m ∗ St c n) ⊢ iprop(((St c (n + 1) ∗ cPts c s d a b (stage m S q)) -∗ WP c (kk ⟨⟩) Q) -∗ WP c (.op w kk) Q) := by
  obtain ⟨rfl, rfl, rfl, rfl, rfl, rfl⟩ := e
  exact step_rw m c i hn hw

theorem csg {α : Type} {Q : α → sProp 𝕄} {kk : PUnit → Prog (TpuEff nD τ sig (Elt F) Λ₀ .tc) α} (c q' : Dev nD) (k : Fin 8) (s d a b : ℕ) (q : Dev nD) (e : ks k = s ∧ kd k = d ∧ ka k = a ∧ ka k + 2048 = b ∧ up (kd k) c = q) (hk : 0 < k.val) (hq : q' = q) {n : ℕ} (hn : n = t0 (.T k)) {sem : Sem sig} (hs : csem (.cred k) = .reg sem) {u : ℕ} (hu : u = 1) :
    iprop(Rec m ∗ St c n ∗ cAny (F := F) c s d a b)
      ⊢ iprop((St c (n + 1) -∗ WP c (kk ⟨⟩) Q) -∗ WP c (.op (.semSignal (q' : Thread nD τ) sem u) kk) Q) := by
  obtain ⟨rfl, rfl, rfl, rfl, rfl⟩ := e
  have h := step_cs (Q := Q) (kk := kk) m c q' k hq hn hs hu
  rw [if_neg (Nat.ne_of_gt hk)] at h
  refine BIBase.Entails.trans ?_ h
  iintro ⟨H1, H2, H3⟩
  iframe ∗

theorem cwt {α : Type} {Q : α → sProp 𝕄} {kk : PUnit → Prog (TpuEff nD τ sig (Elt F) Λ₀ .tc) α} (c : Dev nD) (k : Fin 8) (s d a b : ℕ) (q : Dev nD) (e : ks k = s ∧ kd k = d ∧ ka k = a ∧ ka k + 2048 = b ∧ dn (kd k) c = q) (hk : 0 < k.val) {n : ℕ} (hn : n = t0 (.C k)) {w : TpuEff nD τ sig (Elt F) Λ₀ .tc PUnit}
    (hw : ∀ K' : PUnit → sProp 𝕄, wpE (defs₀ (F := F)) 𝒱₀ (c : Thread nD τ) none Set.univ w K' = waitSpec (c : Thread nD τ) Set.univ (csem (.cred k)) (amt (.cred k)) K') :
    iprop(Rec m ∗ St c n) ⊢ iprop(((St c (n + 1) ∗ cAny q s d a b) -∗ WP c (kk ⟨⟩) Q) -∗ WP c (.op w kk) Q) := by
  obtain ⟨rfl, rfl, rfl, rfl, rfl⟩ := e
  have h := step_cw (Q := Q) (kk := kk) m c k hn hw
  refine BIBase.Entails.trans h (wand_mono_left (wand_mono_left (sep_mono_right ?_)))
  show iprop(cAny (dn (kd k) c) (ks k) (kd k) (ka k) (ka k + 2048) ∗ (if k.val = 0 then aAny (rot 2 c) c.val else iprop(emp))) ⊢ _
  rw [if_neg (Nat.ne_of_gt hk)]
  iintro ⟨H, -⟩
  iexact H

/-- The first credit carries one row more. -/
theorem csg0 {α : Type} {Q : α → sProp 𝕄} {kk : PUnit → Prog (TpuEff nD τ sig (Elt F) Λ₀ .tc) α} (c q' : Dev nD) (hq : q' = lft c) {n : ℕ} (hn : n = t0 (.T 0)) {sem : Sem sig} (hs : csem (.cred 0) = .reg sem) {u : ℕ} (hu : u = 1) :
    iprop(Rec m ∗ St c n ∗ cAny (F := F) c 0 0 0 2048 ∗ aAny (F := F) (rgt c) (lft c).val)
      ⊢ iprop((St c (n + 1) -∗ WP c (kk ⟨⟩) Q) -∗ WP c (.op (.semSignal (q' : Thread nD τ) sem u) kk) Q) :=
  step_cs m c q' 0 hq hn hs hu
theorem cwt0 {α : Type} {Q : α → sProp 𝕄} {kk : PUnit → Prog (TpuEff nD τ sig (Elt F) Λ₀ .tc) α} (c : Dev nD) {n : ℕ} (hn : n = t0 (.C 0)) {w : TpuEff nD τ sig (Elt F) Λ₀ .tc PUnit}
    (hw : ∀ K' : PUnit → sProp 𝕄, wpE (defs₀ (F := F)) 𝒱₀ (c : Thread nD τ) none Set.univ w K' = waitSpec (c : Thread nD τ) Set.univ (csem (.cred 0)) (amt (.cred 0)) K') :
    iprop(Rec m ∗ St c n) ⊢ iprop(((St c (n + 1) ∗ cAny (rgt c) 0 0 0 2048 ∗ aAny (F := F) (rot 2 c) c.val) -∗ WP c (kk ⟨⟩) Q) -∗ WP c (.op w kk) Q) :=
  step_cw m c 0 hn hw

end Cert.RingProof
-- ==== Proof.BodyA.lean ====
/-
The first sends, and the load of the first later block.
-/
module

public import proofs.«01_k».proof.Proof.Hops

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

theorem part1 {α : Type} {Q : α → sProp 𝕄} (c : Dev nD) {kk : (Σ' (d0 : Dev nD) (v2 : BitVec 32) (v5 : BitVec 32) (v7 : BitVec 32), Sems sig S_) → Prog (TpuEff nD τ sig (Elt F) Λ₀ .tc) α} :
    iprop(XI m c 0 ∗ XI m c 1 ∗ WI m c 0)
      ⊢ iprop((∀ v2 v5 v7, (XF m c 0 (lft c) ∗ XF m c 1 (rgt c) ∗ WF m c 0 0) -∗ WP c (kk ⟨c, v2, v5, v7, SemArray.scalar (sig.barrier 0 rfl)⟩) Q)
        -∗ WP c (ap (k0_part1_skel (F := F)) >>= kk) Q) := by
  unfold ap k0_part1_skel
  simp only [semSignalWord, semWaitWord, Prog.lift, Prog.bind_op, Prog.bind_ret, Prog.pure_eq_ret, wp_deviceId]
  iintro ⟨X0, X1, W0⟩ Hk
  iapply (x_start m c (lft c) (xsem_eq (b := 0) (by decide) rfl) (k0_off1_eq c) rfl rfl) $$ X0
  iintro X0
  iapply (x_start m c (rgt c) (xsem_eq (b := 1) (by decide) rfl) (k0_off2_eq c) rfl rfl) $$ X1
  iintro X1
  iapply (w_start m c 0 (by decide) (wsem_eq (b := 0) (by decide) rfl) rfl rfl rfl) $$ W0
  iintro W0
  iapply Hk
  isplitl [X0]; · iexact X0
  isplitl [X1]; · iexact X1
  iexact W0

theorem rot7 (c : Dev nD) : rot 7 c = lft c := by apply Fin.ext; simp only [rot, lft]; omega
theorem stage0_0 (c : Dev nD) (k : ℕ) : stage m 0 c 0 k = pch (k0_pay7 (xblk m c (lft c))) (wch m c k) := by
  show pch (k0_pay7 (xblk m c (rot 7 c))) (wch m c (16 * 0 + k)) = _
  rw [rot7, show 16 * 0 + k = k by omega]
theorem stage0_1 (c : Dev nD) (k : ℕ) : stage m 0 c 1 k = pch (k0_pay7 (xblk m c (rgt c))) (wch m c (16 + k)) := rfl

theorem t1_trip (c : Dev nD) (n : ℕ) (v7 v25) (t : Fin k0_t1_loop.trips) (acc : Unit) :
    SInv m c n 0 4 0 0 1024 (stage m 0 c) t.val ⊢ WP c (ap (k0_t1_body (F := F)) c v7 v25 (xblk m c (lft c)) t acc) (fun _ => SInv m c n 0 4 0 0 1024 (stage m 0 c) (t.val + 1)) := by
  have ht : t.val < 4 := t.isLt
  have hc : k0_cond1 t = 1#1 ↔ t.val + 1 < 4 := by revert t; decide +kernel
  unfold ap k0_t1_body
  simp only [Prog.lift, Prog.bind_op, Prog.bind_ret, Prog.pure_eq_ret]
  exact seed_trip m c t.val t.val ht (by omega) (by omega) hc (vec1 (k0_off6_eq t) (by omega)) (vec3 (k0_off9_eq t) (by omega)) (k0_off10_eq t) (by omega) (k0_off11_eq t) (by omega) ((pay1_eq _ _).trans (by rw [stage0_0, show 0 + t.val = t.val by omega])) rfl
    (fun h Q => w_start (kk := fun _ => _) m c (0 + t.val + 1) (by have := hc.mp h; omega) (wsem_eq (Nat.mod_lt _ (by decide)) (vec1 (k0_off3_eq t) (by omega))) (k0_off5_eq t) (by omega) (vec3 (k0_off4_eq t) (by omega)))

theorem t2_trip (c : Dev nD) (n : ℕ) (v5) (t : Fin k0_t2_loop.trips) (acc : Unit) :
    SInv m c n 16 4 1 0 1024 (stage m 0 c) t.val ⊢ WP c (ap (k0_t2_body (F := F)) c v5 (xblk m c (rgt c)) t acc) (fun _ => SInv m c n 16 4 1 0 1024 (stage m 0 c) (t.val + 1)) := by
  have ht : t.val < 4 := t.isLt
  have hc : k0_cond2 t = 1#1 ↔ t.val + 1 < 4 := by revert t; decide +kernel
  unfold ap k0_t2_body
  simp only [Prog.lift, Prog.bind_op, Prog.bind_ret, Prog.pure_eq_ret]
  exact seed_trip m c t.val t.val ht (by omega) (by omega) hc (vec1 (k0_off15_eq t) (by omega)) (vec3 (k0_off18_eq t) (by omega)) (k0_off19_eq t) (by omega) (k0_off20_eq t) (by omega) ((pay1_eq _ _).trans (by rw [stage0_1, show 16 + t.val = 16 + t.val by omega])) rfl
    (fun h Q => w_start (kk := fun _ => _) m c (16 + t.val + 1) (by have := hc.mp h; omega) (wsem_eq (Nat.mod_lt _ (by decide)) (vec1 (k0_off12_eq t) (by omega))) (k0_off14_eq t) (by omega) (vec3 (k0_off13_eq t) (by omega)))

theorem t3_trip (c : Dev nD) (n : ℕ) (v7) (t : Fin k0_t3_loop.trips) (acc : Unit) :
    SInv m c n 4 4 0 1024 2048 (stage m 0 c) t.val ⊢ WP c (ap (k0_t3_body (F := F)) c v7 (xblk m c (lft c)) t acc) (fun _ => SInv m c n 4 4 0 1024 2048 (stage m 0 c) (t.val + 1)) := by
  have ht : t.val < 4 := t.isLt
  have hc : k0_cond3 t = 1#1 ↔ t.val + 1 < 4 := by revert t; decide +kernel
  unfold ap k0_t3_body
  simp only [Prog.lift, Prog.bind_op, Prog.bind_ret, Prog.pure_eq_ret]
  exact seed_trip m c t.val (4 + t.val) ht (by omega) (by omega) hc (vec1 (k0_off24_eq t) (by omega)) (vec3 (k0_off27_eq t) (by omega)) (k0_off28_eq t) (by omega) (k0_off29_eq t) (by omega) ((pay1_eq _ _).trans (by rw [stage0_0, show 4 + t.val = (4 + t.val) by omega])) rfl
    (fun h Q => w_start (kk := fun _ => _) m c (4 + t.val + 1) (by have := hc.mp h; omega) (wsem_eq (Nat.mod_lt _ (by decide)) (vec1 (k0_off21_eq t) (by omega))) (k0_off23_eq t) (by omega) (vec3 (k0_off22_eq t) (by omega)))

theorem t4_trip (c : Dev nD) (n : ℕ) (v5) (t : Fin k0_t4_loop.trips) (acc : Unit) :
    SInv m c n 20 4 1 1024 2048 (stage m 0 c) t.val ⊢ WP c (ap (k0_t4_body (F := F)) c v5 (xblk m c (rgt c)) t acc) (fun _ => SInv m c n 20 4 1 1024 2048 (stage m 0 c) (t.val + 1)) := by
  have ht : t.val < 4 := t.isLt
  have hc : k0_cond4 t = 1#1 ↔ t.val + 1 < 4 := by revert t; decide +kernel
  unfold ap k0_t4_body
  simp only [Prog.lift, Prog.bind_op, Prog.bind_ret, Prog.pure_eq_ret]
  exact seed_trip m c t.val (4 + t.val) ht (by omega) (by omega) hc (vec1 (k0_off33_eq t) (by omega)) (vec3 (k0_off36_eq t) (by omega)) (k0_off37_eq t) (by omega) (k0_off38_eq t) (by omega) ((pay1_eq _ _).trans (by rw [stage0_1, show 20 + t.val = 16 + (4 + t.val) by omega])) rfl
    (fun h Q => w_start (kk := fun _ => _) m c (20 + t.val + 1) (by have := hc.mp h; omega) (wsem_eq (Nat.mod_lt _ (by decide)) (vec1 (k0_off30_eq t) (by omega))) (k0_off32_eq t) (by omega) (vec3 (k0_off31_eq t) (by omega)))

theorem t5_trip (c : Dev nD) (n : ℕ) (v5 v97) (t : Fin k0_t5_loop.trips) (acc : Unit) :
    SInv m c n 8 8 0 2048 4096 (stage m 0 c) t.val ⊢ WP c (ap (k0_t5_body (F := F)) c v5 v97 (xblk m c (lft c)) t acc) (fun _ => SInv m c n 8 8 0 2048 4096 (stage m 0 c) (t.val + 1)) := by
  have ht : t.val < 8 := t.isLt
  have hc : k0_cond5 t = 1#1 ↔ t.val + 1 < 8 := by revert t; decide +kernel
  unfold ap k0_t5_body
  simp only [Prog.lift, Prog.bind_op, Prog.bind_ret, Prog.pure_eq_ret]
  exact seed_trip m c t.val (8 + t.val) ht (by omega) (by omega) hc (vec1 (k0_off42_eq t) (by omega)) (vec3 (k0_off45_eq t) (by omega)) (k0_off46_eq t) (by omega) (k0_off47_eq t) (by omega) ((pay1_eq _ _).trans (by rw [stage0_0, show 8 + t.val = (8 + t.val) by omega])) rfl
    (fun h Q => w_start (kk := fun _ => _) m c (8 + t.val + 1) (by have := hc.mp h; omega) (wsem_eq (Nat.mod_lt _ (by decide)) (vec1 (k0_off39_eq t) (by omega))) (k0_off41_eq t) (by omega) (vec3 (k0_off40_eq t) (by omega)))

theorem t6_trip (c : Dev nD) (n : ℕ) (v5 v7) (t : Fin k0_t6_loop.trips) (acc : Unit) :
    SInv m c n 24 8 1 2048 4096 (stage m 0 c) t.val ⊢ WP c (ap (k0_t6_body (F := F)) c v5 v7 (xblk m c (rgt c)) t acc) (fun _ => SInv m c n 24 8 1 2048 4096 (stage m 0 c) (t.val + 1)) := by
  have ht : t.val < 8 := t.isLt
  have hc : k0_cond6 t = 1#1 ↔ t.val + 1 < 8 := by revert t; decide +kernel
  unfold ap k0_t6_body
  simp only [Prog.lift, Prog.bind_op, Prog.bind_ret, Prog.pure_eq_ret]
  exact seed_trip m c t.val (8 + t.val) ht (by omega) (by omega) hc (vec1 (k0_off51_eq t) (by omega)) (vec3 (k0_off54_eq t) (by omega)) (k0_off55_eq t) (by omega) (k0_off56_eq t) (by omega) ((pay1_eq _ _).trans (by rw [stage0_1, show 24 + t.val = 16 + (8 + t.val) by omega])) rfl
    (fun h Q => w_start (kk := fun _ => _) m c (24 + t.val + 1) (by have := hc.mp h; omega) (wsem_eq (Nat.mod_lt _ (by decide)) (vec1 (k0_off48_eq t) (by omega))) (k0_off50_eq t) (by omega) (vec3 (k0_off49_eq t) (by omega)))

theorem part2 {α : Type} {Q : α → sProp 𝕄} (c : Dev nD) (v7) {kk : PUnit → Prog (TpuEff nD τ sig (Elt F) Λ₀ .tc) α} :
    iprop(Rec m ∗ St c 0 ∗ cAny c 0 0 0 1024 ∗ cAny (F := F) c 1 0 0 4096 ∗ aAny (F := F) c (lft c).val ∗ aAny (F := F) c (rot 2 c).val ∗ cAny (F := F) c 1 1 0 4096 ∗ aAny (F := F) c (rgt c).val
        ∗ XF m c 0 (lft c) ∗ XF m c 1 (rgt c) ∗ WF m c 0 0 ∗ WI m c 1)
      ⊢ iprop(((St c 3 ∗ payK m .bar c false ∗ payK m .bar c true ∗ XH m c 0 (lft c) ∗ XH m c 1 (rgt c) ∗ WI m c 0 ∗ WI m c 1 ∗ cPts c 0 0 0 1024 (stage m 0 c)) -∗ WP c (kk ⟨⟩) Q)
        -∗ WP c (ap (k0_part2_skel (F := F)) c v7 (SemArray.scalar (sig.barrier 0 rfl)) >>= kk) Q) := by
  unfold ap k0_part2_skel
  simp only [semSignalWord, semWaitWord, Prog.lift, Prog.bind_op, Prog.bind_ret, Prog.pure_eq_ret, wp_deviceId, toI1, toI2, loop_assoc]
  iintro ⟨#HR, HS, C0, C1, A3, A2, C11, A1, X0, X1, W0, W1⟩ Hk
  iapply (step_sigL m c _ (Fin.ext (k0_dev1_eq c)) rfl rfl) $$ [HR HS C1 A3 A2]
  · iframe # ∗
  iintro HS
  iapply (step_sigR m c _ (Fin.ext (k0_dev2_eq c)) rfl rfl) $$ [HR HS C11 A1]
  · iframe # ∗
  iintro HS
  iapply (step_bar m c (fun K' => rfl)) $$ [HR HS]
  · iframe # ∗
  iintro ⟨HS, P0, P1⟩
  iapply (x_wait m c (xsem_eq (by decide) rfl)) $$ [HR HS X0]
  · iframe # ∗
  iintro ⟨HS, X0⟩
  iapply (x_wait m c (xsem_eq (by decide) rfl)) $$ [HR HS X1]
  · iframe # ∗
  iintro ⟨HS, X1⟩
  iapply (x_load m c rfl) $$ X0
  iintro X0
  iapply (seed_loop m c 0 4 0 0 1024 (stage m 0 c) (by decide) (by decide) rfl (t1_trip m c 3 _ _)) $$ [HR HS W0 W1 C0]
  · iframe # ∗
  iintro ⟨HS, W0, W1, C0⟩
  iapply Hk
  iframe # ∗

theorem part3 {α : Type} {Q : α → sProp 𝕄} (c : Dev nD) (v5) {kk : PUnit → Prog (TpuEff nD τ sig (Elt F) Λ₀ .tc) α} :
    iprop(Rec m ∗ St c 3 ∗ cPts c 0 0 0 1024 (stage m 0 c) ∗ cAny (F := F) (rgt c) 1 0 0 1024 ∗ cAny (F := F) (lft c) 1 1 0 1024 ∗ cAny (F := F) c 0 1 0 1024 ∗ XH m c 1 (rgt c) ∗ WI m c 0 ∗ WI m c 1)
      ⊢ iprop(((St c 5 ∗ XH m c 1 (rgt c) ∗ WI m c 0 ∗ WI m c 1) -∗ WP c (kk ⟨⟩) Q) -∗ WP c (ap (k0_part3_skel (F := F)) c v5 >>= kk) Q) := by
  unfold ap k0_part3_skel
  simp only [semSignalWord, semWaitWord, Prog.lift, Prog.bind_op, Prog.bind_ret, Prog.pure_eq_ret, wp_deviceId, toI1, toI2, loop_assoc]
  iintro ⟨#HR, HS, C0, D0, D1, C1, X1, W0, W1⟩ Hk
  iapply (hop m c _ 0 0 0 1 0 0 1024 (rgt c) ⟨rfl, rfl, rfl, rfl, rfl, rfl, rfl⟩ (Fin.ext (k0_dev3_eq c)) (n := 3) rfl (send_eq 0 rfl) (recv_eq 0 rfl) rfl rfl rfl rfl rfl) $$ [HR HS C0 D0]
  · iframe # ∗
  iintro HS
  iapply (w_start m c 16 (by decide) (wsem_eq (b := 0) (by decide) rfl) rfl rfl rfl) $$ W0
  iintro W0
  iapply (x_load m c rfl) $$ X1
  iintro X1
  iapply (seed_loop m c 16 4 1 0 1024 (stage m 0 c) (by decide) (by decide) rfl (t2_trip m c 4 _)) $$ [HR HS W0 W1 C1]
  · iframe # ∗
  iintro ⟨HS, W0, W1, C1⟩
  iapply (hop m c _ 3 0 0 1 1 0 1024 (lft c) ⟨rfl, rfl, rfl, rfl, rfl, rfl, rfl⟩ (Fin.ext (k0_dev4_eq c)) (n := 4) rfl (send_eq 3 rfl) (recv_eq 3 rfl) rfl rfl rfl rfl rfl) $$ [HR HS C1 D1]
  · iframe # ∗
  iintro HS
  iapply Hk
  iframe # ∗

theorem part4 {α : Type} {Q : α → sProp 𝕄} (c : Dev nD) (v7) {kk : Vec F S1x1024x1024 .f32 → Prog (TpuEff nD τ sig (Elt F) Λ₀ .tc) α} :
    iprop(Rec m ∗ St c 5 ∗ cAny (F := F) (rgt c) 1 0 1024 2048 ∗ cAny (F := F) c 0 0 1024 2048 ∗ XH m c 0 (lft c) ∗ XH m c 1 (rgt c) ∗ WI m c 0 ∗ WI m c 1)
      ⊢ iprop(((St c 6 ∗ XH m c 0 (lft c) ∗ XH m c 1 (rgt c) ∗ WF m c 0 20 ∗ WI m c 1) -∗ WP c (kk (xblk m c (rgt c))) Q) -∗ WP c (ap (k0_part4_skel (F := F)) c v7 >>= kk) Q) := by
  unfold ap k0_part4_skel
  simp only [semSignalWord, semWaitWord, Prog.lift, Prog.bind_op, Prog.bind_ret, Prog.pure_eq_ret, wp_deviceId, toI1, toI2, loop_assoc]
  iintro ⟨#HR, HS, D0, C0, X0, X1, W0, W1⟩ Hk
  iapply (w_start m c 4 (by decide) (wsem_eq (b := 0) (by decide) rfl) rfl rfl rfl) $$ W0
  iintro W0
  iapply (x_load m c rfl) $$ X0
  iintro X0
  iapply (seed_loop m c 4 4 0 1024 2048 (stage m 0 c) (by decide) (by decide) rfl (t3_trip m c 5 _)) $$ [HR HS W0 W1 C0]
  · iframe # ∗
  iintro ⟨HS, W0, W1, C0⟩
  iapply (hop m c _ 1 0 0 1 0 1024 2048 (rgt c) ⟨rfl, rfl, rfl, rfl, rfl, rfl, rfl⟩ (Fin.ext (k0_dev5_eq c)) (n := 5) rfl (send_eq 1 rfl) (recv_eq 1 rfl) rfl rfl rfl rfl rfl) $$ [HR HS C0 D0]
  · iframe # ∗
  iintro HS
  iapply (w_start m c 20 (by decide) (wsem_eq (b := 0) (by decide) rfl) rfl rfl rfl) $$ W0
  iintro W0
  iapply (x_load m c rfl) $$ X1
  iintro X1
  iapply Hk
  iframe # ∗

theorem part5 {α : Type} {Q : α → sProp 𝕄} (c : Dev nD) (v5) {kk : PUnit → Prog (TpuEff nD τ sig (Elt F) Λ₀ .tc) α} :
    iprop(Rec m ∗ St c 6 ∗ cAny (F := F) (lft c) 1 1 1024 2048 ∗ cAny (F := F) c 0 1 1024 2048 ∗ cAny (F := F) c 0 0 2048 4096 ∗ XH m c 0 (lft c) ∗ WF m c 0 20 ∗ WI m c 1)
      ⊢ iprop(((St c 7 ∗ XH m c 0 (lft c) ∗ WI m c 0 ∗ WI m c 1 ∗ cPts c 0 0 2048 4096 (stage m 0 c)) -∗ WP c (kk ⟨⟩) Q) -∗ WP c (ap (k0_part5_skel (F := F)) c v5 (xblk m c (rgt c)) >>= kk) Q) := by
  unfold ap k0_part5_skel
  simp only [semSignalWord, semWaitWord, Prog.lift, Prog.bind_op, Prog.bind_ret, Prog.pure_eq_ret, wp_deviceId, toI1, toI2, loop_assoc]
  iintro ⟨#HR, HS, D1, C1, C0, X0, W0, W1⟩ Hk
  iapply (seed_loop m c 20 4 1 1024 2048 (stage m 0 c) (by decide) (by decide) rfl (t4_trip m c 6 _)) $$ [HR HS W0 W1 C1]
  · iframe # ∗
  iintro ⟨HS, W0, W1, C1⟩
  iapply (hop m c _ 4 0 0 1 1 1024 2048 (lft c) ⟨rfl, rfl, rfl, rfl, rfl, rfl, rfl⟩ (Fin.ext (k0_dev6_eq c)) (n := 6) rfl (send_eq 4 rfl) (recv_eq 4 rfl) rfl rfl rfl rfl rfl) $$ [HR HS C1 D1]
  · iframe # ∗
  iintro HS
  iapply (w_start m c 8 (by decide) (wsem_eq (b := 0) (by decide) rfl) rfl rfl rfl) $$ W0
  iintro W0
  iapply (x_load m c rfl) $$ X0
  iintro X0
  iapply (seed_loop m c 8 8 0 2048 4096 (stage m 0 c) (by decide) (by decide) rfl (t5_trip m c 7 _ _)) $$ [HR HS W0 W1 C0]
  · iframe # ∗
  iintro ⟨HS, W0, W1, C0⟩
  iapply Hk
  iframe # ∗

theorem part6 {α : Type} {Q : α → sProp 𝕄} (c : Dev nD) (v5 v7) {kk : PUnit → Prog (TpuEff nD τ sig (Elt F) Λ₀ .tc) α} :
    iprop(Rec m ∗ St c 7 ∗ cAny (F := F) (rgt c) 1 0 2048 4096 ∗ cPts c 0 0 2048 4096 (stage m 0 c) ∗ cAny (F := F) c 0 1 2048 4096 ∗ XH m c 1 (rgt c) ∗ WI m c 0 ∗ WI m c 1)
      ⊢ iprop(((St c 8 ∗ XH m c 1 (rgt c) ∗ WI m c 0 ∗ WI m c 1 ∗ cPts c 0 1 2048 4096 (stage m 0 c)) -∗ WP c (kk ⟨⟩) Q) -∗ WP c (ap (k0_part6_skel (F := F)) c v5 v7 >>= kk) Q) := by
  unfold ap k0_part6_skel
  simp only [semSignalWord, semWaitWord, Prog.lift, Prog.bind_op, Prog.bind_ret, Prog.pure_eq_ret, wp_deviceId, toI1, toI2, loop_assoc]
  iintro ⟨#HR, HS, D0, C0, C1, X1, W0, W1⟩ Hk
  iapply (hop m c _ 2 0 0 1 0 2048 4096 (rgt c) ⟨rfl, rfl, rfl, rfl, rfl, rfl, rfl⟩ (Fin.ext (k0_dev7_eq c)) (n := 7) rfl (send_eq 2 rfl) (recv_eq 2 rfl) rfl rfl rfl rfl rfl) $$ [HR HS C0 D0]
  · iframe # ∗
  iintro HS
  iapply (w_start m c 24 (by decide) (wsem_eq (b := 0) (by decide) rfl) rfl rfl rfl) $$ W0
  iintro W0
  iapply (x_load m c rfl) $$ X1
  iintro X1
  iapply (seed_loop m c 24 8 1 2048 4096 (stage m 0 c) (by decide) (by decide) rfl (t6_trip m c 8 _ _)) $$ [HR HS W0 W1 C1]
  · iframe # ∗
  iintro ⟨HS, W0, W1, C1⟩
  iapply Hk
  iframe # ∗

theorem part7 {α : Type} {Q : α → sProp 𝕄} (c : Dev nD) (v2) {kk : (Σ' (v171 : FVec F S1024x1024 .bf16) (c0_i32_202 : BitVec 32), BitVec 32) → Prog (TpuEff nD τ sig (Elt F) Λ₀ .tc) α} :
    iprop(Rec m ∗ St c 8 ∗ cAny (F := F) (lft c) 1 1 2048 4096 ∗ cPts c 0 1 2048 4096 (stage m 0 c) ∗ XI m c 0 ∗ WI m c 0)
      ⊢ iprop(((St c 9 ∗ XH m c 0 (rot 6 c) ∗ WF m c 0 0) -∗ WP c (kk ⟨k0_pay7 (xblk m c (rot 6 c)), 0#32, 16#32⟩) Q) -∗ WP c (ap (k0_part7_skel (F := F)) c v2 >>= kk) Q) := by
  unfold ap k0_part7_skel
  simp only [semSignalWord, semWaitWord, Prog.lift, Prog.bind_op, Prog.bind_ret, Prog.pure_eq_ret, wp_deviceId, toI1, toI2, loop_assoc]
  iintro ⟨#HR, HS, D1, C1, X0, W0⟩ Hk
  iapply (hop m c _ 5 0 0 1 1 2048 4096 (lft c) ⟨rfl, rfl, rfl, rfl, rfl, rfl, rfl⟩ (Fin.ext (k0_dev8_eq c)) (n := 8) rfl (send_eq 5 rfl) (recv_eq 5 rfl) rfl rfl rfl rfl rfl) $$ [HR HS C1 D1]
  · iframe # ∗
  iintro HS
  iapply (x_start m c (rot 6 c) (xsem_eq (b := 0) (by decide) rfl) (k0_off57_eq c 0) rfl rfl) $$ X0
  iintro X0
  iapply (w_start m c 0 (by decide) (wsem_eq (b := 0) (by decide) rfl) rfl rfl rfl) $$ W0
  iintro W0
  iapply (x_wait m c (xsem_eq (b := 0) (by decide) rfl)) $$ [HR HS X0]
  · iframe # ∗
  iintro ⟨HS, X0⟩
  iapply (x_load m c rfl) $$ X0
  iintro X0
  iapply Hk
  iframe # ∗

end Cert.RingProof
-- ==== Proof.BodyB.lean ====
/-
The first round of additions and the copies that follow it.
-/
module

public import proofs.«01_k».proof.Proof.BodyA

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

theorem rot26 (c : Dev nD) : rot 2 c = rot 6 c := by apply Fin.ext; simp only [rot]; omega
theorem part_eq (c : Dev nD) (s d K : ℕ) (j : Dev nD) (t : ℕ) (hj : jb c s d = j) (hK : 16 * d = K) : pch (k0_pay7 (xblk m c j)) (wch m c (K + t)) = part m c s d t := by
  subst hj hK; rfl

theorem t7_trip (c : Dev nD) (n : ℕ) (v7 c0 c16) (t : Fin k0_t7_loop.trips) (acc : Unit) :
    PInv m c n 0 16 0 (part m c 1) t.val ⊢ WP c (ap (k0_t7_body (F := F)) v7 (k0_pay7 (xblk m c (rot 6 c))) c0 c16 t acc) (fun _ => PInv m c n 0 16 0 (part m c 1) (t.val + 1)) := by
  have ht : t.val < 16 := t.isLt
  have hc : k0_cond7 t = 1#1 ↔ t.val + 1 < 16 := by revert t; decide +kernel
  unfold ap k0_t7_body
  simp only [Prog.lift, Prog.bind_op, Prog.bind_ret, Prog.pure_eq_ret]
  exact pacc_trip m c t.val t.val ht rfl (by decide) hc (vec1 (k0_off61_eq t) (by omega)) (vec3 (k0_off64_eq t) (by omega)) (k0_off65_eq t) (by omega) (k0_off65_eq t) (by omega) ((pay8_eq _ _).trans (congrArg u3 (part_eq m c 1 0 0 (rot 6 c) t.val rfl rfl))) rfl
    (fun h Q => w_start (kk := fun _ => _) m c (0 + t.val + 1) (by have := hc.mp h; omega) (wsem_eq (Nat.mod_lt _ (by decide)) (vec1 (k0_off58_eq t) (by omega))) (k0_off60_eq t) (by omega) (vec3 (k0_off59_eq t) (by omega)))

theorem t8_trip (c : Dev nD) (n : ℕ) (v7 v171 c0 c16) (t : Fin k0_t8_loop.trips) (acc : Unit) :
    PInv m c n 16 16 1 (part m c 1) t.val ⊢ WP c (ap (k0_t8_body (F := F)) v7 v171 c0 c16 (xblk m c (rot 6 c)) t acc) (fun _ => PInv m c n 16 16 1 (part m c 1) (t.val + 1)) := by
  have ht : t.val < 16 := t.isLt
  have hc : k0_cond8 t = 1#1 ↔ t.val + 1 < 16 := by revert t; decide +kernel
  unfold ap k0_t8_body
  simp only [Prog.lift, Prog.bind_op, Prog.bind_ret, Prog.pure_eq_ret]
  exact pacc_trip m c t.val t.val ht rfl (by decide) hc (vec1 (k0_off69_eq t) (by omega)) (vec3 (k0_off72_eq t) (by omega)) (k0_off73_eq t) (by omega) (k0_off73_eq t) (by omega) ((pay9_eq _ _).trans (congrArg u3 (part_eq m c 1 1 16 (rot 6 c) t.val (rot26 c) rfl))) rfl
    (fun h Q => w_start (kk := fun _ => _) m c (16 + t.val + 1) (by have := hc.mp h; omega) (wsem_eq (Nat.mod_lt _ (by decide)) (vec1 (k0_off66_eq t) (by omega))) (k0_off68_eq t) (by omega) (vec3 (k0_off67_eq t) (by omega)))

theorem part8 {α : Type} {Q : α → sProp 𝕄} (c : Dev nD) (v7 c0 c16) {kk : PUnit → Prog (TpuEff nD τ sig (Elt F) Λ₀ .tc) α} :
    iprop(Rec m ∗ St c 9 ∗ pAny (F := F) c 0 0 4096 ∗ WF m c 0 0 ∗ WI m c 1 ∗ XH m c 0 (rot 6 c) ∗ pAny (F := F) c 1 0 4096)
      ⊢ iprop(((St c 10 ∗ pPts c 0 0 4096 (part m c 1) ∗ WI m c 0 ∗ WI m c 1 ∗ XH m c 0 (rot 6 c) ∗ pPts c 1 0 4096 (part m c 1) ∗ cAny (F := F) c 0 0 0 1024) -∗ WP c (kk ⟨⟩) Q) -∗ WP c (ap (k0_part8_skel (F := F)) v7 (k0_pay7 (xblk m c (rot 6 c))) c0 c16 >>= kk) Q) := by
  unfold ap k0_part8_skel
  simp only [semSignalWord, semWaitWord, Prog.lift, Prog.bind_op, Prog.bind_ret, Prog.pure_eq_ret, wp_deviceId, toI1, toI2, loop_assoc]
  iintro ⟨#HR, HS, P0, W0, W1, X0, P1⟩ Hk
  iapply (pacc_loop m c 0 16 0 (part m c 1) (by decide) (by decide) rfl (t7_trip m c 9 _ _ _)) $$ [HR HS W0 W1 P0]
  · iframe # ∗
  iintro ⟨HS, W0, W1, P0⟩
  iapply (w_start m c 16 (by decide) (wsem_eq (b := 0) (by decide) rfl) rfl rfl rfl) $$ W0
  iintro W0
  iapply (x_load m c rfl) $$ X0
  iintro X0
  iapply (pacc_loop m c 16 16 1 (part m c 1) (by decide) (by decide) rfl (t8_trip m c 9 _ _ _ _)) $$ [HR HS W0 W1 P1]
  · iframe # ∗
  iintro ⟨HS, W0, W1, P1⟩
  iapply (swt m c 0 0 0 0 1024 ⟨rfl, rfl, rfl, rfl⟩ (n := 9) rfl (fun K' => rfl)) $$ [HR HS]
  · iframe # ∗
  iintro ⟨HS, C000⟩
  iapply Hk
  iframe # ∗

theorem t9_trip (c : Dev nD) (v5 v7) (t : Fin k0_t9_loop.trips) (x : Unit) :
    AInv c 1 0 0 2048 (stage m 0 (lft c)) (stage m 1 c) (part m c 1) (fun _ => ()) t.val x ⊢ WP c (ap (k0_t9_body (F := F)) c v5 v7 t x) (fun y => AInv c 1 0 0 2048 (stage m 0 (lft c)) (stage m 1 c) (part m c 1) (fun _ => ()) (t.val + 1) y) := by
  have ht : t.val < 8 := t.isLt
  unfold ap k0_t9_body
  simp only [Prog.lift, Prog.bind_op, Prog.bind_ret, Prog.pure_eq_ret]
  exact acc_trip (T := 8) c t.val t.val x ht (by decide) (by decide) (by omega) (k0_off74_eq t) (by omega) (k0_off75_eq t) (by omega) (pay10_eq _ _) (fun _ => rfl)

theorem t10_trip (c : Dev nD) (v5 v7 c0) (t : Fin k0_t10_loop.trips) (x : Unit) :
    AInv c 1 1 0 2048 (stage m 0 (rgt c)) (stage m 1 c) (part m c 1) (fun _ => ()) t.val x ⊢ WP c (ap (k0_t10_body (F := F)) c v5 v7 c0 t x) (fun y => AInv c 1 1 0 2048 (stage m 0 (rgt c)) (stage m 1 c) (part m c 1) (fun _ => ()) (t.val + 1) y) := by
  have ht : t.val < 8 := t.isLt
  unfold ap k0_t10_body
  simp only [Prog.lift, Prog.bind_op, Prog.bind_ret, Prog.pure_eq_ret]
  exact acc_trip (T := 8) c t.val t.val x ht (by decide) (by decide) (by omega) (k0_off76_eq t) (by omega) (k0_off77_eq t) (by omega) (pay10_eq _ _) (fun _ => rfl)

theorem t11_trip (c : Dev nD) (v5 v7) (t : Fin k0_t11_loop.trips) (x : Unit) :
    AInv c 1 0 2048 4096 (stage m 0 (lft c)) (stage m 1 c) (part m c 1) (fun _ => ()) t.val x ⊢ WP c (ap (k0_t11_body (F := F)) c v5 v7 t x) (fun y => AInv c 1 0 2048 4096 (stage m 0 (lft c)) (stage m 1 c) (part m c 1) (fun _ => ()) (t.val + 1) y) := by
  have ht : t.val < 8 := t.isLt
  unfold ap k0_t11_body
  simp only [Prog.lift, Prog.bind_op, Prog.bind_ret, Prog.pure_eq_ret]
  exact acc_trip (T := 8) c t.val (8 + t.val) x ht (by decide) (by decide) (by omega) (k0_off78_eq t) (by omega) (k0_off79_eq t) (by omega) (pay10_eq _ _) (fun _ => rfl)

theorem t12_trip (c : Dev nD) (v5 v7) (t : Fin k0_t12_loop.trips) (x : Unit) :
    AInv c 1 1 2048 4096 (stage m 0 (rgt c)) (stage m 1 c) (part m c 1) (fun _ => ()) t.val x ⊢ WP c (ap (k0_t12_body (F := F)) c v5 v7 t x) (fun y => AInv c 1 1 2048 4096 (stage m 0 (rgt c)) (stage m 1 c) (part m c 1) (fun _ => ()) (t.val + 1) y) := by
  have ht : t.val < 8 := t.isLt
  unfold ap k0_t12_body
  simp only [Prog.lift, Prog.bind_op, Prog.bind_ret, Prog.pure_eq_ret]
  exact acc_trip (T := 8) c t.val (8 + t.val) x ht (by decide) (by decide) (by omega) (k0_off80_eq t) (by omega) (k0_off81_eq t) (by omega) (pay10_eq _ _) (fun _ => rfl)

theorem part9 {α : Type} {Q : α → sProp 𝕄} (c : Dev nD) (v5 v7) {kk : PUnit → Prog (TpuEff nD τ sig (Elt F) Λ₀ .tc) α} :
    iprop(Rec m ∗ St c 10 ∗ cAny (F := F) c 0 0 0 1024 ∗ aAny (F := F) (rgt c) (lft c).val ∗ pPts c 0 0 4096 (part m c 1))
      ⊢ iprop(((St c 14 ∗ pPts c 0 0 4096 (part m c 1) ∗ cPts c 1 0 0 2048 (stage m 1 c)) -∗ WP c (kk ⟨⟩) Q) -∗ WP c (ap (k0_part9_skel (F := F)) c v5 v7 >>= kk) Q) := by
  unfold ap k0_part9_skel
  simp only [semSignalWord, semWaitWord, Prog.lift, Prog.bind_op, Prog.bind_ret, Prog.pure_eq_ret, wp_deviceId, toI1, toI2, loop_assoc]
  iintro ⟨#HR, HS, C000, ARL, P0⟩ Hk
  iapply (rwt m c 0 0 1 0 0 1024 (lft c) ⟨rfl, rfl, rfl, rfl, rfl, rfl⟩ (n := 10) rfl (fun K' => rfl)) $$ [HR HS]
  · iframe # ∗
  iintro ⟨HS, C100⟩
  iapply (swt m c 1 0 0 1024 2048 ⟨rfl, rfl, rfl, rfl⟩ (n := 11) rfl (fun K' => rfl)) $$ [HR HS]
  · iframe # ∗
  iintro ⟨HS, C001024⟩
  iapply (rwt m c 1 0 1 0 1024 2048 (lft c) ⟨rfl, rfl, rfl, rfl, rfl, rfl⟩ (n := 12) rfl (fun K' => rfl)) $$ [HR HS]
  · iframe # ∗
  iintro ⟨HS, C101024⟩
  ihave C000 := (cAny_cut (F := F) (s := 0) (d := 0) (a := 0) (b := 2048) c 1024 (by decide) (by decide)).2 $$ [C000 C001024]
  · iframe # ∗
  ihave C100 := (cPts_cut (F := F) (s := 1) (d := 0) (a := 0) (b := 2048) c 1024 (stage m 0 (lft c)) (by decide) (by decide)).2 $$ [C100 C101024]
  · iframe # ∗
  iapply (csg0 m c _ (Fin.ext (k0_dev9_eq c)) (n := 13) rfl (cred_eq 0 rfl) rfl) $$ [HR HS C000 ARL]
  · iframe # ∗
  iintro HS
  iapply (acc_loop c 1 0 0 2048 8 (stage m 0 (lft c)) (stage m 1 c) (part m c 1) (fun _ => ()) rfl rfl rfl (t9_trip m c _ _)) $$ [C100 P0]
  · iframe # ∗
  iintro ⟨C100, P0⟩
  iapply Hk
  iframe # ∗

theorem part10 {α : Type} {Q : α → sProp 𝕄} (c : Dev nD) (v5 v7) {kk : PUnit → Prog (TpuEff nD τ sig (Elt F) Λ₀ .tc) α} :
    iprop(Rec m ∗ St c 14 ∗ cPts c 1 0 0 2048 (stage m 1 c))
      ⊢ iprop(((St c 17 ∗ aAny (F := F) (rot 2 c) c.val ∗ cAny (F := F) c 0 1 0 1024) -∗ WP c (kk ⟨⟩) Q) -∗ WP c (ap (k0_part10_skel (F := F)) c v5 v7 >>= kk) Q) := by
  unfold ap k0_part10_skel
  simp only [semSignalWord, semWaitWord, Prog.lift, Prog.bind_op, Prog.bind_ret, Prog.pure_eq_ret, wp_deviceId, toI1, toI2, loop_assoc]
  iintro ⟨#HR, HS, C100⟩ Hk
  iapply (cwt0 m c (n := 14) rfl (fun K' => rfl)) $$ [HR HS]
  · iframe # ∗
  iintro ⟨HS, D000, A2C⟩
  iapply (hop m c _ 6 1 1 0 0 0 2048 (rgt c) ⟨rfl, rfl, rfl, rfl, rfl, rfl, rfl⟩ (Fin.ext (k0_dev10_eq c)) (n := 15) rfl (send_eq 6 rfl) (recv_eq 6 rfl) rfl rfl rfl rfl rfl) $$ [HR HS C100 D000]
  · iframe # ∗
  iintro HS
  iapply (swt m c 3 0 1 0 1024 ⟨rfl, rfl, rfl, rfl⟩ (n := 16) rfl (fun K' => rfl)) $$ [HR HS]
  · iframe # ∗
  iintro ⟨HS, C010⟩
  iapply Hk
  iframe # ∗

theorem part11 {α : Type} {Q : α → sProp 𝕄} (c : Dev nD) (v5 v7) {kk : BitVec 32 → Prog (TpuEff nD τ sig (Elt F) Λ₀ .tc) α} :
    iprop(Rec m ∗ St c 17 ∗ cAny (F := F) c 0 1 0 1024)
      ⊢ iprop(((St c 21 ∗ cPts c 1 1 0 2048 (stage m 0 (rgt c))) -∗ WP c (kk 0#32) Q) -∗ WP c (ap (k0_part11_skel (F := F)) c v5 v7 >>= kk) Q) := by
  unfold ap k0_part11_skel
  simp only [semSignalWord, semWaitWord, Prog.lift, Prog.bind_op, Prog.bind_ret, Prog.pure_eq_ret, wp_deviceId, toI1, toI2, loop_assoc]
  iintro ⟨#HR, HS, C010⟩ Hk
  iapply (rwt m c 3 0 1 1 0 1024 (rgt c) ⟨rfl, rfl, rfl, rfl, rfl, rfl⟩ (n := 17) rfl (fun K' => rfl)) $$ [HR HS]
  · iframe # ∗
  iintro ⟨HS, C110⟩
  iapply (swt m c 4 0 1 1024 2048 ⟨rfl, rfl, rfl, rfl⟩ (n := 18) rfl (fun K' => rfl)) $$ [HR HS]
  · iframe # ∗
  iintro ⟨HS, C011024⟩
  iapply (rwt m c 4 0 1 1 1024 2048 (rgt c) ⟨rfl, rfl, rfl, rfl, rfl, rfl⟩ (n := 19) rfl (fun K' => rfl)) $$ [HR HS]
  · iframe # ∗
  iintro ⟨HS, C111024⟩
  ihave C010 := (cAny_cut (F := F) (s := 0) (d := 1) (a := 0) (b := 2048) c 1024 (by decide) (by decide)).2 $$ [C010 C011024]
  · iframe # ∗
  ihave C110 := (cPts_cut (F := F) (s := 1) (d := 1) (a := 0) (b := 2048) c 1024 (stage m 0 (rgt c)) (by decide) (by decide)).2 $$ [C110 C111024]
  · iframe # ∗
  iapply (csg m c _ 2 0 1 0 2048 (rgt c) ⟨rfl, rfl, rfl, rfl, rfl⟩ (by decide) (Fin.ext (k0_dev11_eq c)) (n := 20) rfl (cred_eq 2 rfl) rfl) $$ [HR HS C010]
  · iframe # ∗
  iintro HS
  iapply Hk
  iframe # ∗

theorem part12 {α : Type} {Q : α → sProp 𝕄} (c : Dev nD) (v5 v7 c0) {kk : PUnit → Prog (TpuEff nD τ sig (Elt F) Λ₀ .tc) α} :
    iprop(Rec m ∗ St c 21 ∗ cPts c 1 1 0 2048 (stage m 0 (rgt c)) ∗ pPts c 1 0 4096 (part m c 1))
      ⊢ iprop(((St c 24 ∗ pPts c 1 0 4096 (part m c 1) ∗ cAny (F := F) c 0 0 2048 4096) -∗ WP c (kk ⟨⟩) Q) -∗ WP c (ap (k0_part12_skel (F := F)) c v5 v7 c0 >>= kk) Q) := by
  unfold ap k0_part12_skel
  simp only [semSignalWord, semWaitWord, Prog.lift, Prog.bind_op, Prog.bind_ret, Prog.pure_eq_ret, wp_deviceId, toI1, toI2, loop_assoc]
  iintro ⟨#HR, HS, C110, P1⟩ Hk
  iapply (acc_loop c 1 1 0 2048 8 (stage m 0 (rgt c)) (stage m 1 c) (part m c 1) (fun _ => ()) rfl rfl rfl (t10_trip m c _ _ _)) $$ [C110 P1]
  · iframe # ∗
  iintro ⟨C110, P1⟩
  iapply (cwt m c 2 0 1 0 2048 (lft c) ⟨rfl, rfl, rfl, rfl, rfl⟩ (by decide) (n := 21) rfl (fun K' => rfl)) $$ [HR HS]
  · iframe # ∗
  iintro ⟨HS, D010⟩
  iapply (hop m c _ 8 1 1 0 1 0 2048 (lft c) ⟨rfl, rfl, rfl, rfl, rfl, rfl, rfl⟩ (Fin.ext (k0_dev12_eq c)) (n := 22) rfl (send_eq 8 rfl) (recv_eq 8 rfl) rfl rfl rfl rfl rfl) $$ [HR HS C110 D010]
  · iframe # ∗
  iintro HS
  iapply (swt m c 2 0 0 2048 4096 ⟨rfl, rfl, rfl, rfl⟩ (n := 23) rfl (fun K' => rfl)) $$ [HR HS]
  · iframe # ∗
  iintro ⟨HS, C002048⟩
  iapply Hk
  iframe # ∗

theorem part13 {α : Type} {Q : α → sProp 𝕄} (c : Dev nD) (v5 v7) {kk : PUnit → Prog (TpuEff nD τ sig (Elt F) Λ₀ .tc) α} :
    iprop(Rec m ∗ St c 24 ∗ cAny (F := F) c 0 0 2048 4096 ∗ pPts c 0 0 4096 (part m c 1))
      ⊢ iprop(((St c 28 ∗ pPts c 0 0 4096 (part m c 1)) -∗ WP c (kk ⟨⟩) Q) -∗ WP c (ap (k0_part13_skel (F := F)) c v5 v7 >>= kk) Q) := by
  unfold ap k0_part13_skel
  simp only [semSignalWord, semWaitWord, Prog.lift, Prog.bind_op, Prog.bind_ret, Prog.pure_eq_ret, wp_deviceId, toI1, toI2, loop_assoc]
  iintro ⟨#HR, HS, C002048, P0⟩ Hk
  iapply (rwt m c 2 0 1 0 2048 4096 (lft c) ⟨rfl, rfl, rfl, rfl, rfl, rfl⟩ (n := 24) rfl (fun K' => rfl)) $$ [HR HS]
  · iframe # ∗
  iintro ⟨HS, C102048⟩
  iapply (csg m c _ 1 0 0 2048 4096 (lft c) ⟨rfl, rfl, rfl, rfl, rfl⟩ (by decide) (Fin.ext (k0_dev13_eq c)) (n := 25) rfl (cred_eq 1 rfl) rfl) $$ [HR HS C002048]
  · iframe # ∗
  iintro HS
  iapply (acc_loop c 1 0 2048 4096 8 (stage m 0 (lft c)) (stage m 1 c) (part m c 1) (fun _ => ()) rfl rfl rfl (t11_trip m c _ _)) $$ [C102048 P0]
  · iframe # ∗
  iintro ⟨C102048, P0⟩
  iapply (cwt m c 1 0 0 2048 4096 (rgt c) ⟨rfl, rfl, rfl, rfl, rfl⟩ (by decide) (n := 26) rfl (fun K' => rfl)) $$ [HR HS]
  · iframe # ∗
  iintro ⟨HS, D002048⟩
  iapply (hop m c _ 7 1 1 0 0 2048 4096 (rgt c) ⟨rfl, rfl, rfl, rfl, rfl, rfl, rfl⟩ (Fin.ext (k0_dev14_eq c)) (n := 27) rfl (send_eq 7 rfl) (recv_eq 7 rfl) rfl rfl rfl rfl rfl) $$ [HR HS C102048 D002048]
  · iframe # ∗
  iintro HS
  iapply Hk
  iframe # ∗

theorem part14 {α : Type} {Q : α → sProp 𝕄} (c : Dev nD) (v5 v7) {kk : PUnit → Prog (TpuEff nD τ sig (Elt F) Λ₀ .tc) α} :
    iprop(Rec m ∗ St c 28 ∗ pPts c 1 0 4096 (part m c 1))
      ⊢ iprop(((St c 32 ∗ pPts c 1 0 4096 (part m c 1) ∗ cPts c 1 1 2048 4096 (stage m 1 c) ∗ cAny (F := F) (lft c) 0 1 2048 4096) -∗ WP c (kk ⟨⟩) Q) -∗ WP c (ap (k0_part14_skel (F := F)) c v5 v7 >>= kk) Q) := by
  unfold ap k0_part14_skel
  simp only [semSignalWord, semWaitWord, Prog.lift, Prog.bind_op, Prog.bind_ret, Prog.pure_eq_ret, wp_deviceId, toI1, toI2, loop_assoc]
  iintro ⟨#HR, HS, P1⟩ Hk
  iapply (swt m c 5 0 1 2048 4096 ⟨rfl, rfl, rfl, rfl⟩ (n := 28) rfl (fun K' => rfl)) $$ [HR HS]
  · iframe # ∗
  iintro ⟨HS, C012048⟩
  iapply (rwt m c 5 0 1 1 2048 4096 (rgt c) ⟨rfl, rfl, rfl, rfl, rfl, rfl⟩ (n := 29) rfl (fun K' => rfl)) $$ [HR HS]
  · iframe # ∗
  iintro ⟨HS, C112048⟩
  iapply (csg m c _ 3 0 1 2048 4096 (rgt c) ⟨rfl, rfl, rfl, rfl, rfl⟩ (by decide) (Fin.ext (k0_dev15_eq c)) (n := 30) rfl (cred_eq 3 rfl) rfl) $$ [HR HS C012048]
  · iframe # ∗
  iintro HS
  iapply (acc_loop c 1 1 2048 4096 8 (stage m 0 (rgt c)) (stage m 1 c) (part m c 1) (fun _ => ()) rfl rfl rfl (t12_trip m c _ _)) $$ [C112048 P1]
  · iframe # ∗
  iintro ⟨C112048, P1⟩
  iapply (cwt m c 3 0 1 2048 4096 (lft c) ⟨rfl, rfl, rfl, rfl, rfl⟩ (by decide) (n := 31) rfl (fun K' => rfl)) $$ [HR HS]
  · iframe # ∗
  iintro ⟨HS, D012048⟩
  iapply Hk
  iframe # ∗

theorem part15 {α : Type} {Q : α → sProp 𝕄} (c : Dev nD) (v2 v5) {kk : BitVec 32 → Prog (TpuEff nD τ sig (Elt F) Λ₀ .tc) α} :
    iprop(Rec m ∗ St c 32 ∗ cPts c 1 1 2048 4096 (stage m 1 c) ∗ cAny (F := F) (lft c) 0 1 2048 4096 ∗ XH m c 0 (rot 6 c) ∗ WI m c 0)
      ⊢ iprop(((St c 33 ∗ XF m c 0 (rot 5 c) ∗ WF m c 0 0) -∗ WP c (kk (Scalar.remsi (Scalar.addi (Scalar.addi v2 1#32) 2#32) 4#32)) Q) -∗ WP c (ap (k0_part15_skel (F := F)) c v2 v5 >>= kk) Q) := by
  unfold ap k0_part15_skel
  simp only [semSignalWord, semWaitWord, Prog.lift, Prog.bind_op, Prog.bind_ret, Prog.pure_eq_ret, wp_deviceId, toI1, toI2, loop_assoc]
  iintro ⟨#HR, HS, C112048, D012048, X0, W0⟩ Hk
  iapply (hop m c _ 9 1 1 0 1 2048 4096 (lft c) ⟨rfl, rfl, rfl, rfl, rfl, rfl, rfl⟩ (Fin.ext (k0_dev16_eq c)) (n := 32) rfl (send_eq 9 rfl) (recv_eq 9 rfl) rfl rfl rfl rfl rfl) $$ [HR HS C112048 D012048]
  · iframe # ∗
  iintro HS
  ihave X0 := (XH_idle m c 0 _) $$ X0
  iapply (x_start m c (rot 5 c) (xsem_eq (b := 0) (by decide) rfl) (k0_off57_eq c 1) (by first | rfl | (simp [rot]; omega)) rfl) $$ X0
  iintro X0
  iapply (w_start m c 0 (by decide) (wsem_eq (b := 0) (by decide) rfl) rfl rfl rfl) $$ W0
  iintro W0
  iapply Hk
  iframe # ∗

end Cert.RingProof
-- ==== Proof.BodyC.lean ====
/-
The second round of additions and the copies that follow it.
-/
module

public import proofs.«01_k».proof.Proof.BodyB

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

theorem t13_trip (c : Dev nD) (n : ℕ) (v340) (t : Fin k0_t13_loop.trips) (acc : Unit) :
    PInv m c n 0 16 0 (part m c 2) t.val ⊢ WP c (ap (k0_t13_body (F := F)) c v340 (xblk m c (rot 5 c)) t acc) (fun _ => PInv m c n 0 16 0 (part m c 2) (t.val + 1)) := by
  have ht : t.val < 16 := t.isLt
  have hc : k0_cond9 t = 1#1 ↔ t.val + 1 < 16 := by revert t; decide +kernel
  unfold ap k0_t13_body
  simp only [Prog.lift, Prog.bind_op, Prog.bind_ret, Prog.pure_eq_ret]
  exact pacc_trip m c t.val t.val ht rfl (by decide) hc (vec1 (k0_off85_eq t) (by omega)) (vec3 (k0_off88_eq t) (by omega)) (k0_off89_eq t) (by omega) (k0_off89_eq t) (by omega) ((pay9_eq _ _).trans (congrArg u3 (part_eq m c 2 0 0 (rot 5 c) t.val rfl rfl))) rfl
    (fun h Q => w_start (kk := fun _ => _) m c (0 + t.val + 1) (by have := hc.mp h; omega) (wsem_eq (Nat.mod_lt _ (by decide)) (vec1 (k0_off82_eq t) (by omega))) (k0_off84_eq t) (by omega) (vec3 (k0_off83_eq t) (by omega)))

theorem t14_trip (c : Dev nD) (n : ℕ) (v5 v7) (t : Fin k0_t14_loop.trips) (acc : Unit) :
    PInv m c n 16 16 1 (part m c 2) t.val ⊢ WP c (ap (k0_t14_body (F := F)) c v5 v7 (xblk m c (rot 3 c)) t acc) (fun _ => PInv m c n 16 16 1 (part m c 2) (t.val + 1)) := by
  have ht : t.val < 16 := t.isLt
  have hc : k0_cond10 t = 1#1 ↔ t.val + 1 < 16 := by revert t; decide +kernel
  unfold ap k0_t14_body
  simp only [Prog.lift, Prog.bind_op, Prog.bind_ret, Prog.pure_eq_ret]
  exact pacc_trip m c t.val t.val ht rfl (by decide) hc (vec1 (k0_off94_eq t) (by omega)) (vec3 (k0_off97_eq t) (by omega)) (k0_off98_eq t) (by omega) (k0_off98_eq t) (by omega) ((pay9_eq _ _).trans (congrArg u3 (part_eq m c 2 1 16 (rot 3 c) t.val rfl rfl))) rfl
    (fun h Q => w_start (kk := fun _ => _) m c (16 + t.val + 1) (by have := hc.mp h; omega) (wsem_eq (Nat.mod_lt _ (by decide)) (vec1 (k0_off91_eq t) (by omega))) (k0_off93_eq t) (by omega) (vec3 (k0_off92_eq t) (by omega)))

theorem t15_trip (c : Dev nD) (v5 v7 c0 c1) (t : Fin k0_t15_loop.trips) (x : Unit) :
    AInv c 0 0 0 2048 (stage m 1 (lft c)) (stage m 2 c) (part m c 2) (fun _ => ()) t.val x ⊢ WP c (ap (k0_t15_body (F := F)) c v5 v7 c0 c1 t x) (fun y => AInv c 0 0 0 2048 (stage m 1 (lft c)) (stage m 2 c) (part m c 2) (fun _ => ()) (t.val + 1) y) := by
  have ht : t.val < 8 := t.isLt
  unfold ap k0_t15_body
  simp only [Prog.lift, Prog.bind_op, Prog.bind_ret, Prog.pure_eq_ret]
  exact acc_trip (T := 8) c t.val t.val x ht (by decide) (by decide) (by omega) (k0_off99_eq t) (by omega) (k0_off100_eq t) (by omega) (pay10_eq _ _) (fun _ => rfl)

theorem t16_trip (c : Dev nD) (v5 v7) (t : Fin k0_t16_loop.trips) (x : Unit) :
    AInv c 0 1 0 2048 (stage m 1 (rgt c)) (stage m 2 c) (part m c 2) (fun _ => ()) t.val x ⊢ WP c (ap (k0_t16_body (F := F)) c v5 v7 t x) (fun y => AInv c 0 1 0 2048 (stage m 1 (rgt c)) (stage m 2 c) (part m c 2) (fun _ => ()) (t.val + 1) y) := by
  have ht : t.val < 8 := t.isLt
  unfold ap k0_t16_body
  simp only [Prog.lift, Prog.bind_op, Prog.bind_ret, Prog.pure_eq_ret]
  exact acc_trip (T := 8) c t.val t.val x ht (by decide) (by decide) (by omega) (k0_off101_eq t) (by omega) (k0_off102_eq t) (by omega) (pay10_eq _ _) (fun _ => rfl)

theorem t17_trip (c : Dev nD) (v5 v7) (t : Fin k0_t17_loop.trips) (x : Unit) :
    AInv c 0 0 2048 4096 (stage m 1 (lft c)) (stage m 2 c) (part m c 2) (fun _ => ()) t.val x ⊢ WP c (ap (k0_t17_body (F := F)) c v5 v7 t x) (fun y => AInv c 0 0 2048 4096 (stage m 1 (lft c)) (stage m 2 c) (part m c 2) (fun _ => ()) (t.val + 1) y) := by
  have ht : t.val < 8 := t.isLt
  unfold ap k0_t17_body
  simp only [Prog.lift, Prog.bind_op, Prog.bind_ret, Prog.pure_eq_ret]
  exact acc_trip (T := 8) c t.val (8 + t.val) x ht (by decide) (by decide) (by omega) (k0_off103_eq t) (by omega) (k0_off104_eq t) (by omega) (pay10_eq _ _) (fun _ => rfl)

theorem t18_trip (c : Dev nD) (v2 v5 v7) (t : Fin k0_t18_loop.trips) (x : Unit) :
    AInv c 0 1 2048 4096 (stage m 1 (rgt c)) (stage m 2 c) (part m c 2) (fun _ => ()) t.val x ⊢ WP c (ap (k0_t18_body (F := F)) c v2 v5 v7 t x) (fun y => AInv c 0 1 2048 4096 (stage m 1 (rgt c)) (stage m 2 c) (part m c 2) (fun _ => ()) (t.val + 1) y) := by
  have ht : t.val < 8 := t.isLt
  unfold ap k0_t18_body
  simp only [Prog.lift, Prog.bind_op, Prog.bind_ret, Prog.pure_eq_ret]
  exact acc_trip (T := 8) c t.val (8 + t.val) x ht (by decide) (by decide) (by omega) (k0_off105_eq t) (by omega) (k0_off106_eq t) (by omega) (pay10_eq _ _) (fun _ => rfl)

theorem part16 {α : Type} {Q : α → sProp 𝕄} (c : Dev nD) (v340) {kk : Vec F S1x1024x1024 .f32 → Prog (TpuEff nD τ sig (Elt F) Λ₀ .tc) α} :
    iprop(Rec m ∗ St c 33 ∗ XF m c 0 (rot 5 c) ∗ pPts c 0 0 4096 (part m c 1) ∗ WF m c 0 0 ∗ WI m c 1 ∗ XH m c 1 (rgt c))
      ⊢ iprop(((St c 33 ∗ XH m c 0 (rot 5 c) ∗ pPts c 0 0 4096 (part m c 2) ∗ WF m c 0 16 ∗ WI m c 1 ∗ XH m c 1 (rot 3 c)) -∗ WP c (kk (xblk m c (rot 3 c))) Q) -∗ WP c (ap (k0_part16_skel (F := F)) c v340 >>= kk) Q) := by
  unfold ap k0_part16_skel
  simp only [semSignalWord, semWaitWord, Prog.lift, Prog.bind_op, Prog.bind_ret, Prog.pure_eq_ret, wp_deviceId, toI1, toI2, loop_assoc]
  iintro ⟨#HR, HS, X0, P0, W0, W1, X1⟩ Hk
  iapply (x_wait m c (xsem_eq (b := 0) (by decide) rfl)) $$ [HR HS X0]
  · iframe # ∗
  iintro ⟨HS, X0⟩
  iapply (x_load m c rfl) $$ X0
  iintro X0
  ihave P0 := (pPts_any c) $$ P0
  iapply (pacc_loop m c 0 16 0 (part m c 2) (by decide) (by decide) rfl (t13_trip m c 33 _)) $$ [HR HS W0 W1 P0]
  · iframe # ∗
  iintro ⟨HS, W0, W1, P0⟩
  ihave X1 := (XH_idle m c 1 _) $$ X1
  iapply (x_start m c (rot 3 c) (xsem_eq (b := 1) (by decide) rfl) (k0_off90_eq c) (by first | rfl | (simp [rot]; omega)) rfl) $$ X1
  iintro X1
  iapply (w_start m c 16 (by decide) (wsem_eq (b := 0) (by decide) rfl) rfl rfl rfl) $$ W0
  iintro W0
  iapply (x_wait m c (xsem_eq (b := 1) (by decide) rfl)) $$ [HR HS X1]
  · iframe # ∗
  iintro ⟨HS, X1⟩
  iapply (x_load m c rfl) $$ X1
  iintro X1
  iapply Hk
  iframe # ∗

theorem part17 {α : Type} {Q : α → sProp 𝕄} (c : Dev nD) (v5 v7) {kk : (Σ' (c0_i32_527 : BitVec 32), BitVec 32) → Prog (TpuEff nD τ sig (Elt F) Λ₀ .tc) α} :
    iprop(Rec m ∗ St c 33 ∗ pPts c 1 0 4096 (part m c 1) ∗ WF m c 0 16 ∗ WI m c 1)
      ⊢ iprop(((St c 36 ∗ pPts c 1 0 4096 (part m c 2) ∗ WI m c 0 ∗ WI m c 1 ∗ cPts c 0 0 0 2048 (stage m 1 (lft c))) -∗ WP c (kk ⟨0#32, 1#32⟩) Q) -∗ WP c (ap (k0_part17_skel (F := F)) c v5 v7 (xblk m c (rot 3 c)) >>= kk) Q) := by
  unfold ap k0_part17_skel
  simp only [semSignalWord, semWaitWord, Prog.lift, Prog.bind_op, Prog.bind_ret, Prog.pure_eq_ret, wp_deviceId, toI1, toI2, loop_assoc]
  iintro ⟨#HR, HS, P1, W0, W1⟩ Hk
  ihave P1 := (pPts_any c) $$ P1
  iapply (pacc_loop m c 16 16 1 (part m c 2) (by decide) (by decide) rfl (t14_trip m c 33 _ _)) $$ [HR HS W0 W1 P1]
  · iframe # ∗
  iintro ⟨HS, W0, W1, P1⟩
  iapply (swt m c 6 1 0 0 2048 ⟨rfl, rfl, rfl, rfl⟩ (n := 33) rfl (fun K' => rfl)) $$ [HR HS]
  · iframe # ∗
  iintro ⟨HS, C100⟩
  iapply (rwt m c 6 1 0 0 0 2048 (lft c) ⟨rfl, rfl, rfl, rfl, rfl, rfl⟩ (n := 34) rfl (fun K' => rfl)) $$ [HR HS]
  · iframe # ∗
  iintro ⟨HS, C000⟩
  iapply (csg m c _ 4 1 0 0 2048 (lft c) ⟨rfl, rfl, rfl, rfl, rfl⟩ (by decide) (Fin.ext (k0_dev17_eq c)) (n := 35) rfl (cred_eq 4 rfl) rfl) $$ [HR HS C100]
  · iframe # ∗
  iintro HS
  iapply Hk
  iframe # ∗

theorem part18 {α : Type} {Q : α → sProp 𝕄} (c : Dev nD) (v5 v7 c0 c1) {kk : PUnit → Prog (TpuEff nD τ sig (Elt F) Λ₀ .tc) α} :
    iprop(Rec m ∗ St c 36 ∗ cPts c 0 0 0 2048 (stage m 1 (lft c)) ∗ pPts c 0 0 4096 (part m c 2))
      ⊢ iprop(((St c 39 ∗ pPts c 0 0 4096 (part m c 2) ∗ cAny (F := F) c 1 1 0 2048) -∗ WP c (kk ⟨⟩) Q) -∗ WP c (ap (k0_part18_skel (F := F)) c v5 v7 c0 c1 >>= kk) Q) := by
  unfold ap k0_part18_skel
  simp only [semSignalWord, semWaitWord, Prog.lift, Prog.bind_op, Prog.bind_ret, Prog.pure_eq_ret, wp_deviceId, toI1, toI2, loop_assoc]
  iintro ⟨#HR, HS, C000, P0⟩ Hk
  iapply (acc_loop c 0 0 0 2048 8 (stage m 1 (lft c)) (stage m 2 c) (part m c 2) (fun _ => ()) rfl rfl rfl (t15_trip m c _ _ _ _)) $$ [C000 P0]
  · iframe # ∗
  iintro ⟨C000, P0⟩
  iapply (cwt m c 4 1 0 0 2048 (rgt c) ⟨rfl, rfl, rfl, rfl, rfl⟩ (by decide) (n := 36) rfl (fun K' => rfl)) $$ [HR HS]
  · iframe # ∗
  iintro ⟨HS, D100⟩
  iapply (hop m c _ 10 2 0 1 0 0 2048 (rgt c) ⟨rfl, rfl, rfl, rfl, rfl, rfl, rfl⟩ (Fin.ext (k0_dev18_eq c)) (n := 37) rfl (send_eq 10 rfl) (recv_eq 10 rfl) rfl rfl rfl rfl rfl) $$ [HR HS C000 D100]
  · iframe # ∗
  iintro HS
  iapply (swt m c 8 1 1 0 2048 ⟨rfl, rfl, rfl, rfl⟩ (n := 38) rfl (fun K' => rfl)) $$ [HR HS]
  · iframe # ∗
  iintro ⟨HS, C110⟩
  iapply Hk
  iframe # ∗

theorem part19 {α : Type} {Q : α → sProp 𝕄} (c : Dev nD) (v5 v7) {kk : PUnit → Prog (TpuEff nD τ sig (Elt F) Λ₀ .tc) α} :
    iprop(Rec m ∗ St c 39 ∗ cAny (F := F) c 1 1 0 2048 ∗ pPts c 1 0 4096 (part m c 2))
      ⊢ iprop(((St c 43 ∗ pPts c 1 0 4096 (part m c 2)) -∗ WP c (kk ⟨⟩) Q) -∗ WP c (ap (k0_part19_skel (F := F)) c v5 v7 >>= kk) Q) := by
  unfold ap k0_part19_skel
  simp only [semSignalWord, semWaitWord, Prog.lift, Prog.bind_op, Prog.bind_ret, Prog.pure_eq_ret, wp_deviceId, toI1, toI2, loop_assoc]
  iintro ⟨#HR, HS, C110, P1⟩ Hk
  iapply (rwt m c 8 1 0 1 0 2048 (rgt c) ⟨rfl, rfl, rfl, rfl, rfl, rfl⟩ (n := 39) rfl (fun K' => rfl)) $$ [HR HS]
  · iframe # ∗
  iintro ⟨HS, C010⟩
  iapply (csg m c _ 6 1 1 0 2048 (rgt c) ⟨rfl, rfl, rfl, rfl, rfl⟩ (by decide) (Fin.ext (k0_dev19_eq c)) (n := 40) rfl (cred_eq 6 rfl) rfl) $$ [HR HS C110]
  · iframe # ∗
  iintro HS
  iapply (acc_loop c 0 1 0 2048 8 (stage m 1 (rgt c)) (stage m 2 c) (part m c 2) (fun _ => ()) rfl rfl rfl (t16_trip m c _ _)) $$ [C010 P1]
  · iframe # ∗
  iintro ⟨C010, P1⟩
  iapply (cwt m c 6 1 1 0 2048 (lft c) ⟨rfl, rfl, rfl, rfl, rfl⟩ (by decide) (n := 41) rfl (fun K' => rfl)) $$ [HR HS]
  · iframe # ∗
  iintro ⟨HS, D110⟩
  iapply (hop m c _ 12 2 0 1 1 0 2048 (lft c) ⟨rfl, rfl, rfl, rfl, rfl, rfl, rfl⟩ (Fin.ext (k0_dev20_eq c)) (n := 42) rfl (send_eq 12 rfl) (recv_eq 12 rfl) rfl rfl rfl rfl rfl) $$ [HR HS C010 D110]
  · iframe # ∗
  iintro HS
  iapply Hk
  iframe # ∗

theorem part20 {α : Type} {Q : α → sProp 𝕄} (c : Dev nD) (v5 v7) {kk : PUnit → Prog (TpuEff nD τ sig (Elt F) Λ₀ .tc) α} :
    iprop(Rec m ∗ St c 43 ∗ pPts c 0 0 4096 (part m c 2))
      ⊢ iprop(((St c 47 ∗ pPts c 0 0 4096 (part m c 2) ∗ cPts c 0 0 2048 4096 (stage m 2 c) ∗ cAny (F := F) (rgt c) 1 0 2048 4096) -∗ WP c (kk ⟨⟩) Q) -∗ WP c (ap (k0_part20_skel (F := F)) c v5 v7 >>= kk) Q) := by
  unfold ap k0_part20_skel
  simp only [semSignalWord, semWaitWord, Prog.lift, Prog.bind_op, Prog.bind_ret, Prog.pure_eq_ret, wp_deviceId, toI1, toI2, loop_assoc]
  iintro ⟨#HR, HS, P0⟩ Hk
  iapply (swt m c 7 1 0 2048 4096 ⟨rfl, rfl, rfl, rfl⟩ (n := 43) rfl (fun K' => rfl)) $$ [HR HS]
  · iframe # ∗
  iintro ⟨HS, C102048⟩
  iapply (rwt m c 7 1 0 0 2048 4096 (lft c) ⟨rfl, rfl, rfl, rfl, rfl, rfl⟩ (n := 44) rfl (fun K' => rfl)) $$ [HR HS]
  · iframe # ∗
  iintro ⟨HS, C002048⟩
  iapply (csg m c _ 5 1 0 2048 4096 (lft c) ⟨rfl, rfl, rfl, rfl, rfl⟩ (by decide) (Fin.ext (k0_dev21_eq c)) (n := 45) rfl (cred_eq 5 rfl) rfl) $$ [HR HS C102048]
  · iframe # ∗
  iintro HS
  iapply (acc_loop c 0 0 2048 4096 8 (stage m 1 (lft c)) (stage m 2 c) (part m c 2) (fun _ => ()) rfl rfl rfl (t17_trip m c _ _)) $$ [C002048 P0]
  · iframe # ∗
  iintro ⟨C002048, P0⟩
  iapply (cwt m c 5 1 0 2048 4096 (rgt c) ⟨rfl, rfl, rfl, rfl, rfl⟩ (by decide) (n := 46) rfl (fun K' => rfl)) $$ [HR HS]
  · iframe # ∗
  iintro ⟨HS, D102048⟩
  iapply Hk
  iframe # ∗

theorem part21 {α : Type} {Q : α → sProp 𝕄} (c : Dev nD) (v5 v7) {kk : PUnit → Prog (TpuEff nD τ sig (Elt F) Λ₀ .tc) α} :
    iprop(Rec m ∗ St c 47 ∗ cPts c 0 0 2048 4096 (stage m 2 c) ∗ cAny (F := F) (rgt c) 1 0 2048 4096)
      ⊢ iprop(((St c 50 ∗ cPts c 0 1 2048 4096 (stage m 1 (rgt c)) ∗ cAny (F := F) c 1 1 2048 4096) -∗ WP c (kk ⟨⟩) Q) -∗ WP c (ap (k0_part21_skel (F := F)) c v5 v7 >>= kk) Q) := by
  unfold ap k0_part21_skel
  simp only [semSignalWord, semWaitWord, Prog.lift, Prog.bind_op, Prog.bind_ret, Prog.pure_eq_ret, wp_deviceId, toI1, toI2, loop_assoc]
  iintro ⟨#HR, HS, C002048, D102048⟩ Hk
  iapply (hop m c _ 11 2 0 1 0 2048 4096 (rgt c) ⟨rfl, rfl, rfl, rfl, rfl, rfl, rfl⟩ (Fin.ext (k0_dev22_eq c)) (n := 47) rfl (send_eq 11 rfl) (recv_eq 11 rfl) rfl rfl rfl rfl rfl) $$ [HR HS C002048 D102048]
  · iframe # ∗
  iintro HS
  iapply (swt m c 9 1 1 2048 4096 ⟨rfl, rfl, rfl, rfl⟩ (n := 48) rfl (fun K' => rfl)) $$ [HR HS]
  · iframe # ∗
  iintro ⟨HS, C112048⟩
  iapply (rwt m c 9 1 0 1 2048 4096 (rgt c) ⟨rfl, rfl, rfl, rfl, rfl, rfl⟩ (n := 49) rfl (fun K' => rfl)) $$ [HR HS]
  · iframe # ∗
  iintro ⟨HS, C012048⟩
  iapply Hk
  iframe # ∗

theorem part22 {α : Type} {Q : α → sProp 𝕄} (c : Dev nD) (v2 v5 v7) {kk : PUnit → Prog (TpuEff nD τ sig (Elt F) Λ₀ .tc) α} :
    iprop(Rec m ∗ St c 50 ∗ cAny (F := F) c 1 1 2048 4096 ∗ cPts c 0 1 2048 4096 (stage m 1 (rgt c)) ∗ pPts c 1 0 4096 (part m c 2))
      ⊢ iprop(((St c 53 ∗ pPts c 1 0 4096 (part m c 2)) -∗ WP c (kk ⟨⟩) Q) -∗ WP c (ap (k0_part22_skel (F := F)) c v2 v5 v7 >>= kk) Q) := by
  unfold ap k0_part22_skel
  simp only [semSignalWord, semWaitWord, Prog.lift, Prog.bind_op, Prog.bind_ret, Prog.pure_eq_ret, wp_deviceId, toI1, toI2, loop_assoc]
  iintro ⟨#HR, HS, C112048, C012048, P1⟩ Hk
  iapply (csg m c _ 7 1 1 2048 4096 (rgt c) ⟨rfl, rfl, rfl, rfl, rfl⟩ (by decide) (Fin.ext (k0_dev23_eq c)) (n := 50) rfl (cred_eq 7 rfl) rfl) $$ [HR HS C112048]
  · iframe # ∗
  iintro HS
  iapply (acc_loop c 0 1 2048 4096 8 (stage m 1 (rgt c)) (stage m 2 c) (part m c 2) (fun _ => ()) rfl rfl rfl (t18_trip m c _ _ _)) $$ [C012048 P1]
  · iframe # ∗
  iintro ⟨C012048, P1⟩
  iapply (cwt m c 7 1 1 2048 4096 (lft c) ⟨rfl, rfl, rfl, rfl, rfl⟩ (by decide) (n := 51) rfl (fun K' => rfl)) $$ [HR HS]
  · iframe # ∗
  iintro ⟨HS, D112048⟩
  iapply (hop m c _ 13 2 0 1 1 2048 4096 (lft c) ⟨rfl, rfl, rfl, rfl, rfl, rfl, rfl⟩ (Fin.ext (k0_dev24_eq c)) (n := 52) rfl (send_eq 13 rfl) (recv_eq 13 rfl) rfl rfl rfl rfl rfl) $$ [HR HS C012048 D112048]
  · iframe # ∗
  iintro HS
  iapply Hk
  iframe # ∗

end Cert.RingProof
-- ==== Proof.BodyD.lean ====
/-
The last products, and the sums with their running maximum.
-/
module

public import proofs.«01_k».proof.Proof.BodyC

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

theorem t19_trip (c : Dev nD) (n : ℕ)  (t : Fin k0_t19_loop.trips) (acc : Unit) :
    PInv m c n 0 16 0 (part m c 3) t.val ⊢ WP c (ap (k0_t19_body (F := F)) c (xblk m c (rot 4 c)) t acc) (fun _ => PInv m c n 0 16 0 (part m c 3) (t.val + 1)) := by
  have ht : t.val < 16 := t.isLt
  have hc : k0_cond11 t = 1#1 ↔ t.val + 1 < 16 := by revert t; decide +kernel
  unfold ap k0_t19_body
  simp only [Prog.lift, Prog.bind_op, Prog.bind_ret, Prog.pure_eq_ret]
  exact pacc_trip m c t.val t.val ht rfl (by decide) hc (vec1 (k0_off110_eq t) (by omega)) (vec3 (k0_off113_eq t) (by omega)) (k0_off114_eq t) (by omega) (k0_off114_eq t) (by omega) ((pay9_eq _ _).trans (congrArg u3 (part_eq m c 3 0 0 (rot 4 c) t.val rfl rfl))) rfl
    (fun h Q => w_start (kk := fun _ => _) m c (0 + t.val + 1) (by have := hc.mp h; omega) (wsem_eq (Nat.mod_lt _ (by decide)) (vec1 (k0_off107_eq t) (by omega))) (k0_off109_eq t) (by omega) (vec3 (k0_off108_eq t) (by omega)))

theorem t20_trip (c : Dev nD) (n : ℕ)  (t : Fin k0_t20_loop.trips) (acc : Unit) :
    PInv m c n 16 16 1 (part m c 3) t.val ⊢ WP c (ap (k0_t20_body (F := F)) c (xblk m c (rot 4 c)) t acc) (fun _ => PInv m c n 16 16 1 (part m c 3) (t.val + 1)) := by
  have ht : t.val < 16 := t.isLt
  have hc : k0_cond12 t = 1#1 ↔ t.val + 1 < 16 := by revert t; decide +kernel
  unfold ap k0_t20_body
  simp only [Prog.lift, Prog.bind_op, Prog.bind_ret, Prog.pure_eq_ret]
  exact pacc_trip m c t.val t.val ht rfl (by decide) hc (vec1 (k0_off118_eq t) (by omega)) (vec3 (k0_off121_eq t) (by omega)) (k0_off122_eq t) (by omega) (k0_off122_eq t) (by omega) ((pay9_eq _ _).trans (congrArg u3 (part_eq m c 3 1 16 (rot 4 c) t.val rfl rfl))) rfl
    (fun h Q => w_start (kk := fun _ => _) m c (16 + t.val + 1) (by have := hc.mp h; omega) (wsem_eq (Nat.mod_lt _ (by decide)) (vec1 (k0_off115_eq t) (by omega))) (k0_off117_eq t) (by omega) (vec3 (k0_off116_eq t) (by omega)))

theorem t21_trip (c : Dev nD) (v7) (t : Fin k0_t21_loop.trips) (x : F .f32) :
    AInv c 1 0 0 2048 (stage m 2 (lft c)) (fin m c) (part m c 3) (mxs m c 0 0 (Scalar.ofBits .f32 0x00000000#32)) t.val x ⊢ WP c (ap (k0_t21_body (F := F)) v7 t x) (fun y => AInv c 1 0 0 2048 (stage m 2 (lft c)) (fin m c) (part m c 3) (mxs m c 0 0 (Scalar.ofBits .f32 0x00000000#32)) (t.val + 1) y) := by
  have ht : t.val < 8 := t.isLt
  unfold ap k0_t21_body
  simp only [Prog.lift, Prog.bind_op, Prog.bind_ret, Prog.pure_eq_ret]
  exact acc_trip (T := 8) c t.val (0 + t.val) x ht (by decide) (by decide) (by omega) (k0_off123_eq t) (by omega) (k0_off124_eq t) (by omega) (pay23_eq _ _) (fun h => by rw [h]; exact pay24_eq _ _ _)

theorem t22_trip (c : Dev nD) (v5 v7 v553) (t : Fin k0_t22_loop.trips) (x : F .f32) :
    AInv c 1 1 0 2048 (stage m 2 (rgt c)) (fin m c) (part m c 3) (mxs m c 1 0 (am1 m c)) t.val x ⊢ WP c (ap (k0_t22_body (F := F)) v5 v7 v553 t x) (fun y => AInv c 1 1 0 2048 (stage m 2 (rgt c)) (fin m c) (part m c 3) (mxs m c 1 0 (am1 m c)) (t.val + 1) y) := by
  have ht : t.val < 8 := t.isLt
  unfold ap k0_t22_body
  simp only [Prog.lift, Prog.bind_op, Prog.bind_ret, Prog.pure_eq_ret]
  exact acc_trip (T := 8) c t.val (0 + t.val) x ht (by decide) (by decide) (by omega) (k0_off125_eq t) (by omega) (k0_off126_eq t) (by omega) (pay23_eq _ _) (fun h => by rw [h]; exact pay24_eq _ _ _)

theorem t23_trip (c : Dev nD) (v5 v569) (t : Fin k0_t23_loop.trips) (x : F .f32) :
    AInv c 1 0 2048 4096 (stage m 2 (lft c)) (fin m c) (part m c 3) (mxs m c 0 8 (am2 m c)) t.val x ⊢ WP c (ap (k0_t23_body (F := F)) v5 v569 t x) (fun y => AInv c 1 0 2048 4096 (stage m 2 (lft c)) (fin m c) (part m c 3) (mxs m c 0 8 (am2 m c)) (t.val + 1) y) := by
  have ht : t.val < 8 := t.isLt
  unfold ap k0_t23_body
  simp only [Prog.lift, Prog.bind_op, Prog.bind_ret, Prog.pure_eq_ret]
  exact acc_trip (T := 8) c t.val (8 + t.val) x ht (by decide) (by decide) (by omega) (k0_off127_eq t) (by omega) (k0_off128_eq t) (by omega) (pay23_eq _ _) (fun h => by rw [h]; exact pay24_eq _ _ _)

theorem t24_trip (c : Dev nD) (v5 v569) (t : Fin k0_t24_loop.trips) (x : F .f32) :
    AInv c 1 1 2048 4096 (stage m 2 (rgt c)) (fin m c) (part m c 3) (mxs m c 1 8 (am3 m c)) t.val x ⊢ WP c (ap (k0_t24_body (F := F)) v5 v569 t x) (fun y => AInv c 1 1 2048 4096 (stage m 2 (rgt c)) (fin m c) (part m c 3) (mxs m c 1 8 (am3 m c)) (t.val + 1) y) := by
  have ht : t.val < 8 := t.isLt
  unfold ap k0_t24_body
  simp only [Prog.lift, Prog.bind_op, Prog.bind_ret, Prog.pure_eq_ret]
  exact acc_trip (T := 8) c t.val (8 + t.val) x ht (by decide) (by decide) (by omega) (k0_off129_eq t) (by omega) (k0_off130_eq t) (by omega) (pay23_eq _ _) (fun h => by rw [h]; exact pay24_eq _ _ _)

theorem part23 {α : Type} {Q : α → sProp 𝕄} (c : Dev nD)  {kk : PUnit → Prog (TpuEff nD τ sig (Elt F) Λ₀ .tc) α} :
    iprop(Rec m ∗ St c 53 ∗ XH m c 0 (rot 5 c) ∗ WI m c 0 ∗ pPts c 0 0 4096 (part m c 2) ∗ WI m c 1 ∗ pPts c 1 0 4096 (part m c 2))
      ⊢ iprop(((St c 53 ∗ XH m c 0 (rot 4 c) ∗ WI m c 0 ∗ pPts c 0 0 4096 (part m c 3) ∗ WI m c 1 ∗ pPts c 1 0 4096 (part m c 3)) -∗ WP c (kk ⟨⟩) Q) -∗ WP c (ap (k0_part23_skel (F := F)) c >>= kk) Q) := by
  unfold ap k0_part23_skel
  simp only [semSignalWord, semWaitWord, Prog.lift, Prog.bind_op, Prog.bind_ret, Prog.pure_eq_ret, wp_deviceId, toI1, toI2, loop_assoc]
  iintro ⟨#HR, HS, X0, W0, P0, W1, P1⟩ Hk
  ihave X0 := (XH_idle m c 0 _) $$ X0
  iapply (x_start m c (rot 4 c) (xsem_eq (b := 0) (by decide) rfl) (k0_off57_eq c 2) (by first | rfl | (simp [rot]; omega)) rfl) $$ X0
  iintro X0
  iapply (w_start m c 0 (by decide) (wsem_eq (b := 0) (by decide) rfl) rfl rfl rfl) $$ W0
  iintro W0
  iapply (x_wait m c (xsem_eq (b := 0) (by decide) rfl)) $$ [HR HS X0]
  · iframe # ∗
  iintro ⟨HS, X0⟩
  iapply (x_load m c rfl) $$ X0
  iintro X0
  ihave P0 := (pPts_any c) $$ P0
  iapply (pacc_loop m c 0 16 0 (part m c 3) (by decide) (by decide) rfl (t19_trip m c 53)) $$ [HR HS W0 W1 P0]
  · iframe # ∗
  iintro ⟨HS, W0, W1, P0⟩
  iapply (w_start m c 16 (by decide) (wsem_eq (b := 0) (by decide) rfl) rfl rfl rfl) $$ W0
  iintro W0
  iapply (x_load m c rfl) $$ X0
  iintro X0
  ihave P1 := (pPts_any c) $$ P1
  iapply (pacc_loop m c 16 16 1 (part m c 3) (by decide) (by decide) rfl (t20_trip m c 53)) $$ [HR HS W0 W1 P1]
  · iframe # ∗
  iintro ⟨HS, W0, W1, P1⟩
  iapply Hk
  iframe # ∗

theorem part24 {α : Type} {Q : α → sProp 𝕄} (c : Dev nD) (v7) {kk : F .f32 → Prog (TpuEff nD τ sig (Elt F) Λ₀ .tc) α} :
    iprop(Rec m ∗ St c 53 ∗ pPts c 0 0 4096 (part m c 3))
      ⊢ iprop(((St c 55 ∗ pPts c 0 0 4096 (part m c 3) ∗ cAny (F := F) c 0 0 0 2048 ∗ cPts c 1 0 0 2048 (fin m c)) -∗ WP c (kk (am1 m c)) Q) -∗ WP c (ap (k0_part24_skel (F := F)) v7 >>= kk) Q) := by
  unfold ap k0_part24_skel
  simp only [semSignalWord, semWaitWord, Prog.lift, Prog.bind_op, Prog.bind_ret, Prog.pure_eq_ret, wp_deviceId, toI1, toI2, loop_assoc]
  iintro ⟨#HR, HS, P0⟩ Hk
  iapply (swt m c 10 0 0 0 2048 ⟨rfl, rfl, rfl, rfl⟩ (n := 53) rfl (fun K' => rfl)) $$ [HR HS]
  · iframe # ∗
  iintro ⟨HS, C000⟩
  iapply (rwt m c 10 2 1 0 0 2048 (lft c) ⟨rfl, rfl, rfl, rfl, rfl, rfl⟩ (n := 54) rfl (fun K' => rfl)) $$ [HR HS]
  · iframe # ∗
  iintro ⟨HS, C100⟩
  iapply (acc_loop c 1 0 0 2048 8 (stage m 2 (lft c)) (fin m c) (part m c 3) (mxs m c 0 0 (Scalar.ofBits .f32 0x00000000#32)) rfl rfl rfl (t21_trip m c _)) $$ [C100 P0]
  · iframe # ∗
  iintro ⟨C100, P0⟩
  iapply Hk
  iframe # ∗

theorem part25 {α : Type} {Q : α → sProp 𝕄} (c : Dev nD) (v5 v7) {kk : F .f32 → Prog (TpuEff nD τ sig (Elt F) Λ₀ .tc) α} :
    iprop(Rec m ∗ St c 55 ∗ pPts c 1 0 4096 (part m c 3))
      ⊢ iprop(((St c 58 ∗ pPts c 1 0 4096 (part m c 3) ∗ cAny (F := F) c 0 0 2048 4096 ∗ cAny (F := F) c 0 1 0 2048 ∗ cPts c 1 1 0 2048 (fin m c)) -∗ WP c (kk (am2 m c)) Q) -∗ WP c (ap (k0_part25_skel (F := F)) v5 v7 (am1 m c) >>= kk) Q) := by
  unfold ap k0_part25_skel
  simp only [semSignalWord, semWaitWord, Prog.lift, Prog.bind_op, Prog.bind_ret, Prog.pure_eq_ret, wp_deviceId, toI1, toI2, loop_assoc]
  iintro ⟨#HR, HS, P1⟩ Hk
  iapply (swt m c 12 0 1 0 2048 ⟨rfl, rfl, rfl, rfl⟩ (n := 55) rfl (fun K' => rfl)) $$ [HR HS]
  · iframe # ∗
  iintro ⟨HS, C010⟩
  iapply (rwt m c 12 2 1 1 0 2048 (rgt c) ⟨rfl, rfl, rfl, rfl, rfl, rfl⟩ (n := 56) rfl (fun K' => rfl)) $$ [HR HS]
  · iframe # ∗
  iintro ⟨HS, C110⟩
  iapply (acc_loop c 1 1 0 2048 8 (stage m 2 (rgt c)) (fin m c) (part m c 3) (mxs m c 1 0 (am1 m c)) rfl rfl rfl (t22_trip m c _ _ _)) $$ [C110 P1]
  · iframe # ∗
  iintro ⟨C110, P1⟩
  iapply (swt m c 11 0 0 2048 4096 ⟨rfl, rfl, rfl, rfl⟩ (n := 57) rfl (fun K' => rfl)) $$ [HR HS]
  · iframe # ∗
  iintro ⟨HS, C002048⟩
  iapply Hk
  iframe # ∗

theorem part26 {α : Type} {Q : α → sProp 𝕄} (c : Dev nD) (v5) {kk : F .f32 → Prog (TpuEff nD τ sig (Elt F) Λ₀ .tc) α} :
    iprop(Rec m ∗ St c 58 ∗ pPts c 0 0 4096 (part m c 3) ∗ pPts c 1 0 4096 (part m c 3))
      ⊢ iprop(((St c 61 ∗ pPts c 0 0 4096 (part m c 3) ∗ pPts c 1 0 4096 (part m c 3) ∗ cAny (F := F) c 0 1 2048 4096 ∗ cPts c 1 0 2048 4096 (fin m c) ∗ cPts c 1 1 2048 4096 (fin m c)) -∗ WP c (kk (am m c)) Q) -∗ WP c (ap (k0_part26_skel (F := F)) v5 (am2 m c) >>= kk) Q) := by
  unfold ap k0_part26_skel
  simp only [semSignalWord, semWaitWord, Prog.lift, Prog.bind_op, Prog.bind_ret, Prog.pure_eq_ret, wp_deviceId, toI1, toI2, loop_assoc]
  iintro ⟨#HR, HS, P0, P1⟩ Hk
  iapply (rwt m c 11 2 1 0 2048 4096 (lft c) ⟨rfl, rfl, rfl, rfl, rfl, rfl⟩ (n := 58) rfl (fun K' => rfl)) $$ [HR HS]
  · iframe # ∗
  iintro ⟨HS, C102048⟩
  iapply (acc_loop c 1 0 2048 4096 8 (stage m 2 (lft c)) (fin m c) (part m c 3) (mxs m c 0 8 (am2 m c)) rfl rfl rfl (t23_trip m c _ _)) $$ [C102048 P0]
  · iframe # ∗
  iintro ⟨C102048, P0⟩
  iapply (swt m c 13 0 1 2048 4096 ⟨rfl, rfl, rfl, rfl⟩ (n := 59) rfl (fun K' => rfl)) $$ [HR HS]
  · iframe # ∗
  iintro ⟨HS, C012048⟩
  iapply (rwt m c 13 2 1 1 2048 4096 (rgt c) ⟨rfl, rfl, rfl, rfl, rfl, rfl⟩ (n := 60) rfl (fun K' => rfl)) $$ [HR HS]
  · iframe # ∗
  iintro ⟨HS, C112048⟩
  iapply (acc_loop c 1 1 2048 4096 8 (stage m 2 (rgt c)) (fin m c) (part m c 3) (mxs m c 1 8 (am3 m c)) rfl rfl rfl (t24_trip m c _ _)) $$ [C112048 P1]
  · iframe # ∗
  iintro ⟨C112048, P1⟩
  iapply Hk
  iframe # ∗

end Cert.RingProof
-- ==== Proof.BodyE.lean ====
/-
The exchange of the maxima.
-/
module

public import proofs.«01_k».proof.Proof.BodyD

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## One row of the table -/

theorem row_dead {α : Type} {Q : α → sProp 𝕄} (c : Dev nD) {off : Fin 2 → ℕ} {inb hl} (ho : off = ![c.val, 0])
    {kk : FVec F S1x128 .f32 → Prog (TpuEff nD τ sig (Elt F) Λ₀ .tc) α} :
    aAny (F := F) c c.val ⊢ iprop((∀ v, aAny c c.val -∗ WP c (kk v) Q)
      -∗ WP c (.op (.load amB (Rect.unit (s := S4x128) off S1x128.size inb).toLoadRect hl) kk) Q) := by
  unfold aAny
  iintro ⟨%f, Hx⟩ Hk
  iapply (wp_load 𝒱₀ (c : Thread nD τ) none Set.univ (m := amB) (r := (Rect.unit (s := S4x128) off S1x128.size inb).toLoadRect) (S := aS c.val) (f := f)
    (by have := row_set (inb := inb) c ho rfl; rw [View.set_slice] at this; exact le_of_eq this)) $$ Hx
  iintro Hx
  iapply Hk
  iexists _; iexact Hx

theorem row_write {c : Dev nD} {off : Fin 2 → ℕ} {inb} (ho : off = ![c.val, 0]) (g : FVec F S4x128 .f32) (i : S4x128.Idx) (hi : i ∈ aS c.val) :
    (amB.access (Rect.unit (s := S4x128) off S1x128.size inb)).write (Elt F) g (k0_pay34 (am m c)) Finset.univ i = amv m i := by
  obtain ⟨y, hx, -⟩ := unit_exists (b := cc0_scratch5) ((row_mem (inb := inb) ho).mpr (mem_aS.mp hi))
  have he : (amB.access (Rect.unit (s := S4x128) off S1x128.size inb)).emb y = i := hx
  rw [← he, View.write_emb_of_mem _ _ (Finset.mem_univ y), he]
  have hc : (⟨(i 0).val, (i 0).isLt⟩ : Dev nD) = c := Fin.ext (mem_aS.mp hi)
  show k0_pay34 (am m c) y = am m (⟨(i 0).val, (i 0).isLt⟩ : Dev nD)
  rw [hc]
  rfl

theorem row_store {α : Type} {Q : α → sProp 𝕄} {kk : PUnit → Prog (TpuEff nD τ sig (Elt F) Λ₀ .tc) α} (c : Dev nD) {off : Fin 2 → ℕ} {inb hx hm} (ho : off = ![c.val, 0]) :
    aAny (F := F) c c.val ⊢ iprop((aPts m c c.val fullShare -∗ WP c (kk ⟨⟩) Q)
      -∗ WP c (.op (.store amB (Rect.unit (s := S4x128) off S1x128.size inb) (k0_pay34 (am m c)) Finset.univ hx hm) kk) Q) := by
  unfold aAny aPts
  iintro ⟨%g, Hx⟩ Hk
  iapply (wp_store 𝒱₀ (c : Thread nD τ) none Set.univ (m := amB) (r := Rect.unit (s := S4x128) off S1x128.size inb) (S := aS c.val) (f := g)
    (le_of_eq (row_set (inb := inb) c ho rfl))) $$ Hx
  iintro Hx
  iapply Hk
  iapply (Entails.of_eq (pointsTo_congr fun i hi => row_write m ho g i hi)) $$ Hx

theorem row_cut (c : Dev nD) : aPts m c c.val fullShare ⊣⊢ iprop(aPts m c c.val (ash 0) ∗ aPts m c c.val (ash 1) ∗ aPts m c c.val (ash 2)) := by
  show (amaxL c ↦[aS c.val]{fullShare} (amv m : Buf (Elt F) (amaxL c)) : sProp 𝕄) ⊣⊢
    iprop((amaxL c ↦[aS c.val]{fullShare.left} (amv m : Buf (Elt F) (amaxL c))) ∗ (amaxL c ↦[aS c.val]{fullShare.right.left} (amv m : Buf (Elt F) (amaxL c))) ∗ (amaxL c ↦[aS c.val]{fullShare.right.right} (amv m : Buf (Elt F) (amaxL c))))
  constructor
  · iintro H
    ihave H := (pointsTo_share (PosShare.mem_left_op_right fullShare)).1 $$ H
    icases H with ⟨H0, H⟩
    ihave H := (pointsTo_share (PosShare.mem_left_op_right fullShare.right)).1 $$ H
    icases H with ⟨H1, H2⟩
    iframe ∗
  · iintro ⟨H0, H1, H2⟩
    ihave H := (pointsTo_share (PosShare.mem_left_op_right fullShare.right)).2 $$ [H1 H2]
    · isplitl [H1] <;> iassumption
    ihave H := (pointsTo_share (PosShare.mem_left_op_right fullShare)).2 $$ [H0 H]
    · isplitl [H0] <;> iassumption
    iexact H

/-! ## The whole table -/

def aAll (c : Dev nD) : sProp 𝕄 := amaxL c ↦[Finset.univ]{fullShare} (amv m : Buf (Elt F) (amaxL c))

theorem rows_dis {r r' : ℕ} (h : r ≠ r') : Disjoint (aS r) (aS r') := by
  rw [Finset.disjoint_left]; intro i; rw [mem_aS, mem_aS]; omega

theorem rows_join (c : Dev nD) :
    iprop(aPts m c c.val (ash 0) ∗ aPts m c c.val (ash 1) ∗ aPts m c c.val (ash 2) ∗ aPts m c (rot 3 c).val fullShare ∗ aPts m c (rot 2 c).val fullShare ∗ aPts m c (rot 1 c).val fullShare) ⊢ aAll m c := by
  have hU : (Finset.univ : Finset S4x128.Idx) = aS c.val ∪ (aS (rot 3 c).val ∪ (aS (rot 2 c).val ∪ aS (rot 1 c).val)) := by
    ext i
    have hi : (i 0).val < 4 := (i 0).isLt
    have hc : c.val < 4 := c.isLt
    simp only [Finset.mem_union, mem_aS, Finset.mem_univ, true_iff, rot]
    omega
  have hc : c.val < 4 := c.isLt
  iintro ⟨H0, H1, H2, H3, H4, H5⟩
  ihave H := (row_cut m c).2 $$ [H0 H1 H2]
  · iframe ∗
  unfold aAll aPts
  iapply (pts_cut hU (by
    rw [Finset.disjoint_left]; intro i
    simp only [Finset.mem_union, mem_aS, rot]
    omega)).2
  isplitl [H]; · iexact H
  iapply (pts_cut rfl (by
    rw [Finset.disjoint_left]; intro i
    simp only [Finset.mem_union, mem_aS, rot]
    omega)).2
  isplitl [H3]; · iexact H3
  iapply (pts_cut rfl (by
    rw [Finset.disjoint_left]; intro i
    simp only [mem_aS, rot]
    omega)).2
  isplitl [H4] <;> iassumption

theorem am_load {α : Type} {Q : α → sProp 𝕄} (c : Dev nD) {off : Fin 2 → ℕ} {inb hl} (ho : off = ![0, 0])
    {kk : FVec F S4x128 .f32 → Prog (TpuEff nD τ sig (Elt F) Λ₀ .tc) α} :
    aAll m c ⊢ iprop((aAll m c -∗ WP c (kk (amv m)) Q)
      -∗ WP c (.op (.load amB (Rect.unit (s := S4x128) off S4x128.size inb).toLoadRect hl) kk) Q) := by
  have hr : amB.view.readAt (Elt F) (Rect.unit (s := S4x128) off S4x128.size inb).toLoadRect (amv m) = amv m := by
    subst ho
    funext j
    show amv m (((View.whole cc0_scratch5).slice (Rect.unit (s := S4x128) ![0, 0] S4x128.size inb)).emb j) = _
    congr 1
    funext a
    apply Fin.ext
    rw [unit_emb_val (b := cc0_scratch5) (inb := inb) j a]
    exact (Fin.forall_fin_two (p := fun a : Fin 2 => (![0, 0] : Fin 2 → ℕ) a + (j a).val = (j a).val)).mpr ⟨Nat.zero_add _, Nat.zero_add _⟩ a
  unfold aAll
  iintro Hx Hk
  iapply (wp_load 𝒱₀ (c : Thread nD τ) none Set.univ (m := amB) (r := (Rect.unit (s := S4x128) off S4x128.size inb).toLoadRect) (S := Finset.univ) (f := (amv m : Buf (Elt F) (amaxL c)))
    (Finset.subset_univ _)) $$ Hx
  iintro Hx
  rw [hr]
  iapply Hk
  iexact Hx

/-! ## The steps of the exchange -/

theorem axt {α : Type} {Q : α → sProp 𝕄} {kk : PUnit → Prog (TpuEff nD τ sig (Elt F) Λ₀ .tc) α} (c q' : Dev nD) (o : Fin 3) (q : Dev nD) (e : rot (o.val + 1) c = q) (hq : q' = q) {n : ℕ} (hn : n = t0 (.A o))
    {off : Fin 2 → ℕ} {inb} {hst hst'} {sS rS : SemLoc sig} (hs1 : csem (.asend o) = sS) (hs2 : csem (.arecv o) = rS) (ho : off = ![c.val, 0])
    {hsc hsrc hdst hsem}
    (hN : ((amB.slice (Rect.unit (s := S4x128) off S1x128.size inb) hst' : Memref sig .tc .vmem S1x128 .f32)).view.amount rS = NA) :
    iprop(Rec m ∗ St c n ∗ aPts m c c.val (ash o) ∗ aAny (F := F) q c.val)
      ⊢ iprop((St c (n + 1) -∗ WP c (kk ⟨⟩) Q)
        -∗ WP c (.op (.enqueueDma (amB.slice (Rect.unit (s := S4x128) off S1x128.size inb) hst : Memref sig .tc .vmem S1x128 .f32)
          (.remote (Dev.tc q' : Thread nD τ) (amB.slice (Rect.unit (s := S4x128) off S1x128.size inb) hst' : Memref sig .tc .vmem S1x128 .f32) sS hsc) rS hsrc hdst hsem) kk) Q) := by
  subst e
  exact step_ax m c q' o hq hn hs1 hs2 ho hN

theorem art {α : Type} {Q : α → sProp 𝕄} {kk : PUnit → Prog (TpuEff nD τ sig (Elt F) Λ₀ .tc) α} (c : Dev nD) (i : Fin 3) (q : Dev nD) (e : rot (3 - i.val) c = q) {n : ℕ} (hn : n = t0 (.AR i)) {w : TpuEff nD τ sig (Elt F) Λ₀ .tc PUnit}
    (hw : ∀ K' : PUnit → sProp 𝕄, wpE (defs₀ (F := F)) 𝒱₀ (c : Thread nD τ) none Set.univ w K' = waitSpec (c : Thread nD τ) Set.univ (csem (.arecv i)) (amt (.arecv i)) K') :
    iprop(Rec m ∗ St c n) ⊢ iprop(((St c (n + 1) ∗ aPts m c q.val fullShare) -∗ WP c (kk ⟨⟩) Q) -∗ WP c (.op w kk) Q) := by
  subst e
  exact step_ar m c i hn hw

theorem awt {α : Type} {Q : α → sProp 𝕄} {kk : PUnit → Prog (TpuEff nD τ sig (Elt F) Λ₀ .tc) α} (c : Dev nD) (i : Fin 3) {n : ℕ} (hn : n = t1 (.A i)) {w : TpuEff nD τ sig (Elt F) Λ₀ .tc PUnit}
    (hw : ∀ K' : PUnit → sProp 𝕄, wpE (defs₀ (F := F)) 𝒱₀ (c : Thread nD τ) none Set.univ w K' = waitSpec (c : Thread nD τ) Set.univ (csem (.asend i)) (amt (.asend i)) K') :
    iprop(Rec m ∗ St c n) ⊢ iprop(((St c (n + 1) ∗ aPts m c c.val (ash i)) -∗ WP c (kk ⟨⟩) Q) -∗ WP c (.op w kk) Q) :=
  step_aw m c i hn hw

theorem part27 {α : Type} {Q : α → sProp 𝕄} (c : Dev nD) (v2) {kk : PUnit → Prog (TpuEff nD τ sig (Elt F) Λ₀ .tc) α} :
    iprop(Rec m ∗ St c 61 ∗ aAny (F := F) c c.val ∗ aAny (F := F) (rgt c) c.val ∗ aAny (F := F) (rot 2 c) c.val)
      ⊢ iprop(((St c 63 ∗ aPts m c c.val (ash 2)) -∗ WP c (kk ⟨⟩) Q) -∗ WP c (ap (k0_part27_skel (F := F)) c v2 (am m c) >>= kk) Q) := by
  unfold ap k0_part27_skel
  simp only [semSignalWord, semWaitWord, Prog.lift, Prog.bind_op, Prog.bind_ret, Prog.pure_eq_ret, wp_deviceId, toI1, toI2, loop_assoc]
  iintro ⟨#HR, HS, AO, AR, A2C⟩ Hk
  iapply (row_dead c (k0_off131_eq c)) $$ AO
  iintro %v AO
  iapply (row_store m c (k0_off131_eq c)) $$ AO
  iintro AO
  ihave AO := (row_cut m c).1 $$ AO
  icases AO with ⟨AS0, AS1, AS2⟩
  iapply (axt m c _ 0 (rgt c) rfl (Fin.ext (k0_dev25_eq c)) (n := 61) rfl (asend_eq 0 rfl) (arecv_eq 0 rfl) (k0_off132_eq c) rfl) $$ [HR HS AS0 AR]
  · iframe # ∗
  iintro HS
  iapply (axt m c _ 1 (rot 2 c) rfl (Fin.ext (k0_dev26_eq c)) (n := 62) rfl (asend_eq 1 rfl) (arecv_eq 1 rfl) (k0_off132_eq c) rfl) $$ [HR HS AS1 A2C]
  · iframe # ∗
  iintro HS
  iapply Hk
  iframe # ∗

theorem part28 {α : Type} {Q : α → sProp 𝕄} (c : Dev nD) (v2) {kk : PUnit → Prog (TpuEff nD τ sig (Elt F) Λ₀ .tc) α} :
    iprop(Rec m ∗ St c 63 ∗ aPts m c c.val (ash 2) ∗ aAny (F := F) (lft c) c.val)
      ⊢ iprop(((St c 66 ∗ aPts m c (rot 3 c).val fullShare ∗ aPts m c (rot 2 c).val fullShare) -∗ WP c (kk ⟨⟩) Q) -∗ WP c (ap (k0_part28_skel (F := F)) c v2 >>= kk) Q) := by
  unfold ap k0_part28_skel
  simp only [semSignalWord, semWaitWord, Prog.lift, Prog.bind_op, Prog.bind_ret, Prog.pure_eq_ret, wp_deviceId, toI1, toI2, loop_assoc]
  iintro ⟨#HR, HS, AS2, AL⟩ Hk
  iapply (axt m c _ 2 (lft c) rfl (Fin.ext (k0_dev27_eq c)) (n := 63) rfl (asend_eq 2 rfl) (arecv_eq 2 rfl) (k0_off132_eq c) rfl) $$ [HR HS AS2 AL]
  · iframe # ∗
  iintro HS
  iapply (art m c 0 (rot 3 c) rfl (n := 64) rfl (fun K' => rfl)) $$ [HR HS]
  · iframe # ∗
  iintro ⟨HS, AG0⟩
  iapply (art m c 1 (rot 2 c) rfl (n := 65) rfl (fun K' => rfl)) $$ [HR HS]
  · iframe # ∗
  iintro ⟨HS, AG1⟩
  iapply Hk
  iframe # ∗

theorem part29 {α : Type} {Q : α → sProp 𝕄} (c : Dev nD)  {kk : (Σ' (v681 : F .f32) (v682 : F .f32), FVec F S1024x256 .f32) → Prog (TpuEff nD τ sig (Elt F) Λ₀ .tc) α} :
    iprop(Rec m ∗ St c 66 ∗ aPts m c (rot 3 c).val fullShare ∗ aPts m c (rot 2 c).val fullShare ∗ cPts c 1 0 0 2048 (fin m c))
      ⊢ iprop(((St c 70 ∗ cPts c 1 0 0 2048 (fin m c) ∗ aAll m c) -∗ WP c (kk ⟨k0_pay36 (amv m), k0_pay37 (amv m), k0_pay38 (amv m) (u4 (fin m c 0 0))⟩) Q) -∗ WP c (ap (k0_part29_skel (F := F)) c >>= kk) Q) := by
  unfold ap k0_part29_skel
  simp only [semSignalWord, semWaitWord, Prog.lift, Prog.bind_op, Prog.bind_ret, Prog.pure_eq_ret, wp_deviceId, toI1, toI2, loop_assoc]
  iintro ⟨#HR, HS, AG0, AG1, C100⟩ Hk
  iapply (art m c 2 (rot 1 c) rfl (n := 66) rfl (fun K' => rfl)) $$ [HR HS]
  · iframe # ∗
  iintro ⟨HS, AG2⟩
  iapply (awt m c 0 (n := 67) rfl (fun K' => rfl)) $$ [HR HS]
  · iframe # ∗
  iintro ⟨HS, AS0⟩
  iapply (awt m c 1 (n := 68) rfl (fun K' => rfl)) $$ [HR HS]
  · iframe # ∗
  iintro ⟨HS, AS1⟩
  iapply (awt m c 2 (n := 69) rfl (fun K' => rfl)) $$ [HR HS]
  · iframe # ∗
  iintro ⟨HS, AS2⟩
  ihave AA := (rows_join m c) $$ [AS0 AS1 AS2 AG0 AG1 AG2]
  · iframe # ∗
  iapply (am_load m c rfl) $$ AA
  iintro AA
  iapply (c_load c 0 (A := 0) (B := 2048) rfl rfl (by decide) (by decide)) $$ C100
  iintro C100
  iapply Hk
  iframe # ∗

end Cert.RingProof
-- ==== Proof.BodyF.lean ====
/-
The result quantised and written out.
-/
module

public import proofs.«01_k».proof.Proof.BodyE

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## The steps of the output stage -/

/-- A chunk quantised into its half of the staging buffer. -/
theorem o_fill {α : Type} {Q : α → sProp 𝕄} {kk : PUnit → Prog (TpuEff nD τ sig (Elt F) Λ₀ .tc) α} (c : Dev nD) {b : ℕ} (k : ℕ) {v : FVec F S1x1024x256 .bf16} {off off' : Fin 3 → ℕ} {inb hl inb' hx hm} (ho : off = ![b, 0, 0]) (ho' : off' = ![b, 0, 0])
    (hv : v = u3 (outc m c k)) :
    OI (F := F) c b ⊢ iprop((OH m c b k -∗ WP c (kk ⟨⟩) Q)
      -∗ WP c (.op (.load (Memref.whole cc0_scratch4 : Memref sig .tc .vmem S2x1024x256 .bf16) (Rect.unit (s := S2x1024x256) off S1x1024x256.size inb).toLoadRect hl) (fun (_ : FVec F S1x1024x256 .bf16) =>
        .op (.store (Memref.whole cc0_scratch4 : Memref sig .tc .vmem S2x1024x256 .bf16) (Rect.unit (s := S2x1024x256) off' S1x1024x256.size inb') v Finset.univ hx hm) kk)) Q) := by
  iintro H Hk
  iapply (o_dead c ho) $$ H
  iintro %w H
  iapply (o_store m c k hv ho') $$ H
  iintro H
  iapply Hk
  iexact H

/-- The chunk sent to its columns of the result, taken off those not yet written. -/
theorem o_send {α : Type} {Q : α → sProp 𝕄} {kk : PUnit → Prog (TpuEff nD τ sig (Elt F) Λ₀ .tc) α} (c : Dev nD) {b a a' : ℕ} (k : ℕ) {sm : SemLoc sig} (hsm : lsem 2 b = sm) {off : Fin 2 → ℕ} {off' : Fin 3 → ℕ} {inb inb' hst hst' sq hsrc hdst hsem}
    (ho : off = ![0, a]) (ha : a = 256 * k) (ho' : off' = ![b, 0, 0]) (ha' : a + 256 = a') (hle : a' ≤ 8192) :
    iprop(OH m c b k ∗ oAny c a 8192) ⊢ iprop(((OF m c b k ∗ oAny c a' 8192) -∗ WP c (kk ⟨⟩) Q)
      -∗ WP c (.op (.enqueueDma (((Memref.whole cc0_scratch4 : Memref sig .tc .vmem S2x1024x256 .bf16).slice (Rect.unit (s := S2x1024x256) off' S1x1024x256.size inb') hst').squeeze S1024x256 sq)
        (.here ((Memref.whole main_v1 : Memref sig .tc .hbm S1024x8192 .bf16).slice (Rect.unit (s := S1024x8192) off S1024x256.size inb) hst)) sm hsrc hdst hsem) kk) Q) := by
  subst ha'
  iintro ⟨H, HT⟩ Hk
  ihave HT := (oAny_cut c (a + 256) (Nat.le_add_right _ _) hle).1 $$ HT
  icases HT with ⟨HC, HT⟩
  iapply (o_start m c k hsm ho ha ho') $$ [H HC]
  · isplitl [H] <;> iassumption
  iintro H
  iapply Hk
  isplitl [H] <;> iassumption

/-- The copy out awaited, its columns joined to those written before. -/
theorem o_done {α : Type} {Q : α → sProp 𝕄} {kk : PUnit → Prog (TpuEff nD τ sig (Elt F) Λ₀ .tc) α} (c : Dev nD) {b a a' : ℕ} (k : ℕ) {sem : DmaSem sig} (hsm : lsem 2 b = .dma sem) {sp' : Space} {s' : Shape} {e' : EltTy} {src : Memref sig .tc sp' s' e'} {off : Fin 2 → ℕ} {inb hst hsrc hdst} {n : ℕ}
    (ha : 256 * k = a) (ha' : 256 * k + 256 = a') :
    iprop(Rec m ∗ St (F := F) c n ∗ OF m c b k ∗ oPts m c 0 a) ⊢ iprop(((St c n ∗ OI c b ∗ oPts m c 0 a') -∗ WP c (kk ⟨⟩) Q)
      -∗ WP c (.op (.waitDma2 sem src ((Memref.whole main_v1 : Memref sig .tc .hbm S1024x8192 .bf16).slice (Rect.unit (s := S1024x8192) off S1024x256.size inb) hst) hsrc hdst) kk) Q) := by
  subst ha ha'
  iintro ⟨#HR, HS, H, HP⟩ Hk
  iapply (o_wait m c hsm) $$ [HR HS H]
  · iframe # ∗
  iintro ⟨HS, H, HC⟩
  iapply Hk
  isplitl [HS]; · iexact HS
  isplitl [H]; · iexact H
  iapply (oPts_cut m c (256 * k) (Nat.zero_le _) (Nat.le_add_right _ _)).2
  isplitl [HP] <;> iassumption

theorem part30 {α : Type} {Q : α → sProp 𝕄} (c : Dev nD)  {kk : PUnit → Prog (TpuEff nD τ sig (Elt F) Λ₀ .tc) α} :
    iprop(Rec m ∗ OI (F := F) c 0 ∗ oAny (F := F) c 0 8192 ∗ cPts c 1 0 0 2048 (fin m c) ∗ OI (F := F) c 1)
      ⊢ iprop(((OF m c 0 0 ∗ oAny (F := F) c 512 8192 ∗ cPts c 1 0 0 2048 (fin m c) ∗ OF m c 1 1) -∗ WP c (kk ⟨⟩) Q) -∗ WP c (ap (k0_part30_skel (F := F)) (k0_pay36 (amv m)) (k0_pay37 (amv m)) (k0_pay38 (amv m) (u4 (fin m c 0 0))) >>= kk) Q) := by
  unfold ap k0_part30_skel
  simp only [semSignalWord, semWaitWord, Prog.lift, Prog.bind_op, Prog.bind_ret, Prog.pure_eq_ret, wp_deviceId, toI1, toI2, loop_assoc]
  iintro ⟨#HR, O0, OT, C100, O1⟩ Hk
  iapply (o_fill m c 0 rfl rfl (pay40_eq _ _ _)) $$ O0
  iintro O0
  iapply (o_send m c 0 (osem_eq (b := 0) (by decide) rfl) rfl rfl rfl rfl (by decide)) $$ [O0 OT]
  · iframe # ∗
  iintro ⟨O0, OT⟩
  iapply (c_load c 1 (A := 0) (B := 2048) rfl rfl (by decide) (by decide)) $$ C100
  iintro C100
  iapply (o_fill m c 1 rfl rfl (pay40_eq _ _ _)) $$ O1
  iintro O1
  iapply (o_send m c 1 (osem_eq (b := 1) (by decide) rfl) rfl rfl rfl rfl (by decide)) $$ [O1 OT]
  · iframe # ∗
  iintro ⟨O1, OT⟩
  iapply Hk
  iframe # ∗

theorem part31 {α : Type} {Q : α → sProp 𝕄} (c : Dev nD)  {kk : PUnit → Prog (TpuEff nD τ sig (Elt F) Λ₀ .tc) α} :
    iprop(Rec m ∗ St c 70 ∗ OF m c 0 0 ∗ oPts m c 0 0 ∗ cPts c 1 0 0 2048 (fin m c) ∗ oAny (F := F) c 512 8192)
      ⊢ iprop(((St c 70 ∗ OF m c 0 2 ∗ oPts m c 0 256 ∗ cPts c 1 0 0 2048 (fin m c) ∗ oAny (F := F) c 768 8192) -∗ WP c (kk ⟨⟩) Q) -∗ WP c (ap (k0_part31_skel (F := F)) (k0_pay36 (amv m)) (k0_pay37 (amv m))  >>= kk) Q) := by
  unfold ap k0_part31_skel
  simp only [semSignalWord, semWaitWord, Prog.lift, Prog.bind_op, Prog.bind_ret, Prog.pure_eq_ret, wp_deviceId, toI1, toI2, loop_assoc]
  iintro ⟨#HR, HS, O0, OP, C100, OT⟩ Hk
  iapply (o_done m c 0 (osem_eq (b := 0) (by decide) rfl) rfl rfl) $$ [HR HS O0 OP]
  · iframe # ∗
  iintro ⟨HS, O0, OP⟩
  iapply (c_load c 2 (A := 0) (B := 2048) rfl rfl (by decide) (by decide)) $$ C100
  iintro C100
  iapply (o_fill m c 2 rfl rfl (pay40_eq _ _ _)) $$ O0
  iintro O0
  iapply (o_send m c 2 (osem_eq (b := 0) (by decide) rfl) rfl rfl rfl rfl (by decide)) $$ [O0 OT]
  · iframe # ∗
  iintro ⟨O0, OT⟩
  iapply Hk
  iframe # ∗

theorem part32 {α : Type} {Q : α → sProp 𝕄} (c : Dev nD)  {kk : (Σ' (v784 : FVec F S1024x256 .f32), FVec F S1024x256 .f32) → Prog (TpuEff nD τ sig (Elt F) Λ₀ .tc) α} :
    iprop(Rec m ∗ St c 70 ∗ OF m c 1 1 ∗ oPts m c 0 256 ∗ cPts c 1 0 0 2048 (fin m c) ∗ oAny (F := F) c 768 8192 ∗ OF m c 0 2)
      ⊢ iprop(((St c 70 ∗ OF m c 1 3 ∗ oPts m c 0 768 ∗ cPts c 1 0 0 2048 (fin m c) ∗ oAny (F := F) c 1024 8192 ∗ OI (F := F) c 0) -∗ WP c (kk ⟨k0_pay43 (u4 (fin m c 0 4)), k0_pay44 (k0_pay37 (amv m))⟩) Q) -∗ WP c (ap (k0_part32_skel (F := F)) (k0_pay36 (amv m)) (k0_pay37 (amv m))  >>= kk) Q) := by
  unfold ap k0_part32_skel
  simp only [semSignalWord, semWaitWord, Prog.lift, Prog.bind_op, Prog.bind_ret, Prog.pure_eq_ret, wp_deviceId, toI1, toI2, loop_assoc]
  iintro ⟨#HR, HS, O1, OP, C100, OT, O0⟩ Hk
  iapply (o_done m c 1 (osem_eq (b := 1) (by decide) rfl) rfl rfl) $$ [HR HS O1 OP]
  · iframe # ∗
  iintro ⟨HS, O1, OP⟩
  iapply (c_load c 3 (A := 0) (B := 2048) rfl rfl (by decide) (by decide)) $$ C100
  iintro C100
  iapply (o_fill m c 3 rfl rfl (pay40_eq _ _ _)) $$ O1
  iintro O1
  iapply (o_send m c 3 (osem_eq (b := 1) (by decide) rfl) rfl rfl rfl rfl (by decide)) $$ [O1 OT]
  · iframe # ∗
  iintro ⟨O1, OT⟩
  iapply (o_done m c 2 (osem_eq (b := 0) (by decide) rfl) rfl rfl) $$ [HR HS O0 OP]
  · iframe # ∗
  iintro ⟨HS, O0, OP⟩
  iapply (c_load c 4 (A := 0) (B := 2048) rfl rfl (by decide) (by decide)) $$ C100
  iintro C100
  iapply Hk
  iframe # ∗

theorem part33 {α : Type} {Q : α → sProp 𝕄} (c : Dev nD)  {kk : FVec F S1024x256 .f32 → Prog (TpuEff nD τ sig (Elt F) Λ₀ .tc) α} :
    iprop(Rec m ∗ St c 70 ∗ OI (F := F) c 0 ∗ oAny (F := F) c 1024 8192 ∗ OF m c 1 3 ∗ oPts m c 0 768 ∗ cPts c 1 0 0 2048 (fin m c))
      ⊢ iprop(((St c 70 ∗ OF m c 0 4 ∗ oAny (F := F) c 1280 8192 ∗ OI (F := F) c 1 ∗ oPts m c 0 1024 ∗ cPts c 1 0 0 2048 (fin m c)) -∗ WP c (kk (k0_pay46 (k0_pay36 (amv m)) (k0_pay37 (amv m)) (u4 (fin m c 0 5)))) Q) -∗ WP c (ap (k0_part33_skel (F := F)) (k0_pay36 (amv m)) (k0_pay37 (amv m)) (k0_pay43 (u4 (fin m c 0 4))) (k0_pay44 (k0_pay37 (amv m))) >>= kk) Q) := by
  unfold ap k0_part33_skel
  simp only [semSignalWord, semWaitWord, Prog.lift, Prog.bind_op, Prog.bind_ret, Prog.pure_eq_ret, wp_deviceId, toI1, toI2, loop_assoc]
  iintro ⟨#HR, HS, O0, OT, O1, OP, C100⟩ Hk
  iapply (o_fill m c 4 rfl rfl (pay40_eq _ _ _)) $$ O0
  iintro O0
  iapply (o_send m c 4 (osem_eq (b := 0) (by decide) rfl) rfl rfl rfl rfl (by decide)) $$ [O0 OT]
  · iframe # ∗
  iintro ⟨O0, OT⟩
  iapply (o_done m c 3 (osem_eq (b := 1) (by decide) rfl) rfl rfl) $$ [HR HS O1 OP]
  · iframe # ∗
  iintro ⟨HS, O1, OP⟩
  iapply (c_load c 5 (A := 0) (B := 2048) rfl rfl (by decide) (by decide)) $$ C100
  iintro C100
  iapply Hk
  iframe # ∗

theorem part34 {α : Type} {Q : α → sProp 𝕄} (c : Dev nD)  {kk : PUnit → Prog (TpuEff nD τ sig (Elt F) Λ₀ .tc) α} :
    iprop(Rec m ∗ St c 70 ∗ OI (F := F) c 1 ∗ oAny (F := F) c 1280 8192 ∗ OF m c 0 4 ∗ oPts m c 0 1024 ∗ cPts c 1 0 0 2048 (fin m c))
      ⊢ iprop(((St c 70 ∗ OF m c 1 5 ∗ oAny (F := F) c 1536 8192 ∗ OH m c 0 6 ∗ oPts m c 0 1280 ∗ cPts c 1 0 0 2048 (fin m c)) -∗ WP c (kk ⟨⟩) Q) -∗ WP c (ap (k0_part34_skel (F := F)) (k0_pay36 (amv m)) (k0_pay37 (amv m)) (k0_pay46 (k0_pay36 (amv m)) (k0_pay37 (amv m)) (u4 (fin m c 0 5))) >>= kk) Q) := by
  unfold ap k0_part34_skel
  simp only [semSignalWord, semWaitWord, Prog.lift, Prog.bind_op, Prog.bind_ret, Prog.pure_eq_ret, wp_deviceId, toI1, toI2, loop_assoc]
  iintro ⟨#HR, HS, O1, OT, O0, OP, C100⟩ Hk
  iapply (o_fill m c 5 rfl rfl (pay40_eq _ _ _)) $$ O1
  iintro O1
  iapply (o_send m c 5 (osem_eq (b := 1) (by decide) rfl) rfl rfl rfl rfl (by decide)) $$ [O1 OT]
  · iframe # ∗
  iintro ⟨O1, OT⟩
  iapply (o_done m c 4 (osem_eq (b := 0) (by decide) rfl) rfl rfl) $$ [HR HS O0 OP]
  · iframe # ∗
  iintro ⟨HS, O0, OP⟩
  iapply (c_load c 6 (A := 0) (B := 2048) rfl rfl (by decide) (by decide)) $$ C100
  iintro C100
  iapply (o_fill m c 6 rfl rfl (pay40_eq _ _ _)) $$ O0
  iintro O0
  iapply Hk
  iframe # ∗

theorem part35 {α : Type} {Q : α → sProp 𝕄} (c : Dev nD)  {kk : PUnit → Prog (TpuEff nD τ sig (Elt F) Λ₀ .tc) α} :
    iprop(Rec m ∗ St c 70 ∗ OH m c 0 6 ∗ oAny (F := F) c 1536 8192 ∗ OF m c 1 5 ∗ oPts m c 0 1280 ∗ cPts c 1 0 0 2048 (fin m c))
      ⊢ iprop(((St c 70 ∗ OF m c 0 6 ∗ oAny (F := F) c 2048 8192 ∗ OF m c 1 7 ∗ oPts m c 0 1536 ∗ cPts c 1 0 0 2048 (fin m c)) -∗ WP c (kk ⟨⟩) Q) -∗ WP c (ap (k0_part35_skel (F := F)) (k0_pay36 (amv m)) (k0_pay37 (amv m))  >>= kk) Q) := by
  unfold ap k0_part35_skel
  simp only [semSignalWord, semWaitWord, Prog.lift, Prog.bind_op, Prog.bind_ret, Prog.pure_eq_ret, wp_deviceId, toI1, toI2, loop_assoc]
  iintro ⟨#HR, HS, O0, OT, O1, OP, C100⟩ Hk
  iapply (o_send m c 6 (osem_eq (b := 0) (by decide) rfl) rfl rfl rfl rfl (by decide)) $$ [O0 OT]
  · iframe # ∗
  iintro ⟨O0, OT⟩
  iapply (o_done m c 5 (osem_eq (b := 1) (by decide) rfl) rfl rfl) $$ [HR HS O1 OP]
  · iframe # ∗
  iintro ⟨HS, O1, OP⟩
  iapply (c_load c 7 (A := 0) (B := 2048) rfl rfl (by decide) (by decide)) $$ C100
  iintro C100
  iapply (o_fill m c 7 rfl rfl (pay40_eq _ _ _)) $$ O1
  iintro O1
  iapply (o_send m c 7 (osem_eq (b := 1) (by decide) rfl) rfl rfl rfl rfl (by decide)) $$ [O1 OT]
  · iframe # ∗
  iintro ⟨O1, OT⟩
  iapply Hk
  iframe # ∗

theorem part36 {α : Type} {Q : α → sProp 𝕄} (c : Dev nD)  {kk : PUnit → Prog (TpuEff nD τ sig (Elt F) Λ₀ .tc) α} :
    iprop(Rec m ∗ St c 70 ∗ OF m c 0 6 ∗ oPts m c 0 1536 ∗ cPts c 1 0 2048 4096 (fin m c) ∗ oAny (F := F) c 2048 8192)
      ⊢ iprop(((St c 70 ∗ OF m c 0 8 ∗ oPts m c 0 1792 ∗ cPts c 1 0 2048 4096 (fin m c) ∗ oAny (F := F) c 2304 8192) -∗ WP c (kk ⟨⟩) Q) -∗ WP c (ap (k0_part36_skel (F := F)) (k0_pay36 (amv m)) (k0_pay37 (amv m))  >>= kk) Q) := by
  unfold ap k0_part36_skel
  simp only [semSignalWord, semWaitWord, Prog.lift, Prog.bind_op, Prog.bind_ret, Prog.pure_eq_ret, wp_deviceId, toI1, toI2, loop_assoc]
  iintro ⟨#HR, HS, O0, OP, C102048, OT⟩ Hk
  iapply (o_done m c 6 (osem_eq (b := 0) (by decide) rfl) rfl rfl) $$ [HR HS O0 OP]
  · iframe # ∗
  iintro ⟨HS, O0, OP⟩
  iapply (c_load c 8 (A := 2048) (B := 4096) rfl rfl (by decide) (by decide)) $$ C102048
  iintro C102048
  iapply (o_fill m c 8 rfl rfl (pay40_eq _ _ _)) $$ O0
  iintro O0
  iapply (o_send m c 8 (osem_eq (b := 0) (by decide) rfl) rfl rfl rfl rfl (by decide)) $$ [O0 OT]
  · iframe # ∗
  iintro ⟨O0, OT⟩
  iapply Hk
  iframe # ∗

theorem part37 {α : Type} {Q : α → sProp 𝕄} (c : Dev nD)  {kk : (Σ' (v784 : FVec F S1024x256 .f32), FVec F S1024x256 .f32) → Prog (TpuEff nD τ sig (Elt F) Λ₀ .tc) α} :
    iprop(Rec m ∗ St c 70 ∗ OF m c 1 7 ∗ oPts m c 0 1792 ∗ cPts c 1 0 2048 4096 (fin m c) ∗ oAny (F := F) c 2304 8192 ∗ OF m c 0 8)
      ⊢ iprop(((St c 70 ∗ OF m c 1 9 ∗ oPts m c 0 2304 ∗ cPts c 1 0 2048 4096 (fin m c) ∗ oAny (F := F) c 2560 8192 ∗ OI (F := F) c 0) -∗ WP c (kk ⟨k0_pay52 (u4 (fin m c 0 10)), k0_pay53 (k0_pay37 (amv m))⟩) Q) -∗ WP c (ap (k0_part37_skel (F := F)) (k0_pay36 (amv m)) (k0_pay37 (amv m))  >>= kk) Q) := by
  unfold ap k0_part37_skel
  simp only [semSignalWord, semWaitWord, Prog.lift, Prog.bind_op, Prog.bind_ret, Prog.pure_eq_ret, wp_deviceId, toI1, toI2, loop_assoc]
  iintro ⟨#HR, HS, O1, OP, C102048, OT, O0⟩ Hk
  iapply (o_done m c 7 (osem_eq (b := 1) (by decide) rfl) rfl rfl) $$ [HR HS O1 OP]
  · iframe # ∗
  iintro ⟨HS, O1, OP⟩
  iapply (c_load c 9 (A := 2048) (B := 4096) rfl rfl (by decide) (by decide)) $$ C102048
  iintro C102048
  iapply (o_fill m c 9 rfl rfl (pay40_eq _ _ _)) $$ O1
  iintro O1
  iapply (o_send m c 9 (osem_eq (b := 1) (by decide) rfl) rfl rfl rfl rfl (by decide)) $$ [O1 OT]
  · iframe # ∗
  iintro ⟨O1, OT⟩
  iapply (o_done m c 8 (osem_eq (b := 0) (by decide) rfl) rfl rfl) $$ [HR HS O0 OP]
  · iframe # ∗
  iintro ⟨HS, O0, OP⟩
  iapply (c_load c 10 (A := 2048) (B := 4096) rfl rfl (by decide) (by decide)) $$ C102048
  iintro C102048
  iapply Hk
  iframe # ∗

theorem part38 {α : Type} {Q : α → sProp 𝕄} (c : Dev nD)  {kk : FVec F S1024x256 .f32 → Prog (TpuEff nD τ sig (Elt F) Λ₀ .tc) α} :
    iprop(Rec m ∗ St c 70 ∗ OI (F := F) c 0 ∗ oAny (F := F) c 2560 8192 ∗ OF m c 1 9 ∗ oPts m c 0 2304 ∗ cPts c 1 0 2048 4096 (fin m c))
      ⊢ iprop(((St c 70 ∗ OF m c 0 10 ∗ oAny (F := F) c 2816 8192 ∗ OI (F := F) c 1 ∗ oPts m c 0 2560 ∗ cPts c 1 0 2048 4096 (fin m c)) -∗ WP c (kk (k0_pay55 (k0_pay36 (amv m)) (k0_pay37 (amv m)) (u4 (fin m c 0 11)))) Q) -∗ WP c (ap (k0_part38_skel (F := F)) (k0_pay36 (amv m)) (k0_pay37 (amv m)) (k0_pay52 (u4 (fin m c 0 10))) (k0_pay53 (k0_pay37 (amv m))) >>= kk) Q) := by
  unfold ap k0_part38_skel
  simp only [semSignalWord, semWaitWord, Prog.lift, Prog.bind_op, Prog.bind_ret, Prog.pure_eq_ret, wp_deviceId, toI1, toI2, loop_assoc]
  iintro ⟨#HR, HS, O0, OT, O1, OP, C102048⟩ Hk
  iapply (o_fill m c 10 rfl rfl (pay40_eq _ _ _)) $$ O0
  iintro O0
  iapply (o_send m c 10 (osem_eq (b := 0) (by decide) rfl) rfl rfl rfl rfl (by decide)) $$ [O0 OT]
  · iframe # ∗
  iintro ⟨O0, OT⟩
  iapply (o_done m c 9 (osem_eq (b := 1) (by decide) rfl) rfl rfl) $$ [HR HS O1 OP]
  · iframe # ∗
  iintro ⟨HS, O1, OP⟩
  iapply (c_load c 11 (A := 2048) (B := 4096) rfl rfl (by decide) (by decide)) $$ C102048
  iintro C102048
  iapply Hk
  iframe # ∗

theorem part39 {α : Type} {Q : α → sProp 𝕄} (c : Dev nD)  {kk : PUnit → Prog (TpuEff nD τ sig (Elt F) Λ₀ .tc) α} :
    iprop(Rec m ∗ St c 70 ∗ OI (F := F) c 1 ∗ oAny (F := F) c 2816 8192 ∗ OF m c 0 10 ∗ oPts m c 0 2560 ∗ cPts c 1 0 2048 4096 (fin m c))
      ⊢ iprop(((St c 70 ∗ OF m c 1 11 ∗ oAny (F := F) c 3072 8192 ∗ OH m c 0 12 ∗ oPts m c 0 2816 ∗ cPts c 1 0 2048 4096 (fin m c)) -∗ WP c (kk ⟨⟩) Q) -∗ WP c (ap (k0_part39_skel (F := F)) (k0_pay36 (amv m)) (k0_pay37 (amv m)) (k0_pay55 (k0_pay36 (amv m)) (k0_pay37 (amv m)) (u4 (fin m c 0 11))) >>= kk) Q) := by
  unfold ap k0_part39_skel
  simp only [semSignalWord, semWaitWord, Prog.lift, Prog.bind_op, Prog.bind_ret, Prog.pure_eq_ret, wp_deviceId, toI1, toI2, loop_assoc]
  iintro ⟨#HR, HS, O1, OT, O0, OP, C102048⟩ Hk
  iapply (o_fill m c 11 rfl rfl (pay40_eq _ _ _)) $$ O1
  iintro O1
  iapply (o_send m c 11 (osem_eq (b := 1) (by decide) rfl) rfl rfl rfl rfl (by decide)) $$ [O1 OT]
  · iframe # ∗
  iintro ⟨O1, OT⟩
  iapply (o_done m c 10 (osem_eq (b := 0) (by decide) rfl) rfl rfl) $$ [HR HS O0 OP]
  · iframe # ∗
  iintro ⟨HS, O0, OP⟩
  iapply (c_load c 12 (A := 2048) (B := 4096) rfl rfl (by decide) (by decide)) $$ C102048
  iintro C102048
  iapply (o_fill m c 12 rfl rfl (pay40_eq _ _ _)) $$ O0
  iintro O0
  iapply Hk
  iframe # ∗

theorem part40 {α : Type} {Q : α → sProp 𝕄} (c : Dev nD)  {kk : PUnit → Prog (TpuEff nD τ sig (Elt F) Λ₀ .tc) α} :
    iprop(Rec m ∗ St c 70 ∗ OH m c 0 12 ∗ oAny (F := F) c 3072 8192 ∗ OF m c 1 11 ∗ oPts m c 0 2816 ∗ cPts c 1 0 2048 4096 (fin m c))
      ⊢ iprop(((St c 70 ∗ OF m c 0 12 ∗ oAny (F := F) c 3584 8192 ∗ OF m c 1 13 ∗ oPts m c 0 3072 ∗ cPts c 1 0 2048 4096 (fin m c)) -∗ WP c (kk ⟨⟩) Q) -∗ WP c (ap (k0_part40_skel (F := F)) (k0_pay36 (amv m)) (k0_pay37 (amv m))  >>= kk) Q) := by
  unfold ap k0_part40_skel
  simp only [semSignalWord, semWaitWord, Prog.lift, Prog.bind_op, Prog.bind_ret, Prog.pure_eq_ret, wp_deviceId, toI1, toI2, loop_assoc]
  iintro ⟨#HR, HS, O0, OT, O1, OP, C102048⟩ Hk
  iapply (o_send m c 12 (osem_eq (b := 0) (by decide) rfl) rfl rfl rfl rfl (by decide)) $$ [O0 OT]
  · iframe # ∗
  iintro ⟨O0, OT⟩
  iapply (o_done m c 11 (osem_eq (b := 1) (by decide) rfl) rfl rfl) $$ [HR HS O1 OP]
  · iframe # ∗
  iintro ⟨HS, O1, OP⟩
  iapply (c_load c 13 (A := 2048) (B := 4096) rfl rfl (by decide) (by decide)) $$ C102048
  iintro C102048
  iapply (o_fill m c 13 rfl rfl (pay40_eq _ _ _)) $$ O1
  iintro O1
  iapply (o_send m c 13 (osem_eq (b := 1) (by decide) rfl) rfl rfl rfl rfl (by decide)) $$ [O1 OT]
  · iframe # ∗
  iintro ⟨O1, OT⟩
  iapply Hk
  iframe # ∗

theorem part41 {α : Type} {Q : α → sProp 𝕄} (c : Dev nD)  {kk : PUnit → Prog (TpuEff nD τ sig (Elt F) Λ₀ .tc) α} :
    iprop(Rec m ∗ St c 70 ∗ OF m c 0 12 ∗ oPts m c 0 3072 ∗ cPts c 1 0 2048 4096 (fin m c) ∗ oAny (F := F) c 3584 8192)
      ⊢ iprop(((St c 70 ∗ OF m c 0 14 ∗ oPts m c 0 3328 ∗ cPts c 1 0 2048 4096 (fin m c) ∗ oAny (F := F) c 3840 8192) -∗ WP c (kk ⟨⟩) Q) -∗ WP c (ap (k0_part41_skel (F := F)) (k0_pay36 (amv m)) (k0_pay37 (amv m))  >>= kk) Q) := by
  unfold ap k0_part41_skel
  simp only [semSignalWord, semWaitWord, Prog.lift, Prog.bind_op, Prog.bind_ret, Prog.pure_eq_ret, wp_deviceId, toI1, toI2, loop_assoc]
  iintro ⟨#HR, HS, O0, OP, C102048, OT⟩ Hk
  iapply (o_done m c 12 (osem_eq (b := 0) (by decide) rfl) rfl rfl) $$ [HR HS O0 OP]
  · iframe # ∗
  iintro ⟨HS, O0, OP⟩
  iapply (c_load c 14 (A := 2048) (B := 4096) rfl rfl (by decide) (by decide)) $$ C102048
  iintro C102048
  iapply (o_fill m c 14 rfl rfl (pay40_eq _ _ _)) $$ O0
  iintro O0
  iapply (o_send m c 14 (osem_eq (b := 0) (by decide) rfl) rfl rfl rfl rfl (by decide)) $$ [O0 OT]
  · iframe # ∗
  iintro ⟨O0, OT⟩
  iapply Hk
  iframe # ∗

theorem part42 {α : Type} {Q : α → sProp 𝕄} (c : Dev nD)  {kk : (Σ' (v784 : FVec F S1024x256 .f32), FVec F S1024x256 .f32) → Prog (TpuEff nD τ sig (Elt F) Λ₀ .tc) α} :
    iprop(Rec m ∗ St c 70 ∗ OF m c 1 13 ∗ oPts m c 0 3328 ∗ cPts c 1 0 2048 4096 (fin m c) ∗ oAny (F := F) c 3840 8192 ∗ OF m c 0 14 ∗ cPts c 1 1 0 2048 (fin m c))
      ⊢ iprop(((St c 70 ∗ OF m c 1 15 ∗ oPts m c 0 3840 ∗ cPts c 1 0 2048 4096 (fin m c) ∗ oAny (F := F) c 4096 8192 ∗ OI (F := F) c 0 ∗ cPts c 1 1 0 2048 (fin m c)) -∗ WP c (kk ⟨k0_pay61 (u4 (fin m c 1 0)), k0_pay62 (k0_pay37 (amv m))⟩) Q) -∗ WP c (ap (k0_part42_skel (F := F)) (k0_pay36 (amv m)) (k0_pay37 (amv m))  >>= kk) Q) := by
  unfold ap k0_part42_skel
  simp only [semSignalWord, semWaitWord, Prog.lift, Prog.bind_op, Prog.bind_ret, Prog.pure_eq_ret, wp_deviceId, toI1, toI2, loop_assoc]
  iintro ⟨#HR, HS, O1, OP, C102048, OT, O0, C110⟩ Hk
  iapply (o_done m c 13 (osem_eq (b := 1) (by decide) rfl) rfl rfl) $$ [HR HS O1 OP]
  · iframe # ∗
  iintro ⟨HS, O1, OP⟩
  iapply (c_load c 15 (A := 2048) (B := 4096) rfl rfl (by decide) (by decide)) $$ C102048
  iintro C102048
  iapply (o_fill m c 15 rfl rfl (pay40_eq _ _ _)) $$ O1
  iintro O1
  iapply (o_send m c 15 (osem_eq (b := 1) (by decide) rfl) rfl rfl rfl rfl (by decide)) $$ [O1 OT]
  · iframe # ∗
  iintro ⟨O1, OT⟩
  iapply (o_done m c 14 (osem_eq (b := 0) (by decide) rfl) rfl rfl) $$ [HR HS O0 OP]
  · iframe # ∗
  iintro ⟨HS, O0, OP⟩
  iapply (c_load c 0 (A := 0) (B := 2048) rfl rfl (by decide) (by decide)) $$ C110
  iintro C110
  iapply Hk
  iframe # ∗

theorem part43 {α : Type} {Q : α → sProp 𝕄} (c : Dev nD)  {kk : FVec F S1024x256 .f32 → Prog (TpuEff nD τ sig (Elt F) Λ₀ .tc) α} :
    iprop(Rec m ∗ St c 70 ∗ OI (F := F) c 0 ∗ oAny (F := F) c 4096 8192 ∗ OF m c 1 15 ∗ oPts m c 0 3840 ∗ cPts c 1 1 0 2048 (fin m c))
      ⊢ iprop(((St c 70 ∗ OF m c 0 16 ∗ oAny (F := F) c 4352 8192 ∗ OI (F := F) c 1 ∗ oPts m c 0 4096 ∗ cPts c 1 1 0 2048 (fin m c)) -∗ WP c (kk (k0_pay64 (k0_pay36 (amv m)) (k0_pay37 (amv m)) (u4 (fin m c 1 1)))) Q) -∗ WP c (ap (k0_part43_skel (F := F)) (k0_pay36 (amv m)) (k0_pay37 (amv m)) (k0_pay61 (u4 (fin m c 1 0))) (k0_pay62 (k0_pay37 (amv m))) >>= kk) Q) := by
  unfold ap k0_part43_skel
  simp only [semSignalWord, semWaitWord, Prog.lift, Prog.bind_op, Prog.bind_ret, Prog.pure_eq_ret, wp_deviceId, toI1, toI2, loop_assoc]
  iintro ⟨#HR, HS, O0, OT, O1, OP, C110⟩ Hk
  iapply (o_fill m c 16 rfl rfl (pay40_eq _ _ _)) $$ O0
  iintro O0
  iapply (o_send m c 16 (osem_eq (b := 0) (by decide) rfl) rfl rfl rfl rfl (by decide)) $$ [O0 OT]
  · iframe # ∗
  iintro ⟨O0, OT⟩
  iapply (o_done m c 15 (osem_eq (b := 1) (by decide) rfl) rfl rfl) $$ [HR HS O1 OP]
  · iframe # ∗
  iintro ⟨HS, O1, OP⟩
  iapply (c_load c 1 (A := 0) (B := 2048) rfl rfl (by decide) (by decide)) $$ C110
  iintro C110
  iapply Hk
  iframe # ∗

theorem part44 {α : Type} {Q : α → sProp 𝕄} (c : Dev nD)  {kk : PUnit → Prog (TpuEff nD τ sig (Elt F) Λ₀ .tc) α} :
    iprop(Rec m ∗ St c 70 ∗ OI (F := F) c 1 ∗ oAny (F := F) c 4352 8192 ∗ OF m c 0 16 ∗ oPts m c 0 4096 ∗ cPts c 1 1 0 2048 (fin m c))
      ⊢ iprop(((St c 70 ∗ OF m c 1 17 ∗ oAny (F := F) c 4608 8192 ∗ OH m c 0 18 ∗ oPts m c 0 4352 ∗ cPts c 1 1 0 2048 (fin m c)) -∗ WP c (kk ⟨⟩) Q) -∗ WP c (ap (k0_part44_skel (F := F)) (k0_pay36 (amv m)) (k0_pay37 (amv m)) (k0_pay64 (k0_pay36 (amv m)) (k0_pay37 (amv m)) (u4 (fin m c 1 1))) >>= kk) Q) := by
  unfold ap k0_part44_skel
  simp only [semSignalWord, semWaitWord, Prog.lift, Prog.bind_op, Prog.bind_ret, Prog.pure_eq_ret, wp_deviceId, toI1, toI2, loop_assoc]
  iintro ⟨#HR, HS, O1, OT, O0, OP, C110⟩ Hk
  iapply (o_fill m c 17 rfl rfl (pay40_eq _ _ _)) $$ O1
  iintro O1
  iapply (o_send m c 17 (osem_eq (b := 1) (by decide) rfl) rfl rfl rfl rfl (by decide)) $$ [O1 OT]
  · iframe # ∗
  iintro ⟨O1, OT⟩
  iapply (o_done m c 16 (osem_eq (b := 0) (by decide) rfl) rfl rfl) $$ [HR HS O0 OP]
  · iframe # ∗
  iintro ⟨HS, O0, OP⟩
  iapply (c_load c 2 (A := 0) (B := 2048) rfl rfl (by decide) (by decide)) $$ C110
  iintro C110
  iapply (o_fill m c 18 rfl rfl (pay40_eq _ _ _)) $$ O0
  iintro O0
  iapply Hk
  iframe # ∗

theorem part45 {α : Type} {Q : α → sProp 𝕄} (c : Dev nD)  {kk : PUnit → Prog (TpuEff nD τ sig (Elt F) Λ₀ .tc) α} :
    iprop(Rec m ∗ St c 70 ∗ OH m c 0 18 ∗ oAny (F := F) c 4608 8192 ∗ OF m c 1 17 ∗ oPts m c 0 4352 ∗ cPts c 1 1 0 2048 (fin m c))
      ⊢ iprop(((St c 70 ∗ OF m c 0 18 ∗ oAny (F := F) c 5120 8192 ∗ OF m c 1 19 ∗ oPts m c 0 4608 ∗ cPts c 1 1 0 2048 (fin m c)) -∗ WP c (kk ⟨⟩) Q) -∗ WP c (ap (k0_part45_skel (F := F)) (k0_pay36 (amv m)) (k0_pay37 (amv m))  >>= kk) Q) := by
  unfold ap k0_part45_skel
  simp only [semSignalWord, semWaitWord, Prog.lift, Prog.bind_op, Prog.bind_ret, Prog.pure_eq_ret, wp_deviceId, toI1, toI2, loop_assoc]
  iintro ⟨#HR, HS, O0, OT, O1, OP, C110⟩ Hk
  iapply (o_send m c 18 (osem_eq (b := 0) (by decide) rfl) rfl rfl rfl rfl (by decide)) $$ [O0 OT]
  · iframe # ∗
  iintro ⟨O0, OT⟩
  iapply (o_done m c 17 (osem_eq (b := 1) (by decide) rfl) rfl rfl) $$ [HR HS O1 OP]
  · iframe # ∗
  iintro ⟨HS, O1, OP⟩
  iapply (c_load c 3 (A := 0) (B := 2048) rfl rfl (by decide) (by decide)) $$ C110
  iintro C110
  iapply (o_fill m c 19 rfl rfl (pay40_eq _ _ _)) $$ O1
  iintro O1
  iapply (o_send m c 19 (osem_eq (b := 1) (by decide) rfl) rfl rfl rfl rfl (by decide)) $$ [O1 OT]
  · iframe # ∗
  iintro ⟨O1, OT⟩
  iapply Hk
  iframe # ∗

theorem part46 {α : Type} {Q : α → sProp 𝕄} (c : Dev nD)  {kk : PUnit → Prog (TpuEff nD τ sig (Elt F) Λ₀ .tc) α} :
    iprop(Rec m ∗ St c 70 ∗ OF m c 0 18 ∗ oPts m c 0 4608 ∗ cPts c 1 1 0 2048 (fin m c) ∗ oAny (F := F) c 5120 8192)
      ⊢ iprop(((St c 70 ∗ OF m c 0 20 ∗ oPts m c 0 4864 ∗ cPts c 1 1 0 2048 (fin m c) ∗ oAny (F := F) c 5376 8192) -∗ WP c (kk ⟨⟩) Q) -∗ WP c (ap (k0_part46_skel (F := F)) (k0_pay36 (amv m)) (k0_pay37 (amv m))  >>= kk) Q) := by
  unfold ap k0_part46_skel
  simp only [semSignalWord, semWaitWord, Prog.lift, Prog.bind_op, Prog.bind_ret, Prog.pure_eq_ret, wp_deviceId, toI1, toI2, loop_assoc]
  iintro ⟨#HR, HS, O0, OP, C110, OT⟩ Hk
  iapply (o_done m c 18 (osem_eq (b := 0) (by decide) rfl) rfl rfl) $$ [HR HS O0 OP]
  · iframe # ∗
  iintro ⟨HS, O0, OP⟩
  iapply (c_load c 4 (A := 0) (B := 2048) rfl rfl (by decide) (by decide)) $$ C110
  iintro C110
  iapply (o_fill m c 20 rfl rfl (pay40_eq _ _ _)) $$ O0
  iintro O0
  iapply (o_send m c 20 (osem_eq (b := 0) (by decide) rfl) rfl rfl rfl rfl (by decide)) $$ [O0 OT]
  · iframe # ∗
  iintro ⟨O0, OT⟩
  iapply Hk
  iframe # ∗

theorem part47 {α : Type} {Q : α → sProp 𝕄} (c : Dev nD)  {kk : (Σ' (v784 : FVec F S1024x256 .f32), FVec F S1024x256 .f32) → Prog (TpuEff nD τ sig (Elt F) Λ₀ .tc) α} :
    iprop(Rec m ∗ St c 70 ∗ OF m c 1 19 ∗ oPts m c 0 4864 ∗ cPts c 1 1 0 2048 (fin m c) ∗ oAny (F := F) c 5376 8192 ∗ OF m c 0 20)
      ⊢ iprop(((St c 70 ∗ OF m c 1 21 ∗ oPts m c 0 5376 ∗ cPts c 1 1 0 2048 (fin m c) ∗ oAny (F := F) c 5632 8192 ∗ OI (F := F) c 0) -∗ WP c (kk ⟨k0_pay70 (u4 (fin m c 1 6)), k0_pay71 (k0_pay37 (amv m))⟩) Q) -∗ WP c (ap (k0_part47_skel (F := F)) (k0_pay36 (amv m)) (k0_pay37 (amv m))  >>= kk) Q) := by
  unfold ap k0_part47_skel
  simp only [semSignalWord, semWaitWord, Prog.lift, Prog.bind_op, Prog.bind_ret, Prog.pure_eq_ret, wp_deviceId, toI1, toI2, loop_assoc]
  iintro ⟨#HR, HS, O1, OP, C110, OT, O0⟩ Hk
  iapply (o_done m c 19 (osem_eq (b := 1) (by decide) rfl) rfl rfl) $$ [HR HS O1 OP]
  · iframe # ∗
  iintro ⟨HS, O1, OP⟩
  iapply (c_load c 5 (A := 0) (B := 2048) rfl rfl (by decide) (by decide)) $$ C110
  iintro C110
  iapply (o_fill m c 21 rfl rfl (pay40_eq _ _ _)) $$ O1
  iintro O1
  iapply (o_send m c 21 (osem_eq (b := 1) (by decide) rfl) rfl rfl rfl rfl (by decide)) $$ [O1 OT]
  · iframe # ∗
  iintro ⟨O1, OT⟩
  iapply (o_done m c 20 (osem_eq (b := 0) (by decide) rfl) rfl rfl) $$ [HR HS O0 OP]
  · iframe # ∗
  iintro ⟨HS, O0, OP⟩
  iapply (c_load c 6 (A := 0) (B := 2048) rfl rfl (by decide) (by decide)) $$ C110
  iintro C110
  iapply Hk
  iframe # ∗

theorem part48 {α : Type} {Q : α → sProp 𝕄} (c : Dev nD)  {kk : FVec F S1024x256 .f32 → Prog (TpuEff nD τ sig (Elt F) Λ₀ .tc) α} :
    iprop(Rec m ∗ St c 70 ∗ OI (F := F) c 0 ∗ oAny (F := F) c 5632 8192 ∗ OF m c 1 21 ∗ oPts m c 0 5376 ∗ cPts c 1 1 0 2048 (fin m c))
      ⊢ iprop(((St c 70 ∗ OF m c 0 22 ∗ oAny (F := F) c 5888 8192 ∗ OI (F := F) c 1 ∗ oPts m c 0 5632 ∗ cPts c 1 1 0 2048 (fin m c)) -∗ WP c (kk (k0_pay73 (k0_pay36 (amv m)) (k0_pay37 (amv m)) (u4 (fin m c 1 7)))) Q) -∗ WP c (ap (k0_part48_skel (F := F)) (k0_pay36 (amv m)) (k0_pay37 (amv m)) (k0_pay70 (u4 (fin m c 1 6))) (k0_pay71 (k0_pay37 (amv m))) >>= kk) Q) := by
  unfold ap k0_part48_skel
  simp only [semSignalWord, semWaitWord, Prog.lift, Prog.bind_op, Prog.bind_ret, Prog.pure_eq_ret, wp_deviceId, toI1, toI2, loop_assoc]
  iintro ⟨#HR, HS, O0, OT, O1, OP, C110⟩ Hk
  iapply (o_fill m c 22 rfl rfl (pay40_eq _ _ _)) $$ O0
  iintro O0
  iapply (o_send m c 22 (osem_eq (b := 0) (by decide) rfl) rfl rfl rfl rfl (by decide)) $$ [O0 OT]
  · iframe # ∗
  iintro ⟨O0, OT⟩
  iapply (o_done m c 21 (osem_eq (b := 1) (by decide) rfl) rfl rfl) $$ [HR HS O1 OP]
  · iframe # ∗
  iintro ⟨HS, O1, OP⟩
  iapply (c_load c 7 (A := 0) (B := 2048) rfl rfl (by decide) (by decide)) $$ C110
  iintro C110
  iapply Hk
  iframe # ∗

theorem part49 {α : Type} {Q : α → sProp 𝕄} (c : Dev nD)  {kk : PUnit → Prog (TpuEff nD τ sig (Elt F) Λ₀ .tc) α} :
    iprop(Rec m ∗ St c 70 ∗ OI (F := F) c 1 ∗ oAny (F := F) c 5888 8192 ∗ OF m c 0 22 ∗ oPts m c 0 5632 ∗ cPts c 1 1 2048 4096 (fin m c))
      ⊢ iprop(((St c 70 ∗ OF m c 1 23 ∗ oAny (F := F) c 6144 8192 ∗ OH m c 0 24 ∗ oPts m c 0 5888 ∗ cPts c 1 1 2048 4096 (fin m c)) -∗ WP c (kk ⟨⟩) Q) -∗ WP c (ap (k0_part49_skel (F := F)) (k0_pay36 (amv m)) (k0_pay37 (amv m)) (k0_pay73 (k0_pay36 (amv m)) (k0_pay37 (amv m)) (u4 (fin m c 1 7))) >>= kk) Q) := by
  unfold ap k0_part49_skel
  simp only [semSignalWord, semWaitWord, Prog.lift, Prog.bind_op, Prog.bind_ret, Prog.pure_eq_ret, wp_deviceId, toI1, toI2, loop_assoc]
  iintro ⟨#HR, HS, O1, OT, O0, OP, C112048⟩ Hk
  iapply (o_fill m c 23 rfl rfl (pay40_eq _ _ _)) $$ O1
  iintro O1
  iapply (o_send m c 23 (osem_eq (b := 1) (by decide) rfl) rfl rfl rfl rfl (by decide)) $$ [O1 OT]
  · iframe # ∗
  iintro ⟨O1, OT⟩
  iapply (o_done m c 22 (osem_eq (b := 0) (by decide) rfl) rfl rfl) $$ [HR HS O0 OP]
  · iframe # ∗
  iintro ⟨HS, O0, OP⟩
  iapply (c_load c 8 (A := 2048) (B := 4096) rfl rfl (by decide) (by decide)) $$ C112048
  iintro C112048
  iapply (o_fill m c 24 rfl rfl (pay40_eq _ _ _)) $$ O0
  iintro O0
  iapply Hk
  iframe # ∗

theorem part50 {α : Type} {Q : α → sProp 𝕄} (c : Dev nD)  {kk : PUnit → Prog (TpuEff nD τ sig (Elt F) Λ₀ .tc) α} :
    iprop(Rec m ∗ St c 70 ∗ OH m c 0 24 ∗ oAny (F := F) c 6144 8192 ∗ OF m c 1 23 ∗ oPts m c 0 5888 ∗ cPts c 1 1 2048 4096 (fin m c))
      ⊢ iprop(((St c 70 ∗ OF m c 0 24 ∗ oAny (F := F) c 6656 8192 ∗ OF m c 1 25 ∗ oPts m c 0 6144 ∗ cPts c 1 1 2048 4096 (fin m c)) -∗ WP c (kk ⟨⟩) Q) -∗ WP c (ap (k0_part50_skel (F := F)) (k0_pay36 (amv m)) (k0_pay37 (amv m))  >>= kk) Q) := by
  unfold ap k0_part50_skel
  simp only [semSignalWord, semWaitWord, Prog.lift, Prog.bind_op, Prog.bind_ret, Prog.pure_eq_ret, wp_deviceId, toI1, toI2, loop_assoc]
  iintro ⟨#HR, HS, O0, OT, O1, OP, C112048⟩ Hk
  iapply (o_send m c 24 (osem_eq (b := 0) (by decide) rfl) rfl rfl rfl rfl (by decide)) $$ [O0 OT]
  · iframe # ∗
  iintro ⟨O0, OT⟩
  iapply (o_done m c 23 (osem_eq (b := 1) (by decide) rfl) rfl rfl) $$ [HR HS O1 OP]
  · iframe # ∗
  iintro ⟨HS, O1, OP⟩
  iapply (c_load c 9 (A := 2048) (B := 4096) rfl rfl (by decide) (by decide)) $$ C112048
  iintro C112048
  iapply (o_fill m c 25 rfl rfl (pay40_eq _ _ _)) $$ O1
  iintro O1
  iapply (o_send m c 25 (osem_eq (b := 1) (by decide) rfl) rfl rfl rfl rfl (by decide)) $$ [O1 OT]
  · iframe # ∗
  iintro ⟨O1, OT⟩
  iapply Hk
  iframe # ∗

theorem part51 {α : Type} {Q : α → sProp 𝕄} (c : Dev nD)  {kk : PUnit → Prog (TpuEff nD τ sig (Elt F) Λ₀ .tc) α} :
    iprop(Rec m ∗ St c 70 ∗ OF m c 0 24 ∗ oPts m c 0 6144 ∗ cPts c 1 1 2048 4096 (fin m c) ∗ oAny (F := F) c 6656 8192)
      ⊢ iprop(((St c 70 ∗ OF m c 0 26 ∗ oPts m c 0 6400 ∗ cPts c 1 1 2048 4096 (fin m c) ∗ oAny (F := F) c 6912 8192) -∗ WP c (kk ⟨⟩) Q) -∗ WP c (ap (k0_part51_skel (F := F)) (k0_pay36 (amv m)) (k0_pay37 (amv m))  >>= kk) Q) := by
  unfold ap k0_part51_skel
  simp only [semSignalWord, semWaitWord, Prog.lift, Prog.bind_op, Prog.bind_ret, Prog.pure_eq_ret, wp_deviceId, toI1, toI2, loop_assoc]
  iintro ⟨#HR, HS, O0, OP, C112048, OT⟩ Hk
  iapply (o_done m c 24 (osem_eq (b := 0) (by decide) rfl) rfl rfl) $$ [HR HS O0 OP]
  · iframe # ∗
  iintro ⟨HS, O0, OP⟩
  iapply (c_load c 10 (A := 2048) (B := 4096) rfl rfl (by decide) (by decide)) $$ C112048
  iintro C112048
  iapply (o_fill m c 26 rfl rfl (pay40_eq _ _ _)) $$ O0
  iintro O0
  iapply (o_send m c 26 (osem_eq (b := 0) (by decide) rfl) rfl rfl rfl rfl (by decide)) $$ [O0 OT]
  · iframe # ∗
  iintro ⟨O0, OT⟩
  iapply Hk
  iframe # ∗

theorem part52 {α : Type} {Q : α → sProp 𝕄} (c : Dev nD)  {kk : (Σ' (v784 : FVec F S1024x256 .f32), FVec F S1024x256 .f32) → Prog (TpuEff nD τ sig (Elt F) Λ₀ .tc) α} :
    iprop(Rec m ∗ St c 70 ∗ OF m c 1 25 ∗ oPts m c 0 6400 ∗ cPts c 1 1 2048 4096 (fin m c) ∗ oAny (F := F) c 6912 8192 ∗ OF m c 0 26)
      ⊢ iprop(((St c 70 ∗ OF m c 1 27 ∗ oPts m c 0 6912 ∗ cPts c 1 1 2048 4096 (fin m c) ∗ oAny (F := F) c 7168 8192 ∗ OI (F := F) c 0) -∗ WP c (kk ⟨k0_pay79 (u4 (fin m c 1 12)), k0_pay80 (k0_pay37 (amv m))⟩) Q) -∗ WP c (ap (k0_part52_skel (F := F)) (k0_pay36 (amv m)) (k0_pay37 (amv m))  >>= kk) Q) := by
  unfold ap k0_part52_skel
  simp only [semSignalWord, semWaitWord, Prog.lift, Prog.bind_op, Prog.bind_ret, Prog.pure_eq_ret, wp_deviceId, toI1, toI2, loop_assoc]
  iintro ⟨#HR, HS, O1, OP, C112048, OT, O0⟩ Hk
  iapply (o_done m c 25 (osem_eq (b := 1) (by decide) rfl) rfl rfl) $$ [HR HS O1 OP]
  · iframe # ∗
  iintro ⟨HS, O1, OP⟩
  iapply (c_load c 11 (A := 2048) (B := 4096) rfl rfl (by decide) (by decide)) $$ C112048
  iintro C112048
  iapply (o_fill m c 27 rfl rfl (pay40_eq _ _ _)) $$ O1
  iintro O1
  iapply (o_send m c 27 (osem_eq (b := 1) (by decide) rfl) rfl rfl rfl rfl (by decide)) $$ [O1 OT]
  · iframe # ∗
  iintro ⟨O1, OT⟩
  iapply (o_done m c 26 (osem_eq (b := 0) (by decide) rfl) rfl rfl) $$ [HR HS O0 OP]
  · iframe # ∗
  iintro ⟨HS, O0, OP⟩
  iapply (c_load c 12 (A := 2048) (B := 4096) rfl rfl (by decide) (by decide)) $$ C112048
  iintro C112048
  iapply Hk
  iframe # ∗

theorem part53 {α : Type} {Q : α → sProp 𝕄} (c : Dev nD)  {kk : FVec F S1024x256 .f32 → Prog (TpuEff nD τ sig (Elt F) Λ₀ .tc) α} :
    iprop(Rec m ∗ St c 70 ∗ OI (F := F) c 0 ∗ oAny (F := F) c 7168 8192 ∗ OF m c 1 27 ∗ oPts m c 0 6912 ∗ cPts c 1 1 2048 4096 (fin m c))
      ⊢ iprop(((St c 70 ∗ OF m c 0 28 ∗ oAny (F := F) c 7424 8192 ∗ OI (F := F) c 1 ∗ oPts m c 0 7168 ∗ cPts c 1 1 2048 4096 (fin m c)) -∗ WP c (kk (k0_pay82 (k0_pay36 (amv m)) (k0_pay37 (amv m)) (u4 (fin m c 1 13)))) Q) -∗ WP c (ap (k0_part53_skel (F := F)) (k0_pay36 (amv m)) (k0_pay37 (amv m)) (k0_pay79 (u4 (fin m c 1 12))) (k0_pay80 (k0_pay37 (amv m))) >>= kk) Q) := by
  unfold ap k0_part53_skel
  simp only [semSignalWord, semWaitWord, Prog.lift, Prog.bind_op, Prog.bind_ret, Prog.pure_eq_ret, wp_deviceId, toI1, toI2, loop_assoc]
  iintro ⟨#HR, HS, O0, OT, O1, OP, C112048⟩ Hk
  iapply (o_fill m c 28 rfl rfl (pay40_eq _ _ _)) $$ O0
  iintro O0
  iapply (o_send m c 28 (osem_eq (b := 0) (by decide) rfl) rfl rfl rfl rfl (by decide)) $$ [O0 OT]
  · iframe # ∗
  iintro ⟨O0, OT⟩
  iapply (o_done m c 27 (osem_eq (b := 1) (by decide) rfl) rfl rfl) $$ [HR HS O1 OP]
  · iframe # ∗
  iintro ⟨HS, O1, OP⟩
  iapply (c_load c 13 (A := 2048) (B := 4096) rfl rfl (by decide) (by decide)) $$ C112048
  iintro C112048
  iapply Hk
  iframe # ∗

theorem part54 {α : Type} {Q : α → sProp 𝕄} (c : Dev nD)  {kk : PUnit → Prog (TpuEff nD τ sig (Elt F) Λ₀ .tc) α} :
    iprop(Rec m ∗ St c 70 ∗ OI (F := F) c 1 ∗ oAny (F := F) c 7424 8192 ∗ OF m c 0 28 ∗ oPts m c 0 7168 ∗ cPts c 1 1 2048 4096 (fin m c))
      ⊢ iprop(((St c 70 ∗ OF m c 1 29 ∗ oAny (F := F) c 7680 8192 ∗ OH m c 0 30 ∗ oPts m c 0 7424 ∗ cPts c 1 1 2048 4096 (fin m c)) -∗ WP c (kk ⟨⟩) Q) -∗ WP c (ap (k0_part54_skel (F := F)) (k0_pay36 (amv m)) (k0_pay37 (amv m)) (k0_pay82 (k0_pay36 (amv m)) (k0_pay37 (amv m)) (u4 (fin m c 1 13))) >>= kk) Q) := by
  unfold ap k0_part54_skel
  simp only [semSignalWord, semWaitWord, Prog.lift, Prog.bind_op, Prog.bind_ret, Prog.pure_eq_ret, wp_deviceId, toI1, toI2, loop_assoc]
  iintro ⟨#HR, HS, O1, OT, O0, OP, C112048⟩ Hk
  iapply (o_fill m c 29 rfl rfl (pay40_eq _ _ _)) $$ O1
  iintro O1
  iapply (o_send m c 29 (osem_eq (b := 1) (by decide) rfl) rfl rfl rfl rfl (by decide)) $$ [O1 OT]
  · iframe # ∗
  iintro ⟨O1, OT⟩
  iapply (o_done m c 28 (osem_eq (b := 0) (by decide) rfl) rfl rfl) $$ [HR HS O0 OP]
  · iframe # ∗
  iintro ⟨HS, O0, OP⟩
  iapply (c_load c 14 (A := 2048) (B := 4096) rfl rfl (by decide) (by decide)) $$ C112048
  iintro C112048
  iapply (o_fill m c 30 rfl rfl (pay40_eq _ _ _)) $$ O0
  iintro O0
  iapply Hk
  iframe # ∗

theorem part55 {α : Type} {Q : α → sProp 𝕄} (c : Dev nD)  {kk : PUnit → Prog (TpuEff nD τ sig (Elt F) Λ₀ .tc) α} :
    iprop(Rec m ∗ St c 70 ∗ OH m c 0 30 ∗ oAny (F := F) c 7680 8192 ∗ OF m c 1 29 ∗ oPts m c 0 7424 ∗ cPts c 1 1 2048 4096 (fin m c))
      ⊢ iprop(((St c 70 ∗ OF m c 0 30 ∗ oAny (F := F) c 8192 8192 ∗ OF m c 1 31 ∗ oPts m c 0 7680 ∗ cPts c 1 1 2048 4096 (fin m c)) -∗ WP c (kk ⟨⟩) Q) -∗ WP c (ap (k0_part55_skel (F := F)) (k0_pay36 (amv m)) (k0_pay37 (amv m))  >>= kk) Q) := by
  unfold ap k0_part55_skel
  simp only [semSignalWord, semWaitWord, Prog.lift, Prog.bind_op, Prog.bind_ret, Prog.pure_eq_ret, wp_deviceId, toI1, toI2, loop_assoc]
  iintro ⟨#HR, HS, O0, OT, O1, OP, C112048⟩ Hk
  iapply (o_send m c 30 (osem_eq (b := 0) (by decide) rfl) rfl rfl rfl rfl (by decide)) $$ [O0 OT]
  · iframe # ∗
  iintro ⟨O0, OT⟩
  iapply (o_done m c 29 (osem_eq (b := 1) (by decide) rfl) rfl rfl) $$ [HR HS O1 OP]
  · iframe # ∗
  iintro ⟨HS, O1, OP⟩
  iapply (c_load c 15 (A := 2048) (B := 4096) rfl rfl (by decide) (by decide)) $$ C112048
  iintro C112048
  iapply (o_fill m c 31 rfl rfl (pay40_eq _ _ _)) $$ O1
  iintro O1
  iapply (o_send m c 31 (osem_eq (b := 1) (by decide) rfl) rfl rfl rfl rfl (by decide)) $$ [O1 OT]
  · iframe # ∗
  iintro ⟨O1, OT⟩
  iapply Hk
  iframe # ∗

end Cert.RingProof
-- ==== Proof.Body.lean ====
/-
The whole program of one device.
-/
module

public import proofs.«01_k».proof.Proof.BodyF

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

theorem bar_left (c : Dev nD) : payK m .bar c false ⊢ iprop(cAny (lft c) 1 1 0 4096 ∗ aAny (F := F) (lft c) c.val) := Entails.of_eq rfl
theorem bar_right (c : Dev nD) : payK m .bar c true ⊢ iprop(cAny (rgt c) 1 0 0 4096 ∗ aAny (F := F) (rgt c) c.val ∗ aAny (F := F) (rgt c) (lft c).val) := Entails.of_eq rfl

/-- What a device holds when its program starts, -/
def atStart (c : Dev nD) : sProp 𝕄 := iprop(St c 0 ∗ cAny (F := F) c 0 0 0 4096 ∗ cAny (F := F) c 0 1 0 4096 ∗ cAny (F := F) c 1 0 0 4096 ∗ cAny (F := F) c 1 1 0 4096 ∗ aAny (F := F) c (lft c).val ∗ aAny (F := F) c (rot 2 c).val ∗ aAny (F := F) c (rgt c).val ∗ aAny (F := F) c c.val ∗ XI m c 0 ∗ XI m c 1 ∗ WI m c 0 ∗ WI m c 1 ∗ pAny (F := F) c 0 0 4096 ∗ pAny (F := F) c 1 0 4096 ∗ OI (F := F) c 0 ∗ OI (F := F) c 1 ∗ oAny (F := F) c 0 8192)
/-- and when it ends. -/
def atEnd (c : Dev nD) : sProp 𝕄 := iprop(St c 70 ∗ XH m c 0 (rot 4 c) ∗ XH m c 1 (rot 3 c) ∗ WI m c 0 ∗ WI m c 1 ∗ pPts c 0 0 4096 (part m c 3) ∗ pPts c 1 0 4096 (part m c 3) ∗ cAny (F := F) c 0 0 0 2048 ∗ cPts c 1 0 0 2048 (fin m c) ∗ cAny (F := F) c 0 1 0 2048 ∗ cPts c 1 1 0 2048 (fin m c) ∗ cAny (F := F) c 0 0 2048 4096 ∗ cPts c 1 0 2048 4096 (fin m c) ∗ cAny (F := F) c 0 1 2048 4096 ∗ cPts c 1 1 2048 4096 (fin m c) ∗ OI (F := F) c 0 ∗ OI (F := F) c 1 ∗ oPts m c 0 8192 ∗ aAll m c)

/-- The program of one device. -/
theorem body (c : Dev nD) : iprop(Rec m ∗ atStart m c) ⊢ WP c (ap (cc0_body (F := F))) (fun _ => atEnd m c) := by
  rw [cc0_body_eq_skeleton]
  unfold ap cc0_body_skel
  rw [k0_part56_eq_skeleton]
  unfold k0_part56_skel atStart atEnd
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, Prog.lift, Prog.bind_op, Prog.bind_ret, Prog.pure_eq_ret, loop_assoc]

  iintro ⟨#HR, HS, C000, C010, C10, C11, A3, A2, A1, AO, X0, X1, W0, W1, P0, P1, O0, O1, OT⟩
  ihave OP := (oPts_nil m c (a := 0))
  ihave C000 := (cAny_cut (F := F) (s := 0) (d := 0) (a := 0) (b := 4096) c 2048 (by decide) (by decide)).1 $$ C000
  icases C000 with ⟨C000, C002048⟩
  ihave C000 := (cAny_cut (F := F) (s := 0) (d := 0) (a := 0) (b := 2048) c 1024 (by decide) (by decide)).1 $$ C000
  icases C000 with ⟨C000, C001024⟩
  ihave C010 := (cAny_cut (F := F) (s := 0) (d := 1) (a := 0) (b := 4096) c 2048 (by decide) (by decide)).1 $$ C010
  icases C010 with ⟨C010, C012048⟩
  ihave C010 := (cAny_cut (F := F) (s := 0) (d := 1) (a := 0) (b := 2048) c 1024 (by decide) (by decide)).1 $$ C010
  icases C010 with ⟨C010, C011024⟩
  iapply (part1 m c) $$ [X0 X1 W0]
  · iframe # ∗
  iintro %v2 %v5 %v7 ⟨X0, X1, W0⟩
  iapply (part2 m c _) $$ [HR HS C000 C10 A3 A2 C11 A1 X0 X1 W0 W1]
  · iframe # ∗
  iintro ⟨HS, B0, B1, X0, X1, W0, W1, C000⟩
  ihave B0 := (bar_left m c) $$ B0
  icases B0 with ⟨D110, AL⟩
  ihave B1 := (bar_right m c) $$ B1
  icases B1 with ⟨D100, AR, ARL⟩
  ihave D110 := (cAny_cut (F := F) (s := 1) (d := 1) (a := 0) (b := 4096) (lft c) 2048 (by decide) (by decide)).1 $$ D110
  icases D110 with ⟨D110, D112048⟩
  ihave D110 := (cAny_cut (F := F) (s := 1) (d := 1) (a := 0) (b := 2048) (lft c) 1024 (by decide) (by decide)).1 $$ D110
  icases D110 with ⟨D110, D111024⟩
  ihave D100 := (cAny_cut (F := F) (s := 1) (d := 0) (a := 0) (b := 4096) (rgt c) 2048 (by decide) (by decide)).1 $$ D100
  icases D100 with ⟨D100, D102048⟩
  ihave D100 := (cAny_cut (F := F) (s := 1) (d := 0) (a := 0) (b := 2048) (rgt c) 1024 (by decide) (by decide)).1 $$ D100
  icases D100 with ⟨D100, D101024⟩
  iapply (part3 m c _) $$ [HR HS C000 D100 D110 C010 X1 W0 W1]
  · iframe # ∗
  iintro ⟨HS, X1, W0, W1⟩
  iapply (part4 m c _) $$ [HR HS D101024 C001024 X0 X1 W0 W1]
  · iframe # ∗
  iintro ⟨HS, X0, X1, W0, W1⟩
  iapply (part5 m c _) $$ [HR HS D111024 C011024 C002048 X0 W0 W1]
  · iframe # ∗
  iintro ⟨HS, X0, W0, W1, C002048⟩
  iapply (part6 m c _ _) $$ [HR HS D102048 C002048 C012048 X1 W0 W1]
  · iframe # ∗
  iintro ⟨HS, X1, W0, W1, C012048⟩
  ihave X0 := (XH_idle m c 0 _) $$ X0
  iapply (part7 m c _) $$ [HR HS D112048 C012048 X0 W0]
  · iframe # ∗
  iintro ⟨HS, X0, W0⟩
  iapply (part8 m c _ _ _) $$ [HR HS P0 W0 W1 X0 P1]
  · iframe # ∗
  iintro ⟨HS, P0, W0, W1, X0, P1, C000⟩
  iapply (part9 m c _ _) $$ [HR HS C000 ARL P0]
  · iframe # ∗
  iintro ⟨HS, P0, C100⟩
  iapply (part10 m c _ _) $$ [HR HS C100]
  · iframe # ∗
  iintro ⟨HS, A2C, C010⟩
  iapply (part11 m c _ _) $$ [HR HS C010]
  · iframe # ∗
  iintro ⟨HS, C110⟩
  iapply (part12 m c _ _ _) $$ [HR HS C110 P1]
  · iframe # ∗
  iintro ⟨HS, P1, C002048⟩
  iapply (part13 m c _ _) $$ [HR HS C002048 P0]
  · iframe # ∗
  iintro ⟨HS, P0⟩
  iapply (part14 m c _ _) $$ [HR HS P1]
  · iframe # ∗
  iintro ⟨HS, P1, C112048, D012048⟩
  iapply (part15 m c _ _) $$ [HR HS C112048 D012048 X0 W0]
  · iframe # ∗
  iintro ⟨HS, X0, W0⟩
  iapply (part16 m c _) $$ [HR HS X0 P0 W0 W1 X1]
  · iframe # ∗
  iintro ⟨HS, X0, P0, W0, W1, X1⟩
  iapply (part17 m c _ _) $$ [HR HS P1 W0 W1]
  · iframe # ∗
  iintro ⟨HS, P1, W0, W1, C000⟩
  iapply (part18 m c _ _ _ _) $$ [HR HS C000 P0]
  · iframe # ∗
  iintro ⟨HS, P0, C110⟩
  iapply (part19 m c _ _) $$ [HR HS C110 P1]
  · iframe # ∗
  iintro ⟨HS, P1⟩
  iapply (part20 m c _ _) $$ [HR HS P0]
  · iframe # ∗
  iintro ⟨HS, P0, C002048, D102048⟩
  iapply (part21 m c _ _) $$ [HR HS C002048 D102048]
  · iframe # ∗
  iintro ⟨HS, C012048, C112048⟩
  iapply (part22 m c _ _ _) $$ [HR HS C112048 C012048 P1]
  · iframe # ∗
  iintro ⟨HS, P1⟩
  iapply (part23 m c) $$ [HR HS X0 W0 P0 W1 P1]
  · iframe # ∗
  iintro ⟨HS, X0, W0, P0, W1, P1⟩
  iapply (part24 m c _) $$ [HR HS P0]
  · iframe # ∗
  iintro ⟨HS, P0, C000, C100⟩
  iapply (part25 m c _ _) $$ [HR HS P1]
  · iframe # ∗
  iintro ⟨HS, P1, C002048, C010, C110⟩
  iapply (part26 m c _) $$ [HR HS P0 P1]
  · iframe # ∗
  iintro ⟨HS, P0, P1, C012048, C102048, C112048⟩
  iapply (part27 m c _) $$ [HR HS AO AR A2C]
  · iframe # ∗
  iintro ⟨HS, AS2⟩
  iapply (part28 m c _) $$ [HR HS AS2 AL]
  · iframe # ∗
  iintro ⟨HS, AG0, AG1⟩
  iapply (part29 m c) $$ [HR HS AG0 AG1 C100]
  · iframe # ∗
  iintro ⟨HS, C100, AA⟩
  iapply (part30 m c) $$ [HR O0 OT C100 O1]
  · iframe # ∗
  iintro ⟨O0, OT, C100, O1⟩
  iapply (part31 m c) $$ [HR HS O0 OP C100 OT]
  · iframe # ∗
  iintro ⟨HS, O0, OP, C100, OT⟩
  iapply (part32 m c) $$ [HR HS O1 OP C100 OT O0]
  · iframe # ∗
  iintro ⟨HS, O1, OP, C100, OT, O0⟩
  iapply (part33 m c) $$ [HR HS O0 OT O1 OP C100]
  · iframe # ∗
  iintro ⟨HS, O0, OT, O1, OP, C100⟩
  iapply (part34 m c) $$ [HR HS O1 OT O0 OP C100]
  · iframe # ∗
  iintro ⟨HS, O1, OT, O0, OP, C100⟩
  iapply (part35 m c) $$ [HR HS O0 OT O1 OP C100]
  · iframe # ∗
  iintro ⟨HS, O0, OT, O1, OP, C100⟩
  iapply (part36 m c) $$ [HR HS O0 OP C102048 OT]
  · iframe # ∗
  iintro ⟨HS, O0, OP, C102048, OT⟩
  iapply (part37 m c) $$ [HR HS O1 OP C102048 OT O0]
  · iframe # ∗
  iintro ⟨HS, O1, OP, C102048, OT, O0⟩
  iapply (part38 m c) $$ [HR HS O0 OT O1 OP C102048]
  · iframe # ∗
  iintro ⟨HS, O0, OT, O1, OP, C102048⟩
  iapply (part39 m c) $$ [HR HS O1 OT O0 OP C102048]
  · iframe # ∗
  iintro ⟨HS, O1, OT, O0, OP, C102048⟩
  iapply (part40 m c) $$ [HR HS O0 OT O1 OP C102048]
  · iframe # ∗
  iintro ⟨HS, O0, OT, O1, OP, C102048⟩
  iapply (part41 m c) $$ [HR HS O0 OP C102048 OT]
  · iframe # ∗
  iintro ⟨HS, O0, OP, C102048, OT⟩
  iapply (part42 m c) $$ [HR HS O1 OP C102048 OT O0 C110]
  · iframe # ∗
  iintro ⟨HS, O1, OP, C102048, OT, O0, C110⟩
  iapply (part43 m c) $$ [HR HS O0 OT O1 OP C110]
  · iframe # ∗
  iintro ⟨HS, O0, OT, O1, OP, C110⟩
  iapply (part44 m c) $$ [HR HS O1 OT O0 OP C110]
  · iframe # ∗
  iintro ⟨HS, O1, OT, O0, OP, C110⟩
  iapply (part45 m c) $$ [HR HS O0 OT O1 OP C110]
  · iframe # ∗
  iintro ⟨HS, O0, OT, O1, OP, C110⟩
  iapply (part46 m c) $$ [HR HS O0 OP C110 OT]
  · iframe # ∗
  iintro ⟨HS, O0, OP, C110, OT⟩
  iapply (part47 m c) $$ [HR HS O1 OP C110 OT O0]
  · iframe # ∗
  iintro ⟨HS, O1, OP, C110, OT, O0⟩
  iapply (part48 m c) $$ [HR HS O0 OT O1 OP C110]
  · iframe # ∗
  iintro ⟨HS, O0, OT, O1, OP, C110⟩
  iapply (part49 m c) $$ [HR HS O1 OT O0 OP C112048]
  · iframe # ∗
  iintro ⟨HS, O1, OT, O0, OP, C112048⟩
  iapply (part50 m c) $$ [HR HS O0 OT O1 OP C112048]
  · iframe # ∗
  iintro ⟨HS, O0, OT, O1, OP, C112048⟩
  iapply (part51 m c) $$ [HR HS O0 OP C112048 OT]
  · iframe # ∗
  iintro ⟨HS, O0, OP, C112048, OT⟩
  iapply (part52 m c) $$ [HR HS O1 OP C112048 OT O0]
  · iframe # ∗
  iintro ⟨HS, O1, OP, C112048, OT, O0⟩
  iapply (part53 m c) $$ [HR HS O0 OT O1 OP C112048]
  · iframe # ∗
  iintro ⟨HS, O0, OT, O1, OP, C112048⟩
  iapply (part54 m c) $$ [HR HS O1 OT O0 OP C112048]
  · iframe # ∗
  iintro ⟨HS, O1, OT, O0, OP, C112048⟩
  iapply (part55 m c) $$ [HR HS O0 OT O1 OP C112048]
  · iframe # ∗
  iintro ⟨HS, O0, OT, O1, OP, C112048⟩
  iapply (o_done m c 30 (osem_eq (b := 0) (by decide) rfl) rfl rfl) $$ [HR HS O0 OP]
  · iframe # ∗
  iintro ⟨HS, O0, OP⟩
  iapply (o_done m c 31 (osem_eq (b := 1) (by decide) rfl) rfl rfl) $$ [HR HS O1 OP]
  · iframe # ∗
  iintro ⟨HS, O1, OP⟩
  unfold WP
  rw [wp_ret]
  imodintro
  iframe # ∗

end Cert.RingProof
-- ==== Proof.Tokens.lean ====
/-
The bookkeeping at launch and at the end: credits, tokens and semaphores, family by family.
-/
module

public import proofs.«01_k».proof.Proof.Loc

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## Families over the cells, and over the parts of the state -/

def eK : Unit ⊕ Fin 14 ⊕ Fin 14 ⊕ Fin 8 ⊕ Fin 3 ⊕ Fin 3 ≃ K where
  toFun x := match x with
    | .inl _ => .bar | .inr (.inl i) => .send i | .inr (.inr (.inl i)) => .recv i | .inr (.inr (.inr (.inl k))) => .cred k
    | .inr (.inr (.inr (.inr (.inl o)))) => .asend o | .inr (.inr (.inr (.inr (.inr o)))) => .arecv o
  invFun k := match k with
    | .bar => .inl () | .send i => .inr (.inl i) | .recv i => .inr (.inr (.inl i)) | .cred k => .inr (.inr (.inr (.inl k)))
    | .asend o => .inr (.inr (.inr (.inr (.inl o)))) | .arecv o => .inr (.inr (.inr (.inr (.inr o))))
  left_inv x := by rcases x with _ | _ | _ | _ | _ | _ <;> rfl
  right_inv k := by cases k <;> rfl

theorem fam_K (Φ : K → sProp 𝕄) : bigSep Finset.univ Φ = iprop(Φ .bar ∗ (bigSep Finset.univ fun i => Φ (.send i)) ∗ (bigSep Finset.univ fun i => Φ (.recv i))
    ∗ (bigSep Finset.univ fun k => Φ (.cred k)) ∗ (bigSep Finset.univ fun o => Φ (.asend o)) ∗ (bigSep Finset.univ fun o => Φ (.arecv o))) := by
  rw [bigSep_univ_equiv eK, BI.bigSep_univ_sum, BI.bigSep_univ_sum, BI.bigSep_univ_sum, BI.bigSep_univ_sum, BI.bigSep_univ_sum,
    show (Finset.univ : Finset Unit) = {()} from rfl, bigSep_singleton]
  rfl

def eS : Unit ⊕ Unit ⊕ Unit ⊕ Fin 14 ⊕ Fin 14 ⊕ Fin 8 ⊕ Fin 8 ⊕ Fin 3 ⊕ Fin 3 ≃ Sl where
  toFun x := match x with
    | .inl _ => .bar | .inr (.inl _) => .bL | .inr (.inr (.inl _)) => .bR | .inr (.inr (.inr (.inl i))) => .S i | .inr (.inr (.inr (.inr (.inl i)))) => .R i
    | .inr (.inr (.inr (.inr (.inr (.inl k))))) => .C k | .inr (.inr (.inr (.inr (.inr (.inr (.inl k)))))) => .T k
    | .inr (.inr (.inr (.inr (.inr (.inr (.inr (.inl o))))))) => .A o | .inr (.inr (.inr (.inr (.inr (.inr (.inr (.inr o))))))) => .AR o
  invFun s := match s with
    | .bar => .inl () | .bL => .inr (.inl ()) | .bR => .inr (.inr (.inl ())) | .S i => .inr (.inr (.inr (.inl i))) | .R i => .inr (.inr (.inr (.inr (.inl i))))
    | .C k => .inr (.inr (.inr (.inr (.inr (.inl k))))) | .T k => .inr (.inr (.inr (.inr (.inr (.inr (.inl k))))))
    | .A o => .inr (.inr (.inr (.inr (.inr (.inr (.inr (.inl o))))))) | .AR o => .inr (.inr (.inr (.inr (.inr (.inr (.inr (.inr o)))))))
  left_inv x := by rcases x with _ | _ | _ | _ | _ | _ | _ | _ | _ <;> rfl
  right_inv s := by cases s <;> rfl

theorem fam_S (Φ : Sl → sProp 𝕄) : bigSep Finset.univ Φ = iprop(Φ .bar ∗ Φ .bL ∗ Φ .bR ∗ (bigSep Finset.univ fun i => Φ (.S i)) ∗ (bigSep Finset.univ fun i => Φ (.R i))
    ∗ (bigSep Finset.univ fun k => Φ (.C k)) ∗ (bigSep Finset.univ fun k => Φ (.T k)) ∗ (bigSep Finset.univ fun o => Φ (.A o)) ∗ (bigSep Finset.univ fun o => Φ (.AR o))) := by
  rw [bigSep_univ_equiv eS, BI.bigSep_univ_sum, BI.bigSep_univ_sum, BI.bigSep_univ_sum, BI.bigSep_univ_sum, BI.bigSep_univ_sum, BI.bigSep_univ_sum, BI.bigSep_univ_sum, BI.bigSep_univ_sum,
    show (Finset.univ : Finset Unit) = {()} from rfl, bigSep_singleton, bigSep_singleton, bigSep_singleton]
  rfl

/-! ## The credits dealt at launch -/

/-- How many payments a cell is owed. -/
def cnt (k : K) : ℕ := (evs.filter fun e => dcell e = some k).length

theorem tgt_sum (e : Ev) (c : Dev nD) : ∑ d : Dev nD, (if tgt d e = c then 1 else 0) = 1 := by
  cases e <;> first | (revert c; decide +kernel) | (rename_i i; revert i c; decide +kernel)

theorem debt_at (d c : Dev nD) (e : Ev) (k : K) : debt d e (kc c k) () = if dcell e = some k then (if tgt d e = c then 1 else 0) * amt k else 0 := by
  unfold debt
  cases h : dcell e with
  | none => rw [if_neg (by rintro ⟨⟩)]; rfl
  | some k' =>
    dsimp only
    rw [tallyAt_apply]
    by_cases hk : k' = k
    · subst hk
      rw [if_pos rfl]
      by_cases hc : tgt d e = c
      · subst hc; rw [if_pos ⟨rfl, rfl⟩, if_pos rfl, Nat.one_mul]
      · rw [if_neg (fun h' => hc (congrArg (fun g : GSem nD τ sig => g.1.1) h'.1).symm), if_neg hc, Nat.zero_mul]
    · rw [if_neg (fun h' => hk (csem_injective (congrArg Prod.snd h'.1).symm)), if_neg (fun h' => hk (Option.some.inj h'))]

theorem owed_sum (c : Dev nD) (k : K) (l : List Ev) : ∑ d : Dev nD, (l.map (debt d)).sum (kc c k) () = (l.filter fun e => dcell e = some k).length * amt k := by
  induction l with
  | nil => rw [List.filter_nil, List.length_nil, Nat.zero_mul]; exact Finset.sum_eq_zero fun d _ => rfl
  | cons e l ih =>
    rw [Finset.sum_congr rfl fun d _ => show _ = debt d e (kc c k) () + (l.map (debt d)).sum (kc c k) () by rw [List.map_cons, List.sum_cons, Pi.add_apply, Finsupp.add_apply],
      Finset.sum_add_distrib, ih, Finset.sum_congr rfl fun d _ => debt_at d c e k, List.filter_cons]
    by_cases h : dcell e = some k
    · rw [if_pos (decide_eq_true h), List.length_cons, Finset.sum_congr rfl fun d _ => if_pos h, ← Finset.sum_mul, tgt_sum]; ring
    · rw [if_neg (by rw [decide_eq_true_eq]; exact h), Finset.sum_congr rfl fun d _ => if_neg h, Finset.sum_const_zero, Nat.zero_add]

theorem launch_at (c : Dev nD) (k : K) :
    tallyOn (kc c k) (launchCredit (Pipeline.owing fun d => Od d 0) 0 (kc c k)) = (tallyAt (kc c k) () (cnt k * amt k) : CellTallies nD τ sig Unit) := by
  unfold tallyAt; refine congrArg _ (Finsupp.ext fun u => ?_); cases u
  rw [Pipeline.launchCredit_owing, Finsupp.single_eq_same]
  exact owed_sum c k evs

theorem creds (c : Dev nD) : (Pipeline.launchCred (fun d => Od d 0) c : sProp 𝕄) ⊢ bigSep Finset.univ fun k : K => cred (tallyAt (kc c k) () (cnt k * amt k)) := by
  unfold Pipeline.launchCred
  refine (bigSep_subset (t := Finset.univ.map ⟨csem, csem_injective⟩) (Finset.subset_univ _)).trans ?_
  rw [bigSep_map]
  exact bigSep_mono fun k _ => Entails.of_eq (congrArg cred (launch_at c k))

/-! ## The tokens dealt around -/

def dnE (d : ℕ) : Dev nD ≃ Dev nD := ⟨dn d, up d, up_dn d, dn_up d⟩
def rotE (o : Fin 3) : Dev nD ≃ Dev nD := ⟨rot (o.val + 1), rot (3 - o.val), by revert o; decide, by revert o; decide⟩
/-- Whose cell of kind `k` device `c` pays. -/
def pd : K → (Dev nD ≃ Dev nD)
  | .bar => dnE 0 | .send _ => Equiv.refl _ | .recv i => dnE (hd i) | .cred k => (dnE (kd k)).symm | .asend _ => Equiv.refl _ | .arecv o => rotE o

def toks (c : Dev nD) : sProp 𝕄 := iprop((bigSep Finset.univ fun k : K => tok (F := F) c k false) ∗ tok c .bar true)
def payToks (c : Dev nD) : sProp 𝕄 := iprop((bigSep Finset.univ fun k : K => tok (F := F) (pd k c) k false) ∗ tok (lft c) .bar true)

theorem fam_swap {A B : Type} [Fintype A] [Fintype B] (Φ : A → B → sProp 𝕄) :
    (bigSep Finset.univ fun a => bigSep Finset.univ fun b => Φ a b) = bigSep Finset.univ fun b => bigSep Finset.univ fun a => Φ a b := by
  rw [← bigSep_univ_prod (fun p : A × B => Φ p.1 p.2), bigSep_univ_equiv (Equiv.prodComm B A), bigSep_univ_prod]; rfl

theorem toks_around : (bigSep Finset.univ fun c : Dev nD => (toks (F := F) c : sProp 𝕄)) ⊢ bigSep Finset.univ fun c : Dev nD => payToks c := by
  unfold toks payToks
  rw [bigSep_sep', bigSep_sep', fam_swap, fam_swap (fun (c : Dev nD) (k : K) => (tok (pd k c) k false : sProp 𝕄)),
    bigSep_congr (s := Finset.univ) (fun (k : K) _ => bigSep_univ_equiv (pd k) (fun c : Dev nD => (tok c k false : sProp 𝕄))),
    bigSep_univ_equiv (dnE 1) (fun c : Dev nD => (tok c .bar true : sProp 𝕄))]
  exact BIBase.Entails.rfl

/-! ## What one device starts with is its state before the first step -/

def sv (c : Dev nD) (sm : SemLoc sig) : sProp 𝕄 := semVal ((c : Thread nD τ), sm) 0

theorem slots_start (c : Dev nD) :
    iprop((bigSep Finset.univ fun k : K => cred (tallyAt (kc c k) () (cnt k * amt k))) ∗ (bigSep Finset.univ fun k : K => pos (F := F) c k) ∗ payToks (F := F) c)
      ⊢ bigSep (Finset.univ : Finset Sl) fun s => slotSt (F := F) c s 0 := by
  unfold payToks
  rw [fam_K, fam_K, fam_K, fam_S]
  have hR : ∀ i : Fin 14, cnt (.recv i) = 1 := by decide
  have hC : ∀ i : Fin 8, cnt (.cred i) = 1 := by decide
  have hA : ∀ i : Fin 3, cnt (.arecv i) = 1 := by decide
  have hB : cnt .bar * amt .bar = 2 := by decide
  simp only [hR, hC, hA, hB, Nat.one_mul]
  have s1 (i : Fin 14) : slotSt (F := F) c (.S i) 0 = iprop(tok c (.send i) false ∗ tok (dn (hd i) c) (.recv i) false ∗ pos c (.send i)) := rfl
  have s2 (i : Fin 14) : slotSt (F := F) c (.R i) 0 = iprop(cred (tallyAt (kc c (.recv i)) () (amt (.recv i))) ∗ pos c (.recv i)) := rfl
  have s3 (i : Fin 8) : slotSt (F := F) c (.C i) 0 = iprop(cred (tallyAt (kc c (.cred i)) () (amt (.cred i))) ∗ pos c (.cred i)) := rfl
  have s4 (i : Fin 8) : slotSt (F := F) c (.T i) 0 = tok (up (kd i) c) (.cred i) false := rfl
  have s5 (i : Fin 3) : slotSt (F := F) c (.A i) 0 = iprop(tok c (.asend i) false ∗ tok (rot (i.val + 1) c) (.arecv i) false ∗ pos c (.asend i)) := rfl
  have s6 (i : Fin 3) : slotSt (F := F) c (.AR i) 0 = iprop(cred (tallyAt (kc c (.arecv i)) () (amt (.arecv i))) ∗ pos c (.arecv i)) := rfl
  have s7 : slotSt (F := F) c .bar 0 = iprop(cred (tallyAt (kc c .bar) () 2) ∗ pos c .bar) := rfl
  have s8 : slotSt (F := F) c .bL 0 = tok (lft c) .bar true := rfl
  have s9 : slotSt (F := F) c .bR 0 = tok (rgt c) .bar false := rfl
  simp only [s1, s2, s3, s4, s5, s6, s7, s8, s9, bigSep_sep']
  iintro ⟨⟨CB, -, CR, CC, -, CA⟩, ⟨PB, PS, PR, PC, PA, PAR⟩, ⟨TB, TS, TR, TC, TA, TAR⟩, TL⟩
  isplitl [CB PB]; · iframe # ∗
  isplitl [TL]; · iexact TL
  isplitl [TB]; · iexact TB
  isplitl [TS TR PS]
  · isplitl [TS]; · iexact TS
    isplitl [TR]; · iexact TR
    iexact PS
  isplitl [CR PR]; · iframe # ∗
  isplitl [CC PC]; · iframe # ∗
  isplitl [TC]; · iexact TC
  isplitl [TA TAR PA]
  · isplitl [TA]; · iexact TA
    isplitl [TAR]; · iexact TAR
    iexact PA
  iframe # ∗

theorem slots_end (c : Dev nD) : (bigSep (Finset.univ : Finset Sl) fun s => slotSt (F := F) c s (ph s 70)) ⊢ bigSep Finset.univ fun k : K => sv (F := F) c (csem k) := by
  rw [fam_K, fam_S]
  have h1 : ∀ i : Fin 14, ph (.S i) 70 = 2 := by decide
  have h2 : ∀ i : Fin 14, ph (.R i) 70 = 1 ∨ ph (.R i) 70 = 2 := by decide
  have h3 : ∀ i : Fin 8, ph (.C i) 70 = 1 ∨ ph (.C i) 70 = 2 := by decide
  have h4 : ∀ i : Fin 3, ph (.A i) 70 = 2 := by decide
  have h5 : ∀ i : Fin 3, ph (.AR i) 70 = 1 ∨ ph (.AR i) 70 = 2 := by decide
  have h6 : ph .bar 70 = 1 ∨ ph .bar 70 = 2 := by decide
  have s1 (i : Fin 14) : slotSt (F := F) c (.S i) (ph (.S i) 70) = sv c (csem (.send i)) := by rw [h1]; rfl
  have s2 (i : Fin 14) : slotSt (F := F) c (.R i) (ph (.R i) 70) = sv c (csem (.recv i)) := by rcases h2 i with h | h <;> rw [h] <;> rfl
  have s3 (i : Fin 8) : slotSt (F := F) c (.C i) (ph (.C i) 70) = sv c (csem (.cred i)) := by rcases h3 i with h | h <;> rw [h] <;> rfl
  have s5 (i : Fin 3) : slotSt (F := F) c (.A i) (ph (.A i) 70) = sv c (csem (.asend i)) := by rw [h4]; rfl
  have s6 (i : Fin 3) : slotSt (F := F) c (.AR i) (ph (.AR i) 70) = sv c (csem (.arecv i)) := by rcases h5 i with h | h <;> rw [h] <;> rfl
  have s7 : slotSt (F := F) c .bar (ph .bar 70) = sv c (csem .bar) := by rcases h6 with h | h <;> rw [h] <;> rfl
  simp only [s1, s2, s3, s5, s6, s7]
  iintro ⟨HB, -, -, HS, HR, HC, -, HA, HAR⟩
  iframe # ∗

/-! ## The semaphores at launch -/

abbrev Own : Type := {k : K // k ≠ K.bar} ⊕ (Fin 3 × Fin 2)
/-- The kernel's own semaphores: all but the barrier's. -/
def osem : Own → SemLoc sig
  | .inl k => csem k.1
  | .inr kb => lsem kb.1.val kb.2.val

theorem ownSemFacts : Pipeline.OwnSemFacts cfg0.spec osem := by decide +kernel

/-- The semaphores of the copies a device makes to itself. -/
def lsems (c : Dev nD) : sProp 𝕄 := bigSep Finset.univ fun kb : Fin 3 × Fin 2 => sv (F := F) c (lsem kb.1.val kb.2.val)

theorem sems_eq (c : Dev nD) :
    iprop(Pipeline.ownSems0 (Ix := Unit) (Name := ℕ) (U := UU) (Lvl := ℕ) (Val := Elt F) (τ := τ) osem c ∗ unscopedSems0 c)
      ⊣⊢ iprop((bigSep Finset.univ fun k : K => sv (F := F) c (csem k)) ∗ lsems c) := by
  have hu : (unscopedSems0 c : sProp 𝕄) = sv c (csem .bar) := by
    unfold unscopedSems0; rw [bigSep_eq_bigSepL_of_eq [csem .bar] (by decide +kernel) (by decide)]; rfl
  have ho : (Pipeline.ownSems0 (Ix := Unit) (Name := ℕ) (U := UU) (Lvl := ℕ) (Val := Elt F) (τ := τ) osem c : sProp 𝕄)
      = iprop((bigSep (Finset.univ.erase K.bar) fun k : K => sv (F := F) c (csem k)) ∗ lsems c) := by
    unfold Pipeline.ownSems0
    rw [BI.bigSep_univ_sum, ← BI.bigSep_subtype_ne]; rfl
  rw [hu, ho, bigSep_univ_at (fun k : K => sv (F := F) c (csem k)) K.bar]
  constructor
  · iintro ⟨⟨H1, H2⟩, H3⟩; iframe # ∗
  · iintro ⟨⟨H1, H2⟩, H3⟩; iframe # ∗

end Cert.RingProof
-- ==== Proof.Launch.lean ====
/-
The launch: every device started with its share, the run to its end, and what the memory then holds.
-/
module

public import proofs.«01_k».proof.Proof.Body
public import proofs.«01_k».proof.Proof.Tokens
public import proofs.«01_k».proof.Proof.Gen.KernelIdeal.Launch
public import proofs.«01_k».proof.Proof.Gen.KernelIdeal.Points
public import Idealize.ShloMosaic.Lib.Pipeline.CollectiveSegs

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

variable (ρ : Dev nD → PrngReg)

/-! ## The rounds funded -/

abbrev kcell (ck : Dev nD × K) : GSem nD τ sig := kc ck.1 ck.2
theorem kcell_injective : Function.Injective kcell := fun ⟨c, k⟩ ⟨c', k'⟩ h =>
  Prod.ext (congrArg (fun g : GSem nD τ sig => g.1.1) h) (csem_injective (congrArg Prod.snd h))
def ringCells : Finset (GSem nD τ sig) := Finset.univ.map ⟨kcell, kcell_injective⟩
abbrev tokOf (cj : Dev nD × (K ⊕ Unit)) : GSem nD τ sig × ℕ × Bool := match cj.2 with
  | .inl k => (kc cj.1 k, 0, false) | .inr _ => (kc cj.1 .bar, 0, true)
theorem tokOf_injective : Function.Injective tokOf := by
  rintro ⟨c, k | u⟩ ⟨c', k' | u'⟩ h
  · have := kcell_injective (a₁ := (c, k)) (a₂ := (c', k')) (congrArg Prod.fst h); cases this; rfl
  · exact absurd (congrArg (fun x : GSem nD τ sig × ℕ × Bool => x.2.2) h) (fun h' => by cases h')
  · exact absurd (congrArg (fun x : GSem nD τ sig × ℕ × Bool => x.2.2) h) (fun h' => by cases h')
  · have h1 : c = c' := congrArg (fun x : GSem nD τ sig × ℕ × Bool => x.1.1.1) h
    subst h1; rfl
def ringToks : Finset (GSem nD τ sig × ℕ × Bool) := Finset.univ.map ⟨tokOf, tokOf_injective⟩

def u₀ : UU := (initOf (Pipeline.cells cfgs cellOf_inj) (Pipeline.launchToks cfgs cellOf_inj), (initOf ringCells ringToks, 1))

/-- What the launch element deals device `c`. -/
def G (c : Dev nD) : sProp 𝕄 :=
  iprop((bigSep Finset.univ fun k : K => roundState ER (Rd m) (kc c k) 0)
    ∗ ((bigSep Finset.univ fun k : K => pos (F := F) c k) ∗ bigSep Finset.univ fun k : K => reached ER (kc c k) 0) ∗ toks (F := F) c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : K => Φ (kc c k) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by
      unfold toks
      rw [BI.bigSep_univ_sum, show (Finset.univ : Finset Unit) = {()} from rfl, bigSep_singleton]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G pos; simp only [bigSep_sep']
  isplitl [Hst']; · iexact Hst'
  isplitl [Hat' Hr']
  · isplitl [Hat'] <;> iassumption
  iexact Htok'

/-! ## Every device's cells at once -/

/-- All cells' invariants, and that each is at round 0. -/
def records : sProp 𝕄 :=
  iprop((∃ Kn : Dev nD × K → ℕ, bigSep (Finset.univ : Finset (Dev nD × K)) fun ck => iprop(cellInv ER (Rd m) (Kn ck) (kc ck.1 ck.2)))
    ∗ bigSep (Finset.univ : Finset (Dev nD × K)) (fun ck => iprop(reached ER (kc ck.1 ck.2) 0)))
instance records_persistent : BI.Persistent (records m) := by unfold records; infer_instance

/-- What one device goes on with. -/
def own1 (c : Dev nD) : sProp 𝕄 := iprop((bigSep Finset.univ fun k : K => pos (F := F) c k) ∗ payToks (F := F) c ∗ lsems (F := F) c)
def G' (c : Dev nD) : sProp 𝕄 := iprop(records m ∗ own1 (F := F) c)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kc c k)))
          ∗ (bigSep Finset.univ fun k : K => reached ER (kc c k) 0) ∗ (bigSep Finset.univ fun k : K => pos (F := F) c k) ∗ toks (F := F) c ∗ lsems (F := F) c) := by
  unfold G
  iintro ⟨Hos, Hus, Hst, ⟨Hat, Hr⟩, Htok⟩
  ihave Hv := (sems_eq (F := F) c).1 $$ [Hos Hus]
  · isplitl [Hos] <;> iassumption
  icases Hv with ⟨Hv, HL⟩
  imod (show iprop((bigSep Finset.univ fun k : K => sv (F := F) c (csem k)) ∗ bigSep Finset.univ fun k : K => roundState ER (Rd m) (kc c k) 0)
      ⊢ (|={Set.univ}=> bigSep Finset.univ fun k => iprop(∃ κ : ℕ, cellInv ER (Rd m) κ (kc c k)) : sProp 𝕄) from by
        rw [← bigSep_sep']
        exact (bigSep_mono fun k _ => (Rounds.body_intro ER (Rd m) (kc c k)).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  isplitl [Htok] <;> iassumption

theorem with_pers {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kc c k)))
          ∗ (bigSep Finset.univ fun k : K => reached ER (kc c k) 0) ∗ (bigSep Finset.univ fun k : K => pos (F := F) c k) ∗ toks (F := F) c ∗ lsems (F := F) c) : sProp 𝕄)
      ⊢ bigSep Finset.univ (G' m) := by
  rw [bigSep_sep', bigSep_sep', bigSep_sep', bigSep_sep', ← bigSep_univ_prod (fun ck : Dev nD × K => iprop(∃ κ : ℕ, cellInv ER (Rd m) κ (kc ck.1 ck.2))),
    ← bigSep_univ_prod (fun ck : Dev nD × K => (reached ER (kc ck.1 ck.2) 0 : sProp 𝕄))]
  iintro ⟨HI, #HR, Hat, Htok, HL⟩
  ihave HK := (BI.bigSep_exists_pi Finset.univ (fun (ck : Dev nD × K) (κ : ℕ) => (cellInv ER (Rd m) κ (kc ck.1 ck.2) : sProp 𝕄))) $$ HI
  icases HK with ⟨%Kn, #HI⟩
  ihave Htk := (toks_around (F := F)) $$ Htok
  iapply (with_pers (R := records m) (Φ := fun c => own1 c) fun c _ => show iprop(records m ∗ own1 c) ⊢ G' m c from BIBase.Entails.rfl)
  isplitr
  · unfold records; isplitl
    · iexists Kn; iexact HI
    iexact HR
  · unfold own1
    rw [bigSep_sep', bigSep_sep']
    isplitl [Hat]; · iexact Hat
    isplitl [Htk] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## Whole buffers and their regions -/

/-- A buffer at some contents. -/
abbrev some1 (ℓ : Loc nD τ sig) : sProp 𝕄 := iprop(∃ f : Buf (Elt F) ℓ, ℓ ↦{fullShare} f)

theorem ring_cut (c : Dev nD) : some1 (F := F) (ringL c) ⊣⊢ iprop((cAny c 0 0 0 4096 ∗ cAny c 0 1 0 4096) ∗ cAny c 1 0 0 4096 ∗ cAny c 1 1 0 4096) := by
  have hU : (Finset.univ : Finset S2x2x1024x4096.Idx) = (cS 0 0 0 4096 ∪ cS 0 1 0 4096) ∪ (cS 1 0 0 4096 ∪ cS 1 1 0 4096) := by
    ext i
    have h0 : (i 0).val < 2 := (i 0).isLt
    have h1 : (i 1).val < 2 := (i 1).isLt
    have h3 : (i 3).val < 4096 := (i 3).isLt
    simp only [Finset.mem_union, mem_cS, Finset.mem_univ, true_iff]; omega
  have d0 : Disjoint (cS 0 0 0 4096) (cS 0 1 0 4096) := by rw [Finset.disjoint_left]; intro i; rw [mem_cS, mem_cS]; omega
  have d1 : Disjoint (cS 1 0 0 4096) (cS 1 1 0 4096) := by rw [Finset.disjoint_left]; intro i; rw [mem_cS, mem_cS]; omega
  have d2 : Disjoint (cS 0 0 0 4096 ∪ cS 0 1 0 4096) (cS 1 0 0 4096 ∪ cS 1 1 0 4096) := by
    rw [Finset.disjoint_left]; intro i; rw [Finset.mem_union, Finset.mem_union, mem_cS, mem_cS, mem_cS, mem_cS]; omega
  constructor
  · exact (any_cut hU d2).trans (BIClass.sep_mono (any_cut rfl d0) (any_cut rfl d1))
  · exact (BIClass.sep_mono (any_join rfl d0) (any_join rfl d1)).trans (any_join hU d2)

theorem pacc_cut (c : Dev nD) : some1 (F := F) (pL c) ⊣⊢ iprop(pAny c 0 0 4096 ∗ pAny c 1 0 4096) := by
  have hU : (Finset.univ : Finset S2x1024x4096.Idx) = pS 0 0 4096 ∪ pS 1 0 4096 := by
    ext i
    have h0 : (i 0).val < 2 := (i 0).isLt
    have h3 : (i 2).val < 4096 := (i 2).isLt
    simp only [Finset.mem_union, mem_pS, Finset.mem_univ, true_iff]; omega
  have d0 : Disjoint (pS 0 0 4096) (pS 1 0 4096) := by rw [Finset.disjoint_left]; intro i; rw [mem_pS, mem_pS]; omega
  exact ⟨any_cut hU d0, any_join hU d0⟩

theorem x_cut (c : Dev nD) : some1 (F := F) (xL c) ⊣⊢ iprop((∃ f : Buf (Elt F) (xL c), xL c ↦[xS 0]{fullShare} f) ∗ (∃ f : Buf (Elt F) (xL c), xL c ↦[xS 1]{fullShare} f)) := by
  have hU : (Finset.univ : Finset S2x1024x1024.Idx) = xS 0 ∪ xS 1 := by
    ext i
    have h0 : (i 0).val < 2 := (i 0).isLt
    simp only [Finset.mem_union, mem_xS, Finset.mem_univ, true_iff]; omega
  have d0 : Disjoint (xS 0) (xS 1) := by rw [Finset.disjoint_left]; intro i; rw [mem_xS, mem_xS]; omega
  exact ⟨any_cut hU d0, any_join hU d0⟩
theorem wU : (Finset.univ : Finset S2x1024x256.Idx) = wS 0 ∪ wS 1 := by
  ext i
  have h0 : (i 0).val < 2 := (i 0).isLt
  simp only [Finset.mem_union, mem_wS, Finset.mem_univ, true_iff]; omega
theorem wD : Disjoint (wS 0) (wS 1) := by rw [Finset.disjoint_left]; intro i; rw [mem_wS, mem_wS]; omega
theorem w_cut (c : Dev nD) : some1 (F := F) (wL c) ⊣⊢ iprop((∃ f : Buf (Elt F) (wL c), wL c ↦[wS 0]{fullShare} f) ∗ (∃ f : Buf (Elt F) (wL c), wL c ↦[wS 1]{fullShare} f)) :=
  ⟨any_cut wU wD, any_join wU wD⟩
theorem ob_cut (c : Dev nD) : some1 (F := F) (oL c) ⊣⊢ iprop((∃ f : Buf (Elt F) (oL c), oL c ↦[wS 0]{fullShare} f) ∗ (∃ f : Buf (Elt F) (oL c), oL c ↦[wS 1]{fullShare} f)) :=
  ⟨any_cut wU wD, any_join wU wD⟩

theorem table_cut (c : Dev nD) : some1 (F := F) (amaxL c) ⊢ iprop(aAny c (lft c).val ∗ aAny c (rot 2 c).val ∗ aAny c (rgt c).val ∗ aAny c c.val) := by
  have hU : (Finset.univ : Finset S4x128.Idx) = aS (lft c).val ∪ (aS (rot 2 c).val ∪ (aS (rgt c).val ∪ aS c.val)) := by
    ext i
    have hi : (i 0).val < 4 := (i 0).isLt
    have hc : c.val < 4 := c.isLt
    simp only [Finset.mem_union, mem_aS, Finset.mem_univ, true_iff, rot]; omega
  have hc : c.val < 4 := c.isLt
  have d1 : Disjoint (aS (lft c).val) (aS (rot 2 c).val ∪ (aS (rgt c).val ∪ aS c.val)) := by
    rw [Finset.disjoint_left]; intro i; simp only [Finset.mem_union, mem_aS, rot]; omega
  have d2 : Disjoint (aS (rot 2 c).val) (aS (rgt c).val ∪ aS c.val) := by
    rw [Finset.disjoint_left]; intro i; simp only [Finset.mem_union, mem_aS, rot]; omega
  have d3 : Disjoint (aS (rgt c).val) (aS c.val) := by
    rw [Finset.disjoint_left]; intro i; simp only [mem_aS, rot]; omega
  exact (any_cut hU d1).trans (sep_mono_right ((any_cut rfl d2).trans (sep_mono_right (any_cut rfl d3))))

theorem oS_all : oS 0 8192 = (Finset.univ : Finset S1024x8192.Idx) := by
  ext i
  have h1 : (i 1).val < 8192 := (i 1).isLt
  simp only [mem_oS, Finset.mem_univ, iff_true]; omega

theorem share_cut {ℓ : Loc nD τ sig} {f : Buf (Elt F) ℓ} : (ℓ ↦{fullShare} f : sProp 𝕄) ⊣⊢ iprop((ℓ ↦{hsh 0} f) ∗ (ℓ ↦{hsh 1} f)) :=
  pointsTo_share (PosShare.mem_left_op_right fullShare)

/-! ## Between the two states of the launch -/

/-- The arguments and the result, as one device leaves them. -/
def arrays (c : Dev nD) : sProp 𝕄 := iprop((xaL c ↦{fullShare} (xv m c : Buf (Elt F) (xaL c))) ∗ (waL c ↦{fullShare} (wv m c : Buf (Elt F) (waL c)))
  ∗ (outL c ↦{fullShare} (ov (outc m c) : Buf (Elt F) (outL c))))

def start (c : Dev nD) : sProp 𝕄 :=
  iprop(Rec m ∗ (bigSep (Finset.univ : Finset Sl) fun s => slotSt (F := F) c s 0) ∗ lsems (F := F) c
    ∗ (xaL c ↦{fullShare} (xv m c : Buf (Elt F) (xaL c))) ∗ (waL c ↦{fullShare} (wv m c : Buf (Elt F) (waL c))) ∗ some1 (F := F) (outL c))

def Φ₀ (c : Dev nD) : sProp 𝕄 := iprop(start m c ∗ Pipeline.scopedRest cfg0.spec c)
def Φ₁ (c : Dev nD) : sProp 𝕄 := iprop((arrays m c ∗ unscopedSems0 c) ∗ Pipeline.ownSems0 osem c ∗ Pipeline.scopedRest cfg0.spec c)

def dats (_ : Fin 1) (c : Dev nD) : Dat τ (Elt F) Unit ℕ UU ℕ cfg0 c where
  A w := (s₀ m ρ).mem ((cfg0.win w).arr.view.loc (c : Thread nD τ))
  after w _ := Fin.elim0 w
  Φ t := match t with
    | ⟨0, _⟩ => Φ₀ m c
    | ⟨_ + 1, _⟩ => Φ₁ m c
  q _ := fullShare
  owed t := match t with
    | ⟨0, _⟩ => Od c 0
    | ⟨_ + 1, _⟩ => 0

theorem lsems_eq (c : Dev nD) : lsems (F := F) c = iprop(sv c (lsem 0 0) ∗ sv c (lsem 0 1) ∗ sv c (lsem 1 0) ∗ sv c (lsem 1 1) ∗ sv c (lsem 2 0) ∗ sv c (lsem 2 1)) := by
  unfold lsems
  rw [bigSep_univ_eq_bigSepL [(0, 0), (0, 1), (1, 0), (1, 1), (2, 0), (2, 1)] (by decide) (by decide)]; rfl

theorem into (c : Dev nD) : iprop(Φ₀ m c ∗ (∃ W, owes (c : Thread nD τ) (Od c 0) W)) ⊢ iprop(Rec m ∗ atStart m c) := by
  unfold Φ₀ start atStart St XI WI OI oAny
  rw [scopedRest0_eq, lsems_eq, oS_all]
  iintro ⟨⟨⟨#HR, HS, ⟨L00, L01, L10, L11, L20, L21⟩, HX, HW, HO⟩, B0, B1, B2, B3, B4, B5⟩, How⟩
  isplitr; · iexact HR
  ihave B0 := (ring_cut c).1 $$ B0
  icases B0 with ⟨⟨C00, C01⟩, C10, C11⟩
  ihave B1 := (pacc_cut c).1 $$ B1
  icases B1 with ⟨P0, P1⟩
  ihave B2 := (x_cut c).1 $$ B2
  icases B2 with ⟨X0, X1⟩
  ihave B3 := (w_cut c).1 $$ B3
  icases B3 with ⟨W0, W1⟩
  ihave B4 := (ob_cut c).1 $$ B4
  icases B4 with ⟨O0, O1⟩
  ihave B5 := (table_cut c) $$ B5
  icases B5 with ⟨A3, A2, A1, A0⟩
  ihave HX := share_cut.1 $$ HX
  icases HX with ⟨HX0, HX1⟩
  ihave HW := share_cut.1 $$ HW
  icases HW with ⟨HW0, HW1⟩
  unfold sv
  isplitl [How HS]
  · isplitl [How]; · iexact How
    iexact HS
  iframe # ∗

theorem out_of (c : Dev nD) : atEnd m c ⊢ iprop(Φ₁ m c ∗ (∃ W, owes (c : Thread nD τ) 0 W)) := by
  have hO : oPts m c 0 8192 = (outL c ↦{fullShare} (ov (outc m c) : Buf (Elt F) (outL c)) : sProp 𝕄) := by unfold oPts; rw [oS_all]
  have h0 : XH m c 0 (rot 4 c) ⊢ XI m c 0 := XH_idle m c 0 _
  have h1 : XH m c 1 (rot 3 c) ⊢ XI m c 1 := XH_idle m c 1 _
  unfold atEnd Φ₁ arrays St
  rw [scopedRest0_eq, hO]
  iintro ⟨⟨How, HS⟩, X0, X1, W0, W1, P0, P1, C000, C100, C010, C110, C002, C102, C012, C112, O0, O1, HO, HA⟩
  ihave X0 := h0 $$ X0
  ihave X1 := h1 $$ X1
  unfold XI WI OI
  icases X0 with ⟨L00, X0, HX0⟩
  icases X1 with ⟨L01, X1, HX1⟩
  icases W0 with ⟨L10, W0, HW0⟩
  icases W1 with ⟨L11, W1, HW1⟩
  icases O0 with ⟨L20, O0⟩
  icases O1 with ⟨L21, O1⟩
  ihave HX := share_cut.2 $$ [HX0 HX1]
  · isplitl [HX0] <;> iassumption
  ihave HW := share_cut.2 $$ [HW0 HW1]
  · isplitl [HW0] <;> iassumption
  ihave HK := (slots_end (F := F) c) $$ HS
  ihave HL := (Entails.of_eq (lsems_eq (F := F) c).symm) $$ [L00 L01 L10 L11 L20 L21]
  · unfold sv; iframe # ∗
  ihave HV := (sems_eq (F := F) c).2 $$ [HK HL]
  · isplitl [HK] <;> iassumption
  icases HV with ⟨HV1, HV2⟩
  ihave C100 := (cPts_any c) $$ C100
  ihave C110 := (cPts_any c) $$ C110
  ihave C102 := (cPts_any c) $$ C102
  ihave C112 := (cPts_any c) $$ C112
  ihave D00 := (cAny_cut (F := F) (s := 0) (d := 0) (a := 0) (b := 4096) c 2048 (by decide) (by decide)).2 $$ [C000 C002]
  · isplitl [C000] <;> iassumption
  ihave D01 := (cAny_cut (F := F) (s := 0) (d := 1) (a := 0) (b := 4096) c 2048 (by decide) (by decide)).2 $$ [C010 C012]
  · isplitl [C010] <;> iassumption
  ihave D10 := (cAny_cut (F := F) (s := 1) (d := 0) (a := 0) (b := 4096) c 2048 (by decide) (by decide)).2 $$ [C100 C102]
  · isplitl [C100] <;> iassumption
  ihave D11 := (cAny_cut (F := F) (s := 1) (d := 1) (a := 0) (b := 4096) c 2048 (by decide) (by decide)).2 $$ [C110 C112]
  · isplitl [C110] <;> iassumption
  ihave B0 := (ring_cut (F := F) c).2 $$ [D00 D01 D10 D11]
  · isplitl [D00 D01]
    · isplitl [D00] <;> iassumption
    isplitl [D10] <;> iassumption
  ihave P0 := (pPts_any c) $$ P0
  ihave P1 := (pPts_any c) $$ P1
  ihave B1 := (pacc_cut (F := F) c).2 $$ [P0 P1]
  · isplitl [P0] <;> iassumption
  ihave B2 := (x_cut (F := F) c).2 $$ [X0 X1]
  · isplitl [X0] <;> iassumption
  ihave B3 := (w_cut (F := F) c).2 $$ [W0 W1]
  · isplitl [W0] <;> iassumption
  ihave B4 := (ob_cut (F := F) c).2 $$ [O0 O1]
  · isplitl [O0] <;> iassumption
  rw [show Od c 70 = 0 from Od_end c]
  isplitr [How]
  · isplitl [HX HW HO HV2]
    · isplitr [HV2]
      · isplitl [HX]; · iexact HX
        isplitl [HW]; · iexact HW
        iexact HO
      · iexact HV2
    isplitl [HV1]; · iexact HV1
    isplitl [B0]; · iexact B0
    isplitl [B1]; · iexact B1
    isplitl [B2]; · iexact B2
    isplitl [B3]; · iexact B3
    isplitl [B4]; · iexact B4
    unfold aAll
    iexists _; iexact HA
  · iexact How

theorem wp_weaken (c : Dev nD) {P Q : sProp 𝕄} {p : Prog (TpuEff nD τ sig (Elt F) Λ₀ .tc) PUnit} (h : P ⊢ Q) :
    WP c p (fun _ => P) ⊢ WP c p (fun _ => Q) := by
  unfold WP
  exact Idealize.SL.Sem.wp_mono _ _ _ (fun _ => h)

/-- The library's body obligation on device `c`. -/
theorem body_obligation (c : Dev nD) : BodyObligation (dats (F := F) m ρ 0 c) (defs₀ (F := F)) 𝒱₀ () Set.univ := fun t => by
  rw [show t = t0_0 from fin_N0 t]
  rw [show (Finset.univ : Finset (Fin cfg0.W)) = ∅ from rfl, bigSep_empty, bigSep_empty]
  show iprop(Φ₀ m c ∗ (dats m ρ 0 c).owesAt () t0_0.castSucc ∗ emp)
    ⊢ WP c (ap (cc0_body (F := F))) (fun _ => iprop(Φ₁ m c ∗ (dats m ρ 0 c).owesAt () t0_0.succ ∗ emp))
  refine BIBase.Entails.trans ?_ (((into m c).trans (body m c)).trans (wp_weaken c ((out_of m c).trans ?_)))
  · unfold Dat.owesAt Pipeline.owesWithin
    rw [show (dats m ρ 0 c).owed t0_0.castSucc = Od c 0 from rfl]
    iintro ⟨H, ⟨%W, %hW, HO⟩, -⟩
    isplitl [H]; · iexact H
    iexists W; iexact HO
  · unfold Dat.owesAt Pipeline.owesWithin
    rw [show (dats m ρ 0 c).owed t0_0.succ = 0 from rfl]
    iintro ⟨H, ⟨%W, HO⟩⟩
    isplitl [H]; · iexact H
    isplitl [HO]
    · iexists W
      isplitr; · ipureintro; exact fun _ _ => Or.inl trivial
      iexact HO
    · iempintro

/-! ## The run -/

theorem start_intro (c : Dev nD) :
    iprop(Pipeline.unscopedRestP Pipeline.Prefetch.none cfg0.spec c (fun b => m ((c : Thread nD τ).loc b)) ∗ levAts L lv
        ∗ Pipeline.launchCred (fun d => Od d 0) c ∗ prngReg c (ρ c) ∗ G' m c)
      ⊢ |={Set.univ}=> iprop(start m c ∗ emp) := by
  rw [Pipeline.unscopedRestP_none, unscopedRest0_eq]
  unfold G' own1 records start Rec
  iintro ⟨⟨HX, HW, HO⟩, Hlev, Hcr, -, ⟨HI, Hr⟩, Hpos, Htok, HL⟩
  ihave Hc := (creds (F := F) c) $$ Hcr
  ihave HS := (slots_start (F := F) c) $$ [Hc Hpos Htok]
  · isplitl [Hc]; · iexact Hc
    isplitl [Hpos] <;> iassumption
  imodintro
  isplitl
  · isplitl [HI Hr Hlev]
    · isplitl [HI]; · iexact HI
      isplitl [Hr] <;> iassumption
    isplitl [HS]; · iexact HS
    isplitl [HL]; · iexact HL
    isplitl [HX]; · iexact HX
    isplitl [HW]; · iexact HW
    iexists _; iexact HO
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs] <;> iassumption

theorem phi1_exit (c : Dev nD) :
    (dats m ρ 0 c).Φ (Fin.last cfg0.N) ⊢ iprop((arrays m c ∗ unscopedSems0 c) ∗ Pipeline.ownSems0 osem c ∗ Pipeline.scopedRest cfg0.spec c) :=
  Entails.of_eq rfl

theorem waits (c : Dev nD) : (levAts L lv : sProp 𝕄) ⊢ Pipeline.cellsWaits cfgs (dats m ρ) () 0 c :=
  Pipeline.cellsWaits_intro cfgs (dats m ρ) () 0 c fun w => Fin.elim0 w

/-- What every device's memory holds at the end. -/
def QC (s : MemSt nD τ sig (Elt F)) : Prop := ∀ c : Dev nD, s.mem (xaL c) = m (xaL c) ∧ s.mem (waL c) = m (waL c) ∧ s.mem (outL c) = (ov (outc m c) : Buf (Elt F) (outL c))
def QY (c : Dev nD) (s : MemSt nD τ sig (Elt F)) : Prop :=
  (s.mem (xaL c) = m (xaL c) ∧ s.mem (waL c) = m (waL c) ∧ s.mem (outL c) = (ov (outc m c) : Buf (Elt F) (outL c)))
    ∧ ∀ sm : SemLoc sig, sm.isScoped .tc = false → s.sem ((c.tc : Thread nD τ), sm) = 0

theorem read_end (c : Dev nD) (s' : Phys nD τ sig (Elt F)) :
    iprop((arrays m c ∗ unscopedSems0 c) ∗ emp ∗ SI s') ⊢ |={Set.univ}=> iprop(⌜QY m c s'.mem⌝ ∗ SI s' : sProp 𝕄) := by
  unfold arrays
  iintro ⟨⟨⟨HX, HW, HO⟩, Hu⟩, -, HSI⟩
  icombine HSI HX gives %hX
  icombine HSI HW gives %hW
  icombine HSI HO gives %hO
  imod (Pipeline.unscopedSems0_read (X := unscopedSems0 c) (c := c) fupd_intro s') $$ [Hu HSI] with ⟨%hs, HSI⟩
  · isplitl [Hu] <;> iassumption
  imodintro
  isplitr
  · ipureintro
    exact ⟨⟨Buf.eq_of_forall_mem_univ hX, Buf.eq_of_forall_mem_univ hW, Buf.eq_of_forall_mem_univ hO⟩, hs⟩
  iexact HSI

/-- From any memory with every counter at zero, every weakly fair execution on the four devices ends, with the
    arguments unchanged, the result at the computed chunks, and every counter at zero. -/
theorem run_main : θ_run defs (onTc (τ := τ) (main (F := F))) (s₀ m ρ) (fun r => QC m r.2 ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := fun w => Fin.elim0 w) (harr := arr_whole0) (hstage := stage_whole0) (hshare := fun c w => Fin.elim0 w)
    (hdistinct := winFacts0.arr_inj)
    (O₀ := fun d => Od d 0) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave HX := (own_pair_emb embR _ _) $$ HX
      icases HX with ⟨HX, -⟩
      imod (fund_ring m) $$ HX with HG
      imodintro
      isplitl [HP] <;> iassumption)
    (hglob := glob m)
    (hA := fun _ _ => rfl) (hpf := fun _ k => k.elim0)
    (X := start m) (Y := fun c => iprop(arrays m c ∗ unscopedSems0 c)) (Z := fun _ => iprop(emp))
    (hX := start_intro m ρ) (hin := phi0_intro m ρ) (hout := phi1_exit m ρ)
    (QY := QY m) (hY := read_end m)
    (hQ := fun _ h hs => ⟨fun c => (h c).2.2.1, sem_eq_zero hs fun c => (h c).2.2.2⟩)

end Cert.RingProof
-- ==== Proof.Frames.lean ====
/-
The frame claims of the kernel, as printed and read over the extended reals: one run, at both.
-/
module

public import proofs.«01_k».proof.Defs
public import proofs.«01_k».proof.Proof.Gen.Kernel
public import proofs.«01_k».proof.Proof.Launch

@[expose] public section

noncomputable section

namespace Cert.RingProof

open Idealize.ShloMosaic Idealize.SL.Sem

theorem frame_ideal : Cert.quiescent_KernelIdeal := fun m ρ _ =>
  (θ_run Cert.KernelIdeal.defs _ _).mono (fun _ h => ⟨fun c => ⟨(h.1 c).1, (h.1 c).2.1⟩, h.2⟩) (run_main (F := Ideal) m ρ)

theorem frame_kernel : Cert.quiescent_Kernel := fun m ρ _ =>
  (θ_run Cert.KernelIdeal.defs _ _).mono (fun _ h => ⟨fun c => ⟨(h.1 c).1, (h.1 c).2.1⟩, h.2⟩) (run_main (F := Bits) m ρ)

end Cert.RingProof
-- ==== Proof.Sums.lean ====
/-
The sums, over the extended reals: a chunk of a partial product is a sum over a quarter of the inner dimension,
and the four partial products that meet on a device along the ring make the whole product's block, rectified.
-/
module

public import proofs.«01_k».proof.Proof.Vals
public import Idealize.ShloMosaic.PureOps.Ideal
public import Idealize.ShloMosaic.PureOps.Ideal.Laws
public import Idealize.ShloMosaic.Lib.MatmulPlain
public import Idealize.ShloMosaic.Lib.Layout

@[expose] public section

set_option maxRecDepth 16384

noncomputable section

namespace Cert.RingProof

open Cert.KernelIdeal Cert.KernelIdeal.Gen

open Idealize.ShloMosaic
open Idealize.ShloMosaic.TcCoe
open scoped BigOperators

variable (m : (ℓ : Loc nD τ sig) → Buf (Elt Ideal) ℓ)

/-- The whole operands' shapes. -/
abbrev XAll : Shape := ⟨2, ![4096, 4096]⟩
abbrev WAll : Shape := ⟨2, ![4096, 8192]⟩

/-- Over the extended reals a partial product's chunk is the plain sum over the device's quarter. -/
theorem part_apply (c : Dev nD) (s d k : ℕ) (a : Fin 1024) (b : Fin 256) :
    part m c s d k (ix2 a b) = ∑ q : Fin 1024,
      xv m c (ix2 (n0 := 4096) (n1 := 1024) ⟨(1024 * (jb c s d).val + a.val) % 4096, Nat.mod_lt _ (by decide)⟩ q)
        * wv m c (ix2 (n0 := 1024) (n1 := 8192) q ⟨(256 * (16 * d + k) + b.val) % 8192, Nat.mod_lt _ (by decide)⟩) := by
  unfold part pch
  refine (Ideal.matmul_plain_apply (M := 1024) (K := 1024) (N := 256) none _ _ (constant S1024x256 .f32 0x00000000#32) a b).trans ?_
  change Ideal.ofBits .f32 0x00000000#32 + _ = _
  rw [Ideal.ofBits_zero_f32, zero_add]
  refine Finset.sum_congr rfl fun q _ => congrArg₂ (· * ·) ?_ ?_
  · change k0_pay7 (xblk m c (jb c s d)) (ix2 a q) = _
    unfold k0_pay7 xblk
    pointwise
  · change truncf (F := Ideal) .bf16 (shapeCast S1024x256 (wch m c (16 * d + k)) shapeCasts_S1x1024x256_S1024x256) bitsLt_bf16_f32 (ix2 q b) = _
    unfold wch
    pointwise

/-! ## Against the whole operands -/

/-- The devices hold the whole left operand cut by columns, the whole right operand cut by rows. -/
def Holds (X : XAll.Idx → EReal) (W : WAll.Idx → EReal) : Prop :=
  ∀ c : Dev nD, xv m c = Layout.block ⟨2, ![4096, 1024]⟩ ⟨2, ![4096, 4096]⟩ 1 4 c X
    ∧ wv m c = Layout.block ⟨2, ![1024, 8192]⟩ ⟨2, ![4096, 8192]⟩ 0 4 c W

/-- Place `a` of block `e`, of blocks of 1024. -/
def at4 (e : Fin 4) (a : Fin 1024) : Fin 4096 := ⟨1024 * e.val + a.val, by omega⟩

/-- The whole product's element, -/
def whole (X : XAll.Idx → EReal) (W : WAll.Idx → EReal) (r : Fin 4096) (n : Fin 8192) : EReal :=
  ∑ q : Fin 4096, X (ix2 r q) * W (ix2 q n)
/-- and the part of its sum over quarter `e` of the inner dimension. -/
def quarter (X : XAll.Idx → EReal) (W : WAll.Idx → EReal) (r : Fin 4096) (n : Fin 8192) (e : Fin 4) : EReal :=
  ∑ q : Fin 1024, X (ix2 r (at4 e q)) * W (ix2 (at4 e q) n)

theorem whole_eq (X : XAll.Idx → EReal) (W : WAll.Idx → EReal) (r : Fin 4096) (n : Fin 8192) :
    whole X W r n = ∑ e : Fin 4, quarter X W r n e := by
  unfold whole quarter
  rw [← Equiv.sum_comp (finProdFinEquiv (m := 4) (n := 1024)) (fun q : Fin 4096 => X (ix2 r q) * W (ix2 q n)), Fintype.sum_prod_type]
  refine Finset.sum_congr rfl fun e _ => Finset.sum_congr rfl fun q _ => ?_
  have h : (finProdFinEquiv (e, q) : Fin 4096) = at4 e q := Fin.ext (by
    change q.val + 1024 * e.val = 1024 * e.val + q.val; omega)
  rw [h]

/-- Column `b` of chunk `k` on side `d`. -/
def colAt (d : Fin 2) (k : Fin 16) (b : Fin 256) : Fin 8192 := ⟨256 * (16 * d.val + k.val) + b.val, by omega⟩

/-- A device's partial product is the part of the whole sum over its own quarter. -/
theorem part_quarter {X : XAll.Idx → EReal} {W : WAll.Idx → EReal} (H : Holds m X W) (c : Dev nD) (s : ℕ) (d : Fin 2) (k : Fin 16)
    (a : Fin 1024) (b : Fin 256) :
    part m c s d.val k.val (ix2 a b) = quarter X W (at4 (jb c s d.val) a) (colAt d k b) c := by
  rw [part_apply]
  unfold quarter
  refine Finset.sum_congr rfl fun q _ => congrArg₂ (· * ·) ?_ ?_
  · rw [(H c).1, Layout.block_apply]
    refine congrArg X ?_
    funext i; apply Fin.ext
    match i with
    | ⟨0, _⟩ =>
      have := (jb c s d.val).isLt
      change (1024 * (jb c s d.val).val + a.val) % 4096 = 1024 * (jb c s d.val).val + a.val
      have : (jb c s d.val).val < 4 := this
      omega
    | ⟨1, _⟩ =>
      change c.val * 1024 + q.val = 1024 * c.val + q.val
      omega
  · rw [(H c).2, Layout.block_apply]
    refine congrArg W ?_
    funext i; apply Fin.ext
    match i with
    | ⟨0, _⟩ =>
      change c.val * 1024 + q.val = 1024 * c.val + q.val
      omega
    | ⟨1, _⟩ =>
      change (256 * (16 * d.val + k.val) + b.val) % 8192 = 256 * (16 * d.val + k.val) + b.val
      omega

/-- Any function summed along the ring back to a device is its sum over all four. -/
theorem ring_sum (f : Fin 4 → EReal) (d : Fin 2) (c : Dev nD) :
    f (up d.val (up d.val (up d.val c))) + f (up d.val (up d.val c)) + f (up d.val c) + f c = ∑ e : Fin 4, f e := by
  rw [Fin.sum_univ_four]
  have h : ∀ (d : Fin 2) (c : Fin 4), up d.val (up d.val (up d.val c)) = (if d.val = 0 then c + 1 else c + 3)
      ∧ up d.val (up d.val c) = c + 2 ∧ up d.val c = (if d.val = 0 then c + 3 else c + 1) := by decide
  obtain ⟨h1, h2, h3⟩ := h d c
  rw [h1, h2, h3]
  have hc : ∀ c : Fin 4, c = 0 ∨ c = 1 ∨ c = 2 ∨ c = 3 := by decide
  have hd : d.val = 0 ∨ d.val = 1 := by omega
  rcases hd with hd | hd <;> rcases hc c with rfl | rfl | rfl | rfl <;> simp [hd] <;> abel

/-- All four partial products that meet on a device are of its own row block. -/
theorem jb_ring : ∀ (d : Fin 2) (c : Dev nD), jb (up d.val (up d.val (up d.val c))) 0 d.val = c ∧ jb (up d.val (up d.val c)) 1 d.val = c
    ∧ jb (up d.val c) 2 d.val = c ∧ jb c 3 d.val = c := by decide

/-- The rectified total on a device is the whole product's element, rectified. -/
theorem tot_whole {X : XAll.Idx → EReal} {W : WAll.Idx → EReal} (H : Holds m X W) (c : Dev nD) (d : Fin 2) (k : Fin 16)
    (a : Fin 1024) (b : Fin 256) :
    tot m c d.val k.val (ix2 a b) = max (whole X W (at4 c a) (colAt d k b)) 0 := by
  change max (part m (up d.val (up d.val (up d.val c))) 0 d.val k.val (ix2 a b) + part m (up d.val (up d.val c)) 1 d.val k.val (ix2 a b)
    + part m (up d.val c) 2 d.val k.val (ix2 a b) + part m c 3 d.val k.val (ix2 a b)) (Ideal.ofBits .f32 0x00000000#32) = _
  obtain ⟨h0, h1, h2, h3⟩ := jb_ring d c
  rw [part_quarter m H, part_quarter m H, part_quarter m H, part_quarter m H, h0, h1, h2, h3, Ideal.ofBits_zero_f32, whole_eq,
    ring_sum (quarter X W (at4 c a) (colAt d k b)) d c]

end Cert.RingProof
-- ==== Proof.Max.lean ====
/-
The maximum, over the extended reals: the kernel's, taken chunk by chunk on each device and then over the table of
the four devices' maxima, is the least bound of the whole rectified product.
-/
module

public import proofs.«01_k».proof.Proof.Sums

@[expose] public section

set_option maxRecDepth 16384

noncomputable section

namespace Cert.RingProof

open Cert.KernelIdeal Cert.KernelIdeal.Gen

open Idealize.ShloMosaic
open Idealize.ShloMosaic.TcCoe

variable (m : (ℓ : Loc nD τ sig) → Buf (Elt Ideal) ℓ)

theorem word_minus_inf : Ideal.ofBits .f32 0xFF800000#32 = ⊥ := by
  simp [Ideal.ofBits, Ideal.ieee]

/-- A maximum over all axes but one of size one is bounded when every element is. -/
theorem reduction_le {s : Shape} {axes : List (Fin s.rank)} (src : FVec Ideal s .f32) (h : s.Reduces axes S1)
    (hφ : FKind.Formats .f32) (hacc : 0xFF800000#32 = FKind.maximumf.neutral .f32 hφ) (j : S1.Idx) (z : EReal) :
    multiReduction .maximumf axes S1 src 0xFF800000#32 h hφ hacc j ≤ z ↔ ∀ i, src i ≤ z := by
  rw [multiReduction_maximumf_eq_fold]
  change Finset.fold max (Ideal.ofBits .f32 0xFF800000#32) src _ ≤ z ↔ _
  rw [Finset.fold_max_le, word_minus_inf]
  refine ⟨fun H i => H.2 i (Finset.mem_filter.2 ⟨Finset.mem_univ _, ?_⟩), fun H => ⟨bot_le, fun i _ => H i⟩⟩
  funext b
  apply Fin.ext
  have hb : S1.size b = 1 := by
    match b with
    | ⟨0, _⟩ => rfl
  have h1 := (h.drop i b).isLt
  have h2 := (j b).isLt
  omega

/-- One chunk taken into a running maximum. -/
theorem mx_le (a : Ideal .f32) (y : FVec Ideal S1024x256 .f32) (z : EReal) : mx a y ≤ z ↔ a ≤ z ∧ ∀ i, y i ≤ z := by
  unfold mx
  change max a _ ≤ z ↔ _
  rw [max_le_iff]
  refine and_congr_right fun _ => (reduction_le _ _ (.inl rfl) rfl _ z).trans ⟨fun H i => ?_, fun H i => H _⟩
  have := H (ix3 (n0 := 1) (n1 := 1024) (n2 := 256) 0 (i 0) (i 1))
  refine le_trans (le_of_eq ?_) this
  idx_vars i
  pointwise

theorem mxs_le (c : Dev nD) (d k : ℕ) (a : Ideal .f32) (z : EReal) : ∀ n : ℕ,
    mxs m c d k a n ≤ z ↔ a ≤ z ∧ ∀ j, j < n → ∀ i, tot m c d (k + j) i ≤ z
  | 0 => ⟨fun h => ⟨h, fun j hj => absurd hj (Nat.not_lt_zero j)⟩, fun h => h.1⟩
  | n + 1 => by
    change mx (mxs m c d k a n) (tot m c d (k + n)) ≤ z ↔ _
    rw [mx_le, mxs_le c d k a z n, and_assoc]
    refine and_congr_right fun _ => ⟨fun H j hj => ?_, fun H => ⟨fun j hj => H j (by omega), H n (by omega)⟩⟩
    rcases Nat.lt_succ_iff_lt_or_eq.1 hj with hj | rfl
    · exact H.1 j hj
    · exact H.2

/-- A device's maximum, of zero and all its chunks. -/
theorem am_le (c : Dev nD) (z : EReal) : am m c ≤ z ↔ 0 ≤ z ∧ ∀ (d : Fin 2) (k : Fin 16) (i : S1024x256.Idx), tot m c d.val k.val i ≤ z := by
  unfold am am3 am2 am1
  rw [mxs_le, mxs_le, mxs_le, mxs_le]
  change (((Ideal.ofBits .f32 0x00000000#32 ≤ z ∧ _) ∧ _) ∧ _) ∧ _ ↔ _
  rw [Ideal.ofBits_zero_f32]
  constructor
  · rintro ⟨⟨⟨⟨h0, h1⟩, h2⟩, h3⟩, h4⟩
    refine ⟨h0, fun d k i => ?_⟩
    have hd : d.val = 0 ∨ d.val = 1 := by omega
    by_cases hk : k.val < 8
    · rcases hd with hd | hd <;> rw [hd]
      · have := h1 k.val hk i; rwa [Nat.zero_add] at this
      · have := h2 k.val hk i; rwa [Nat.zero_add] at this
    · have e : 8 + (k.val - 8) = k.val := by omega
      rcases hd with hd | hd <;> rw [hd]
      · have := h3 (k.val - 8) (by omega) i; rwa [e] at this
      · have := h4 (k.val - 8) (by omega) i; rwa [e] at this
  · rintro ⟨h0, H⟩
    refine ⟨⟨⟨⟨h0, fun j hj i => ?_⟩, fun j hj i => ?_⟩, fun j hj i => ?_⟩, fun j hj i => ?_⟩
    · exact H 0 ⟨0 + j, by omega⟩ i
    · exact H 1 ⟨0 + j, by omega⟩ i
    · exact H 0 ⟨8 + j, by omega⟩ i
    · exact H 1 ⟨8 + j, by omega⟩ i

/-- The maximum over the table of all devices' maxima. -/
theorem table_le (z : EReal) : k0_pay35 (amv m) ≤ z ↔ ∀ c : Dev nD, am m c ≤ z := by
  unfold k0_pay35
  refine (reduction_le _ _ (.inl rfl) rfl _ z).trans ⟨fun H c => ?_, fun H i => H _⟩
  have := H (ix3 (n0 := 1) (n1 := 4) (n2 := 128) 0 c 0)
  refine le_trans (le_of_eq ?_) this
  change amv m (ix2 (n0 := 4) (n1 := 128) c 0) = _
  generalize amv m = v
  pointwise

theorem at4_surj (r : Fin 4096) : ∃ e a, at4 e a = r :=
  ⟨⟨r.val / 1024, by omega⟩, ⟨r.val % 1024, by omega⟩, Fin.ext (by change 1024 * (r.val / 1024) + r.val % 1024 = r.val; omega)⟩

theorem colAt_surj (n : Fin 8192) : ∃ d k b, colAt d k b = n :=
  ⟨⟨n.val / 4096, by omega⟩, ⟨n.val / 256 % 16, by omega⟩, ⟨n.val % 256, by omega⟩,
    Fin.ext (by change 256 * (16 * (n.val / 4096) + n.val / 256 % 16) + n.val % 256 = n.val; omega)⟩

/-- The kernel's maximum is the least bound of the rectified product. -/
theorem kmax_le {X : XAll.Idx → EReal} {W : WAll.Idx → EReal} (H : Holds m X W) (z : EReal) :
    k0_pay35 (amv m) ≤ z ↔ ∀ r n, max (whole X W r n) 0 ≤ z := by
  rw [table_le]
  constructor
  · intro h r n
    obtain ⟨c, a, rfl⟩ := at4_surj r
    obtain ⟨d, k, b, rfl⟩ := colAt_surj n
    rw [← tot_whole m H c d k a b]
    exact ((am_le m c z).1 (h c)).2 d k _
  · intro h c
    refine (am_le m c z).2 ⟨(le_max_right _ _).trans (h 0 0), fun d k i => ?_⟩
    rw [← ix2_eta i]
    exact (tot_whole m H c d k (i 0) (i 1)).le.trans (h _ _)

end Cert.RingProof
-- ==== Proof.Quant.lean ====
/-
One element quantised and scaled back, over the extended reals: the kernel's way, a product with `127 / A` clipped
to `[0, 127]`, and the reference's, a quotient by `A / 127` clipped to `[-127, 127]`, agree wherever
the element lies between zero and `A`; the degenerate maxima zero and `+∞` are among these.
-/
module

public import Idealize.ShloMosaic.PureOps.Ideal
public import Idealize.ShloMosaic.PureOps.Ideal.Laws

@[expose] public section

noncomputable section

namespace Cert.RingProof

open Idealize.ShloMosaic

/-- Rounding to the nearest integer, ties to even, over the extended reals. -/
abbrev rnd (x : EReal) : EReal := Ideal.liftRound Ideal.roundHalfEven x

theorem word_127 : Ideal.ofBits .f32 0x42FE0000#32 = ((127 : ℝ) : EReal) := by
  simp [Ideal.ofBits, Ideal.ieee, -EReal.coe_mul]; norm_num
theorem word_neg_127 : Ideal.ofBits .f32 0xC2FE0000#32 = ((-127 : ℝ) : EReal) := by
  simp [Ideal.ofBits, Ideal.ieee, -EReal.coe_mul, -EReal.coe_neg]; norm_num
theorem word_bot : Ideal.ofBits .f32 0xFF800000#32 = ⊥ := by
  simp [Ideal.ofBits, Ideal.ieee]

theorem rnd_zero : rnd 0 = 0 := by
  change ((Ideal.roundHalfEven 0 : ℝ) : EReal) = 0
  simp [Ideal.roundHalfEven]

/-- A nonnegative real rounds to a nonnegative integer. -/
theorem roundHalfEven_nonneg {r : ℝ} (h : 0 ≤ r) : 0 ≤ Ideal.roundHalfEven r := by
  have hf : 0 ≤ ⌊r⌋ := Int.floor_nonneg.2 h
  unfold Ideal.roundHalfEven
  dsimp only
  split_ifs <;> omega

theorem rnd_nonneg {r : ℝ} (h : 0 ≤ r) : (0 : EReal) ≤ rnd (r : EReal) := by
  change (0 : EReal) ≤ ((Ideal.roundHalfEven r : ℝ) : EReal)
  exact EReal.coe_nonneg.2 (Int.cast_nonneg (roundHalfEven_nonneg h))

/-- The two quantisers agree on an element between zero and the maximum. -/
theorem quant_eq (y A : EReal) (h0 : 0 ≤ y) (hA : y ≤ A) :
    min ((127 : ℝ) : EReal) (max 0 (rnd (y * Ideal.div ((127 : ℝ) : EReal) A))) * Ideal.div A ((127 : ℝ) : EReal)
      = min ((127 : ℝ) : EReal) (max ((-127 : ℝ) : EReal) (rnd (Ideal.div y (Ideal.div A ((127 : ℝ) : EReal))))) * Ideal.div A ((127 : ℝ) : EReal) := by
  have hne : ((127 : ℝ) : EReal) ≠ 0 := by
    intro h; exact absurd (EReal.coe_eq_zero.1 h) (by norm_num)
  have h127 : (0 : EReal) ≤ ((127 : ℝ) : EReal) := EReal.coe_nonneg.2 (by norm_num)
  have hneg : ((-127 : ℝ) : EReal) ≤ 0 := EReal.coe_nonpos.2 (by norm_num)
  by_cases hz : A = 0
  · subst hz
    have : Ideal.div 0 ((127 : ℝ) : EReal) = 0 := by unfold Ideal.div; rw [if_neg hne, zero_mul]
    rw [this, mul_zero, mul_zero]
  by_cases ht : A = ⊤
  · subst ht
    have e1 : Ideal.div ((127 : ℝ) : EReal) ⊤ = 0 := by unfold Ideal.div; rw [if_neg hz, EReal.inv_top, mul_zero]
    have e2 : Ideal.div ⊤ ((127 : ℝ) : EReal) = ⊤ := by
      unfold Ideal.div
      rw [if_neg hne, ← EReal.coe_inv, EReal.top_mul_coe_of_pos (by norm_num)]
    have e3 : Ideal.div y ⊤ = 0 := by unfold Ideal.div; rw [if_neg hz, EReal.inv_top, mul_zero]
    rw [e1, e2, e3, mul_zero, rnd_zero, max_self, max_eq_right hneg]
  have hA0 : 0 < A := lt_of_le_of_ne (h0.trans hA) (Ne.symm hz)
  lift A to ℝ using ⟨ht, (lt_of_le_of_lt bot_le hA0).ne'⟩
  lift y to ℝ using ⟨(lt_of_le_of_lt hA (lt_top_iff_ne_top.2 ht)).ne, (lt_of_lt_of_le (EReal.bot_lt_zero) h0).ne'⟩
  have ha : 0 < A := EReal.coe_pos.1 hA0
  have hy : 0 ≤ y := EReal.coe_nonneg.1 h0
  have e1 : Ideal.div ((127 : ℝ) : EReal) (A : EReal) = ((127 * A⁻¹ : ℝ) : EReal) := by
    unfold Ideal.div; rw [if_neg hz, ← EReal.coe_inv, ← EReal.coe_mul]
  have e2 : Ideal.div (A : EReal) ((127 : ℝ) : EReal) = ((A * (127 : ℝ)⁻¹ : ℝ) : EReal) := by
    unfold Ideal.div; rw [if_neg hne, ← EReal.coe_inv, ← EReal.coe_mul]
  have hq : (A * (127 : ℝ)⁻¹ : ℝ) ≠ 0 := by positivity
  have e3 : Ideal.div (y : EReal) ((A * (127 : ℝ)⁻¹ : ℝ) : EReal) = ((y * (127 * A⁻¹) : ℝ) : EReal) := by
    unfold Ideal.div
    rw [if_neg (fun h => hq (EReal.coe_eq_zero.1 h)), ← EReal.coe_inv, ← EReal.coe_mul]
    congr 2
    rw [mul_inv, inv_inv, mul_comm A⁻¹]
  rw [e1, e2, e3, ← EReal.coe_mul]
  have hr := rnd_nonneg (show 0 ≤ y * (127 * A⁻¹) by positivity)
  rw [max_eq_right hr, max_eq_right (hneg.trans hr)]

end Cert.RingProof
-- ==== Proof.RefValue.lean ====
/-
What the reference computes, over the extended reals, element by element: the whole product rectified, its
greatest element, and the quantiser.
-/
module

public import proofs.«01_k».proof.Proof.Max
public import proofs.«01_k».proof.Proof.Quant
public import proofs.«01_k».proof.Proof.Gen.ReferenceIdeal.Run

@[expose] public section

set_option maxRecDepth 16384

noncomputable section

namespace Cert.RingProof

open Cert.ReferenceIdeal Cert.ReferenceIdeal.Gen

open Idealize.ShloMosaic

variable (X : XAll.Idx → EReal) (W : WAll.Idx → EReal)

/-- The rectified product, its maximum as a scalar array, the scale, and the result. -/
def rrelu : FVec Ideal S4096x8192 .f32 :=
  maximumf (Host.dotGeneral (F := Ideal) (φ₁ := .f32) (φ₂ := .f32) dot_S4096x4096_S4096x8192_S4096x8192_1_0_0_1_n_n none X W)
    (broadcastInDim S4096x8192 ![] bcast_S_S4096x8192 (constant S_ .f32 0x00000000#32))
def rmax : FVec Ideal S_ .f32 :=
  Host.reduce FloatOps.maximumf (Host.absf (rrelu X W)) (constant (F := Ideal) S_ .f32 0xFF800000#32) reducesTo_S4096x8192_S_d0_1 h_S_
def rscale : FVec Ideal S_ .f32 := Host.divf (rmax X W) (constant S_ .f32 0x42FE0000#32)
def refv : FVec Ideal S4096x8192 .bf16 :=
  truncf .bf16 (mulf (minimumf (broadcastInDim S4096x8192 ![] bcast_S_S4096x8192 (id (constant S_ .f32 0x42FE0000#32)))
    (maximumf (broadcastInDim S4096x8192 ![] bcast_S_S4096x8192 (id (constant S_ .f32 0xC2FE0000#32)))
      (Host.roundeven (Host.divf (rrelu X W) (broadcastInDim S4096x8192 ![] bcast_S_S4096x8192 (rscale X W))))))
    (broadcastInDim S4096x8192 ![] bcast_S_S4096x8192 (rscale X W))) bitsLt_bf16_f32

theorem rrelu_apply (r : Fin 4096) (n : Fin 8192) : rrelu X W (ix2 r n) = max (whole X W r n) 0 := by
  unfold rrelu whole
  change max (FloatOps.dotGeneral (F := Ideal) (φ₁ := .f32) (φ₂ := .f32) (DotDims.plain 4096 4096 8192) none .single X W (ix2 r n)) (Ideal.ofBits .f32 0x00000000#32) = _
  rw [Ideal.dotGeneral_apply, Ideal.ofBits_zero_f32]
  have h := Ideal.matmul_plain_apply (M := 4096) (K := 4096) (N := 8192) (φ₁ := .f32) (φ₂ := .f32) none X W (fun _ => 0) r n
  rw [Ideal.matmul_apply, zero_add, zero_add] at h
  exact congrArg (max · 0) h

theorem rmax_le (j : S_.Idx) (z : EReal) : rmax X W j ≤ z ↔ ∀ r n, max (whole X W r n) 0 ≤ z := by
  unfold rmax
  rw [Host.reduce_eq_fold]
  change Finset.fold max (Ideal.ofBits .f32 0xFF800000#32) (fun i => max (rrelu X W i) (-(rrelu X W i))) _ ≤ z ↔ _
  rw [Finset.fold_max_le, word_minus_inf]
  have habs : ∀ r n, max (rrelu X W (ix2 r n)) (-(rrelu X W (ix2 r n))) = max (whole X W r n) 0 := fun r n => by
    rw [rrelu_apply]
    have h0 : (0 : EReal) ≤ max (whole X W r n) 0 := le_max_right _ _
    exact max_eq_left ((EReal.neg_le_neg_iff.2 h0).trans (by rw [neg_zero]; exact h0))
  refine ⟨fun H r n => ?_, fun H => ⟨bot_le, fun i _ => ?_⟩⟩
  · rw [← habs r n]
    exact H.2 (ix2 r n) (Finset.mem_filter.2 ⟨Finset.mem_univ _, funext fun b => b.elim0⟩)
  · rw [← ix2_eta i]
    exact (habs _ _).le.trans (H _ _)

theorem refv_apply (r : Fin 4096) (n : Fin 8192) : refv X W (ix2 r n)
    = min ((127 : ℝ) : EReal) (max ((-127 : ℝ) : EReal) (rnd (Ideal.div (max (whole X W r n) 0) (Ideal.div (rmax X W ix0) ((127 : ℝ) : EReal)))))
      * Ideal.div (rmax X W ix0) ((127 : ℝ) : EReal) := by
  rw [← rrelu_apply, ← word_127, ← word_neg_127]
  have h : ∀ v : FVec Ideal S_ .f32, broadcastInDim S4096x8192 ![] bcast_S_S4096x8192 v (ix2 r n) = v ix0 := fun v => by
    unfold broadcastInDim; exact congrArg v (funext fun a => a.elim0)
  unfold refv
  change min (broadcastInDim S4096x8192 ![] bcast_S_S4096x8192 (constant (F := Ideal) S_ .f32 0x42FE0000#32) (ix2 r n))
    (max (broadcastInDim S4096x8192 ![] bcast_S_S4096x8192 (constant (F := Ideal) S_ .f32 0xC2FE0000#32) (ix2 r n))
      (rnd (Ideal.div (rrelu X W (ix2 r n)) (broadcastInDim S4096x8192 ![] bcast_S_S4096x8192 (rscale X W) (ix2 r n)))))
    * broadcastInDim S4096x8192 ![] bcast_S_S4096x8192 (rscale X W) (ix2 r n) = _
  rw [h, h, h]
  rfl

end Cert.RingProof
-- ==== Proof.Algebra.lean ====
/-
The equation: over the extended reals each device's output is its row block of the reference's result.
-/
module

public import proofs.«01_k».proof.Defs
public import proofs.«01_k».proof.Proof.RefValue
public import proofs.«01_k».proof.Proof.Launch

@[expose] public section

set_option maxRecDepth 16384

noncomputable section

namespace Cert.RingProof

open Cert.KernelIdeal Cert.KernelIdeal.Gen

open Idealize.ShloMosaic
open Idealize.ShloMosaic.TcCoe
open Idealize.SL.Sem

variable (m : (ℓ : Loc nD τ sig) → Buf (Elt Ideal) ℓ)

/-- The kernel's quantiser at an element, its two factors, and a stored chunk, whose format change is nothing here. -/
theorem qz_apply (sc inv : Ideal .f32) (y : FVec Ideal S1024x256 .bf16) (i : S1024x256.Idx) :
    qz sc inv y i = min (Ideal.ofBits .f32 0x42FE0000#32) (max (Ideal.ofBits .f32 0x00000000#32) (rnd (y i * inv))) * sc := rfl
theorem scalar_divf (a b : Ideal .f32) : Scalar.divf a b = Ideal.div a b := rfl
theorem pay36_eq (v : Vec Ideal S4x128 .f32) : k0_pay36 v = Ideal.div (k0_pay35 v) (Ideal.ofBits .f32 0x42FE0000#32) := by
  unfold k0_pay36
  generalize k0_pay35 v = A
  exact scalar_divf _ _
theorem pay37_eq (v : Vec Ideal S4x128 .f32) : k0_pay37 v = Ideal.div (Ideal.ofBits .f32 0x42FE0000#32) (k0_pay35 v) := by
  unfold k0_pay37
  generalize k0_pay35 v = A
  exact scalar_divf _ _
theorem fin_apply (c : Dev nD) (d k : ℕ) (i : S1024x256.Idx) : fin m c d k i = tot m c d k i := rfl

/-- One element of the output: the quantiser of the whole product's element, rectified. -/
theorem outc_apply {X : XAll.Idx → EReal} {W : WAll.Idx → EReal} (H : Holds m X W) (c : Dev nD) (d : Fin 2) (k : Fin 16)
    (a : Fin 1024) (b : Fin 256) :
    outc m c (16 * d.val + k.val) (ix2 a b) = refv X W (ix2 (at4 c a) (colAt d k b)) := by
  have hA : k0_pay35 (amv m) = rmax X W ix0 :=
    eq_of_forall_ge_iff fun z => (kmax_le m H z).trans (rmax_le X W ix0 z).symm
  have hd : (16 * d.val + k.val) / 16 = d.val := by omega
  have hk : (16 * d.val + k.val) % 16 = k.val := by omega
  rw [refv_apply, ← hA]
  unfold outc
  rw [hd, hk]
  have hy := tot_whole m H c d k a b
  have hle := (kmax_le m H (k0_pay35 (amv m))).1 le_rfl (at4 c a) (colAt d k b)
  rw [← quant_eq _ _ (le_max_right _ _) hle, ← hy, qz_apply, pay36_eq, pay37_eq, fin_apply, word_127, Ideal.ofBits_zero_f32]

/-- A device's whole output is its row block of the reference's result. -/
theorem out_block {X : XAll.Idx → EReal} {W : WAll.Idx → EReal} (H : Holds m X W) (c : Dev nD) :
    ov (outc m c) = Layout.block ⟨2, ![1024, 8192]⟩ ⟨2, ![4096, 8192]⟩ 0 4 c (refv X W) := by
  funext i
  rw [Layout.block_apply]
  obtain ⟨d, k, b, hn⟩ := colAt_surj (i 1)
  have hv : 256 * (16 * d.val + k.val) + b.val = (i 1).val := congrArg Fin.val hn
  have e1 : (i 1).val / 256 = 16 * d.val + k.val := by omega
  have e2 : (⟨(i 1).val % 256, Nat.mod_lt _ (by decide)⟩ : Fin 256) = b := Fin.ext (by change (i 1).val % 256 = b.val; omega)
  change outc m c ((i 1).val / 256) (ix2 (n0 := 1024) (n1 := 256) (i 0) ⟨(i 1).val % 256, Nat.mod_lt _ (by decide)⟩) = _
  rw [e1, e2]
  refine (outc_apply m H c d k (i 0) b).trans ?_
  refine congrArg (refv X W) ?_
  funext j; apply Fin.ext
  match j with
  | ⟨0, _⟩ =>
    change 1024 * c.val + (i 0).val = c.val * 1024 + (i 0).val
    omega
  | ⟨1, _⟩ => exact hv

theorem algebraic : Cert.algebraic_KernelIdeal_ReferenceIdeal := fun m ρ m' ρ' _ hm =>
  ⟨refv (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ h c => ⟨(h.1 c).2.2.trans (out_block m hm c), (h.1 c).1, (h.1 c).2.1⟩)
      (run_main (F := Ideal) m ρ),
    (θ_run Cert.ReferenceIdeal.defs _ _).mono (fun _ h => h 0) (Cert.ReferenceIdeal.Value.run (F := Ideal) m' ρ')⟩

end Cert.RingProof
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Algebra

@[expose] public section

namespace Cert.Proof

open Idealize.ShloMosaic Idealize.SL.Sem

/-- The reference's frame, out of its run. -/
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

theorem claim : Cert.Claim :=
  ⟨Cert.Kernel.Gen.facts, Cert.KernelIdeal.Gen.facts, Cert.ReferenceIdeal.Gen.facts,
    Cert.RingProof.frame_kernel, Cert.RingProof.frame_ideal, frame_reference, trivial,
    Cert.RingProof.algebraic⟩

end Cert.Proof
